-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_keys_finite [hPre_keys_finite : Cert.Pre_keys_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_keys_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_keys_finite [hPre_keys_finite : Cert.Pre_keys_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_keys_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_heads_finite [hPre_heads_finite : Cert.Pre_heads_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_heads_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_heads_finite [hPre_heads_finite : Cert.Pre_heads_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_heads_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_pool_finite [hPre_pool_finite : Cert.Pre_pool_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_pool_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_pool_finite [hPre_pool_finite : Cert.Pre_pool_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_pool_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_first_keys_finite [hPre_first_keys_finite : Cert.Pre_first_keys_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_first_keys_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_first_keys_finite [hPre_first_keys_finite : Cert.Pre_first_keys_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_first_keys_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Kernel2Ideal_pre_keys_finite [hKernel2Ideal : Cert.Kernel2Ideal.Facts] [hPre_keys_finite : Cert.Pre_keys_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_keys_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Reference2Ideal_pre_keys_finite [hReference2Ideal : Cert.Reference2Ideal.Facts] [hPre_keys_finite : Cert.Pre_keys_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_keys_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_heads_finite [hKernel3Ideal : Cert.Kernel3Ideal.Facts] [hPre_heads_finite : Cert.Pre_heads_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_heads_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_heads_finite [hReference3Ideal : Cert.Reference3Ideal.Facts] [hPre_heads_finite : Cert.Pre_heads_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_heads_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_pool_finite [hKernel4Ideal : Cert.Kernel4Ideal.Facts] [hPre_pool_finite : Cert.Pre_pool_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_pool_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_pool_finite [hReference4Ideal : Cert.Reference4Ideal.Facts] [hPre_pool_finite : Cert.Pre_pool_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_pool_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Kernel5Ideal_pre_first_keys_finite [hKernel5Ideal : Cert.Kernel5Ideal.Facts] [hPre_first_keys_finite : Cert.Pre_first_keys_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_first_keys_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def quiescent_Reference5Ideal_pre_first_keys_finite [hReference5Ideal : Cert.Reference5Ideal.Facts] [hPre_first_keys_finite : Cert.Pre_first_keys_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_first_keys_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_keys_finite [hKernel2Ideal : Cert.Kernel2Ideal.Facts] [hReference2Ideal : Cert.Reference2Ideal.Facts] [hPre_keys_finite : Cert.Pre_keys_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_keys_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_4)) (v5 : (c : Dev Cert.Kernel2Ideal.nD) → Buf (Elt Ideal) ((c.tc : Thread Cert.Kernel2Ideal.nD Cert.Kernel2Ideal.τ).loc Cert.Kernel2Ideal.main_v27_5)) (v6 : (c : Dev Cert.Kernel2Ideal.nD) → Buf (Elt Ideal) ((c.tc : Thread Cert.Kernel2Ideal.nD Cert.Kernel2Ideal.τ).loc Cert.Kernel2Ideal.main_v27_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_4) = v4 c
          ∧ r.2.mem ((c.tc : Thread Cert.Kernel2Ideal.nD Cert.Kernel2Ideal.τ).loc Cert.Kernel2Ideal.main_v27_5) = v5 c
          ∧ r.2.mem ((c.tc : Thread Cert.Kernel2Ideal.nD Cert.Kernel2Ideal.τ).loc Cert.Kernel2Ideal.main_v27_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v122) = v0 c
          ∧ r.2.mem ((c.tc : Thread Cert.Reference2Ideal.nD Cert.Reference2Ideal.τ).loc Cert.Reference2Ideal.main_v123) = v1 c
          ∧ r.2.mem ((c.tc : Thread Cert.Reference2Ideal.nD Cert.Reference2Ideal.τ).loc Cert.Reference2Ideal.main_v124) = v2 c
          ∧ r.2.mem ((c.tc : Thread Cert.Reference2Ideal.nD Cert.Reference2Ideal.τ).loc Cert.Reference2Ideal.main_v125) = v3 c
          ∧ r.2.mem ((c.tc : Thread Cert.Reference2Ideal.nD Cert.Reference2Ideal.τ).loc Cert.Reference2Ideal.main_v126) = v4 c
          ∧ r.2.mem ((c.tc : Thread Cert.Reference2Ideal.nD Cert.Reference2Ideal.τ).loc Cert.Reference2Ideal.main_v127) = v5 c
          ∧ r.2.mem ((c.tc : Thread Cert.Reference2Ideal.nD Cert.Reference2Ideal.τ).loc Cert.Reference2Ideal.main_v128) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20))

def preserves_Kernel3_Kernel3Ideal : Prop :=
  True

def algebraic_Kernel3Ideal_Reference3Ideal_pre_heads_finite [hKernel3Ideal : Cert.Kernel3Ideal.Facts] [hReference3Ideal : Cert.Reference3Ideal.Facts] [hPre_heads_finite : Cert.Pre_heads_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_heads_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_pool_finite [hKernel4Ideal : Cert.Kernel4Ideal.Facts] [hReference4Ideal : Cert.Reference4Ideal.Facts] [hPre_pool_finite : Cert.Pre_pool_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_pool_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v41)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_first_keys_finite [hKernel5Ideal : Cert.Kernel5Ideal.Facts] [hReference5Ideal : Cert.Reference5Ideal.Facts] [hPre_first_keys_finite : Cert.Pre_first_keys_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_first_keys_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)) (v3 : (c : Dev Cert.Kernel5Ideal.nD) → Buf (Elt Ideal) ((c.tc : Thread Cert.Kernel5Ideal.nD Cert.Kernel5Ideal.τ).loc Cert.Kernel5Ideal.main_v23_3)) (v4 : (c : Dev Cert.Kernel5Ideal.nD) → Buf (Elt Ideal) ((c.tc : Thread Cert.Kernel5Ideal.nD Cert.Kernel5Ideal.τ).loc Cert.Kernel5Ideal.main_v23_4)) (v5 : (c : Dev Cert.Kernel5Ideal.nD) → Buf (Elt Ideal) ((c.tc : Thread Cert.Kernel5Ideal.nD Cert.Kernel5Ideal.τ).loc Cert.Kernel5Ideal.main_v23_5)) (v6 : (c : Dev Cert.Kernel5Ideal.nD) → Buf (Elt Ideal) ((c.tc : Thread Cert.Kernel5Ideal.nD Cert.Kernel5Ideal.τ).loc Cert.Kernel5Ideal.main_v23_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_v23_3) = v3 c
          ∧ r.2.mem ((c.tc : Thread Cert.Kernel5Ideal.nD Cert.Kernel5Ideal.τ).loc Cert.Kernel5Ideal.main_v23_4) = v4 c
          ∧ r.2.mem ((c.tc : Thread Cert.Kernel5Ideal.nD Cert.Kernel5Ideal.τ).loc Cert.Kernel5Ideal.main_v23_5) = v5 c
          ∧ r.2.mem ((c.tc : Thread Cert.Kernel5Ideal.nD Cert.Kernel5Ideal.τ).loc Cert.Kernel5Ideal.main_v23_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v109) = v1 c
          ∧ r.2.mem ((c.tc : Thread Cert.Reference5Ideal.nD Cert.Reference5Ideal.τ).loc Cert.Reference5Ideal.main_v110) = v2 c
          ∧ r.2.mem ((c.tc : Thread Cert.Reference5Ideal.nD Cert.Reference5Ideal.τ).loc Cert.Reference5Ideal.main_v111) = v3 c
          ∧ r.2.mem ((c.tc : Thread Cert.Reference5Ideal.nD Cert.Reference5Ideal.τ).loc Cert.Reference5Ideal.main_v112) = v4 c
          ∧ r.2.mem ((c.tc : Thread Cert.Reference5Ideal.nD Cert.Reference5Ideal.τ).loc Cert.Reference5Ideal.main_v113) = v5 c
          ∧ r.2.mem ((c.tc : Thread Cert.Reference5Ideal.nD Cert.Reference5Ideal.τ).loc Cert.Reference5Ideal.main_v114) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_router_finite : Cert.Pre_router_finite.Facts) (hPre_keys_finite : Cert.Pre_keys_finite.Facts) (hPre_heads_finite : Cert.Pre_heads_finite.Facts) (hPre_pool_finite : Cert.Pre_pool_finite.Facts) (hPre_first_keys_finite : Cert.Pre_first_keys_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Kernel2 (hKernel2 := hKernel2)
    ∧ quiescent_Kernel2Ideal (hKernel2Ideal := hKernel2Ideal)
    ∧ quiescent_Kernel2Ideal_pre_keys_finite (hKernel2Ideal := hKernel2Ideal) (hPre_keys_finite := hPre_keys_finite)
    ∧ quiescent_Reference2Ideal (hReference2Ideal := hReference2Ideal)
    ∧ quiescent_Reference2Ideal_pre_keys_finite (hReference2Ideal := hReference2Ideal) (hPre_keys_finite := hPre_keys_finite)
    ∧ quiescent_Kernel3 (hKernel3 := hKernel3)
    ∧ quiescent_Kernel3Ideal (hKernel3Ideal := hKernel3Ideal)
    ∧ quiescent_Kernel3Ideal_pre_heads_finite (hKernel3Ideal := hKernel3Ideal) (hPre_heads_finite := hPre_heads_finite)
    ∧ quiescent_Reference3Ideal (hReference3Ideal := hReference3Ideal)
    ∧ quiescent_Reference3Ideal_pre_heads_finite (hReference3Ideal := hReference3Ideal) (hPre_heads_finite := hPre_heads_finite)
    ∧ quiescent_Kernel4 (hKernel4 := hKernel4)
    ∧ quiescent_Kernel4Ideal (hKernel4Ideal := hKernel4Ideal)
    ∧ quiescent_Kernel4Ideal_pre_pool_finite (hKernel4Ideal := hKernel4Ideal) (hPre_pool_finite := hPre_pool_finite)
    ∧ quiescent_Reference4Ideal (hReference4Ideal := hReference4Ideal)
    ∧ quiescent_Reference4Ideal_pre_pool_finite (hReference4Ideal := hReference4Ideal) (hPre_pool_finite := hPre_pool_finite)
    ∧ quiescent_Kernel5 (hKernel5 := hKernel5)
    ∧ quiescent_Kernel5Ideal (hKernel5Ideal := hKernel5Ideal)
    ∧ quiescent_Kernel5Ideal_pre_first_keys_finite (hKernel5Ideal := hKernel5Ideal) (hPre_first_keys_finite := hPre_first_keys_finite)
    ∧ quiescent_Reference5Ideal (hReference5Ideal := hReference5Ideal)
    ∧ quiescent_Reference5Ideal_pre_first_keys_finite (hReference5Ideal := hReference5Ideal) (hPre_first_keys_finite := hPre_first_keys_finite)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Kernel2_Kernel2Ideal
    ∧ algebraic_Kernel2Ideal_Reference2Ideal_pre_keys_finite (hKernel2Ideal := hKernel2Ideal) (hReference2Ideal := hReference2Ideal) (hPre_keys_finite := hPre_keys_finite)
    ∧ preserves_Kernel3_Kernel3Ideal
    ∧ algebraic_Kernel3Ideal_Reference3Ideal_pre_heads_finite (hKernel3Ideal := hKernel3Ideal) (hReference3Ideal := hReference3Ideal) (hPre_heads_finite := hPre_heads_finite)
    ∧ preserves_Kernel4_Kernel4Ideal
    ∧ algebraic_Kernel4Ideal_Reference4Ideal_pre_pool_finite (hKernel4Ideal := hKernel4Ideal) (hReference4Ideal := hReference4Ideal) (hPre_pool_finite := hPre_pool_finite)
    ∧ preserves_Kernel5_Kernel5Ideal
    ∧ algebraic_Kernel5Ideal_Reference5Ideal_pre_first_keys_finite (hKernel5Ideal := hKernel5Ideal) (hReference5Ideal := hReference5Ideal) (hPre_first_keys_finite := hPre_first_keys_finite)
-- ==== Pre_first_keys_finite.lean ====
abbrev S4x4096x1024 : Shape := ⟨3, ![4, 4096, 1024]⟩
abbrev S1024 : Shape := ⟨1, ![1024]⟩
abbrev S4x1024 : Shape := ⟨2, ![4, 1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_
  bcast_S_S6x1024 : S_.BroadcastsInDim S6x1024 (![] : Fin 0 → Fin S6x1024.rank)
  reducesTo_S6x1024_S_d0_1 : S6x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg15 : FVec F S1024 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg15
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S1024 .f32) (main_arg2 : FVec F S4x1024 .f32) (main_arg3 : FVec F S6x1024 .f32) (main_arg4 : FVec F S1024x1024 .f32) (main_arg5 : FVec F S1024x1024 .f32) (main_arg6 : FVec F S1024x1024 .f32) (main_arg7 : FVec F S1024 .f32) (main_arg8 : FVec F S1024x64 .f32) (main_arg9 : FVec F S64x1024 .f32) (main_arg10 : FVec F S1024 .f32) (main_arg11 : FVec F S1024x64 .f32) (main_arg12 : FVec F S64x1024 .f32) (main_arg13 : FVec F S1024x128 .f32) (main_arg14 : FVec F S128x1024 .f32) (main_arg15 : FVec F S1024 .f32) (main_arg16 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg5 main_arg15 main_v13 main_v16
-- ==== Pre_heads_finite.lean ====
abbrev S16384x1024 : Shape := ⟨2, ![16384, 1024]⟩
abbrev S1024 : Shape := ⟨1, ![1024]⟩
abbrev S16x64 : Shape := ⟨2, ![16, 64]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S1024 .f32) (main_arg7 : FVec F S1024 .f32) (main_arg8 : FVec F S16x64 .f32) (main_arg9 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16x64 .f32 := Host.absf main_arg8
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Pre_keys_finite.lean ====
abbrev S4x4096x1024 : Shape := ⟨3, ![4, 4096, 1024]⟩
abbrev S1024 : Shape := ⟨1, ![1024]⟩
abbrev S4x1024 : Shape := ⟨2, ![4, 1024]⟩
abbrev S1024x32 : Shape := ⟨2, ![1024, 32]⟩
abbrev S32x1024 : Shape := ⟨2, ![32, 1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_
  bcast_S_S6x1024 : S_.BroadcastsInDim S6x1024 (![] : Fin 0 → Fin S6x1024.rank)
  reducesTo_S6x1024_S_d0_1 : S6x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg9 : FVec F S1024x1024 .f32) (main_arg19 : FVec F S1024 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S1024x1024 .f32 := Host.absf main_arg9
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg19
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x1024 .f32) (main_arg1 : FVec F S1024 .f32) (main_arg2 : FVec F S4x1024 .f32) (main_arg3 : FVec F S4x4096x1024 .f32) (main_arg4 : FVec F S1024 .f32) (main_arg5 : FVec F S1024x32 .f32) (main_arg6 : FVec F S32x1024 .f32) (main_arg7 : FVec F S6x1024 .f32) (main_arg8 : FVec F S1024x1024 .f32) (main_arg9 : FVec F S1024x1024 .f32) (main_arg10 : FVec F S1024x1024 .f32) (main_arg11 : FVec F S1024 .f32) (main_arg12 : FVec F S1024x64 .f32) (main_arg13 : FVec F S64x1024 .f32) (main_arg14 : FVec F S1024 .f32) (main_arg15 : FVec F S1024x64 .f32) (main_arg16 : FVec F S64x1024 .f32) (main_arg17 : FVec F S1024x128 .f32) (main_arg18 : FVec F S128x1024 .f32) (main_arg19 : FVec F S1024 .f32) (main_arg20 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S6x1024 .f32 := Host.absf main_arg7
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg9 main_arg19 main_v13 main_v16
-- ==== Pre_pool_finite.lean ====
abbrev S4x4096x512 : Shape := ⟨3, ![4, 4096, 512]⟩
abbrev S4x4096x1024 : Shape := ⟨3, ![4, 4096, 1024]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : FVec F S4x4096x512 .f32) (main_arg2 : FVec F S4x4096x1024 .f32) (main_arg3 : FVec F S4x128x128 .f32) (main_arg4 : FVec F S512 .f32) (main_arg5 : FVec F S1024x1024 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  main_v3
-- ==== Pre_router_finite.lean ====
abbrev S4x4096x1024 : Shape := ⟨3, ![4, 4096, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S1024x16 .f32) (main_arg5 : FVec F S16 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S4x4096x1024 .f32) (main_arg1 : FVec F S1024 .f32) (main_arg2 : FVec F S1024x4 .f32) (main_arg3 : FVec F S4 .f32) (main_arg4 : FVec F S1024x16 .f32) (main_arg5 : FVec F S16 .f32) (main_arg6 : FVec F S16x1024x256 .f32) (main_arg7 : FVec F S16x1024x256 .f32) (main_arg8 : FVec F S16x256x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Kernel.lean ====
abbrev S4x4096x1024 : Shape := ⟨3, ![4, 4096, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S128 : Shape := ⟨1, ![128]⟩
abbrev S1x128 : Shape := ⟨2, ![1, 128]⟩
abbrev S4x1024x1024 : Shape := ⟨3, ![4, 1024, 1024]⟩
abbrev S1x1024 : Shape := ⟨2, ![1, 1024]⟩
abbrev S4x4x1024x256 : Shape := ⟨4, ![4, 4, 1024, 256]⟩
abbrev S4x1024x4x256 : Shape := ⟨4, ![4, 1024, 4, 256]⟩
abbrev S16384x1024 : Shape := ⟨2, ![16384, 1024]⟩
abbrev S512x1024 : Shape := ⟨2, ![512, 1024]⟩
abbrev S1x1024x1024 : Shape := ⟨3, ![1, 1024, 1024]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩

abbrev nBuf : Space → Nat
  | .hbm => 35
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S1024x20, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S20, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S4x1024x1024, .f32⟩
  | .hbm, ⟨23, _⟩ => ⟨S4x1024x1024, .bf16⟩
  | .hbm, ⟨24, _⟩ => ⟨S1x1024, .f32⟩
  | .hbm, ⟨25, _⟩ => ⟨S4x4x1024x256, .f32⟩
  | .hbm, ⟨26, _⟩ => ⟨S4x1024x4x256, .f32⟩
  | .hbm, ⟨27, _⟩ => ⟨S4x1024x1024, .f32⟩
  | .hbm, ⟨28, _⟩ => ⟨S4x1024x1024, .bf16⟩
  | .hbm, ⟨29, _⟩ => ⟨S4x4x1024x256, .f32⟩
  | .hbm, ⟨30, _⟩ => ⟨S4x1024x4x256, .f32⟩
  | .hbm, ⟨31, _⟩ => ⟨S4x1024x1024, .f32⟩
  | .hbm, ⟨32, _⟩ => ⟨S4x1024x1024, .bf16⟩
  | .hbm, ⟨33, _⟩ => ⟨S16384x1024, .f32⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .bf16⟩
  | .local _ .vmem, ⟨5, _⟩ => ⟨S1x128, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x128, .f32⟩
  | .local _ .vmem, ⟨16, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v85 : BitVec 1 := Scalar.cmpi .eq arg1 c3_i32
  let v86 : BitVec 32 := Scalar.extui v85
  let c0_i32_32 : BitVec 32 := 0#32
  let v87 : BitVec 1 := Scalar.cmpi .ne v86 c0_i32_32
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4 : Shape := ⟨3, ![4, 4096, 4]⟩
abbrev S1x1x4 : Shape := ⟨3, ![1, 1, 4]⟩
abbrev S4x4096x16 : Shape := ⟨3, ![4, 4096, 16]⟩
abbrev S1x1x16 : Shape := ⟨3, ![1, 1, 16]⟩
abbrev S4x4096x4x4 : Shape := ⟨4, ![4, 4096, 4, 4]⟩
abbrev S4x4096x2 : Shape := ⟨3, ![4, 4096, 2]⟩
abbrev S4x4096x2x1 : Shape := ⟨4, ![4, 4096, 2, 1]⟩
abbrev S1x1x1x16 : Shape := ⟨4, ![1, 1, 1, 16]⟩
abbrev S4x4096x2x16 : Shape := ⟨4, ![4, 4096, 2, 16]⟩
abbrev S4x4096x16x256 : Shape := ⟨4, ![4, 4096, 16, 256]⟩
abbrev S4x4096x16x1 : Shape := ⟨4, ![4, 4096, 16, 1]⟩
abbrev S16384x1024 : Shape := ⟨2, ![16384, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x4, .f32⟩
  | .hbm, ⟨26, _⟩ => ⟨S1x1x4, .f32⟩
  | .hbm, ⟨27, _⟩ => ⟨S4x4096x4, .f32⟩
  | .hbm, ⟨28, _⟩ => ⟨S4x4096x4, .f32⟩
  | .hbm, ⟨29, _⟩ => ⟨S4x4096x4, .i32⟩
  | .hbm, ⟨30, _⟩ => ⟨S_, .f32⟩
  | .hbm, ⟨31, _⟩ => ⟨S_, .i32⟩
  | .hbm, ⟨32, _⟩ => ⟨S4x4096, .f32⟩
  | .hbm, ⟨33, _⟩ => ⟨S4x4096, .i32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x4, .f32⟩
  | .hbm, ⟨41, _⟩ => ⟨S4x4096x4, .f32⟩
  | .hbm, ⟨42, _⟩ => ⟨S4x4096x4, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x4, .f32⟩
  | .hbm, ⟨47, _⟩ => ⟨S4x4096x4, .f32⟩
  | .hbm, ⟨48, _⟩ => ⟨S_, .f32⟩
  | .hbm, ⟨49, _⟩ => ⟨S4x4096, .f32⟩
  | .hbm, ⟨50, _⟩ => ⟨S4x4096x1, .i32⟩
  | .hbm, ⟨51, _⟩ => ⟨S1x1x4, .i32⟩
  | .hbm, ⟨52, _⟩ => ⟨S4x4096x4, .i32⟩
  | .hbm, ⟨53, _⟩ => ⟨S4x4096x4, .i32⟩
  | .hbm, ⟨54, _⟩ => ⟨S4x4096x4, .i1⟩
  | .hbm, ⟨55, _⟩ => ⟨S4x4096x4, .f32⟩
  | .hbm, ⟨56, _⟩ => ⟨S4x4096x16, .f32⟩
  | .hbm, ⟨57, _⟩ => ⟨S1x1x16, .f32⟩
  | .hbm, ⟨58, _⟩ => ⟨S4x4096x16, .f32⟩
  | .hbm, ⟨59, _⟩ => ⟨S4x4096x16, .f32⟩
  | .hbm, ⟨60, _⟩ => ⟨S4x4096x4x4, .f32⟩
  | .hbm, ⟨61, _⟩ => ⟨S4x4096x4, .f32⟩
  | .hbm, ⟨62, _⟩ => ⟨S4x4096x2, .f32⟩
  | .hbm, ⟨63, _⟩ => ⟨S4x4096x2, .i32⟩
  | .hbm, ⟨64, _⟩ => ⟨S_, .f32⟩
  | .hbm, ⟨65, _⟩ => ⟨S4x4096, .f32⟩
  | .hbm, ⟨66, _⟩ => ⟨S_, .f32⟩
  | .hbm, ⟨67, _⟩ => ⟨S4x4096, .f32⟩
  | .hbm, ⟨68, _⟩ => ⟨S4x4096, .f32⟩
  | .hbm, ⟨69, _⟩ => ⟨S4x4096x1, .f32⟩
  | .hbm, ⟨70, _⟩ => ⟨S4x4096x2, .f32⟩
  | .hbm, ⟨71, _⟩ => ⟨S4x4096x2, .f32⟩
  | .hbm, ⟨72, _⟩ => ⟨S4x4096x2, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S4x4096x2, .f32⟩
  | .hbm, ⟨77, _⟩ => ⟨S4x4096x2, .f32⟩
  | .hbm, ⟨78, _⟩ => ⟨S4x4096x1, .f32⟩
  | .hbm, ⟨79, _⟩ => ⟨S4x4096x2, .f32⟩
  | .hbm, ⟨80, _⟩ => ⟨S4x4096x2, .f32⟩
  | .hbm, ⟨81, _⟩ => ⟨S4x4096x1, .i32⟩
  | .hbm, ⟨82, _⟩ => ⟨S_, .i32⟩
  | .hbm, ⟨83, _⟩ => ⟨S4x4096x1, .i32⟩
  | .hbm, ⟨84, _⟩ => ⟨S4x4096x1, .i32⟩
  | .hbm, ⟨85, _⟩ => ⟨S4x4096x2, .i32⟩
  | .hbm, ⟨86, _⟩ => ⟨S4x4096x2, .i32⟩
  | .hbm, ⟨87, _⟩ => ⟨S4x4096x2x1, .i32⟩
  | .hbm, ⟨88, _⟩ => ⟨S1x1x1x16, .i32⟩
  | .hbm, ⟨89, _⟩ => ⟨S4x4096x2x16, .i32⟩
  | .hbm, ⟨90, _⟩ => ⟨S4x4096x2x16, .i32⟩
  | .hbm, ⟨91, _⟩ => ⟨S4x4096x2x16, .i1⟩
  | .hbm, ⟨92, _⟩ => ⟨S4x4096x2x16, .f32⟩
  | .hbm, ⟨93, _⟩ => ⟨S4x4096x16, .f32⟩
  | .hbm, ⟨94, _⟩ => ⟨S4x4096x16x256, .f32⟩
  | .hbm, ⟨95, _⟩ => ⟨S4x4096x16x256, .f32⟩
  | .hbm, ⟨96, _⟩ => ⟨S4x4096x16x256, .f32⟩
  | .hbm, ⟨97, _⟩ => ⟨S4x4096x16x256, .f32⟩
  | .hbm, ⟨98, _⟩ => ⟨S_, .f32⟩
  | .hbm, ⟨99, _⟩ => ⟨S4x4096x16x256, .f32⟩
  | .hbm, ⟨100, _⟩ => ⟨S4x4096x16x256, .f32⟩
  | .hbm, ⟨101, _⟩ => ⟨S_, .f32⟩
  | .hbm, ⟨102, _⟩ => ⟨S4x4096x16x256, .f32⟩
  | .hbm, ⟨103, _⟩ => ⟨S4x4096x16x256, .f32⟩
  | .hbm, ⟨104, _⟩ => ⟨S4x4096x16x256, .f32⟩
  | .hbm, ⟨105, _⟩ => ⟨S4x4096x16x256, .f32⟩
  | .hbm, ⟨106, _⟩ => ⟨S4x4096x16x1, .f32⟩
  | .hbm, ⟨107, _⟩ => ⟨S4x4096x16x256, .f32⟩
  | .hbm, ⟨108, _⟩ => ⟨S4x4096x16x256, .f32⟩
  | .hbm, ⟨109, _⟩ => ⟨S4x4096x1024, .f32⟩
  | .hbm, ⟨110, _⟩ => ⟨S4x4096x1024, .f32⟩
  | .hbm, ⟨111, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_values : Ref sig .tc := ⟨.hbm, 62, rfl⟩
abbrev main_indices : Ref sig .tc := ⟨.hbm, 63, rfl⟩
abbrev main_cst_6 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S4x1024 : Shape := ⟨2, ![4, 1024]⟩
abbrev S1024x32 : Shape := ⟨2, ![1024, 32]⟩
abbrev S32x1024 : Shape := ⟨2, ![32, 1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S16384x1024 : Shape := ⟨2, ![16384, 1024]⟩
abbrev S_ : Shape := ⟨0, ![]⟩
abbrev S4x1x1024 : Shape := ⟨3, ![4, 1, 1024]⟩
abbrev S8x1024 : Shape := ⟨2, ![8, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x64 : Shape := ⟨2, ![256, 64]⟩
abbrev S256x128 : Shape := ⟨2, ![256, 128]⟩
abbrev S256x32 : Shape := ⟨2, ![256, 32]⟩

abbrev nBuf : Space → Nat
  | .hbm => 74
  | .vmem => 42
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x4096x1024, .f32⟩
  | .hbm, ⟨4, _⟩ => ⟨S1024, .f32⟩
  | .hbm, ⟨5, _⟩ => ⟨S1024x32, .f32⟩
  | .hbm, ⟨6, _⟩ => ⟨S32x1024, .f32⟩
  | .hbm, ⟨7, _⟩ => ⟨S6x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x64, .f32⟩
  | .hbm, ⟨13, _⟩ => ⟨S64x1024, .f32⟩
  | .hbm, ⟨14, _⟩ => ⟨S1024, .f32⟩
  | .hbm, ⟨15, _⟩ => ⟨S1024x64, .f32⟩
  | .hbm, ⟨16, _⟩ => ⟨S64x1024, .f32⟩
  | .hbm, ⟨17, _⟩ => ⟨S1024x128, .f32⟩
  | .hbm, ⟨18, _⟩ => ⟨S128x1024, .f32⟩
  | .hbm, ⟨19, _⟩ => ⟨S1024, .f32⟩
  | .hbm, ⟨20, _⟩ => ⟨S1024, .f32⟩
  | .hbm, ⟨21, _⟩ => ⟨S16384x1024, .f32⟩
  | .hbm, ⟨22, _⟩ => ⟨S1024x128, .i32⟩
  | .hbm, ⟨23, _⟩ => ⟨S_, .i32⟩
  | .hbm, ⟨24, _⟩ => ⟨S_, .i32⟩
  | .hbm, ⟨25, _⟩ => ⟨S1024x128, .i32⟩
  | .hbm, ⟨26, _⟩ => ⟨S1024x128, .i32⟩
  | .hbm, ⟨27, _⟩ => ⟨S1024x128, .i32⟩
  | .hbm, ⟨28, _⟩ => ⟨S_, .i32⟩
  | .hbm, ⟨29, _⟩ => ⟨S1024x128, .i32⟩
  | .hbm, ⟨30, _⟩ => ⟨S1024x128, .i1⟩
  | .hbm, ⟨31, _⟩ => ⟨S1024x128, .i32⟩
  | .hbm, ⟨32, _⟩ => ⟨S1024x128, .i32⟩
  | .hbm, ⟨33, _⟩ => ⟨S_, .i32⟩
  | .hbm, ⟨34, _⟩ => ⟨S1024x128, .i32⟩
  | .hbm, ⟨35, _⟩ => ⟨S1024x128, .i1⟩
  | .hbm, ⟨36, _⟩ => ⟨S1024x128, .i1⟩
  | .hbm, ⟨37, _⟩ => ⟨S_, .i32⟩
  | .hbm, ⟨38, _⟩ => ⟨S1024x128, .i32⟩
  | .hbm, ⟨39, _⟩ => ⟨S1024x128, .i32⟩
  | .hbm, ⟨40, _⟩ => ⟨S1024x128, .i32⟩
  | .hbm, ⟨41, _⟩ => ⟨S1024x128, .i32⟩
  | .hbm, ⟨42, _⟩ => ⟨S1024x128, .i1⟩
  | .hbm, ⟨43, _⟩ => ⟨S1024x128, .bf16⟩
  | .hbm, ⟨44, _⟩ => ⟨S128x1024, .bf16⟩
  | .hbm, ⟨45, _⟩ => ⟨S4x1x1024, .f32⟩
  | .hbm, ⟨46, _⟩ => ⟨S_, .i32⟩
  | .hbm, ⟨47, _⟩ => ⟨S_, .f32⟩
  | .hbm, ⟨48, _⟩ => ⟨S8x1024, .f32⟩
  | .hbm, ⟨49, _⟩ => ⟨S1x1024, .f32⟩
  | .hbm, ⟨50, _⟩ => ⟨S1024x1024, .bf16⟩
  | .hbm, ⟨51, _⟩ => ⟨S1024x1024, .bf16⟩
  | .hbm, ⟨52, _⟩ => ⟨S1024x1024, .bf16⟩
  | .hbm, ⟨53, _⟩ => ⟨S1x1024, .f32⟩
  | .hbm, ⟨54, _⟩ => ⟨S1024x64, .bf16⟩
  | .hbm, ⟨55, _⟩ => ⟨S64x1024, .bf16⟩
  | .hbm, ⟨56, _⟩ => ⟨S1x1024, .f32⟩
  | .hbm, ⟨57, _⟩ => ⟨S1024x64, .bf16⟩
  | .hbm, ⟨58, _⟩ => ⟨S64x1024, .bf16⟩
  | .hbm, ⟨59, _⟩ => ⟨S1024x128, .bf16⟩
  | .hbm, ⟨60, _⟩ => ⟨S128x1024, .bf16⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1024x32, .bf16⟩
  | .hbm, ⟨65, _⟩ => ⟨S32x1024, .bf16⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S8x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x64, .bf16⟩
  | .local _ .vmem, ⟨13, _⟩ => ⟨S64x1024, .bf16⟩
  | .local _ .vmem, ⟨14, _⟩ => ⟨S1x1024, .f32⟩
  | .local _ .vmem, ⟨15, _⟩ => ⟨S1024x64, .bf16⟩
  | .local _ .vmem, ⟨16, _⟩ => ⟨S64x1024, .bf16⟩
  | .local _ .vmem, ⟨17, _⟩ => ⟨S1024x128, .bf16⟩
  | .local _ .vmem, ⟨18, _⟩ => ⟨S128x1024, .bf16⟩
  | .local _ .vmem, ⟨19, _⟩ => ⟨S1x1024, .f32⟩
  | .local _ .vmem, ⟨20, _⟩ => ⟨S1x1024, .f32⟩
  | .local _ .vmem, ⟨21, _⟩ => ⟨S1024x128, .bf16⟩
  | .local _ .vmem, ⟨22, _⟩ => ⟨S128x1024, .bf16⟩
  | .local _ .vmem, ⟨23, _⟩ => ⟨S1x1024, .f32⟩
  | .local _ .vmem, ⟨24, _⟩ => ⟨S1024x32, .bf16⟩
  | .local _ .vmem, ⟨25, _⟩ => ⟨S32x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_c_0 : Ref sig .tc := ⟨.hbm, 46, rfl⟩
abbrev main_call1_v0 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27_0 : Ref sig .tc := ⟨.hbm, 67, rfl⟩
abbrev main_v27_1 : Ref sig .tc := ⟨.hbm, 68, rfl⟩
abbrev main_v27_2 : Ref sig .tc := ⟨.hbm, 69, rfl⟩
abbrev main_v27_3 : Ref sig .tc := ⟨.hbm, 70, rfl⟩
abbrev main_v27_4 : Ref sig .tc := ⟨.hbm, 71, rfl⟩
abbrev main_v27_5 : Ref sig .tc := ⟨.hbm, 72, rfl⟩
abbrev main_v27_6 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_stg30_0 : Ref sig .tc := ⟨.vmem, 40, rfl⟩
abbrev cc0_stg30_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27
abbrev cc0_sem24_0 : DmaSem sig := 28
abbrev cc0_sem24_1 : DmaSem sig := 29
abbrev cc0_sem25_0 : DmaSem sig := 30
abbrev cc0_sem25_1 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39
abbrev cc0_sem30_0 : DmaSem sig := 40
abbrev cc0_sem30_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x32 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== Reference2Ideal.lean ====
abbrev S4x4096x1024 : Shape := ⟨3, ![4, 4096, 1024]⟩
abbrev S1024 : Shape := ⟨1, ![1024]⟩
abbrev S4x1024 : Shape := ⟨2, ![4, 1024]⟩
abbrev S1024x32 : Shape := ⟨2, ![1024, 32]⟩
abbrev S32x1024 : Shape := ⟨2, ![32, 1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S1x1024 : Shape := ⟨2, ![1, 1024]⟩
abbrev S4x4096x64 : Shape := ⟨3, ![4, 4096, 64]⟩
abbrev S4x4096x32 : Shape := ⟨3, ![4, 4096, 32]⟩
abbrev S4x4096x128 : Shape := ⟨3, ![4, 4096, 128]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S16384x1024 : Shape := ⟨2, ![16384, 1024]⟩

abbrev nBuf : Space → Nat
  | .hbm => 177
  | .vmem => 0
  | .smem => 0
  | _ => 0

abbrev hbmTy0_0 (i : Nat) : BufTy := match i % 128 with
  | 0 => ⟨S4x4096x1024, .f32⟩
  | 1 => ⟨S1024, .f32⟩
  | 2 => ⟨S4x1024, .f32⟩
  | 3 => ⟨S4x4096x1024, .f32⟩
  | 4 => ⟨S1024, .f32⟩
  | 5 => ⟨S1024x32, .f32⟩
  | 6 => ⟨S32x1024, .f32⟩
  | 7 => ⟨S6x1024, .f32⟩
  | 8 => ⟨S1024x1024, .f32⟩
  | 9 => ⟨S1024x1024, .f32⟩
  | 10 => ⟨S1024x1024, .f32⟩
  | 11 => ⟨S1024, .f32⟩
  | 12 => ⟨S1024x64, .f32⟩
  | 13 => ⟨S64x1024, .f32⟩
  | 14 => ⟨S1024, .f32⟩
  | 15 => ⟨S1024x64, .f32⟩
  | 16 => ⟨S64x1024, .f32⟩
  | 17 => ⟨S1024x128, .f32⟩
  | 18 => ⟨S128x1024, .f32⟩
  | 19 => ⟨S1024, .f32⟩
  | 20 => ⟨S1024, .f32⟩
  | 21 => ⟨S4x4096x1024, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S_, .f32⟩
  | 29 => ⟨S4x4096x1, .f32⟩
  | 30 => ⟨S4x4096x1, .f32⟩
  | 31 => ⟨S4x4096x1, .f32⟩
  | 32 => ⟨S4x4096x1024, .f32⟩
  | 33 => ⟨S4x4096x1024, .f32⟩
  | 34 => ⟨S1x1x1024, .f32⟩
  | 35 => ⟨S4x4096x1024, .f32⟩
  | 36 => ⟨S4x4096x1024, .f32⟩
  | 37 => ⟨S4x1x1024, .f32⟩
  | 38 => ⟨S4x4095x1024, .f32⟩
  | 39 => ⟨S4x4096x1024, .f32⟩
  | 40 => ⟨S4x4096x1024, .f32⟩
  | 41 => ⟨S1x1024, .f32⟩
  | 42 => ⟨S1024, .f32⟩
  | 43 => ⟨S1x1x1024, .f32⟩
  | 44 => ⟨S4x4096x1024, .f32⟩
  | 45 => ⟨S4x4096x1024, .f32⟩
  | 46 => ⟨S4x4096x1024, .f32⟩
  | 47 => ⟨S1x1024, .f32⟩
  | 48 => ⟨S1024, .f32⟩
  | 49 => ⟨S1x1x1024, .f32⟩
  | 50 => ⟨S4x4096x1024, .f32⟩
  | 51 => ⟨S4x4096x1024, .f32⟩
  | 52 => ⟨S4x4096x1024, .f32⟩
  | 53 => ⟨S1x1024, .f32⟩
  | 54 => ⟨S1024, .f32⟩
  | 55 => ⟨S1x1x1024, .f32⟩
  | 56 => ⟨S4x4096x1024, .f32⟩
  | 57 => ⟨S4x4096x1024, .f32⟩
  | 58 => ⟨S4x4096x1024, .f32⟩
  | 59 => ⟨S1x1024, .f32⟩
  | 60 => ⟨S1024, .f32⟩
  | 61 => ⟨S1x1x1024, .f32⟩
  | 62 => ⟨S4x4096x1024, .f32⟩
  | 63 => ⟨S4x4096x1024, .f32⟩
  | 64 => ⟨S4x4096x1024, .f32⟩
  | 65 => ⟨S1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S1x1024, .f32⟩
  | 72 => ⟨S1024, .f32⟩
  | 73 => ⟨S1x1x1024, .f32⟩
  | 74 => ⟨S4x4096x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S4x4096x1024, .f32⟩
  | 80 => ⟨S4x4096x64, .f32⟩
  | 81 => ⟨S4x4096x64, .f32⟩
  | 82 => ⟨S4x4096x1024, .f32⟩
  | 83 => ⟨S1x1x1024, .f32⟩
  | 84 => ⟨S4x4096x1024, .f32⟩
  | 85 => ⟨S4x4096x1024, .f32⟩
  | 86 => ⟨S4x4096x1024, .f32⟩
  | 87 => ⟨S_, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .i1⟩
  | 93 => ⟨S4x4096x1024, .f32⟩
  | 94 => ⟨S4x4096x1024, .f32⟩
  | 95 => ⟨S4x4096x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S_, .f32⟩
  | 103 => ⟨S4x4096x1024, .f32⟩
  | 104 => ⟨S4x4096x1024, .f32⟩
  | 105 => ⟨S4x4096x1024, .f32⟩
  | 106 => ⟨S4x4096x32, .f32⟩
  | 107 => ⟨S4x4096x1024, .f32⟩
  | 108 => ⟨S1x1x1024, .f32⟩
  | 109 => ⟨S4x4096x1024, .f32⟩
  | 110 => ⟨S4x4096x1024, .f32⟩
  | 111 => ⟨S4x4096x1024, .f32⟩
  | 112 => ⟨S4x4096x1024, .f32⟩
  | 113 => ⟨S_, .f32⟩
  | 114 => ⟨S4x4096x1024, .f32⟩
  | 115 => ⟨S4x4096x1024, .f32⟩
  | 116 => ⟨S_, .f32⟩
  | 117 => ⟨S4x4096x1024, .f32⟩
  | 118 => ⟨S4x4096x1024, .f32⟩
  | 119 => ⟨S4x4096x1024, .f32⟩
  | 120 => ⟨S4x4096x1024, .f32⟩
  | 121 => ⟨S4x4096x64, .f32⟩
  | 122 => ⟨S4x4096x1024, .f32⟩
  | 123 => ⟨S1x1x1024, .f32⟩
  | 124 => ⟨S4x4096x1024, .f32⟩
  | 125 => ⟨S4x4096x1024, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S_, .f32⟩
  | 1 => ⟨S4x4096x1024, .f32⟩
  | 2 => ⟨S4x4096x1024, .f32⟩
  | 3 => ⟨S_, .f32⟩
  | 4 => ⟨S4x4096x1024, .f32⟩
  | 5 => ⟨S4x4096x1024, .f32⟩
  | 6 => ⟨S4x4096x128, .f32⟩
  | 7 => ⟨S4x4096x128, .f32⟩
  | 8 => ⟨S4x4096x128, .f32⟩
  | 9 => ⟨S_, .f32⟩
  | 10 => ⟨S4x4096x128, .f32⟩
  | 11 => ⟨S4x4096x128, .f32⟩
  | 12 => ⟨S_, .f32⟩
  | 13 => ⟨S4x4096x128, .f32⟩
  | 14 => ⟨S4x4096x128, .f32⟩
  | 15 => ⟨S4x4096x1024, .f32⟩
  | 16 => ⟨S1x1x1024, .f32⟩
  | 17 => ⟨S4x4096x1024, .f32⟩
  | 18 => ⟨S4x4096x1024, .f32⟩
  | 19 => ⟨S4x4096x16x64, .f32⟩
  | 20 => ⟨S4x4096x16x64, .f32⟩
  | 21 => ⟨S_, .f32⟩
  | 22 => ⟨S4x4096x16, .f32⟩
  | 23 => ⟨S4x4096x16x1, .f32⟩
  | 24 => ⟨S4x4096x16x1, .f32⟩
  | 25 => ⟨S_, .f32⟩
  | 26 => ⟨S4x4096x16x1, .f32⟩
  | 27 => ⟨S4x4096x16x1, .f32⟩
  | 28 => ⟨S4x4096x16x64, .f32⟩
  | 29 => ⟨S4x4096x16x64, .f32⟩
  | 30 => ⟨S_, .f32⟩
  | 31 => ⟨S4x4096x1024, .f32⟩
  | 32 => ⟨S4x4096x1024, .f32⟩
  | 33 => ⟨S1x1x1024, .f32⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v63 : Ref sig .tc := ⟨.hbm, 100, rfl⟩
abbrev main_v64 : Ref sig .tc := ⟨.hbm, 101, rfl⟩
abbrev main_cst_2 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_3 : Ref sig .tc := ⟨.hbm, 113, rfl⟩
abbrev main_v75 : Ref sig .tc := ⟨.hbm, 114, rfl⟩
abbrev main_v76 : Ref sig .tc := ⟨.hbm, 115, rfl⟩
abbrev main_cst_4 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_5 : Ref sig .tc := ⟨.hbm, 128, rfl⟩
abbrev main_v88 : Ref sig .tc := ⟨.hbm, 129, rfl⟩
abbrev main_v89 : Ref sig .tc := ⟨.hbm, 130, rfl⟩
abbrev main_cst_6 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_7 : Ref sig .tc := ⟨.hbm, 137, rfl⟩
abbrev main_v95 : Ref sig .tc := ⟨.hbm, 138, rfl⟩
abbrev main_v96 : Ref sig .tc := ⟨.hbm, 139, rfl⟩
abbrev main_cst_8 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_9 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_10 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_11 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_12 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S16x64 : Shape := ⟨2, ![16, 64]⟩
abbrev S1024x1024 : Shape := ⟨2, ![1024, 1024]⟩
abbrev S1024x128 : Shape := ⟨2, ![1024, 128]⟩
abbrev S_ : Shape := ⟨0, ![]⟩
abbrev S128x1024 : Shape := ⟨2, ![128, 1024]⟩
abbrev S1x1024 : Shape := ⟨2, ![1, 1024]⟩
abbrev S256x1024 : Shape := ⟨2, ![256, 1024]⟩
abbrev S256x128 : Shape := ⟨2, ![256, 128]⟩

abbrev nBuf : Space → Nat
  | .hbm => 38
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S16x64, .f32⟩
  | .hbm, ⟨9, _⟩ => ⟨S1024x1024, .f32⟩
  | .hbm, ⟨10, _⟩ => ⟨S1024x128, .i32⟩
  | .hbm, ⟨11, _⟩ => ⟨S_, .i32⟩
  | .hbm, ⟨12, _⟩ => ⟨S_, .i32⟩
  | .hbm, ⟨13, _⟩ => ⟨S1024x128, .i32⟩
  | .hbm, ⟨14, _⟩ => ⟨S1024x128, .i32⟩
  | .hbm, ⟨15, _⟩ => ⟨S1024x128, .i32⟩
  | .hbm, ⟨16, _⟩ => ⟨S_, .i32⟩
  | .hbm, ⟨17, _⟩ => ⟨S1024x128, .i32⟩
  | .hbm, ⟨18, _⟩ => ⟨S1024x128, .i1⟩
  | .hbm, ⟨19, _⟩ => ⟨S1024x128, .i32⟩
  | .hbm, ⟨20, _⟩ => ⟨S1024x128, .i32⟩
  | .hbm, ⟨21, _⟩ => ⟨S_, .i32⟩
  | .hbm, ⟨22, _⟩ => ⟨S1024x128, .i32⟩
  | .hbm, ⟨23, _⟩ => ⟨S1024x128, .i1⟩
  | .hbm, ⟨24, _⟩ => ⟨S1024x128, .i1⟩
  | .hbm, ⟨25, _⟩ => ⟨S_, .i32⟩
  | .hbm, ⟨26, _⟩ => ⟨S1024x128, .i32⟩
  | .hbm, ⟨27, _⟩ => ⟨S1024x128, .i32⟩
  | .hbm, ⟨28, _⟩ => ⟨S1024x128, .i32⟩
  | .hbm, ⟨29, _⟩ => ⟨S1024x128, .i32⟩
  | .hbm, ⟨30, _⟩ => ⟨S1024x128, .i1⟩
  | .hbm, ⟨31, _⟩ => ⟨S1024x128, .bf16⟩
  | .hbm, ⟨32, _⟩ => ⟨S128x1024, .bf16⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1024x1024, .bf16⟩
  | .hbm, ⟨37, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x128, .bf16⟩
  | .local _ .vmem, ⟨16, _⟩ => ⟨S128x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S1024 : Shape := ⟨1, ![1024]⟩
abbrev S16x64 : Shape := ⟨2, ![16, 64]⟩
abbrev S1024x1024 : Shape := ⟨2, ![1024, 1024]⟩
abbrev S16384x16x64 : Shape := ⟨3, ![16384, 16, 64]⟩
abbrev S_ : Shape := ⟨0, ![]⟩
abbrev S16384x16 : Shape := ⟨2, ![16384, 16]⟩
abbrev S16384x16x1 : Shape := ⟨3, ![16384, 16, 1]⟩
abbrev S1x16x64 : Shape := ⟨3, ![1, 16, 64]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S16x64, .f32⟩
  | .hbm, ⟨9, _⟩ => ⟨S1024x1024, .f32⟩
  | .hbm, ⟨10, _⟩ => ⟨S16384x16x64, .f32⟩
  | .hbm, ⟨11, _⟩ => ⟨S16384x16x64, .f32⟩
  | .hbm, ⟨12, _⟩ => ⟨S16384x16x64, .f32⟩
  | .hbm, ⟨13, _⟩ => ⟨S16384x16x64, .f32⟩
  | .hbm, ⟨14, _⟩ => ⟨S_, .f32⟩
  | .hbm, ⟨15, _⟩ => ⟨S16384x16, .f32⟩
  | .hbm, ⟨16, _⟩ => ⟨S16384x16x1, .f32⟩
  | .hbm, ⟨17, _⟩ => ⟨S_, .f32⟩
  | .hbm, ⟨18, _⟩ => ⟨S16384x16x1, .f32⟩
  | .hbm, ⟨19, _⟩ => ⟨S16384x16x1, .f32⟩
  | .hbm, ⟨20, _⟩ => ⟨S16384x16x64, .f32⟩
  | .hbm, ⟨21, _⟩ => ⟨S16384x16x64, .f32⟩
  | .hbm, ⟨22, _⟩ => ⟨S16384x16x64, .f32⟩
  | .hbm, ⟨23, _⟩ => ⟨S_, .f32⟩
  | .hbm, ⟨24, _⟩ => ⟨S16384x16, .f32⟩
  | .hbm, ⟨25, _⟩ => ⟨S16384x16x1, .f32⟩
  | .hbm, ⟨26, _⟩ => ⟨S_, .f32⟩
  | .hbm, ⟨27, _⟩ => ⟨S16384x16x1, .f32⟩
  | .hbm, ⟨28, _⟩ => ⟨S16384x16x1, .f32⟩
  | .hbm, ⟨29, _⟩ => ⟨S16384x16x64, .f32⟩
  | .hbm, ⟨30, _⟩ => ⟨S16384x16x64, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S16384x16x1, .f32⟩
  | .hbm, ⟨35, _⟩ => ⟨S16384x16x64, .f32⟩
  | .hbm, ⟨36, _⟩ => ⟨S16384x16x64, .f32⟩
  | .hbm, ⟨37, _⟩ => ⟨S16x64, .f32⟩
  | .hbm, ⟨38, _⟩ => ⟨S1x16x64, .f32⟩
  | .hbm, ⟨39, _⟩ => ⟨S16384x16x64, .f32⟩
  | .hbm, ⟨40, _⟩ => ⟨S16384x16x64, .f32⟩
  | .hbm, ⟨41, _⟩ => ⟨S16x64, .f32⟩
  | .hbm, ⟨42, _⟩ => ⟨S1x16x64, .f32⟩
  | .hbm, ⟨43, _⟩ => ⟨S16384x16x64, .f32⟩
  | .hbm, ⟨44, _⟩ => ⟨S16384x16x64, .f32⟩
  | .hbm, ⟨45, _⟩ => ⟨S16384x16x64, .f32⟩
  | .hbm, ⟨46, _⟩ => ⟨S1x16x64, .f32⟩
  | .hbm, ⟨47, _⟩ => ⟨S16384x16x64, .f32⟩
  | .hbm, ⟨48, _⟩ => ⟨S16384x16x64, .f32⟩
  | .hbm, ⟨49, _⟩ => ⟨S_, .f32⟩
  | .hbm, ⟨50, _⟩ => ⟨S16384x16, .f32⟩
  | .hbm, ⟨51, _⟩ => ⟨S16384x16x1, .f32⟩
  | .hbm, ⟨52, _⟩ => ⟨S16384x16x64, .f32⟩
  | .hbm, ⟨53, _⟩ => ⟨S16384x16x64, .f32⟩
  | .hbm, ⟨54, _⟩ => ⟨S16384x16x64, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x1024 : Shape := ⟨3, ![4, 4096, 1024]⟩
abbrev S4x128x128 : Shape := ⟨3, ![4, 128, 128]⟩
abbrev S512 : Shape := ⟨1, ![512]⟩
abbrev S1024x1024 : Shape := ⟨2, ![1024, 1024]⟩
abbrev S512x528 : Shape := ⟨2, ![512, 528]⟩
abbrev S_ : Shape := ⟨0, ![]⟩
abbrev S1x512x528 : Shape := ⟨3, ![1, 512, 528]⟩
abbrev S4x512x528 : Shape := ⟨3, ![4, 512, 528]⟩
abbrev S16384x512 : Shape := ⟨2, ![16384, 512]⟩
abbrev S16384x1024 : Shape := ⟨2, ![16384, 1024]⟩
abbrev S1x512 : Shape := ⟨2, ![1, 512]⟩
abbrev S512x1024 : Shape := ⟨2, ![512, 1024]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S528x128 : Shape := ⟨2, ![528, 128]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 53
  | .vmem => 15
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S512x528, .i32⟩
  | .hbm, ⟨7, _⟩ => ⟨S_, .i32⟩
  | .hbm, ⟨8, _⟩ => ⟨S512x528, .i32⟩
  | .hbm, ⟨9, _⟩ => ⟨S512x528, .i32⟩
  | .hbm, ⟨10, _⟩ => ⟨S512x528, .i32⟩
  | .hbm, ⟨11, _⟩ => ⟨S512x528, .i1⟩
  | .hbm, ⟨12, _⟩ => ⟨S_, .i32⟩
  | .hbm, ⟨13, _⟩ => ⟨S512x528, .i32⟩
  | .hbm, ⟨14, _⟩ => ⟨S512x528, .i32⟩
  | .hbm, ⟨15, _⟩ => ⟨S512x528, .i1⟩
  | .hbm, ⟨16, _⟩ => ⟨S512x528, .i1⟩
  | .hbm, ⟨17, _⟩ => ⟨S512x528, .bf16⟩
  | .hbm, ⟨18, _⟩ => ⟨S512x528, .i1⟩
  | .hbm, ⟨19, _⟩ => ⟨S_, .i32⟩
  | .hbm, ⟨20, _⟩ => ⟨S512x528, .i32⟩
  | .hbm, ⟨21, _⟩ => ⟨S512x528, .i32⟩
  | .hbm, ⟨22, _⟩ => ⟨S512x528, .i1⟩
  | .hbm, ⟨23, _⟩ => ⟨S512x528, .i1⟩
  | .hbm, ⟨24, _⟩ => ⟨S512x528, .bf16⟩
  | .hbm, ⟨25, _⟩ => ⟨S512x528, .i1⟩
  | .hbm, ⟨26, _⟩ => ⟨S_, .i32⟩
  | .hbm, ⟨27, _⟩ => ⟨S512x528, .i32⟩
  | .hbm, ⟨28, _⟩ => ⟨S512x528, .i32⟩
  | .hbm, ⟨29, _⟩ => ⟨S512x528, .i1⟩
  | .hbm, ⟨30, _⟩ => ⟨S512x528, .i1⟩
  | .hbm, ⟨31, _⟩ => ⟨S512x528, .bf16⟩
  | .hbm, ⟨32, _⟩ => ⟨S512x528, .i1⟩
  | .hbm, ⟨33, _⟩ => ⟨S_, .i32⟩
  | .hbm, ⟨34, _⟩ => ⟨S512x528, .i32⟩
  | .hbm, ⟨35, _⟩ => ⟨S512x528, .i32⟩
  | .hbm, ⟨36, _⟩ => ⟨S512x528, .i1⟩
  | .hbm, ⟨37, _⟩ => ⟨S512x528, .i1⟩
  | .hbm, ⟨38, _⟩ => ⟨S512x528, .bf16⟩
  | .hbm, ⟨39, _⟩ => ⟨S1x512x528, .bf16⟩
  | .hbm, ⟨40, _⟩ => ⟨S1x512x528, .bf16⟩
  | .hbm, ⟨41, _⟩ => ⟨S1x512x528, .bf16⟩
  | .hbm, ⟨42, _⟩ => ⟨S1x512x528, .bf16⟩
  | .hbm, ⟨43, _⟩ => ⟨S4x512x528, .bf16⟩
  | .hbm, ⟨44, _⟩ => ⟨S1024x1024, .bf16⟩
  | .hbm, ⟨45, _⟩ => ⟨S16384x512, .f32⟩
  | .hbm, ⟨46, _⟩ => ⟨S16384x512, .f32⟩
  | .hbm, ⟨47, _⟩ => ⟨S16384x1024, .f32⟩
  | .hbm, ⟨48, _⟩ => ⟨S4x128x128, .bf16⟩
  | .hbm, ⟨49, _⟩ => ⟨S1x512, .f32⟩
  | .hbm, ⟨50, _⟩ => ⟨S512x1024, .bf16⟩
  | .hbm, ⟨51, _⟩ => ⟨S512x1024, .bf16⟩
  | .hbm, ⟨52, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S4x512x528, .bf16⟩
  | .local _ .vmem, ⟨9, _⟩ => ⟨S4x128x128, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x528 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x512 : Shape := ⟨3, ![4, 4096, 512]⟩
abbrev S4x4096x1024 : Shape := ⟨3, ![4, 4096, 1024]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S4x15x512 : Shape := ⟨3, ![4, 15, 512]⟩
abbrev S4x4111x512 : Shape := ⟨3, ![4, 4111, 512]⟩
abbrev S4x4112x512 : Shape := ⟨3, ![4, 4112, 512]⟩
abbrev S4096 : Shape := ⟨1, ![4096]⟩
abbrev S4x4112x128 : Shape := ⟨3, ![4, 4112, 128]⟩
abbrev S4x4096x128 : Shape := ⟨3, ![4, 4096, 128]⟩
abbrev S1x4096x1 : Shape := ⟨3, ![1, 4096, 1]⟩
abbrev S4x4096x1x128 : Shape := ⟨4, ![4, 4096, 1, 128]⟩
abbrev S4x4096x4x128 : Shape := ⟨4, ![4, 4096, 4, 128]⟩
abbrev S4x128x4x4096 : Shape := ⟨4, ![4, 128, 4, 4096]⟩
abbrev S1x1x512 : Shape := ⟨3, ![1, 1, 512]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x128x128, .f32⟩
  | .hbm, ⟨4, _⟩ => ⟨S512, .f32⟩
  | .hbm, ⟨5, _⟩ => ⟨S1024x1024, .f32⟩
  | .hbm, ⟨6, _⟩ => ⟨S_, .f32⟩
  | .hbm, ⟨7, _⟩ => ⟨S4x15x512, .f32⟩
  | .hbm, ⟨8, _⟩ => ⟨S4x4111x512, .f32⟩
  | .hbm, ⟨9, _⟩ => ⟨S_, .f32⟩
  | .hbm, ⟨10, _⟩ => ⟨S_, .f32⟩
  | .hbm, ⟨11, _⟩ => ⟨S4x4111x512, .f32⟩
  | .hbm, ⟨12, _⟩ => ⟨S_, .i32⟩
  | .hbm, ⟨13, _⟩ => ⟨S_, .f32⟩
  | .hbm, ⟨14, _⟩ => ⟨S4x4112x512, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4x4112x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .f32⟩
  | .hbm, ⟨27, _⟩ => ⟨S1x4096x1, .f32⟩
  | .hbm, ⟨28, _⟩ => ⟨S4x4096x128, .f32⟩
  | .hbm, ⟨29, _⟩ => ⟨S4x4096x128, .f32⟩
  | .hbm, ⟨30, _⟩ => ⟨S4x4112x128, .f32⟩
  | .hbm, ⟨31, _⟩ => ⟨S4x4096x128, .f32⟩
  | .hbm, ⟨32, _⟩ => ⟨S4x4096x128, .f32⟩
  | .hbm, ⟨33, _⟩ => ⟨S4x4096x128, .f32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .f32⟩
  | .hbm, ⟨38, _⟩ => ⟨S1x4096x1, .f32⟩
  | .hbm, ⟨39, _⟩ => ⟨S4x4096x128, .f32⟩
  | .hbm, ⟨40, _⟩ => ⟨S4x4096x128, .f32⟩
  | .hbm, ⟨41, _⟩ => ⟨S4x4112x128, .f32⟩
  | .hbm, ⟨42, _⟩ => ⟨S4x4096x128, .f32⟩
  | .hbm, ⟨43, _⟩ => ⟨S4x4096x128, .f32⟩
  | .hbm, ⟨44, _⟩ => ⟨S4x4096x128, .f32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .f32⟩
  | .hbm, ⟨49, _⟩ => ⟨S1x4096x1, .f32⟩
  | .hbm, ⟨50, _⟩ => ⟨S4x4096x128, .f32⟩
  | .hbm, ⟨51, _⟩ => ⟨S4x4096x128, .f32⟩
  | .hbm, ⟨52, _⟩ => ⟨S4x4112x128, .f32⟩
  | .hbm, ⟨53, _⟩ => ⟨S4x4096x128, .f32⟩
  | .hbm, ⟨54, _⟩ => ⟨S4x4096x128, .f32⟩
  | .hbm, ⟨55, _⟩ => ⟨S4x4096x128, .f32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .f32⟩
  | .hbm, ⟨60, _⟩ => ⟨S1x4096x1, .f32⟩
  | .hbm, ⟨61, _⟩ => ⟨S4x4096x128, .f32⟩
  | .hbm, ⟨62, _⟩ => ⟨S4x4096x128, .f32⟩
  | .hbm, ⟨63, _⟩ => ⟨S4x4096x1x128, .f32⟩
  | .hbm, ⟨64, _⟩ => ⟨S4x4096x1x128, .f32⟩
  | .hbm, ⟨65, _⟩ => ⟨S4x4096x1x128, .f32⟩
  | .hbm, ⟨66, _⟩ => ⟨S4x4096x1x128, .f32⟩
  | .hbm, ⟨67, _⟩ => ⟨S4x4096x4x128, .f32⟩
  | .hbm, ⟨68, _⟩ => ⟨S4x4096x4x128, .f32⟩
  | .hbm, ⟨69, _⟩ => ⟨S4x4096x4x128, .f32⟩
  | .hbm, ⟨70, _⟩ => ⟨S4x128x4x4096, .f32⟩
  | .hbm, ⟨71, _⟩ => ⟨S4x4096x4x128, .f32⟩
  | .hbm, ⟨72, _⟩ => ⟨S4x4096x512, .f32⟩
  | .hbm, ⟨73, _⟩ => ⟨S1x1x512, .f32⟩
  | .hbm, ⟨74, _⟩ => ⟨S4x4096x512, .f32⟩
  | .hbm, ⟨75, _⟩ => ⟨S4x4096x512, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S16384x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_call0_cst : Ref sig .tc := ⟨.hbm, 9, rfl⟩
abbrev main_call0_call0_v0 : Ref sig .tc := ⟨.hbm, 10, rfl⟩
abbrev main_v2 : Ref sig .tc := ⟨.hbm, 11, rfl⟩
abbrev main_c : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S4x1024 : Shape := ⟨2, ![4, 1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S16384x1024 : Shape := ⟨2, ![16384, 1024]⟩
abbrev S_ : Shape := ⟨0, ![]⟩
abbrev S4x1x1024 : Shape := ⟨3, ![4, 1, 1024]⟩
abbrev S8x1024 : Shape := ⟨2, ![8, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x64 : Shape := ⟨2, ![256, 64]⟩
abbrev S256x128 : Shape := ⟨2, ![256, 128]⟩

abbrev nBuf : Space → Nat
  | .hbm => 66
  | .vmem => 37
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S6x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x64, .f32⟩
  | .hbm, ⟨9, _⟩ => ⟨S64x1024, .f32⟩
  | .hbm, ⟨10, _⟩ => ⟨S1024, .f32⟩
  | .hbm, ⟨11, _⟩ => ⟨S1024x64, .f32⟩
  | .hbm, ⟨12, _⟩ => ⟨S64x1024, .f32⟩
  | .hbm, ⟨13, _⟩ => ⟨S1024x128, .f32⟩
  | .hbm, ⟨14, _⟩ => ⟨S128x1024, .f32⟩
  | .hbm, ⟨15, _⟩ => ⟨S1024, .f32⟩
  | .hbm, ⟨16, _⟩ => ⟨S1024, .f32⟩
  | .hbm, ⟨17, _⟩ => ⟨S16384x1024, .f32⟩
  | .hbm, ⟨18, _⟩ => ⟨S1024x128, .i32⟩
  | .hbm, ⟨19, _⟩ => ⟨S_, .i32⟩
  | .hbm, ⟨20, _⟩ => ⟨S_, .i32⟩
  | .hbm, ⟨21, _⟩ => ⟨S1024x128, .i32⟩
  | .hbm, ⟨22, _⟩ => ⟨S1024x128, .i32⟩
  | .hbm, ⟨23, _⟩ => ⟨S1024x128, .i32⟩
  | .hbm, ⟨24, _⟩ => ⟨S_, .i32⟩
  | .hbm, ⟨25, _⟩ => ⟨S1024x128, .i32⟩
  | .hbm, ⟨26, _⟩ => ⟨S1024x128, .i1⟩
  | .hbm, ⟨27, _⟩ => ⟨S1024x128, .i32⟩
  | .hbm, ⟨28, _⟩ => ⟨S1024x128, .i32⟩
  | .hbm, ⟨29, _⟩ => ⟨S_, .i32⟩
  | .hbm, ⟨30, _⟩ => ⟨S1024x128, .i32⟩
  | .hbm, ⟨31, _⟩ => ⟨S1024x128, .i1⟩
  | .hbm, ⟨32, _⟩ => ⟨S1024x128, .i1⟩
  | .hbm, ⟨33, _⟩ => ⟨S_, .i32⟩
  | .hbm, ⟨34, _⟩ => ⟨S1024x128, .i32⟩
  | .hbm, ⟨35, _⟩ => ⟨S1024x128, .i32⟩
  | .hbm, ⟨36, _⟩ => ⟨S1024x128, .i32⟩
  | .hbm, ⟨37, _⟩ => ⟨S1024x128, .i32⟩
  | .hbm, ⟨38, _⟩ => ⟨S1024x128, .i1⟩
  | .hbm, ⟨39, _⟩ => ⟨S1024x128, .bf16⟩
  | .hbm, ⟨40, _⟩ => ⟨S128x1024, .bf16⟩
  | .hbm, ⟨41, _⟩ => ⟨S4x1x1024, .f32⟩
  | .hbm, ⟨42, _⟩ => ⟨S_, .i32⟩
  | .hbm, ⟨43, _⟩ => ⟨S_, .f32⟩
  | .hbm, ⟨44, _⟩ => ⟨S8x1024, .f32⟩
  | .hbm, ⟨45, _⟩ => ⟨S1x1024, .f32⟩
  | .hbm, ⟨46, _⟩ => ⟨S1024x1024, .bf16⟩
  | .hbm, ⟨47, _⟩ => ⟨S1024x1024, .bf16⟩
  | .hbm, ⟨48, _⟩ => ⟨S1024x1024, .bf16⟩
  | .hbm, ⟨49, _⟩ => ⟨S1x1024, .f32⟩
  | .hbm, ⟨50, _⟩ => ⟨S1024x64, .bf16⟩
  | .hbm, ⟨51, _⟩ => ⟨S64x1024, .bf16⟩
  | .hbm, ⟨52, _⟩ => ⟨S1x1024, .f32⟩
  | .hbm, ⟨53, _⟩ => ⟨S1024x64, .bf16⟩
  | .hbm, ⟨54, _⟩ => ⟨S64x1024, .bf16⟩
  | .hbm, ⟨55, _⟩ => ⟨S1024x128, .bf16⟩
  | .hbm, ⟨56, _⟩ => ⟨S128x1024, .bf16⟩
  | .hbm, ⟨57, _⟩ => ⟨S1x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S8x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x64, .bf16⟩
  | .local _ .vmem, ⟨13, _⟩ => ⟨S64x1024, .bf16⟩
  | .local _ .vmem, ⟨14, _⟩ => ⟨S1x1024, .f32⟩
  | .local _ .vmem, ⟨15, _⟩ => ⟨S1024x64, .bf16⟩
  | .local _ .vmem, ⟨16, _⟩ => ⟨S64x1024, .bf16⟩
  | .local _ .vmem, ⟨17, _⟩ => ⟨S1024x128, .bf16⟩
  | .local _ .vmem, ⟨18, _⟩ => ⟨S128x1024, .bf16⟩
  | .local _ .vmem, ⟨19, _⟩ => ⟨S1x1024, .f32⟩
  | .local _ .vmem, ⟨20, _⟩ => ⟨S1x1024, .f32⟩
  | .local _ .vmem, ⟨21, _⟩ => ⟨S1024x128, .bf16⟩
  | .local _ .vmem, ⟨22, _⟩ => ⟨S128x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_c_0 : Ref sig .tc := ⟨.hbm, 42, rfl⟩
abbrev main_call1_v0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23_0 : Ref sig .tc := ⟨.hbm, 59, rfl⟩
abbrev main_v23_1 : Ref sig .tc := ⟨.hbm, 60, rfl⟩
abbrev main_v23_2 : Ref sig .tc := ⟨.hbm, 61, rfl⟩
abbrev main_v23_3 : Ref sig .tc := ⟨.hbm, 62, rfl⟩
abbrev main_v23_4 : Ref sig .tc := ⟨.hbm, 63, rfl⟩
abbrev main_v23_5 : Ref sig .tc := ⟨.hbm, 64, rfl⟩
abbrev main_v23_6 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg26_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem26_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference5Ideal.lean ====
abbrev S4x4096x1024 : Shape := ⟨3, ![4, 4096, 1024]⟩
abbrev S1024 : Shape := ⟨1, ![1024]⟩
abbrev S4x1024 : Shape := ⟨2, ![4, 1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S1x1024 : Shape := ⟨2, ![1, 1024]⟩
abbrev S4x4096x64 : Shape := ⟨3, ![4, 4096, 64]⟩
abbrev S4x4096x128 : Shape := ⟨3, ![4, 4096, 128]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S16384x1024 : Shape := ⟨2, ![16384, 1024]⟩

abbrev nBuf : Space → Nat
  | .hbm => 157
  | .vmem => 0
  | .smem => 0
  | _ => 0

abbrev hbmTy0_0 (i : Nat) : BufTy := match i % 128 with
  | 0 => ⟨S4x4096x1024, .f32⟩
  | 1 => ⟨S1024, .f32⟩
  | 2 => ⟨S4x1024, .f32⟩
  | 3 => ⟨S6x1024, .f32⟩
  | 4 => ⟨S1024x1024, .f32⟩
  | 5 => ⟨S1024x1024, .f32⟩
  | 6 => ⟨S1024x1024, .f32⟩
  | 7 => ⟨S1024, .f32⟩
  | 8 => ⟨S1024x64, .f32⟩
  | 9 => ⟨S64x1024, .f32⟩
  | 10 => ⟨S1024, .f32⟩
  | 11 => ⟨S1024x64, .f32⟩
  | 12 => ⟨S64x1024, .f32⟩
  | 13 => ⟨S1024x128, .f32⟩
  | 14 => ⟨S128x1024, .f32⟩
  | 15 => ⟨S1024, .f32⟩
  | 16 => ⟨S1024, .f32⟩
  | 17 => ⟨S4x4096x1024, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x1024, .f32⟩
  | 29 => ⟨S4x4096x1024, .f32⟩
  | 30 => ⟨S1x1x1024, .f32⟩
  | 31 => ⟨S4x4096x1024, .f32⟩
  | 32 => ⟨S4x4096x1024, .f32⟩
  | 33 => ⟨S4x1x1024, .f32⟩
  | 34 => ⟨S4x4095x1024, .f32⟩
  | 35 => ⟨S4x4096x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S1x1024, .f32⟩
  | 44 => ⟨S1024, .f32⟩
  | 45 => ⟨S1x1x1024, .f32⟩
  | 46 => ⟨S4x4096x1024, .f32⟩
  | 47 => ⟨S4x4096x1024, .f32⟩
  | 48 => ⟨S4x4096x1024, .f32⟩
  | 49 => ⟨S1x1024, .f32⟩
  | 50 => ⟨S1024, .f32⟩
  | 51 => ⟨S1x1x1024, .f32⟩
  | 52 => ⟨S4x4096x1024, .f32⟩
  | 53 => ⟨S4x4096x1024, .f32⟩
  | 54 => ⟨S4x4096x1024, .f32⟩
  | 55 => ⟨S1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S1x1024, .f32⟩
  | 62 => ⟨S1024, .f32⟩
  | 63 => ⟨S1x1x1024, .f32⟩
  | 64 => ⟨S4x4096x1024, .f32⟩
  | 65 => ⟨S4x4096x1024, .f32⟩
  | 66 => ⟨S4x4096x1024, .f32⟩
  | 67 => ⟨S1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S4x4096x64, .f32⟩
  | 77 => ⟨S4x4096x64, .f32⟩
  | 78 => ⟨S4x4096x1024, .f32⟩
  | 79 => ⟨S1x1x1024, .f32⟩
  | 80 => ⟨S4x4096x1024, .f32⟩
  | 81 => ⟨S4x4096x1024, .f32⟩
  | 82 => ⟨S4x4096x1024, .f32⟩
  | 83 => ⟨S_, .f32⟩
  | 84 => ⟨S4x4096x1024, .f32⟩
  | 85 => ⟨S4x4096x1024, .f32⟩
  | 86 => ⟨S4x4096x1024, .f32⟩
  | 87 => ⟨S4x4096x1024, .f32⟩
  | 88 => ⟨S4x4096x1024, .i1⟩
  | 89 => ⟨S4x4096x1024, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4096x1024, .f32⟩
  | 95 => ⟨S4x4096x1024, .f32⟩
  | 96 => ⟨S4x4096x1024, .f32⟩
  | 97 => ⟨S4x4096x1024, .f32⟩
  | 98 => ⟨S_, .f32⟩
  | 99 => ⟨S4x4096x1024, .f32⟩
  | 100 => ⟨S4x4096x1024, .f32⟩
  | 101 => ⟨S4x4096x64, .f32⟩
  | 102 => ⟨S4x4096x1024, .f32⟩
  | 103 => ⟨S1x1x1024, .f32⟩
  | 104 => ⟨S4x4096x1024, .f32⟩
  | 105 => ⟨S4x4096x1024, .f32⟩
  | 106 => ⟨S4x4096x1024, .f32⟩
  | 107 => ⟨S4x4096x1024, .f32⟩
  | 108 => ⟨S_, .f32⟩
  | 109 => ⟨S4x4096x1024, .f32⟩
  | 110 => ⟨S4x4096x1024, .f32⟩
  | 111 => ⟨S_, .f32⟩
  | 112 => ⟨S4x4096x1024, .f32⟩
  | 113 => ⟨S4x4096x1024, .f32⟩
  | 114 => ⟨S4x4096x128, .f32⟩
  | 115 => ⟨S4x4096x128, .f32⟩
  | 116 => ⟨S4x4096x128, .f32⟩
  | 117 => ⟨S_, .f32⟩
  | 118 => ⟨S4x4096x128, .f32⟩
  | 119 => ⟨S4x4096x128, .f32⟩
  | 120 => ⟨S_, .f32⟩
  | 121 => ⟨S4x4096x128, .f32⟩
  | 122 => ⟨S4x4096x128, .f32⟩
  | 123 => ⟨S4x4096x1024, .f32⟩
  | 124 => ⟨S1x1x1024, .f32⟩
  | 125 => ⟨S4x4096x1024, .f32⟩
  | 126 => ⟨S4x4096x1024, .f32⟩
  | 127 => ⟨S4x4096x16x64, .f32⟩
  | _ => ⟨S4x4096x1024, .f32⟩

abbrev hbmTy0_1 (i : Nat) : BufTy := match i % 128 with
  | 0 => ⟨S4x4096x16x64, .f32⟩
  | 1 => ⟨S_, .f32⟩
  | 2 => ⟨S4x4096x16, .f32⟩
  | 3 => ⟨S4x4096x16x1, .f32⟩
  | 4 => ⟨S4x4096x16x1, .f32⟩
  | 5 => ⟨S_, .f32⟩
  | 6 => ⟨S4x4096x16x1, .f32⟩
  | 7 => ⟨S4x4096x16x1, .f32⟩
  | 8 => ⟨S4x4096x16x64, .f32⟩
  | 9 => ⟨S4x4096x16x64, .f32⟩
  | 10 => ⟨S_, .f32⟩
  | 11 => ⟨S4x4096x1024, .f32⟩
  | 12 => ⟨S4x4096x1024, .f32⟩
  | 13 => ⟨S1x1x1024, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S4x4096x1024, .f32⟩
  | 20 => ⟨S4x4096x1024, .f32⟩
  | 21 => ⟨S4x4096x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v63 : Ref sig .tc := ⟨.hbm, 96, rfl⟩
abbrev main_v64 : Ref sig .tc := ⟨.hbm, 97, rfl⟩
abbrev main_cst_2 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_3 : Ref sig .tc := ⟨.hbm, 108, rfl⟩
abbrev main_v74 : Ref sig .tc := ⟨.hbm, 109, rfl⟩
abbrev main_v75 : Ref sig .tc := ⟨.hbm, 110, rfl⟩
abbrev main_cst_4 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_5 : Ref sig .tc := ⟨.hbm, 117, rfl⟩
abbrev main_v81 : Ref sig .tc := ⟨.hbm, 118, rfl⟩
abbrev main_v82 : Ref sig .tc := ⟨.hbm, 119, rfl⟩
abbrev main_cst_6 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_7 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_8 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_9 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_10 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]
-- ==== Proof.Router.lean ====
module

public import Idealize.ShloMosaic.Lib.Pointwise

/-! The router's mathematics on one row, over the extended reals: the first place of a maximum, the value and the
place found by a maximum and a minimum over 128 lanes, and the two gate weights written in two ways. -/

@[expose] public section

set_option maxRecDepth 16384

noncomputable section

namespace Router

open Idealize.ShloMosaic

/-- `i` is the first place at which `f` is largest. -/
def IsFirst {n : Nat} (f : Fin n → EReal) (i : Fin n) : Prop := (∀ j, f j ≤ f i) ∧ ∀ j, j < i → f j < f i

/-- `k` is the first place at which `f` is largest, the place `i` left out. -/
def IsSecond {n : Nat} (f : Fin n → EReal) (i k : Fin n) : Prop :=
  k ≠ i ∧ (∀ j, j ≠ i → f j ≤ f k) ∧ ∀ j, j ≠ i → j < k → f j < f k

/-- Over 128 lanes the minimum of the lane numbers at which the maximum stands is the first such lane. -/
theorem fold_max_first {n : Nat} {f : Fin n → EReal} {i : Fin n} (h : IsFirst f i) :
    Finset.fold max ⊥ f Finset.univ = f i := by
  apply le_antisymm
  · rw [Finset.fold_max_le]
    exact ⟨bot_le, fun j _ => h.1 j⟩
  · rw [Finset.le_fold_max]
    exact .inr ⟨i, Finset.mem_univ _, le_rfl⟩

/-- A lane number as an extended real. -/
def lane (x : Fin 128) : EReal := ((x.val : ℝ) : EReal)

theorem lane_lt (x y : Fin 128) : lane x < lane y ↔ x < y := by
  unfold lane; rw [EReal.coe_lt_coe_iff, Nat.cast_lt]; rfl

theorem lane_inj (x y : Fin 128) : lane x = lane y ↔ x = y := by
  unfold lane; rw [EReal.coe_eq_coe_iff, Nat.cast_inj, Fin.val_inj]

theorem fold_min_lane {f : Fin 128 → EReal} {i : Fin 128} (h : IsFirst f i) :
    Finset.fold min ⊤ (fun x => if f x = f i then lane x else ((128 : ℝ) : EReal)) Finset.univ = lane i := by
  apply le_antisymm
  · rw [Finset.fold_min_le]
    exact .inr ⟨i, Finset.mem_univ _, by simp⟩
  · rw [Finset.le_fold_min]
    refine ⟨le_top, fun x _ => ?_⟩
    split
    · rename_i he
      by_contra hlt
      exact absurd he (ne_of_lt (h.2 x ((lane_lt x i).1 (not_le.1 hlt))))
    · unfold lane
      exact EReal.coe_le_coe_iff.2 (by exact_mod_cast i.isLt.le)

/-- The lane of coarse group `a`. -/
def coarse (a : Fin 4) : Fin 128 := ⟨a.val, by omega⟩
/-- The lane of entry `e` of group `g`. -/
def fine (g e : Fin 4) : Fin 128 := ⟨4 + 4 * g.val + e.val, by omega⟩

/-- The logits with every lane beyond the coarse ones masked. -/
def maskC (L : Fin 128 → EReal) (x : Fin 128) : EReal := if lane x < ((4 : ℝ) : EReal) then L x else ⊥

theorem maskC_eq (L : Fin 128 → EReal) (x : Fin 128) : maskC L x = if x.val < 4 then L x else ⊥ := by
  unfold maskC lane
  simp only [EReal.coe_lt_coe_iff]
  congr 1
  exact propext ⟨fun h => by exact_mod_cast h, fun h => by exact_mod_cast h⟩

/-- The logits with every lane outside the group that starts at lane number `lo` masked. -/
def maskF (L : Fin 128 → EReal) (lo : EReal) (x : Fin 128) : EReal :=
  if lo ≤ lane x ∧ lane x < lo + ((4 : ℝ) : EReal) then L x else ⊥

theorem maskF_eq (L : Fin 128 → EReal) (G : Fin 4) (x : Fin 128) :
    maskF L (((4 : ℝ) : EReal) + ((4 : ℝ) : EReal) * lane (coarse G)) x
      = if 4 + 4 * G.val ≤ x.val ∧ x.val < 8 + 4 * G.val then L x else ⊥ := by
  unfold maskF lane coarse
  rw [← EReal.coe_mul, ← EReal.coe_add, ← EReal.coe_add]
  simp only [EReal.coe_lt_coe_iff, EReal.coe_le_coe_iff]
  congr 1
  refine propext ⟨fun h => ⟨?_, ?_⟩, fun h => ⟨?_, ?_⟩⟩
  · exact_mod_cast h.1
  · have := h.2
    have h2 : (x.val : ℝ) < ((8 + 4 * G.val : ℕ) : ℝ) := by push_cast; linarith
    exact_mod_cast h2
  · exact_mod_cast h.1
  · have h2 : (x.val : ℝ) < ((8 + 4 * G.val : ℕ) : ℝ) := by exact_mod_cast h.2
    push_cast at h2
    linarith

theorem first_maskC {L : Fin 128 → EReal} {G : Fin 4} (hb : L (coarse G) ≠ ⊥) (h : IsFirst (fun a => L (coarse a)) G) :
    IsFirst (maskC L) (coarse G) := by
  have hG : maskC L (coarse G) = L (coarse G) := by
    rw [maskC_eq, if_pos]; show G.val < 4; omega
  constructor
  · intro x
    rw [hG, maskC_eq]
    split
    · rename_i hx
      exact h.1 ⟨x.val, hx⟩
    · exact bot_le
  · intro x hx
    have hx' : x.val < G.val := hx
    rw [hG, maskC_eq, if_pos (by omega)]
    exact h.2 ⟨x.val, by omega⟩ hx

theorem first_maskF {L : Fin 128 → EReal} {G I : Fin 4} (hb : L (fine G I) ≠ ⊥) (h : IsFirst (fun e => L (fine G e)) I) :
    IsFirst (maskF L (((4 : ℝ) : EReal) + ((4 : ℝ) : EReal) * lane (coarse G))) (fine G I) := by
  have hG : maskF L (((4 : ℝ) : EReal) + ((4 : ℝ) : EReal) * lane (coarse G)) (fine G I) = L (fine G I) := by
    rw [maskF_eq, if_pos]; unfold fine; dsimp only; omega
  have key : ∀ x : Fin 128, (hx : 4 + 4 * G.val ≤ x.val ∧ x.val < 8 + 4 * G.val) →
      L x = L (fine G ⟨x.val - (4 + 4 * G.val), by omega⟩) := by
    intro x hx; congr 1; apply Fin.ext; unfold fine; dsimp only; omega
  constructor
  · intro x
    rw [hG, maskF_eq]
    split
    · rename_i hx
      rw [key x hx]; exact h.1 _
    · exact bot_le
  · intro x hx
    have hx' : x.val < 4 + 4 * G.val + I.val := hx
    rw [hG, maskF_eq]
    split
    · rename_i hx2
      rw [key x hx2]
      exact h.2 ⟨x.val - (4 + 4 * G.val), by omega⟩ (show x.val - (4 + 4 * G.val) < I.val by omega)
    · exact bot_lt_iff_ne_bot.2 hb

/-- The masked logits with lane number `l` masked as well. -/
def maskS (f : Fin 128 → EReal) (l : EReal) (x : Fin 128) : EReal := if lane x = l then ⊥ else f x

theorem first_maskS {L : Fin 128 → EReal} {G I K : Fin 4} (hb : L (fine G K) ≠ ⊥)
    (h : IsSecond (fun e => L (fine G e)) I K) :
    IsFirst (maskS (maskF L (((4 : ℝ) : EReal) + ((4 : ℝ) : EReal) * lane (coarse G))) (lane (fine G I))) (fine G K) := by
  have hne : fine G K ≠ fine G I := by
    intro he
    have := congrArg Fin.val he
    unfold fine at this; dsimp only at this
    exact h.1 (Fin.ext (by omega))
  have hG : maskS (maskF L (((4 : ℝ) : EReal) + ((4 : ℝ) : EReal) * lane (coarse G))) (lane (fine G I)) (fine G K)
      = L (fine G K) := by
    unfold maskS
    rw [if_neg (fun he => hne ((lane_inj _ _).1 he)), maskF_eq, if_pos]; unfold fine; dsimp only; omega
  have key : ∀ x : Fin 128, (hx : 4 + 4 * G.val ≤ x.val ∧ x.val < 8 + 4 * G.val) →
      x = fine G ⟨x.val - (4 + 4 * G.val), by omega⟩ := by
    intro x hx; apply Fin.ext; unfold fine; dsimp only; omega
  constructor
  · intro x
    rw [hG]; unfold maskS
    split
    · exact bot_le
    · rename_i hx1
      rw [maskF_eq]
      split
      · rename_i hx
        have hk := key x hx
        rw [hk] at hx1 ⊢
        exact h.2.1 _ (fun he => hx1 (by rw [he]))
      · exact bot_le
  · intro x hx
    have hx' : x.val < 4 + 4 * G.val + K.val := hx
    rw [hG]; unfold maskS
    split
    · exact bot_lt_iff_ne_bot.2 hb
    · rename_i hx1
      rw [maskF_eq]
      split
      · rename_i hx2
        have hk := key x hx2
        rw [hk] at hx1 ⊢
        exact h.2.2 _ (fun he => hx1 (by rw [he])) (show x.val - (4 + 4 * G.val) < K.val by omega)
      · exact bot_lt_iff_ne_bot.2 hb

theorem sum_coarse (F : Fin 128 → EReal) :
    ∑ x, (if lane x < ((4 : ℝ) : EReal) then F x else 0) = ∑ a, F (coarse a) := by
  have h := Fin.sum_univ_add (a := 4) (b := 124) (fun x : Fin (4 + 124) => if lane x < ((4 : ℝ) : EReal) then F x else 0)
  refine h.trans ?_
  have h1 : ∀ a : Fin 4, (if lane (Fin.castAdd 124 a) < ((4 : ℝ) : EReal) then F (Fin.castAdd 124 a) else 0) = F (coarse a) := by
    intro a
    rw [if_pos]
    · rfl
    · unfold lane; rw [EReal.coe_lt_coe_iff]
      have := a.isLt
      show ((a.val : ℕ) : ℝ) < 4
      exact_mod_cast this
  have h2 : ∀ a : Fin 124, (if lane (Fin.natAdd 4 a) < ((4 : ℝ) : EReal) then F (Fin.natAdd 4 a) else 0) = 0 := by
    intro a
    rw [if_neg]
    unfold lane; rw [EReal.coe_lt_coe_iff]
    show ¬ ((4 + a.val : ℕ) : ℝ) < 4
    push_cast
    have : (0 : ℝ) ≤ (a.val : ℝ) := Nat.cast_nonneg _
    linarith
  simp only [h1, h2, Finset.sum_const_zero, add_zero]

/-- The weight of the coarse group: one over the sum of the exponentials. -/
def top (c : Fin 4 → EReal) (G : Fin 4) : EReal := Ideal.div 1 (∑ a, Ideal.exp (c a - c G))
/-- The exponential of the second value relative to the first. -/
def ratio (v1 v2 : EReal) : EReal := Ideal.exp (v2 - v1)
/-- The gate of the first expert. -/
def w1 (gw v1 v2 : EReal) : EReal := Ideal.div gw (1 + ratio v1 v2)
/-- The gate of the second expert. -/
def w2 (gw v1 v2 : EReal) : EReal := ratio v1 v2 * w1 gw v1 v2

/-- The gate of expert `e` of group `g`, the group chosen being `G` and the experts chosen `I` and `K`. -/
def gate (c : Fin 4 → EReal) (f : Fin 4 → Fin 4 → EReal) (G I K g e : Fin 4) : EReal :=
  if g = G ∧ e = I then w1 (top c G) (f G I) (f G K) else if g = G ∧ e = K then w2 (top c G) (f G I) (f G K) else 0

theorem fine_inj (g e G I : Fin 4) : fine g e = fine G I ↔ g = G ∧ e = I := by
  unfold fine
  rw [Fin.ext_iff, Fin.ext_iff, Fin.ext_iff]; dsimp only; omega

/-- The sum over the lanes picks the one lane asked for. -/
theorem sum_pick (F : Fin 128 → EReal) (y : Fin 128) : ∑ x, (if lane x = lane y then F x else 0) = F y := by
  simp only [lane_inj]
  simp

/-- The kernel's gate, from the row's logits. -/
def gateRow (gw v1 i1 v2 i2 : EReal) (x : Fin 128) : EReal :=
  if lane x = i1 then w1 gw v1 v2 else if lane x = i2 then w2 gw v1 v2 else 0

theorem gateRow_eq {L : Fin 128 → EReal} {G I K : Fin 4} (g e : Fin 4) :
    gateRow (top (fun a => L (coarse a)) G) (L (fine G I)) (lane (fine G I)) (L (fine G K)) (lane (fine G K)) (fine g e)
      = gate (fun a => L (coarse a)) (fun g e => L (fine g e)) G I K g e := by
  unfold gateRow gate
  simp only [lane_inj, fine_inj]

/-! The same weights as the quotients of a softmax. -/

theorem exp_coe (r : ℝ) : Ideal.exp (r : EReal) = (Real.exp r : EReal) := rfl

theorem div_pos_coe (x : EReal) {r : ℝ} (hr : 0 < r) : Ideal.div x (r : EReal) = x * ((r⁻¹ : ℝ) : EReal) := by
  unfold Ideal.div
  rw [if_neg (by exact_mod_cast hr.ne'), EReal.coe_inv]

theorem coe_sum {n : Nat} (f : Fin n → ℝ) : ∑ i, ((f i : ℝ) : EReal) = ((∑ i, f i : ℝ) : EReal) := by
  have : ∀ s : Finset (Fin n), ∑ i ∈ s, ((f i : ℝ) : EReal) = ((∑ i ∈ s, f i : ℝ) : EReal) := by
    intro s
    induction s using Finset.cons_induction with
    | empty => simp
    | cons a s ha ih => rw [Finset.sum_cons, Finset.sum_cons, ih, EReal.coe_add]
  exact this _

/-- The largest entry of the coarse softmax is `top`. -/
theorem softmax_top (c : Fin 4 → ℝ) (G : Fin 4) (h : IsFirst (fun a => (c a : EReal)) G) :
    Finset.fold max ⊥ (fun x => Ideal.div (Ideal.exp ((c x : EReal) - max ⊥ (Finset.fold max ⊥ (fun a => (c a : EReal)) Finset.univ)))
      (∑ y, Ideal.exp ((c y : EReal) - max ⊥ (Finset.fold max ⊥ (fun a => (c a : EReal)) Finset.univ)))) Finset.univ
      = top (fun a => (c a : EReal)) G := by
  rw [fold_max_first h, max_eq_right bot_le]
  unfold top
  set S : ℝ := ∑ a, Real.exp (c a - c G) with hS
  have hsum : (∑ a, Ideal.exp ((c a : EReal) - (c G : EReal))) = (S : EReal) := by
    rw [hS, ← coe_sum]
    refine Finset.sum_congr rfl fun a _ => ?_
    rw [← EReal.coe_sub, exp_coe]
  have hpos : 0 < S := Finset.sum_pos (fun a _ => Real.exp_pos _) ⟨G, Finset.mem_univ _⟩
  rw [hsum]
  simp only [div_pos_coe _ hpos, ← EReal.coe_sub, exp_coe, ← EReal.coe_mul]
  apply le_antisymm
  · rw [Finset.fold_max_le]
    refine ⟨bot_le, fun a _ => ?_⟩
    have hle : c a ≤ c G := EReal.coe_le_coe_iff.1 (h.1 a)
    have : Real.exp (c a - c G) ≤ 1 := Real.exp_le_one_iff.2 (by linarith)
    rw [← EReal.coe_one, ← EReal.coe_mul]
    exact EReal.coe_le_coe_iff.2 (mul_le_mul_of_nonneg_right this (inv_nonneg.2 hpos.le))
  · rw [Finset.le_fold_max]
    refine .inr ⟨G, Finset.mem_univ _, ?_⟩
    rw [← EReal.coe_one, ← EReal.coe_mul, sub_self, Real.exp_zero]

/-- The two entries of a softmax over two values, the first the larger, times the group's weight. -/
theorem softmax_two (v1 v2 : ℝ) (h : v2 ≤ v1) (gw : EReal) (v : Fin 2 → EReal) (h0 : v 0 = (v1 : EReal)) (h1 : v 1 = (v2 : EReal)) :
    Ideal.div (Ideal.exp (v 0 - max ⊥ (Finset.fold max ⊥ v Finset.univ)))
        (∑ y, Ideal.exp (v y - max ⊥ (Finset.fold max ⊥ v Finset.univ))) * gw = w1 gw v1 v2
    ∧ Ideal.div (Ideal.exp (v 1 - max ⊥ (Finset.fold max ⊥ v Finset.univ)))
        (∑ y, Ideal.exp (v y - max ⊥ (Finset.fold max ⊥ v Finset.univ))) * gw = w2 gw v1 v2 := by
  have hf : IsFirst v 0 := by
    refine ⟨fun j => ?_, fun j hj => absurd hj (Fin.not_lt_zero j)⟩
    match j with
    | 0 => exact le_rfl
    | 1 => rw [h0, h1]; exact EReal.coe_le_coe_iff.2 h
  rw [fold_max_first hf, max_eq_right bot_le, Fin.sum_univ_two, h0, h1]
  unfold w2 w1 ratio
  have hpos : (0 : ℝ) < 1 + Real.exp (v2 - v1) := by positivity
  simp only [← EReal.coe_sub, exp_coe, sub_self, Real.exp_zero, ← EReal.coe_add, ← EReal.coe_one, div_pos_coe _ hpos]
  constructor
  · rw [EReal.coe_one, one_mul, mul_comm]
  · rw [mul_assoc, mul_comm gw]

end Router

end
-- ==== Proof.Reals.lean ====
module

public import proofs.«01_k».proof.Proof.Router

/-! Which values of the two programs are real numbers, and the values of their constants. -/

@[expose] public section

noncomputable section

namespace Router

open Idealize.ShloMosaic

/-- An extended real that is a real number. -/
def IsReal (x : EReal) : Prop := ∃ r : ℝ, x = (r : EReal)

theorem isReal_of_ne {x : EReal} (ht : x ≠ ⊤) (hb : x ≠ ⊥) : IsReal x := ⟨x.toReal, (EReal.coe_toReal ht hb).symm⟩
theorem IsReal.ne_bot {x : EReal} (h : IsReal x) : x ≠ ⊥ := by obtain ⟨r, rfl⟩ := h; exact EReal.coe_ne_bot r
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub_self {x : EReal} (hx : IsReal x) : x - x = 0 := by
  obtain ⟨a, rfl⟩ := hx; rw [← EReal.coe_sub, _root_.sub_self, EReal.coe_zero]
theorem IsReal.sum {n : Nat} {f : Fin n → EReal} (h : ∀ i, IsReal (f i)) : IsReal (∑ i, f i) := by
  choose r hr using h
  exact ⟨∑ i, r i, by rw [← coe_sum]; exact Finset.sum_congr rfl fun i _ => hr i⟩

theorem bits_1024 : Ideal.ofBits .f32 0x44800000#32 = ((1024 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]
theorem bits_eps : ∃ e : ℝ, 0 < e ∧ Ideal.ofBits .f32 0x358637BD#32 = (e : EReal) := by
  refine ⟨_, ?_, by simp [Ideal.ofBits, Ideal.ieee, -EReal.coe_mul]; rfl⟩
  positivity

/-- A normalised row: each entry over the root of the mean square, times its weight. -/
def normRow {n : Nat} (x g : Fin n → EReal) (k : Fin n) : EReal :=
  x k * Ideal.rsqrt (Ideal.div (∑ j, x j * x j) (Ideal.ofBits .f32 0x44800000#32) + Ideal.ofBits .f32 0x358637BD#32) * g k

theorem isReal_normRow {n : Nat} {x g : Fin n → EReal} (hx : ∀ j, IsReal (x j)) (hg : ∀ j, IsReal (g j)) (k : Fin n) :
    IsReal (normRow x g k) := by
  refine IsReal.mul (IsReal.mul (hx k) ?_) (hg k)
  choose r hr using hx
  obtain ⟨e, he, hee⟩ := bits_eps
  have hs : (∑ j, x j * x j) = ((∑ j, r j * r j : ℝ) : EReal) := by
    rw [← coe_sum]; exact Finset.sum_congr rfl fun j _ => by rw [hr j, EReal.coe_mul]
  rw [hs, bits_1024, hee, div_pos_coe _ (by norm_num : (0 : ℝ) < 1024), ← EReal.coe_mul, ← EReal.coe_add]
  have hp : 0 < (∑ j, r j * r j) * (1024 : ℝ)⁻¹ + e := by
    have : 0 ≤ ∑ j, r j * r j := Finset.sum_nonneg fun j _ => mul_self_nonneg (r j)
    positivity
  refine ⟨(Real.sqrt ((∑ j, r j * r j) * (1024 : ℝ)⁻¹ + e))⁻¹, ?_⟩
  show (if _ then _ else _) = _
  rw [if_neg (not_lt.2 hp.le), if_neg hp.ne']

end Router

end
-- ==== Proof.Body.lean ====
module

public import proofs.«01_k».proof.Proof.Gen.KernelIdeal.Frame
public import Idealize.ShloMosaic.Lib.Pipeline.Value
public import Idealize.ShloMosaic.Lib.Tactic

/-! What each case of the kernel's body leaves in its scratch and in its output block, as plain terms of the blocks read. -/

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The bound below which a lane is a coarse lane. -/
def four : F .f32 := Scalar.ofBits .f32 0x40800000#32

/-- The router's logits of a row block. -/
def logitsOf (x0 : Vec F S512x1024 .f32) (x1 : Vec F S1x1024 .f32) (x2 x3 : Vec F S1024x128 .bf16) (x4 : Vec F S1x128 .f32) :
    FVec F S512x128 .f32 := k0_pay6 x0 x1 x2 x3 x2 x4

/-- The gate block computed from the logits. -/
def gateOf (l : FVec F S512x128 .f32) : FVec F S512x128 .f32 :=
  k0_pay17 (k0_pay10 k0_pay16 l four) (k0_pay11 k0_pay16 l four) (k0_pay12 k0_pay16 l four) (k0_pay13 k0_pay16 l four)
    (k0_pay14 k0_pay16 l four) k0_pay15

/-- One group's contribution added to the accumulator. -/
def stepAcc (i : grid0.Coords) (h : Vec F S512x1024 .bf16) (gate : Vec F S512x128 .f32) (x5 x6 x7 : Vec F S1x1024x1024 .bf16)
    (acc : Vec F S512x1024 .f32) : FVec F S512x1024 .f32 :=
  k0_pay1 (k0_pay24 k0_pay16 (k0_pay19 h x5) (k0_pay20 h x6) gate (k0_pay21 i) (k0_pay22 i h x5 x6 gate) (k0_pay23 i gate) acc x7)

theorem sA0 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole) (arg13 : Memref sig .tc .vmem S512x1024 .f32) (harg13 : arg13.IsWhole) (hc0 : cond0_0 i) (hc1 : ¬cond0_1 i)
    (x0 : Vec F S512x1024 .f32) (x1 : Vec F S1x1024 .f32) (x2 : Vec F S1024x128 .bf16) (x3 : Vec F S1024x128 .bf16) (x4 : Vec F S1x128 .f32) (x5 : Vec F S1x1024x1024 .bf16) (x6 : Vec F S1x1024x1024 .bf16) (x7 : Vec F S1x1024x1024 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay5 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1024x128) hz2, View.ld_unit_zero (S := S1x128) hz2, View.ld_unit_zero (S := S512x128) hz2, View.ld_unit_zero (S := S1x1024x1024) hz3]
  try rfl

theorem sA1 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole) (arg13 : Memref sig .tc .vmem S512x1024 .f32) (harg13 : arg13.IsWhole) (hc0 : cond0_0 i) (hc1 : ¬cond0_1 i)
    (x0 : Vec F S512x1024 .f32) (x1 : Vec F S1x1024 .f32) (x2 : Vec F S1024x128 .bf16) (x3 : Vec F S1024x128 .bf16) (x4 : Vec F S1x128 .f32) (x5 : Vec F S1x1024x1024 .bf16) (x6 : Vec F S1x1024x1024 .bf16) (x7 : Vec F S1x1024x1024 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = gateOf (logitsOf x0 x1 x2 x3 x4) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1024x128) hz2, View.ld_unit_zero (S := S1x128) hz2, View.ld_unit_zero (S := S512x128) hz2, View.ld_unit_zero (S := S1x1024x1024) hz3]
  try rfl

theorem sA2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole) (arg13 : Memref sig .tc .vmem S512x1024 .f32) (harg13 : arg13.IsWhole) (hc0 : cond0_0 i) (hc1 : ¬cond0_1 i)
    (x0 : Vec F S512x1024 .f32) (x1 : Vec F S1x1024 .f32) (x2 : Vec F S1024x128 .bf16) (x3 : Vec F S1024x128 .bf16) (x4 : Vec F S1x128 .f32) (x5 : Vec F S1x1024x1024 .bf16) (x6 : Vec F S1x1024x1024 .bf16) (x7 : Vec F S1x1024x1024 .bf16) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stepAcc i (k0_pay5 x0 x1) (gateOf (logitsOf x0 x1 x2 x3 x4)) x5 x6 x7 (k0_pay18 (k0_pay2 x0)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  first | rw [View.canon_cons_unit_zero (S := S512x1024) hz2] | rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1024x128) hz2, View.ld_unit_zero (S := S1x128) hz2, View.ld_unit_zero (S := S512x128) hz2, View.ld_unit_zero (S := S1x1024x1024) hz3, View.readCov_unit_zero (S := S512x1024) _ hz2, View.readCov_unit_zero (S := S512x128) _ hz2, View.canon_unit_zero (S := S512x1024) hz2]
  try rfl

theorem sB2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole) (arg13 : Memref sig .tc .vmem S512x1024 .f32) (harg13 : arg13.IsWhole) (hc0 : ¬cond0_0 i) (hc1 : ¬cond0_1 i)
    (x0 : Vec F S512x1024 .f32) (x1 : Vec F S1x1024 .f32) (x2 : Vec F S1024x128 .bf16) (x3 : Vec F S1024x128 .bf16) (x4 : Vec F S1x128 .f32) (x5 : Vec F S1x1024x1024 .bf16) (x6 : Vec F S1x1024x1024 .bf16) (x7 : Vec F S1x1024x1024 .bf16) (xs0 : Vec F S512x1024 .bf16) (xs1 : Vec F S512x128 .f32) (xs2 : Vec F S512x1024 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stepAcc i xs0 xs1 x5 x6 x7 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_B
  dsimp only
  sl_unfold_words
  first | rw [View.canon_cons_unit_zero (S := S512x1024) hz2] | rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1024x128) hz2, View.ld_unit_zero (S := S1x128) hz2, View.ld_unit_zero (S := S512x128) hz2, View.ld_unit_zero (S := S1x1024x1024) hz3, View.readCov_unit_zero (S := S512x1024) _ hz2, View.readCov_unit_zero (S := S512x128) _ hz2, View.canon_unit_zero (S := S512x1024) hz2]
  try rfl

theorem sC2 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole) (arg13 : Memref sig .tc .vmem S512x1024 .f32) (harg13 : arg13.IsWhole) (hc0 : ¬cond0_0 i) (hc1 : cond0_1 i)
    (x0 : Vec F S512x1024 .f32) (x1 : Vec F S1x1024 .f32) (x2 : Vec F S1024x128 .bf16) (x3 : Vec F S1024x128 .bf16) (x4 : Vec F S1x128 .f32) (x5 : Vec F S1x1024x1024 .bf16) (x6 : Vec F S1x1024x1024 .bf16) (x7 : Vec F S1x1024x1024 .bf16) (xs0 : Vec F S512x1024 .bf16) (xs1 : Vec F S512x128 .f32) (xs2 : Vec F S512x1024 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stepAcc i xs0 xs1 x5 x6 x7 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  first | rw [View.canon_cons_unit_zero (S := S512x1024) hz2] | rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1024x128) hz2, View.ld_unit_zero (S := S1x128) hz2, View.ld_unit_zero (S := S512x128) hz2, View.ld_unit_zero (S := S1x1024x1024) hz3, View.readCov_unit_zero (S := S512x1024) _ hz2, View.readCov_unit_zero (S := S512x128) _ hz2, View.canon_unit_zero (S := S512x1024) hz2]
  try rfl

theorem oC8 (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole) (arg13 : Memref sig .tc .vmem S512x1024 .f32) (harg13 : arg13.IsWhole) (hc0 : ¬cond0_0 i) (hc1 : cond0_1 i)
    (x0 : Vec F S512x1024 .f32) (x1 : Vec F S1x1024 .f32) (x2 : Vec F S1024x128 .bf16) (x3 : Vec F S1024x128 .bf16) (x4 : Vec F S1x128 .f32) (x5 : Vec F S1x1024x1024 .bf16) (x6 : Vec F S1x1024x1024 .bf16) (x7 : Vec F S1x1024x1024 .bf16) (xs0 : Vec F S512x1024 .bf16) (xs1 : Vec F S512x128 .f32) (xs2 : Vec F S512x1024 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 = stepAcc i xs0 xs1 x5 x6 x7 xs2 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2)]
  unfold kernelRun0_C
  dsimp only
  sl_unfold_words
  first | rw [View.canon_cons_unit_zero (S := S512x1024) hz2] | rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1x1024) hz2, View.ld_unit_zero (S := S1024x128) hz2, View.ld_unit_zero (S := S1x128) hz2, View.ld_unit_zero (S := S512x128) hz2, View.ld_unit_zero (S := S1x1024x1024) hz3, View.readCov_unit_zero (S := S512x1024) _ hz2, View.readCov_unit_zero (S := S512x128) _ hz2, View.canon_unit_zero (S := S512x1024) hz2]
  try rfl

end Cert.KernelIdeal.Body

end
-- ==== Proof.KernelRows.lean ====
module

public import proofs.«01_k».proof.Proof.Reals
public import proofs.«01_k».proof.Proof.Body

/-! The kernel's payloads at an index: the normalised row, the logits, the gates, and one group's contribution. -/

@[expose] public section

set_option maxRecDepth 16384

noncomputable section

namespace Cert.KernelIdeal.Rows

open Cert.KernelIdeal Cert.KernelIdeal.Gen Cert.KernelIdeal.Body Router
open Idealize.ShloMosaic Idealize.ShloMosaic.TcCoe Idealize.SL.Sem

theorem hid_at (x0 : Vec Ideal S512x1024 .f32) (x1 : Vec Ideal S1x1024 .f32) (p : Fin 512) (k : Fin 1024) :
    k0_pay3 x0 x1 (ix2 p k) = normRow (fun k => x0 (ix2 p k)) (fun k => x1 (ix2 0 k)) k := by
  pointwise [k0_pay3, k0_pay2]
  rfl

theorem hid4_at (x0 : Vec Ideal S512x1024 .f32) (x1 : Vec Ideal S1x1024 .f32) (p : Fin 512) (k : Fin 1024) :
    k0_pay4 x0 x1 (ix2 p k) = k0_pay3 x0 x1 (ix2 p k) := by
  pointwise [k0_pay4]

theorem hid5_at (x0 : Vec Ideal S512x1024 .f32) (x1 : Vec Ideal S1x1024 .f32) (p : Fin 512) (k : Fin 1024) :
    k0_pay5 x0 x1 (ix2 p k) = normRow (fun k => x0 (ix2 p k)) (fun k => x1 (ix2 0 k)) k := by
  rw [← hid_at, ← hid4_at]
  pointwise [k0_pay5]

theorem logits_at (x0 : Vec Ideal S512x1024 .f32) (x1 : Vec Ideal S1x1024 .f32) (x2 x3 : Vec Ideal S1024x128 .bf16)
    (x4 : Vec Ideal S1x128 .f32) (p : Fin 512) (x : Fin 128)
    (h3 : ∀ k, x3 (ix2 k x) = (0 : EReal)) (hr : ∀ k, IsReal (k0_pay3 x0 x1 (ix2 p k))) :
    logitsOf x0 x1 x2 x3 x4 (ix2 p x) = ∑ k, k0_pay3 x0 x1 (ix2 p k) * x2 (ix2 k x) + x4 (ix2 0 x) := by
  pointwise [logitsOf, k0_pay6]
  simp only [hid4_at]
  have hs : ∀ k, k0_pay3 x0 x1 (ix2 p k) - k0_pay3 x0 x1 (ix2 p k) = (0 : EReal) := fun k => (hr k).sub_self
  simp only [hs, h3, zero_mul, mul_zero, Finset.sum_const_zero, add_zero]

theorem mask_bot : Named.named (F := Ideal) κ "mask" (φ := .f32) 0xF149F2CA#32 = (⊥ : EReal) :=
  IdealRules.named_const.ideal_named_scalar κ "mask" _ _ rfl

theorem sitofp_lane (x : Fin 128) : FloatOps.sitofp (F := Ideal) .f32 (BitVec.ofNat 32 x.val) = lane x := by
  show (((BitVec.ofNat 32 x.val).toInt : ℝ) : EReal) = ((x.val : ℝ) : EReal)
  have : ∀ x : Fin 128, (BitVec.ofNat 32 x.val).toInt = (x.val : Int) := by decide +kernel
  rw [this]; norm_cast

section
variable (l : FVec Ideal S512x128 .f32) (p : Fin 512) (z : Fin 1) (x : Fin 128)

theorem lane_at : k0_pay16 (F := Ideal) (ix2 p x) = lane x := by
  pointwise [k0_pay16]
  exact sitofp_lane x

theorem pay8_at : k0_pay8 k0_pay16 l four (ix2 p x) = maskC (fun x => l (ix2 p x)) x := by
  pointwise [k0_pay8, k0_pay7, four]
  simp only [mask_bot, lane_at, bits_4]
  rfl

theorem pay9_at : k0_pay9 k0_pay16 l four (ix2 p z) = Finset.fold max ⊥ (maskC (fun x => l (ix2 p x))) Finset.univ := by
  simp only [← pay8_at l]
  pointwise [k0_pay9]
  simp only [bits_bot]

theorem select_and (P Q : Prop) [Decidable P] [Decidable Q] (a b : EReal) :
    Scalar.select (α := EReal) (IntOp.andi (BitVec.ofBool (decide P)) (BitVec.ofBool (decide Q))) a b = if P ∧ Q then a else b := by
  unfold Scalar.select IntOp.andi
  by_cases hp : P <;> by_cases hq : Q <;> simp [hp, hq]

theorem pay10_at {G : Fin 4} (hG : IsFirst (maskC fun x => l (ix2 p x)) (coarse G)) :
    k0_pay10 k0_pay16 l four (ix2 p z) = top (fun a => l (ix2 p (coarse a))) G := by
  have h9 := pay9_at l p 0
  have h8 := pay8_at l p
  rw [fold_max_first hG] at h9
  have hq : (four : Ideal .f32) = ((4 : ℝ) : EReal) := bits_4
  generalize (four : Ideal .f32) = q at *
  have h16 := lane_at p
  generalize (k0_pay16 (F := Ideal)) = v at *
  pointwise [k0_pay10, k0_pay7]
  simp only [h16, h8, h9]
  rw [hq, sum_coarse]
  unfold top
  have hc : ∀ a : Fin 4, maskC (fun x => l (ix2 p x)) (coarse a) = l (ix2 p (coarse a)) := by
    intro a; rw [maskC_eq, if_pos]; show a.val < 4; omega
  simp only [hc]

theorem pay11_at {G : Fin 4} (hG : IsFirst (maskC fun x => l (ix2 p x)) (coarse G)) :
    k0_pay11 k0_pay16 l four (ix2 p x)
      = maskF (fun x => l (ix2 p x)) (((4 : ℝ) : EReal) + ((4 : ℝ) : EReal) * lane (coarse G)) x := by
  have h9 := pay9_at l p 0
  have h8 := pay8_at l p
  rw [fold_max_first hG] at h9
  have h16 := lane_at p
  generalize (four : Ideal .f32) = q at *
  generalize (k0_pay16 (F := Ideal)) = v at *
  pointwise [k0_pay11]
  simp only [h16, h8, h9, bits_4, bits_128, bits_top, fold_min_lane hG, mask_bot]
  rw [select_and]
  rfl

variable {G I K : Fin 4} (hG : IsFirst (maskC fun x => l (ix2 p x)) (coarse G))
  (hI : IsFirst (maskF (fun x => l (ix2 p x)) (((4 : ℝ) : EReal) + ((4 : ℝ) : EReal) * lane (coarse G))) (fine G I))
  (hIv : maskF (fun x => l (ix2 p x)) (((4 : ℝ) : EReal) + ((4 : ℝ) : EReal) * lane (coarse G)) (fine G I) = l (ix2 p (fine G I)))
  (hK : IsFirst (maskS (maskF (fun x => l (ix2 p x)) (((4 : ℝ) : EReal) + ((4 : ℝ) : EReal) * lane (coarse G))) (lane (fine G I))) (fine G K))
  (hKv : maskS (maskF (fun x => l (ix2 p x)) (((4 : ℝ) : EReal) + ((4 : ℝ) : EReal) * lane (coarse G))) (lane (fine G I)) (fine G K)
    = l (ix2 p (fine G K)))

include hG hI in
theorem pay12_at : k0_pay12 k0_pay16 l four (ix2 p z)
      = maskF (fun x => l (ix2 p x)) (((4 : ℝ) : EReal) + ((4 : ℝ) : EReal) * lane (coarse G)) (fine G I) := by
  have h11 := fun x => pay11_at l p x hG
  generalize (four : Ideal .f32) = q at *
  generalize (k0_pay16 (F := Ideal)) = v at *
  pointwise [k0_pay12]
  simp only [h11, bits_bot]
  exact fold_max_first hI

include hG hI in
theorem pay13_at : k0_pay13 k0_pay16 l four (ix2 p z) = lane (fine G I) := by
  have h11 := fun x => pay11_at l p x hG
  have h12 := pay12_at l p 0 hG hI
  have h16 := lane_at p
  generalize (four : Ideal .f32) = q at *
  generalize (k0_pay16 (F := Ideal)) = v at *
  pointwise [k0_pay13]
  simp only [h16, h11, h12, bits_128, bits_top, fold_min_lane hI]

include hG hI hIv hK hKv in
theorem gate_at : gateOf l (ix2 p x)
      = gateRow (top (fun a => l (ix2 p (coarse a))) G) (l (ix2 p (fine G I))) (lane (fine G I)) (l (ix2 p (fine G K))) (lane (fine G K)) x := by
  have h10 := pay10_at l p 0 hG
  have h11 := fun x => pay11_at l p x hG
  have h12 := pay12_at l p 0 hG hI
  have h13 := pay13_at l p 0 hG hI
  have h16 := lane_at p
  have h15 : ∀ x, k0_pay15 (F := Ideal) (ix2 p x) = (⊥ : EReal) := by
    intro x
    pointwise [k0_pay15]
    exact mask_bot
  rw [hIv] at h12
  have hmin := fold_min_lane hK
  rw [hKv] at hmin
  unfold gateOf
  generalize (four : Ideal .f32) = q at *
  pointwise [k0_pay14, k0_pay17]
  have hm : ∀ x, (if lane x = lane (fine G I) then (⊥ : EReal)
      else maskF (fun x => l (ix2 p x)) (((4 : ℝ) : EReal) + ((4 : ℝ) : EReal) * lane (coarse G)) x)
      = maskS (maskF (fun x => l (ix2 p x)) (((4 : ℝ) : EReal) + ((4 : ℝ) : EReal) * lane (coarse G))) (lane (fine G I)) x := fun x => rfl
  simp only [h10, h11, h12, h13, h15, h16, hm, bits_128, bits_top, bits_bot, fold_max_first hK, hKv, hmin]
  rfl
end

section
variable (i : grid0.Coords) (h : Vec Ideal S512x1024 .bf16) (gate : Vec Ideal S512x128 .f32) (x5 x6 x7 : Vec Ideal S1x1024x1024 .bf16)
    (acc : Vec Ideal S512x1024 .f32) (p : Fin 512) (n : Fin 1024)

theorem up_at (y : Fin 1024) : k0_pay19 h x5 (ix2 p y) = ∑ k, h (ix2 p k) * x5 (ix3 0 k y) := by
  pointwise [k0_pay19]

theorem up_at' (y : Fin 1024) : k0_pay20 h x6 (ix2 p y) = ∑ k, h (ix2 p k) * x6 (ix3 0 k y) := by
  pointwise [k0_pay20]

theorem group_lane (g : Fin 4) :
    (((Scalar.addi 4#32 (Scalar.muli 4#32 (BitVec.ofNat 32 g.val))).toInt : ℝ) : EReal) = ((4 + 4 * (g.val : ℝ) : ℝ) : EReal) := by
  have : ∀ g : Fin 4, (Scalar.addi 4#32 (Scalar.muli 4#32 (BitVec.ofNat 32 g.val))).toInt = ((4 + 4 * g.val : ℕ) : Int) := by decide
  rw [this]; push_cast; rfl

theorem lane_fine (g e : Fin 4) : lane (fine g e) = ((4 + 4 * (g.val : ℝ) + (e.val : ℝ) : ℝ) : EReal) := by
  unfold lane fine; push_cast; rfl

set_option maxHeartbeats 1000000 in
theorem step_at (g : Fin 4) (hg : (i 1).val = g.val) :
    stepAcc i h gate x5 x6 x7 acc (ix2 p n)
      = acc (ix2 p n) + ∑ y : Fin 1024, (k0_pay19 h x5 (ix2 p y) * Ideal.logistic (k0_pay19 h x5 (ix2 p y)) * k0_pay20 h x6 (ix2 p y)
          * gate (ix2 p (fine g ⟨y.val / 256, by omega⟩))) * x7 (ix3 0 y n) := by
  unfold stepAcc
  pointwise [k0_pay1, k0_pay24, k0_pay21, k0_pay22, k0_pay23, lane_at]
  congr 1
  refine Finset.sum_congr rfl fun y _ => ?_
  congr 1
  have e0 : ((4 + 4 * (g.val : ℝ) : ℝ) : EReal) = lane (fine g 0) := by rw [lane_fine]; norm_num
  have e1 : ((4 + 4 * (g.val : ℝ) : ℝ) : EReal) + 1 = lane (fine g 1) := by
    rw [lane_fine, ← EReal.coe_one, ← EReal.coe_add]; norm_num
  have e2 : ((4 + 4 * (g.val : ℝ) : ℝ) : EReal) + ((2 : ℝ) : EReal) = lane (fine g 2) := by
    rw [lane_fine, ← EReal.coe_add]; norm_num
  have e3 : ((4 + 4 * (g.val : ℝ) : ℝ) : EReal) + ((3 : ℝ) : EReal) = lane (fine g 3) := by
    rw [lane_fine, ← EReal.coe_add]; norm_num
  have hq : ∀ (q : Nat) (hq : q < 1024) , q = y.val → (⟨q, hq⟩ : Fin 1024) = y := fun q _ h => Fin.ext h
  by_cases h1 : y.val < 256
  · rw [dif_pos h1, hg, group_lane, e0, sum_pick]
    have : (⟨y.val / 256, by omega⟩ : Fin 4) = 0 := Fin.ext (by show y.val / 256 = 0; omega)
    rw [this]
  · rw [dif_neg h1]
    by_cases h2 : y.val - 256 < 256
    · rw [dif_pos h2, hq _ _ (by omega), hg, group_lane, e1, sum_pick]
      have : (⟨y.val / 256, by omega⟩ : Fin 4) = 1 := Fin.ext (by show y.val / 256 = 1; omega)
      rw [this]
    · rw [dif_neg h2]
      by_cases h3 : y.val - 256 - 256 < 256
      · rw [dif_pos h3, hq _ _ (by omega), hg, group_lane, bits_2, e2, sum_pick]
        have : (⟨y.val / 256, by omega⟩ : Fin 4) = 2 := Fin.ext (by show y.val / 256 = 2; omega)
        rw [this]
      · rw [dif_neg h3, hq _ _ (by omega), hg, group_lane, bits_3, e3, sum_pick]
        have : (⟨y.val / 256, by omega⟩ : Fin 4) = 3 := Fin.ext (by show y.val / 256 = 3; omega)
        rw [this]
end

end Cert.KernelIdeal.Rows

end
-- ==== Proof.Blocks.lean ====
module

public import proofs.«01_k».proof.Proof.Reals
public import proofs.«01_k».proof.Proof.Gen.KernelIdeal.Frame
public import Idealize.ShloMosaic.Lib.StableHlo.ReadAt
public import Idealize.ShloMosaic.Lib.Pipeline.ValueKit

/-! What the kernel's windows hold at a grid point, in terms of the arguments. -/

@[expose] public section

set_option maxRecDepth 16384

noncomputable section

namespace Cert.KernelIdeal.Blocks

open Cert.KernelIdeal Cert.KernelIdeal.Gen Router
open Idealize.ShloMosaic Idealize.ShloMosaic.TcCoe Idealize.SL.Sem

variable (m : (ℓ : Loc nD τ sig) → Buf (Elt Ideal) ℓ) (c : Dev nD)

theorem v20_at (r : Fin 16384) (k : Fin 1024) : (V m c main_v20 : Vec Ideal S16384x1024 .f32) (ix2 r k)
    = (m ((c.tc : Thread nD τ).loc main_arg0) : Vec Ideal S4x4096x1024 .f32) (ix3 ⟨r.val / 4096, by omega⟩ ⟨r.val % 4096, by omega⟩ k) := by
  unfold V
  after_reads_at

theorem v11_at (k : Fin 1024) : (V m c main_v11 : Vec Ideal S1x1024 .f32) (ix2 0 k)
    = (m ((c.tc : Thread nD τ).loc main_arg1) : Vec Ideal S1024 .f32) (ix1 k) := by
  unfold V
  after_reads_at
/-- The arguments as arrays. -/
abbrev arg0 : Vec Ideal S4x4096x1024 .f32 := m ((c.tc : Thread nD τ).loc main_arg0)
abbrev arg1 : Vec Ideal S1024 .f32 := m ((c.tc : Thread nD τ).loc main_arg1)
abbrev arg2 : Vec Ideal S1024x4 .f32 := m ((c.tc : Thread nD τ).loc main_arg2)
abbrev arg3 : Vec Ideal S4 .f32 := m ((c.tc : Thread nD τ).loc main_arg3)
abbrev arg4 : Vec Ideal S1024x16 .f32 := m ((c.tc : Thread nD τ).loc main_arg4)
abbrev arg5 : Vec Ideal S16 .f32 := m ((c.tc : Thread nD τ).loc main_arg5)
abbrev arg6 : Vec Ideal S16x1024x256 .f32 := m ((c.tc : Thread nD τ).loc main_arg6)
abbrev arg7 : Vec Ideal S16x1024x256 .f32 := m ((c.tc : Thread nD τ).loc main_arg7)
abbrev arg8 : Vec Ideal S16x256x1024 .f32 := m ((c.tc : Thread nD τ).loc main_arg8)

/-- The router's weight at a lane: the coarse weights, then the fine ones, then zeros. -/
def wrAt (k : Fin 1024) (x : Fin 128) : EReal :=
  if h : x.val < 20 then
    if h1 : x.val < 4 then arg2 m c (ix2 k ⟨x.val, h1⟩) else arg4 m c (ix2 k ⟨x.val - 4, by omega⟩)
  else FloatOps.sitofp (F := Ideal) .f32 0#32
/-- The router's bias at a lane. -/
def brAt (x : Fin 128) : EReal :=
  if h : x.val < 20 then
    if h1 : x.val < 4 then arg3 m c (ix1 ⟨x.val, h1⟩) else arg5 m c (ix1 ⟨x.val - 4, by omega⟩)
  else FloatOps.sitofp (F := Ideal) .f32 0#32

theorem v2_at (k : Fin 1024) (x : Fin 128) : (V m c main_v2 : Vec Ideal S1024x128 .bf16) (ix2 k x) = wrAt m c k x := by
  unfold V
  after_reads_at
  rfl
theorem v5_at (k : Fin 1024) (x : Fin 128) : (V m c main_v5 : Vec Ideal S1024x128 .bf16) (ix2 k x) = wrAt m c k x - wrAt m c k x := by
  unfold V
  after_reads_at
  rfl
theorem v8_at (x : Fin 128) : (V m c main_v8 : Vec Ideal S1x128 .f32) (ix2 0 x) = brAt m c x := by
  unfold V
  after_reads_at
  rfl
theorem v10_at (g : Fin 4) (y n : Fin 1024) : (V m c main_v10 : Vec Ideal S4x1024x1024 .bf16) (ix3 g y n)
    = arg8 m c (ix3 ⟨g.val * 4 + y.val / 256, by omega⟩ ⟨y.val % 256, by omega⟩ n) := by
  unfold V
  after_reads_at
theorem v15_at (g : Fin 4) (k y : Fin 1024) : (V m c main_v15 : Vec Ideal S4x1024x1024 .bf16) (ix3 g k y)
    = arg6 m c (ix3 ⟨g.val * 4 + y.val / 256, by omega⟩ k ⟨y.val % 256, by omega⟩) := by
  unfold V
  after_reads_at
theorem v19_at (g : Fin 4) (k y : Fin 1024) : (V m c main_v19 : Vec Ideal S4x1024x1024 .bf16) (ix3 g k y)
    = arg7 m c (ix3 ⟨g.val * 4 + y.val / 256, by omega⟩ k ⟨y.val % 256, by omega⟩) := by
  unfold V
  after_reads_at

/-- Where each window's block lies at a grid point. -/
theorem idx : ∀ t : Fin cfg0.N, win0_0.index t = ![t.val / 4, 0] ∧ win0_1.index t = ![0, 0] ∧ win0_2.index t = ![0, 0]
    ∧ win0_3.index t = ![0, 0] ∧ win0_4.index t = ![0, 0] ∧ win0_5.index t = ![t.val % 4, 0, 0] ∧ win0_6.index t = ![t.val % 4, 0, 0]
    ∧ win0_7.index t = ![t.val % 4, 0, 0] := by decide +kernel

variable (t : Fin cfg0.N)

theorem b0 (p : Fin 512) (k : Fin 1024) : (iblk m c 0 t : Vec Ideal S512x1024 .f32) (ix2 p k)
    = (V m c main_v20 : Vec Ideal S16384x1024 .f32) (ix2 ⟨t.val / 4 * 512 + p.val, by have := t.isLt; have : cfg0.N = 128 := rfl; omega⟩ k) := by
  have h := idx t
  blk_ext [iblk, h]
theorem b1 (k : Fin 1024) : (iblk m c 1 t : Vec Ideal S1x1024 .f32) (ix2 0 k)
    = (V m c main_v11 : Vec Ideal S1x1024 .f32) (ix2 0 k) := by
  have h := idx t
  blk_ext [iblk, h]
theorem b2 (k : Fin 1024) (x : Fin 128) : (iblk m c 2 t : Vec Ideal S1024x128 .bf16) (ix2 k x)
    = (V m c main_v2 : Vec Ideal S1024x128 .bf16) (ix2 k x) := by
  have h := idx t
  blk_ext [iblk, h]
theorem b3 (k : Fin 1024) (x : Fin 128) : (iblk m c 3 t : Vec Ideal S1024x128 .bf16) (ix2 k x)
    = (V m c main_v5 : Vec Ideal S1024x128 .bf16) (ix2 k x) := by
  have h := idx t
  blk_ext [iblk, h]
theorem b4 (x : Fin 128) : (iblk m c 4 t : Vec Ideal S1x128 .f32) (ix2 0 x)
    = (V m c main_v8 : Vec Ideal S1x128 .f32) (ix2 0 x) := by
  have h := idx t
  blk_ext [iblk, h]
theorem b5 (k y : Fin 1024) : (iblk m c 5 t : Vec Ideal S1x1024x1024 .bf16) (ix3 0 k y)
    = (V m c main_v15 : Vec Ideal S4x1024x1024 .bf16) (ix3 ⟨t.val % 4, by omega⟩ k y) := by
  have h := idx t
  blk_ext [iblk, h]
theorem b6 (k y : Fin 1024) : (iblk m c 6 t : Vec Ideal S1x1024x1024 .bf16) (ix3 0 k y)
    = (V m c main_v19 : Vec Ideal S4x1024x1024 .bf16) (ix3 ⟨t.val % 4, by omega⟩ k y) := by
  have h := idx t
  blk_ext [iblk, h]
theorem b7 (k y : Fin 1024) : (iblk m c 7 t : Vec Ideal S1x1024x1024 .bf16) (ix3 0 k y)
    = (V m c main_v10 : Vec Ideal S4x1024x1024 .bf16) (ix3 ⟨t.val % 4, by omega⟩ k y) := by
  have h := idx t
  blk_ext [iblk, h]
theorem coord : (grid0.coords t 1).val = t.val % 4 := by
  revert t; decide +kernel

end Cert.KernelIdeal.Blocks

end
-- ==== Proof.Fold.lean ====
module

public import proofs.«01_k».proof.Proof.KernelRows
public import proofs.«01_k».proof.Proof.Blocks
public import proofs.«01_k».proof.Proof.Gen.KernelIdeal.Value

/-! The four grid points of a row block: what the scratch holds after each, and what the last one writes. -/

@[expose] public section

set_option maxRecDepth 16384

noncomputable section

namespace Cert.KernelIdeal.Fold

open Cert.KernelIdeal Cert.KernelIdeal.Gen Cert.KernelIdeal.Body Cert.KernelIdeal.Rows Cert.KernelIdeal.Blocks Router
open Idealize.ShloMosaic Idealize.ShloMosaic.TcCoe Idealize.SL.Sem

variable (m : (ℓ : Loc nD τ sig) → Buf (Elt Ideal) ℓ) (c : Dev nD)

section
variable (t : Fin cfg0.N)

/-- The point before. -/
abbrev before := outsAt0 m c (t.val - 1) (Nat.lt_of_le_of_lt (Nat.sub_le _ _) t.isLt)

theorem a0 (h0 : t.val % 4 = 0) : (outsAt0 m c t.val t.isLt).2.1 = k0_pay5 (iblk m c 0 t) (iblk m c 1 t) := by
  rw [outsAt0_A m c t h0 (by omega)]; dsimp only; rw [sA0]
theorem a1 (h0 : t.val % 4 = 0) : (outsAt0 m c t.val t.isLt).2.2.1
    = gateOf (logitsOf (iblk m c 0 t) (iblk m c 1 t) (iblk m c 2 t) (iblk m c 3 t) (iblk m c 4 t)) := by
  rw [outsAt0_A m c t h0 (by omega)]; dsimp only; rw [sA1]
theorem a2 (h0 : t.val % 4 = 0) : (outsAt0 m c t.val t.isLt).2.2.2
    = stepAcc (grid0.coords t) (outsAt0 m c t.val t.isLt).2.1 (outsAt0 m c t.val t.isLt).2.2.1 (iblk m c 5 t) (iblk m c 6 t) (iblk m c 7 t)
        (k0_pay18 (k0_pay2 (iblk m c 0 t))) := by
  rw [a0 m c t h0, a1 m c t h0, outsAt0_A m c t h0 (by omega)]; dsimp only; rw [sA2]
theorem s0 (h0 : ¬t.val % 4 = 0) (h1 : ¬t.val % 4 = 3) : (outsAt0 m c t.val t.isLt).2.1 = (before m c t).2.1 := by
  rw [outsAt0_B m c t h0 h1]; rfl
theorem s1 (h0 : ¬t.val % 4 = 0) (h1 : ¬t.val % 4 = 3) : (outsAt0 m c t.val t.isLt).2.2.1 = (before m c t).2.2.1 := by
  rw [outsAt0_B m c t h0 h1]; rfl
theorem s2 (h0 : ¬t.val % 4 = 0) (h1 : ¬t.val % 4 = 3) : (outsAt0 m c t.val t.isLt).2.2.2
    = stepAcc (grid0.coords t) (before m c t).2.1 (before m c t).2.2.1 (iblk m c 5 t) (iblk m c 6 t) (iblk m c 7 t) (before m c t).2.2.2 := by
  rw [outsAt0_B m c t h0 h1]; dsimp only; rw [sB2]
theorem o8 (h0 : ¬t.val % 4 = 0) (h1 : t.val % 4 = 3) : (outsAt0 m c t.val t.isLt).1
    = stepAcc (grid0.coords t) (before m c t).2.1 (before m c t).2.2.1 (iblk m c 5 t) (iblk m c 6 t) (iblk m c 7 t) (before m c t).2.2.2 := by
  rw [outsAt0_C m c t h0 h1]; dsimp only; rw [oC8]
end

/-- Point `j` of row block `T`. -/
def pt (T : Fin 32) (j : Fin 4) : Fin cfg0.N := ⟨4 * T.val + j.val, by have : cfg0.N = 128 := rfl; omega⟩

theorem pt_div (T : Fin 32) (j : Fin 4) : (pt T j).val / 4 = T.val := by unfold pt; dsimp only; omega
theorem pt_mod (T : Fin 32) (j : Fin 4) : (pt T j).val % 4 = j.val := by unfold pt; dsimp only; omega

variable (T : Fin 32)

/-- The block of the stream. -/
def xBlk : Vec Ideal S512x1024 .f32 := iblk m c 0 (pt T 0)
/-- The normalised block and the gate block that the first point leaves. -/
def hBlk : Vec Ideal S512x1024 .bf16 := k0_pay5 (iblk m c 0 (pt T 0)) (iblk m c 1 (pt T 0))
def gBlk : Vec Ideal S512x128 .f32 :=
  gateOf (logitsOf (iblk m c 0 (pt T 0)) (iblk m c 1 (pt T 0)) (iblk m c 2 (pt T 0)) (iblk m c 3 (pt T 0)) (iblk m c 4 (pt T 0)))
/-- One point's step over the accumulator. -/
def stepOf (j : Fin 4) (acc : Vec Ideal S512x1024 .f32) : Vec Ideal S512x1024 .f32 :=
  stepAcc (grid0.coords (pt T j)) (hBlk m c T) (gBlk m c T) (iblk m c 5 (pt T j)) (iblk m c 6 (pt T j)) (iblk m c 7 (pt T j)) acc

theorem fold_out : (outsAt0 m c (pt T 3).val (pt T 3).isLt).1
    = stepOf m c T 3 (stepOf m c T 2 (stepOf m c T 1 (stepOf m c T 0 (k0_pay18 (k0_pay2 (iblk m c 0 (pt T 0))))))) := by
  have m0 := pt_mod T 0
  have m1 := pt_mod T 1
  have m2 := pt_mod T 2
  have m3 := pt_mod T 3
  have b1 : before m c (pt T 1) = outsAt0 m c (pt T 0).val (pt T 0).isLt := rfl
  have b2 : before m c (pt T 2) = outsAt0 m c (pt T 1).val (pt T 1).isLt := rfl
  have b3 : before m c (pt T 3) = outsAt0 m c (pt T 2).val (pt T 2).isLt := rfl
  have n0 : ∀ j : Fin 4, (pt T j).val % 4 = j.val → j ≠ 0 → ¬(pt T j).val % 4 = 0 := by
    intro j h hj h'; rw [h] at h'; exact hj (Fin.ext h')
  have n3 : ∀ j : Fin 4, (pt T j).val % 4 = j.val → j ≠ 3 → ¬(pt T j).val % 4 = 3 := by
    intro j h hj h'; rw [h] at h'; exact hj (Fin.ext h')
  have h0 : (outsAt0 m c (pt T 0).val (pt T 0).isLt).2.1 = hBlk m c T := a0 m c (pt T 0) m0
  have g0 : (outsAt0 m c (pt T 0).val (pt T 0).isLt).2.2.1 = gBlk m c T := a1 m c (pt T 0) m0
  have c0 := a2 m c (pt T 0) m0
  rw [h0, g0] at c0
  have h1 := (s0 m c (pt T 1) (n0 1 m1 (by decide)) (n3 1 m1 (by decide))).trans (by rw [b1, h0])
  have g1 := (s1 m c (pt T 1) (n0 1 m1 (by decide)) (n3 1 m1 (by decide))).trans (by rw [b1, g0])
  have c1 := s2 m c (pt T 1) (n0 1 m1 (by decide)) (n3 1 m1 (by decide))
  rw [b1, h0, g0, c0] at c1
  have h2 := (s0 m c (pt T 2) (n0 2 m2 (by decide)) (n3 2 m2 (by decide))).trans (by rw [b2, h1])
  have g2 := (s1 m c (pt T 2) (n0 2 m2 (by decide)) (n3 2 m2 (by decide))).trans (by rw [b2, g1])
  have c2 := s2 m c (pt T 2) (n0 2 m2 (by decide)) (n3 2 m2 (by decide))
  rw [b2, h1, g1, c1] at c2
  have o := o8 m c (pt T 3) (n0 3 m3 (by decide)) m3
  rw [b3, h2, g2, c2] at o
  exact o

/-- One point's contribution at a place. -/
def contrib (j : Fin 4) (p : Fin 512) (n : Fin 1024) : EReal :=
  ∑ y : Fin 1024, (k0_pay19 (hBlk m c T) (iblk m c 5 (pt T j)) (ix2 p y) * Ideal.logistic (k0_pay19 (hBlk m c T) (iblk m c 5 (pt T j)) (ix2 p y))
      * k0_pay20 (hBlk m c T) (iblk m c 6 (pt T j)) (ix2 p y)
      * gBlk m c T (ix2 p (fine j ⟨y.val / 256, by omega⟩))) * (iblk m c 7 (pt T j) : Vec Ideal S1x1024x1024 .bf16) (ix3 0 y n)

theorem stepOf_at (j : Fin 4) (acc : Vec Ideal S512x1024 .f32) (p : Fin 512) (n : Fin 1024) :
    stepOf m c T j acc (ix2 p n) = acc (ix2 p n) + contrib m c T j p n :=
  step_at _ _ _ _ _ _ _ p n j ((coord (pt T j)).trans (pt_mod T j))

theorem acc0_at (x0 : Vec Ideal S512x1024 .f32) (p : Fin 512) (n : Fin 1024) : k0_pay18 (k0_pay2 x0) (ix2 p n) = x0 (ix2 p n) := by
  pointwise [k0_pay18, k0_pay2]

theorem out_at (p : Fin 512) (n : Fin 1024) : (outsAt0 m c (pt T 3).val (pt T 3).isLt).1 (ix2 p n)
    = xBlk m c T (ix2 p n) + ∑ j : Fin 4, contrib m c T j p n := by
  rw [fold_out, stepOf_at, stepOf_at, stepOf_at, stepOf_at, acc0_at, Fin.sum_univ_four]
  simp only [add_assoc, xBlk]

theorem outs_eq {a b : ℕ} (h : a = b) (ha : a < cfg0.N) (hb : b < cfg0.N) (i : S512x1024.Idx) :
    (outsAt0 m c a ha).1 i = (outsAt0 m c b hb).1 i := by
  subst h; rfl

/-- The array the kernel leaves, at a place of row block `T`. -/
theorem G8_at (T : Fin 32) (p : Fin 512) (n : Fin 1024) (r : Fin 16384) (hr : r.val = T.val * 512 + p.val) :
    (Value.G8 m c : Vec Ideal S16384x1024 .f32) (ix2 r n) = (outsAt0 m c (pt T 3).val (pt T 3).isLt).1 (ix2 p n) := by
  have hpt : Value.pt8Of (ix2 r n : S16384x1024.Idx) = (pt T 3).val := by
    show 4 * (1 * (r.val / 512 - 0) + 1 * (n.val / 1024 - 0)) + 3 = 4 * T.val + 3
    omega
  have hloc : Value.loc8Of (ix2 r n : S16384x1024.Idx) = ix2 p n := by
    funext a
    match a with
    | ⟨0, _⟩ => exact Fin.ext (by show r.val % 512 = p.val; omega)
    | ⟨1, _⟩ => exact Fin.ext (by show n.val % 1024 = n.val; omega)
  have hlt : Value.pt8Of (ix2 r n : S16384x1024.Idx) < cfg0.N := by rw [hpt]; exact (pt T 3).isLt
  show (if h : Value.pt8Of (ix2 r n : S16384x1024.Idx) < cfg0.N then
    (Pipeline.accAt (fun n h => Value.stAt0 m c n h Value.junk0) (Value.stAt0 m c) 0 (Value.pt8Of (ix2 r n : S16384x1024.Idx)) (by omega)).1
      (Value.loc8Of (ix2 r n : S16384x1024.Idx)) else _) = _
  rw [dif_pos hlt, hloc, ← Value.outsAt0_sweep m c _ hlt]
  exact outs_eq m c hpt hlt (pt T 3).isLt (ix2 p n)

end Cert.KernelIdeal.Fold

end
-- ==== Proof.Pick.lean ====
module

public import proofs.«01_k».proof.Proof.Reals
public import proofs.«01_k».proof.Proof.Gen.ReferenceIdeal

/-! What the reference's arg-max and its top-two return, as the first place of a maximum. -/

@[expose] public section

set_option maxRecDepth 16384

noncomputable section

namespace Router

open Idealize.ShloMosaic

/-- The reducer's order on pairs: the larger value, and of equal values the smaller index. -/
def Beats (a b : EReal × BitVec 32) : Prop := b.1 < a.1 ∨ (a.1 = b.1 ∧ a.2.toInt ≤ b.2.toInt)

theorem beats_trans {a b c : EReal × BitVec 32} (h : Beats a b) (h' : Beats b c) : Beats a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem reducer_spec (a b : EReal × BitVec 32) :
    let r := Cert.ReferenceIdeal.reducer_argmax_f32_i32 (F := Ideal) a b
    (r = a ∨ r = b) ∧ Beats r a ∧ Beats r b := by
  intro r
  have hr : r = if b.1 < a.1 ∨ (a.1 = b.1 ∧ a.2.toInt < b.2.toInt) then a else b := by
    show Cert.ReferenceIdeal.reducer_argmax_f32_i32 (F := Ideal) a b = _
    obtain ⟨a1, a2⟩ := a
    obtain ⟨b1, b2⟩ := b
    unfold Cert.ReferenceIdeal.reducer_argmax_f32_i32
    simp only [Ideal.cmpf_def, Ideal.cmp, IntOp.ori, IntOp.andi, IntOp.cmpi, Scalar.select, BitVec.slt]
    by_cases h1 : b1 < a1
    · simp [h1, h1.ne']
    · by_cases h2 : a1 = b1
      · subst h2
        by_cases h3 : a2.toInt < b2.toInt <;> simp [h3]
      · simp [h1, h2]
  rw [hr]
  split
  · rename_i h
    refine ⟨.inl rfl, .inr ⟨rfl, le_rfl⟩, ?_⟩
    rcases h with h | ⟨h, hi⟩
    · exact .inl h
    · exact .inr ⟨h, hi.le⟩
  · rename_i h
    push Not at h
    refine ⟨.inr rfl, ?_, .inr ⟨rfl, le_rfl⟩⟩
    rcases lt_or_eq_of_le h.1 with h1 | h1
    · exact .inl h1
    · exact .inr ⟨h1.symm, h.2 h1⟩

theorem fold_spec (l : List (EReal × BitVec 32)) : ∀ init : EReal × BitVec 32,
    let r := l.foldl (Cert.ReferenceIdeal.reducer_argmax_f32_i32 (F := Ideal)) init
    (r = init ∨ r ∈ l) ∧ Beats r init ∧ ∀ p ∈ l, Beats r p := by
  induction l with
  | nil => intro init; exact ⟨.inl rfl, .inr ⟨rfl, le_rfl⟩, fun p hp => by cases hp⟩
  | cons a l ih =>
    intro init
    obtain ⟨h1, h2, h3⟩ := ih (Cert.ReferenceIdeal.reducer_argmax_f32_i32 (F := Ideal) init a)
    obtain ⟨k1, k2, k3⟩ := reducer_spec init a
    refine ⟨?_, beats_trans h2 k2, fun p hp => ?_⟩
    · rcases h1 with h1 | h1
      · rcases k1 with k1 | k1
        · left; show List.foldl _ _ l = init; rw [h1, k1]
        · right; show List.foldl _ _ l ∈ _; rw [h1, k1]; exact List.mem_cons_self
      · right; exact List.mem_cons_of_mem _ h1
    · rcases List.mem_cons.1 hp with rfl | hp
      · exact beats_trans h2 k3
      · exact h3 p hp

open Cert.ReferenceIdeal Cert.ReferenceIdeal.Gen in
/-- The reference's arg-max over four entries is the first place of their maximum. -/
theorem argmax_spec (lc : FVec Ideal S4x4096x4 .f32) (b : Fin 4) (s : Fin 4096) (hreal : ∀ a, IsReal (lc (ix3 b s a))) :
    ∃ G : Fin 4, IsFirst (fun a => lc (ix3 b s a)) G ∧
      (Host.argReduce (reducer_argmax_f32_i32 (F := Ideal)) lc (iotaInDim S4x4096x4 32 2) (constant S_ .f32 0xFF800000#32)
        (constantI S_ 32 0#32) reducesTo_S4x4096x4_S4x4096_d2 h_S_ (ix2 b s)).2 = BitVec.ofNat 32 G.val := by
  rw [Ideal.argReduce_eq_reduce2, Host.reduce2_eq_foldl_fiber]
  have hmem : ∀ p, p ∈ Host.argReduceFiber lc (iotaInDim S4x4096x4 32 2) reducesTo_S4x4096x4_S4x4096_d2 (ix2 b s)
      ↔ ∃ a : Fin 4, p = (lc (ix3 b s a), BitVec.ofNat 32 a.val) := by
    intro p
    unfold Host.argReduceFiber
    simp only [List.mem_map, List.mem_filter, List.mem_finRange, true_and, decide_eq_true_eq]
    have hd : ∀ i : S4x4096x4.Idx, (reducesTo_S4x4096x4_S4x4096_d2).drop i = ix2 (i 0) (i 1) := by
      intro i
      funext q
      fin_cases q <;> rfl
    have hi : ∀ i : S4x4096x4.Idx, i = ix3 (i 0) (i 1) (i 2) := by
      intro i; funext q; fin_cases q <;> rfl
    constructor
    · rintro ⟨n, hn, rfl⟩
      rw [hd] at hn
      refine ⟨S4x4096x4.rowMajor.symm n 2, ?_⟩
      have h0 : S4x4096x4.rowMajor.symm n 0 = b := congrFun hn 0
      have h1 : S4x4096x4.rowMajor.symm n 1 = s := congrFun hn 1
      refine Prod.ext ?_ rfl
      show lc _ = lc _
      conv_lhs => rw [hi (S4x4096x4.rowMajor.symm n), h0, h1]
      rfl
    · rintro ⟨a, rfl⟩
      refine ⟨S4x4096x4.rowMajor (ix3 b s a), ?_, ?_⟩
      · rw [Equiv.symm_apply_apply, hd]; rfl
      · rw [Equiv.symm_apply_apply]; rfl
  obtain ⟨h1, _, h3⟩ := fold_spec (Host.argReduceFiber lc (iotaInDim S4x4096x4 32 2) reducesTo_S4x4096x4_S4x4096_d2 (ix2 b s))
    ((constant (F := Ideal) S_ .f32 0xFF800000#32) (Shape.Idx.first h_S_), (constantI S_ 32 0#32) (Shape.Idx.first h_S_))
  have hin := h1.resolve_left (by
    intro he
    have hb := h3 _ ((hmem _).2 ⟨0, rfl⟩)
    rw [he] at hb
    have hbot : (constant (F := Ideal) S_ .f32 0xFF800000#32) (Shape.Idx.first h_S_) = (⊥ : EReal) := bits_bot
    rcases hb with hb | ⟨hb, _⟩
    · dsimp only at hb; rw [hbot] at hb; exact not_lt_bot hb
    · dsimp only at hb; rw [hbot] at hb; exact (hreal 0).ne_bot hb.symm)
  obtain ⟨G, hG⟩ := (hmem _).1 hin
  have hint : ∀ a : Fin 4, (BitVec.ofNat 32 a.val).toInt = (a.val : Int) := by decide
  refine ⟨G, ⟨fun j => ?_, fun j hj => ?_⟩, by rw [hG]⟩
  · have hb := h3 _ ((hmem _).2 ⟨j, rfl⟩)
    rw [hG] at hb
    rcases hb with hb | ⟨hb, _⟩
    · exact hb.le
    · exact hb.ge
  · have hb := h3 _ ((hmem _).2 ⟨j, rfl⟩)
    rw [hG] at hb
    rcases hb with hb | ⟨_, hb⟩
    · exact hb
    · dsimp only at hb; rw [hint, hint] at hb
      have : j.val < G.val := hj
      omega

/-- The first two places of a stable sort of four ranks, the larger first. -/
theorem sorted_ranks : ∀ r : Fin 4 → Fin 4,
    let π := sortedFrom (n := 4) fun k k' => decide (r k' < r k)
    (∀ j, r j ≤ r (π 0)) ∧ (∀ j, j < π 0 → r j < r (π 0)) ∧ π 1 ≠ π 0 ∧ (∀ j, j ≠ π 0 → r j ≤ r (π 1))
      ∧ ∀ j, j ≠ π 0 → j < π 1 → r j < r (π 1) := by
  decide +kernel

/-- Four extended reals have ranks in the same order. -/
theorem exists_ranks (g : Fin 4 → EReal) : ∃ r : Fin 4 → Fin 4, ∀ j k, r j < r k ↔ g j < g k := by
  have hc : ∀ k, (Finset.univ.filter fun j => g j < g k).card < 4 := by
    intro k
    have : (Finset.univ.filter fun j => g j < g k) ⊂ Finset.univ :=
      ⟨Finset.subset_univ _, fun h => absurd (Finset.mem_filter.1 (h (Finset.mem_univ k))).2 (lt_irrefl _)⟩
    simpa using Finset.card_lt_card this
  refine ⟨fun k => ⟨_, hc k⟩, fun j k => ?_⟩
  show (Finset.univ.filter fun i => g i < g j).card < (Finset.univ.filter fun i => g i < g k).card ↔ _
  constructor
  · intro h
    by_contra hn
    rw [not_lt] at hn
    refine absurd (Finset.card_le_card (?_ : (Finset.univ.filter fun i => g i < g k) ⊆ Finset.univ.filter fun i => g i < g j)) (by omega)
    intro i hi
    simp only [Finset.mem_filter, Finset.mem_univ, true_and] at hi ⊢
    exact hi.trans_le hn
  · intro h
    apply Finset.card_lt_card
    refine ⟨fun i hi => ?_, fun hs => ?_⟩
    · simp only [Finset.mem_filter, Finset.mem_univ, true_and] at hi ⊢
      exact hi.trans h
    · have := hs (Finset.mem_filter.2 ⟨Finset.mem_univ j, h⟩)
      exact absurd (Finset.mem_filter.1 this).2 (lt_irrefl _)

/-- A stable sort of four values, the larger first, puts the first place of the maximum first and then the first place of
the maximum of the others. -/
theorem sorted_spec (g : Fin 4 → EReal) :
    let π := sortedFrom (n := 4) fun k k' => Ideal.cmp .ogt (g k) (g k') == 1#1
    IsFirst g (π 0) ∧ IsSecond g (π 0) (π 1) := by
  obtain ⟨r, hr⟩ := exists_ranks g
  have he : (fun k k' => Ideal.cmp .ogt (g k) (g k') == 1#1) = fun k k' : Fin 4 => decide (r k' < r k) := by
    funext k k'
    unfold Ideal.cmp
    by_cases h : g k' < g k
    · simp [h, (hr _ _).2 h]
    · simp [h, mt (hr _ _).1 h]
  have hle : ∀ j k, r j ≤ r k ↔ g j ≤ g k := fun j k => by rw [← not_lt, ← not_lt, hr]
  intro π
  have hπ : π = sortedFrom (n := 4) fun k k' => decide (r k' < r k) := congrArg sortedFrom he
  obtain ⟨h1, h2, h3, h4, h5⟩ := sorted_ranks r
  rw [← hπ] at h1 h2 h3 h4 h5
  exact ⟨⟨fun j => (hle _ _).1 (h1 j), fun j hj => (hr _ _).1 (h2 j hj)⟩, h3, fun j hj => (hle _ _).1 (h4 j hj),
    fun j hj hk => (hr _ _).1 (h5 j hj hk)⟩

end Router

end
-- ==== Proof.RefRun.lean ====
module

public import proofs.«01_k».proof.Proof.Gen.ReferenceIdeal
public import Idealize.ShloMosaic.Lib.StableHlo.Run

/-! The reference's run: its host operations as one list, and what its result buffer holds after them, stated in stages
(`refH` … `refOut`), each a function of the arrays it reads. -/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, a called function's in the place of its call. -/
abbrev ops : List (HloOp τ sig (Elt F)) :=
  [ binary main_arg0 main_arg0 main_v0 (mulf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v0 main_cst main_v1 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v1 main_v2 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v3 (broadcastInDim S4x4096x1 ![] bcast_S_S4x4096x1 : (⟨S_, .f32⟩ : BufTy).Contents (Elt F) → (⟨S4x4096x1, .f32⟩ : BufTy).Contents (Elt F)),
    binary main_v2 main_v3 main_v4 (Host.divf : (⟨S4x4096x1, .f32⟩ : BufTy).Contents (Elt F) → (⟨S4x4096x1, .f32⟩ : BufTy).Contents (Elt F) → (⟨S4x4096x1, .f32⟩ : BufTy).Contents (Elt F)),
    nullary main_cst_1 (constant S_ .f32 0x358637BD#32),
    unary main_cst_1 main_v5 (broadcastInDim S4x4096x1 ![] bcast_S_S4x4096x1 : (⟨S_, .f32⟩ : BufTy).Contents (Elt F) → (⟨S4x4096x1, .f32⟩ : BufTy).Contents (Elt F)),
    binary main_v4 main_v5 main_v6 (addf : (⟨S4x4096x1, .f32⟩ : BufTy).Contents (Elt F) → (⟨S4x4096x1, .f32⟩ : BufTy).Contents (Elt F) → (⟨S4x4096x1, .f32⟩ : BufTy).Contents (Elt F)),
    unary main_v6 main_v7 (Host.rsqrt : (⟨S4x4096x1, .f32⟩ : BufTy).Contents (Elt F) → (⟨S4x4096x1, .f32⟩ : BufTy).Contents (Elt F)),
    unary main_v7 main_v8 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_arg0 main_v8 main_v9 (mulf : (⟨S4x4096x1024, .f32⟩ : BufTy).Contents (Elt F) → (⟨S4x4096x1024, .f32⟩ : BufTy).Contents (Elt F) → (⟨S4x4096x1024, .f32⟩ : BufTy).Contents (Elt F)),
    unary main_arg1 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v9 main_v11 main_v12 (mulf : (⟨S4x4096x1024, .f32⟩ : BufTy).Contents (Elt F) → (⟨S4x4096x1024, .f32⟩ : BufTy).Contents (Elt F) → (⟨S4x4096x1024, .f32⟩ : BufTy).Contents (Elt F)),
    binary main_v12 main_arg2 main_v13 ((fun l r => Host.dotGeneral dot_S4x4096x1024_S1024x4_S4x4096x4_2_0_01_1_n_n (some .fp32) l r) : (⟨S4x4096x1024, .f32⟩ : BufTy).Contents (Elt F) → (⟨S1024x4, .f32⟩ : BufTy).Contents (Elt F) → (⟨S4x4096x4, .f32⟩ : BufTy).Contents (Elt F)),
    unary main_arg3 main_v14 (broadcastInDim S1x1x4 ![2] bcast_S4_S1x1x4_2 : (⟨S4, .f32⟩ : BufTy).Contents (Elt F) → (⟨S1x1x4, .f32⟩ : BufTy).Contents (Elt F)),
    unary main_v14 main_v15 (broadcastInDim S4x4096x4 ![0, 1, 2] bcast_S1x1x4_S4x4096x4_0_1_2 : (⟨S1x1x4, .f32⟩ : BufTy).Contents (Elt F) → (⟨S4x4096x4, .f32⟩ : BufTy).Contents (Elt F)),
    binary main_v13 main_v15 main_v16 (addf : (⟨S4x4096x4, .f32⟩ : BufTy).Contents (Elt F) → (⟨S4x4096x4, .f32⟩ : BufTy).Contents (Elt F) → (⟨S4x4096x4, .f32⟩ : BufTy).Contents (Elt F)),
    TRef.nullary (TRef.of (T := ⟨S4x4096x4, .i32⟩) main_call0_v0) (iotaInDim S4x4096x4 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4x4096x4, .f32⟩) main_v16) (TRef.of (T := ⟨S4x4096x4, .i32⟩) main_call0_v0) (TRef.of (T := ⟨S_, .f32⟩) main_call0_cst) (TRef.of (T := ⟨S_, .i32⟩) main_call0_c) (TRef.of (T := ⟨S4x4096, .f32⟩) main_call0_v1_0) (fun x y u v j => (Host.argReduce reducer_argmax_f32_i32 x y u v reducesTo_S4x4096x4_S4x4096_d2 h_S_ j).1),
    TRef.quaternary (TRef.of (T := ⟨S4x4096x4, .f32⟩) main_v16) (TRef.of (T := ⟨S4x4096x4, .i32⟩) main_call0_v0) (TRef.of (T := ⟨S_, .f32⟩) main_call0_cst) (TRef.of (T := ⟨S_, .i32⟩) main_call0_c) (TRef.of (T := ⟨S4x4096, .i32⟩) main_v17) (fun x y u v j => (Host.argReduce reducer_argmax_f32_i32 x y u v reducesTo_S4x4096x4_S4x4096_d2 h_S_ j).2),
    nullary main_cst_2 (constant S_ .f32 0xFF800000#32),
    binary main_v16 main_cst_2 main_v18 ((fun x v => Host.reduce FloatOps.maximumf x v reducesTo_S4x4096x4_S4x4096_d2 h_S_) : (⟨S4x4096x4, .f32⟩ : BufTy).Contents (Elt F) → (⟨S_, .f32⟩ : BufTy).Contents (Elt F) → (⟨S4x4096, .f32⟩ : BufTy).Contents (Elt F)),
    nullary main_cst_3 (constant S_ .f32 0xFF800000#32),
    unary main_cst_3 main_v19 (broadcastInDim S4x4096 ![] bcast_S_S4x4096 : (⟨S_, .f32⟩ : BufTy).Contents (Elt F) → (⟨S4x4096, .f32⟩ : BufTy).Contents (Elt F)),
    binary main_v19 main_v18 main_v20 (maximumf : (⟨S4x4096, .f32⟩ : BufTy).Contents (Elt F) → (⟨S4x4096, .f32⟩ : BufTy).Contents (Elt F) → (⟨S4x4096, .f32⟩ : BufTy).Contents (Elt F)),
    unary main_v20 main_v21 (broadcastInDim S4x4096x1 ![0, 1] bcast_S4x4096_S4x4096x1_0_1 : (⟨S4x4096, .f32⟩ : BufTy).Contents (Elt F) → (⟨S4x4096x1, .f32⟩ : BufTy).Contents (Elt F)),
    unary main_v21 main_v22 (broadcastInDim S4x4096x4 ![0, 1, 2] bcast_S4x4096x1_S4x4096x4_0_1_2 : (⟨S4x4096x1, .f32⟩ : BufTy).Contents (Elt F) → (⟨S4x4096x4, .f32⟩ : BufTy).Contents (Elt F)),
    binary main_v16 main_v22 main_v23 (subf : (⟨S4x4096x4, .f32⟩ : BufTy).Contents (Elt F) → (⟨S4x4096x4, .f32⟩ : BufTy).Contents (Elt F) → (⟨S4x4096x4, .f32⟩ : BufTy).Contents (Elt F)),
    unary main_v23 main_v24 (Host.exp : (⟨S4x4096x4, .f32⟩ : BufTy).Contents (Elt F) → (⟨S4x4096x4, .f32⟩ : BufTy).Contents (Elt F)),
    nullary main_cst_4 (constant S_ .f32 0x00000000#32),
    binary main_v24 main_cst_4 main_v25 ((fun x v => Host.reduceAdd x v reducesTo_S4x4096x4_S4x4096_d2 h_S_) : (⟨S4x4096x4, .f32⟩ : BufTy).Contents (Elt F) → (⟨S_, .f32⟩ : BufTy).Contents (Elt F) → (⟨S4x4096, .f32⟩ : BufTy).Contents (Elt F)),
    unary main_v25 main_v26 (broadcastInDim S4x4096x1 ![0, 1] bcast_S4x4096_S4x4096x1_0_1 : (⟨S4x4096, .f32⟩ : BufTy).Contents (Elt F) → (⟨S4x4096x1, .f32⟩ : BufTy).Contents (Elt F)),
    unary main_v26 main_v27 (broadcastInDim S4x4096x4 ![0, 1, 2] bcast_S4x4096x1_S4x4096x4_0_1_2 : (⟨S4x4096x1, .f32⟩ : BufTy).Contents (Elt F) → (⟨S4x4096x4, .f32⟩ : BufTy).Contents (Elt F)),
    binary main_v24 main_v27 main_v28 (Host.divf : (⟨S4x4096x4, .f32⟩ : BufTy).Contents (Elt F) → (⟨S4x4096x4, .f32⟩ : BufTy).Contents (Elt F) → (⟨S4x4096x4, .f32⟩ : BufTy).Contents (Elt F)),
    nullary main_cst_5 (constant S_ .f32 0xFF800000#32),
    binary main_v28 main_cst_5 main_v29 ((fun x v => Host.reduce FloatOps.maximumf x v reducesTo_S4x4096x4_S4x4096_d2 h_S_) : (⟨S4x4096x4, .f32⟩ : BufTy).Contents (Elt F) → (⟨S_, .f32⟩ : BufTy).Contents (Elt F) → (⟨S4x4096, .f32⟩ : BufTy).Contents (Elt F)),
    TRef.unary (TRef.of (T := ⟨S4x4096, .i32⟩) main_v17) (TRef.of (T := ⟨S4x4096x1, .i32⟩) main_call1_v0) (broadcastInDim S4x4096x1 ![0, 1] bcast_S4x4096_S4x4096x1_0_1),
    TRef.nullary (TRef.of (T := ⟨S1x1x4, .i32⟩) main_call1_v1) (iotaInDim S1x1x4 32 2),
    TRef.unary (TRef.of (T := ⟨S4x4096x1, .i32⟩) main_call1_v0) (TRef.of (T := ⟨S4x4096x4, .i32⟩) main_call1_v2) (broadcastInDim S4x4096x4 ![0, 1, 2] bcast_S4x4096x1_S4x4096x4_0_1_2),
    TRef.unary (TRef.of (T := ⟨S1x1x4, .i32⟩) main_call1_v1) (TRef.of (T := ⟨S4x4096x4, .i32⟩) main_call1_v3) (broadcastInDim S4x4096x4 ![0, 1, 2] bcast_S1x1x4_S4x4096x4_0_1_2),
    TRef.binary (TRef.of (T := ⟨S4x4096x4, .i32⟩) main_call1_v2) (TRef.of (T := ⟨S4x4096x4, .i32⟩) main_call1_v3) (TRef.of (T := ⟨S4x4096x4, .i1⟩) main_call1_v4) (cmpi .eq),
    TRef.unary (TRef.of (T := ⟨S4x4096x4, .i1⟩) main_call1_v4) (TRef.of (T := ⟨S4x4096x4, .f32⟩) main_v30) (uitofp .f32),
    binary main_v12 main_arg4 main_v31 ((fun l r => Host.dotGeneral dot_S4x4096x1024_S1024x16_S4x4096x16_2_0_01_1_n_n (some .fp32) l r) : (⟨S4x4096x1024, .f32⟩ : BufTy).Contents (Elt F) → (⟨S1024x16, .f32⟩ : BufTy).Contents (Elt F) → (⟨S4x4096x16, .f32⟩ : BufTy).Contents (Elt F)),
    unary main_arg5 main_v32 (broadcastInDim S1x1x16 ![2] bcast_S16_S1x1x16_2 : (⟨S16, .f32⟩ : BufTy).Contents (Elt F) → (⟨S1x1x16, .f32⟩ : BufTy).Contents (Elt F)),
    unary main_v32 main_v33 (broadcastInDim S4x4096x16 ![0, 1, 2] bcast_S1x1x16_S4x4096x16_0_1_2 : (⟨S1x1x16, .f32⟩ : BufTy).Contents (Elt F) → (⟨S4x4096x16, .f32⟩ : BufTy).Contents (Elt F)),
    binary main_v31 main_v33 main_v34 (addf : (⟨S4x4096x16, .f32⟩ : BufTy).Contents (Elt F) → (⟨S4x4096x16, .f32⟩ : BufTy).Contents (Elt F) → (⟨S4x4096x16, .f32⟩ : BufTy).Contents (Elt F)),
    reshape main_v34 main_v35 (rfl : (.f32 : EltTy) = .f32) shapeCasts_S4x4096x16_S4x4096x4x4,
    binary main_v35 main_v30 main_v36 ((fun l r => Host.dotGeneral dot_S4x4096x4x4_S4x4096x4_S4x4096x4_2_2_3_n_01_01 none l r) : (⟨S4x4096x4x4, .f32⟩ : BufTy).Contents (Elt F) → (⟨S4x4096x4, .f32⟩ : BufTy).Contents (Elt F) → (⟨S4x4096x4, .f32⟩ : BufTy).Contents (Elt F)),
    unary main_v36 main_values ((fun x => (Host.topK S4x4096x2 2 (FloatOps.cmpfTotal .gt) x sliceFits_S4x4096x4_S4x4096x2).1) : (⟨S4x4096x4, .f32⟩ : BufTy).Contents (Elt F) → (⟨S4x4096x2, .f32⟩ : BufTy).Contents (Elt F)),
    unary main_v36 main_indices ((fun x => (Host.topK S4x4096x2 2 (FloatOps.cmpfTotal .gt) x sliceFits_S4x4096x4_S4x4096x2).2) : (⟨S4x4096x4, .f32⟩ : BufTy).Contents (Elt F) → (⟨S4x4096x2, .i32⟩ : BufTy).Contents (Elt F)),
    nullary main_cst_6 (constant S_ .f32 0xFF800000#32),
    binary main_values main_cst_6 main_v37 ((fun x v => Host.reduce FloatOps.maximumf x v reducesTo_S4x4096x2_S4x4096_d2 h_S_) : (⟨S4x4096x2, .f32⟩ : BufTy).Contents (Elt F) → (⟨S_, .f32⟩ : BufTy).Contents (Elt F) → (⟨S4x4096, .f32⟩ : BufTy).Contents (Elt F)),
    nullary main_cst_7 (constant S_ .f32 0xFF800000#32),
    unary main_cst_7 main_v38 (broadcastInDim S4x4096 ![] bcast_S_S4x4096 : (⟨S_, .f32⟩ : BufTy).Contents (Elt F) → (⟨S4x4096, .f32⟩ : BufTy).Contents (Elt F)),
    binary main_v38 main_v37 main_v39 (maximumf : (⟨S4x4096, .f32⟩ : BufTy).Contents (Elt F) → (⟨S4x4096, .f32⟩ : BufTy).Contents (Elt F) → (⟨S4x4096, .f32⟩ : BufTy).Contents (Elt F)),
    unary main_v39 main_v40 (broadcastInDim S4x4096x1 ![0, 1] bcast_S4x4096_S4x4096x1_0_1 : (⟨S4x4096, .f32⟩ : BufTy).Contents (Elt F) → (⟨S4x4096x1, .f32⟩ : BufTy).Contents (Elt F)),
    unary main_v40 main_v41 (broadcastInDim S4x4096x2 ![0, 1, 2] bcast_S4x4096x1_S4x4096x2_0_1_2 : (⟨S4x4096x1, .f32⟩ : BufTy).Contents (Elt F) → (⟨S4x4096x2, .f32⟩ : BufTy).Contents (Elt F)),
    binary main_values main_v41 main_v42 (subf : (⟨S4x4096x2, .f32⟩ : BufTy).Contents (Elt F) → (⟨S4x4096x2, .f32⟩ : BufTy).Contents (Elt F) → (⟨S4x4096x2, .f32⟩ : BufTy).Contents (Elt F)),
    unary main_v42 main_v43 (Host.exp : (⟨S4x4096x2, .f32⟩ : BufTy).Contents (Elt F) → (⟨S4x4096x2, .f32⟩ : BufTy).Contents (Elt F)),
    nullary main_cst_8 (constant S_ .f32 0x00000000#32),
    binary main_v43 main_cst_8 main_v44 ((fun x v => Host.reduceAdd x v reducesTo_S4x4096x2_S4x4096_d2 h_S_) : (⟨S4x4096x2, .f32⟩ : BufTy).Contents (Elt F) → (⟨S_, .f32⟩ : BufTy).Contents (Elt F) → (⟨S4x4096, .f32⟩ : BufTy).Contents (Elt F)),
    unary main_v44 main_v45 (broadcastInDim S4x4096x1 ![0, 1] bcast_S4x4096_S4x4096x1_0_1 : (⟨S4x4096, .f32⟩ : BufTy).Contents (Elt F) → (⟨S4x4096x1, .f32⟩ : BufTy).Contents (Elt F)),
    unary main_v45 main_v46 (broadcastInDim S4x4096x2 ![0, 1, 2] bcast_S4x4096x1_S4x4096x2_0_1_2 : (⟨S4x4096x1, .f32⟩ : BufTy).Contents (Elt F) → (⟨S4x4096x2, .f32⟩ : BufTy).Contents (Elt F)),
    binary main_v43 main_v46 main_v47 (Host.divf : (⟨S4x4096x2, .f32⟩ : BufTy).Contents (Elt F) → (⟨S4x4096x2, .f32⟩ : BufTy).Contents (Elt F) → (⟨S4x4096x2, .f32⟩ : BufTy).Contents (Elt F)),
    unary main_v29 main_v48 (broadcastInDim S4x4096x1 ![0, 1] bcast_S4x4096_S4x4096x1_0_1 : (⟨S4x4096, .f32⟩ : BufTy).Contents (Elt F) → (⟨S4x4096x1, .f32⟩ : BufTy).Contents (Elt F)),
    unary main_v48 main_v49 (broadcastInDim S4x4096x2 ![0, 1, 2] bcast_S4x4096x1_S4x4096x2_0_1_2 : (⟨S4x4096x1, .f32⟩ : BufTy).Contents (Elt F) → (⟨S4x4096x2, .f32⟩ : BufTy).Contents (Elt F)),
    binary main_v47 main_v49 main_v50 (mulf : (⟨S4x4096x2, .f32⟩ : BufTy).Contents (Elt F) → (⟨S4x4096x2, .f32⟩ : BufTy).Contents (Elt F) → (⟨S4x4096x2, .f32⟩ : BufTy).Contents (Elt F)),
    unary main_v17 main_v51 (broadcastInDim S4x4096x1 ![0, 1] bcast_S4x4096_S4x4096x1_0_1 : (⟨S4x4096, .i32⟩ : BufTy).Contents (Elt F) → (⟨S4x4096x1, .i32⟩ : BufTy).Contents (Elt F)),
    nullary main_c (constantI S_ 32 4#32),
    unary main_c main_v52 (broadcastInDim S4x4096x1 ![] bcast_S_S4x4096x1 : (⟨S_, .i32⟩ : BufTy).Contents (Elt F) → (⟨S4x4096x1, .i32⟩ : BufTy).Contents (Elt F)),
    binary main_v51 main_v52 main_v53 (muli : (⟨S4x4096x1, .i32⟩ : BufTy).Contents (Elt F) → (⟨S4x4096x1, .i32⟩ : BufTy).Contents (Elt F) → (⟨S4x4096x1, .i32⟩ : BufTy).Contents (Elt F)),
    unary main_v53 main_v54 (broadcastInDim S4x4096x2 ![0, 1, 2] bcast_S4x4096x1_S4x4096x2_0_1_2 : (⟨S4x4096x1, .i32⟩ : BufTy).Contents (Elt F) → (⟨S4x4096x2, .i32⟩ : BufTy).Contents (Elt F)),
    binary main_v54 main_indices main_v55 (addi : (⟨S4x4096x2, .i32⟩ : BufTy).Contents (Elt F) → (⟨S4x4096x2, .i32⟩ : BufTy).Contents (Elt F) → (⟨S4x4096x2, .i32⟩ : BufTy).Contents (Elt F)),
    TRef.unary (TRef.of (T := ⟨S4x4096x2, .i32⟩) main_v55) (TRef.of (T := ⟨S4x4096x2x1, .i32⟩) main_call2_v0) (broadcastInDim S4x4096x2x1 ![0, 1, 2] bcast_S4x4096x2_S4x4096x2x1_0_1_2),
    TRef.nullary (TRef.of (T := ⟨S1x1x1x16, .i32⟩) main_call2_v1) (iotaInDim S1x1x1x16 32 3),
    TRef.unary (TRef.of (T := ⟨S4x4096x2x1, .i32⟩) main_call2_v0) (TRef.of (T := ⟨S4x4096x2x16, .i32⟩) main_call2_v2) (broadcastInDim S4x4096x2x16 ![0, 1, 2, 3] bcast_S4x4096x2x1_S4x4096x2x16_0_1_2_3),
    TRef.unary (TRef.of (T := ⟨S1x1x1x16, .i32⟩) main_call2_v1) (TRef.of (T := ⟨S4x4096x2x16, .i32⟩) main_call2_v3) (broadcastInDim S4x4096x2x16 ![0, 1, 2, 3] bcast_S1x1x1x16_S4x4096x2x16_0_1_2_3),
    TRef.binary (TRef.of (T := ⟨S4x4096x2x16, .i32⟩) main_call2_v2) (TRef.of (T := ⟨S4x4096x2x16, .i32⟩) main_call2_v3) (TRef.of (T := ⟨S4x4096x2x16, .i1⟩) main_call2_v4) (cmpi .eq),
    TRef.unary (TRef.of (T := ⟨S4x4096x2x16, .i1⟩) main_call2_v4) (TRef.of (T := ⟨S4x4096x2x16, .f32⟩) main_v56) (uitofp .f32),
    binary main_v56 main_v50 main_v57 ((fun l r => Host.dotGeneral dot_S4x4096x2x16_S4x4096x2_S4x4096x16_2_2_3_n_01_01 none l r) : (⟨S4x4096x2x16, .f32⟩ : BufTy).Contents (Elt F) → (⟨S4x4096x2, .f32⟩ : BufTy).Contents (Elt F) → (⟨S4x4096x16, .f32⟩ : BufTy).Contents (Elt F)),
    binary main_v12 main_arg6 main_v58 ((fun l r => Host.dotGeneral dot_S4x4096x1024_S16x1024x256_S4x4096x16x256_2_1_01_02_n_n none l r) : (⟨S4x4096x1024, .f32⟩ : BufTy).Contents (Elt F) → (⟨S16x1024x256, .f32⟩ : BufTy).Contents (Elt F) → (⟨S4x4096x16x256, .f32⟩ : BufTy).Contents (Elt F)),
    binary main_v12 main_arg7 main_v59 ((fun l r => Host.dotGeneral dot_S4x4096x1024_S16x1024x256_S4x4096x16x256_2_1_01_02_n_n none l r) : (⟨S4x4096x1024, .f32⟩ : BufTy).Contents (Elt F) → (⟨S16x1024x256, .f32⟩ : BufTy).Contents (Elt F) → (⟨S4x4096x16x256, .f32⟩ : BufTy).Contents (Elt F)),
    TRef.unary (TRef.of (T := ⟨S4x4096x16x256, .f32⟩) main_v58) (TRef.of (T := ⟨S4x4096x16x256, .f32⟩) main_call3_v0) Host.negf,
    TRef.unary (TRef.of (T := ⟨S4x4096x16x256, .f32⟩) main_call3_v0) (TRef.of (T := ⟨S4x4096x16x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4x4096x16x256, .f32⟩) main_call3_v2) (broadcastInDim S4x4096x16x256 ![] bcast_S_S4x4096x16x256),
    TRef.binary (TRef.of (T := ⟨S4x4096x16x256, .f32⟩) main_call3_v2) (TRef.of (T := ⟨S4x4096x16x256, .f32⟩) main_call3_v1) (TRef.of (T := ⟨S4x4096x16x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4x4096x16x256, .f32⟩) main_call3_v4) (broadcastInDim S4x4096x16x256 ![] bcast_S_S4x4096x16x256),
    TRef.binary (TRef.of (T := ⟨S4x4096x16x256, .f32⟩) main_call3_v4) (TRef.of (T := ⟨S4x4096x16x256, .f32⟩) main_call3_v3) (TRef.of (T := ⟨S4x4096x16x256, .f32⟩) main_call3_v5) Host.divf,
    TRef.binary (TRef.of (T := ⟨S4x4096x16x256, .f32⟩) main_v58) (TRef.of (T := ⟨S4x4096x16x256, .f32⟩) main_call3_v5) (TRef.of (T := ⟨S4x4096x16x256, .f32⟩) main_v60) mulf,
    binary main_v60 main_v59 main_v61 (mulf : (⟨S4x4096x16x256, .f32⟩ : BufTy).Contents (Elt F) → (⟨S4x4096x16x256, .f32⟩ : BufTy).Contents (Elt F) → (⟨S4x4096x16x256, .f32⟩ : BufTy).Contents (Elt F)),
    unary main_v57 main_v62 (broadcastInDim S4x4096x16x1 ![0, 1, 2] bcast_S4x4096x16_S4x4096x16x1_0_1_2 : (⟨S4x4096x16, .f32⟩ : BufTy).Contents (Elt F) → (⟨S4x4096x16x1, .f32⟩ : BufTy).Contents (Elt F)),
    unary main_v62 main_v63 (broadcastInDim S4x4096x16x256 ![0, 1, 2, 3] bcast_S4x4096x16x1_S4x4096x16x256_0_1_2_3 : (⟨S4x4096x16x1, .f32⟩ : BufTy).Contents (Elt F) → (⟨S4x4096x16x256, .f32⟩ : BufTy).Contents (Elt F)),
    binary main_v61 main_v63 main_v64 (mulf : (⟨S4x4096x16x256, .f32⟩ : BufTy).Contents (Elt F) → (⟨S4x4096x16x256, .f32⟩ : BufTy).Contents (Elt F) → (⟨S4x4096x16x256, .f32⟩ : BufTy).Contents (Elt F)),
    binary main_v64 main_arg8 main_v65 ((fun l r => Host.dotGeneral dot_S4x4096x16x256_S16x256x1024_S4x4096x1024_23_01_01_2_n_n none l r) : (⟨S4x4096x16x256, .f32⟩ : BufTy).Contents (Elt F) → (⟨S16x256x1024, .f32⟩ : BufTy).Contents (Elt F) → (⟨S4x4096x1024, .f32⟩ : BufTy).Contents (Elt F)),
    binary main_arg0 main_v65 main_v66 (addf : (⟨S4x4096x1024, .f32⟩ : BufTy).Contents (Elt F) → (⟨S4x4096x1024, .f32⟩ : BufTy).Contents (Elt F) → (⟨S4x4096x1024, .f32⟩ : BufTy).Contents (Elt F)),
    reshape main_v66 main_v67 (rfl : (.f32 : EltTy) = .f32) shapeCasts_S4x4096x1024_S16384x1024 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., unary_bufs_sub .., binary_bufs_sub .., unary_bufs_sub .., binary_bufs_sub .., unary_bufs_sub .., unary_bufs_sub .., binary_bufs_sub .., reshape_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., unary_bufs_sub .., binary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., binary_bufs_sub .., reshape_bufs_sub ..⟩

/-- In one term: the normalised stream. -/
def refH (x : (⟨S4x4096x1024, .f32⟩ : BufTy).Contents (Elt F)) (g : (⟨S1024, .f32⟩ : BufTy).Contents (Elt F)) : (⟨S4x4096x1024, .f32⟩ : BufTy).Contents (Elt F) :=
  (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g)))

/-- In one term: the four coarse logits of each token. -/
def refLc (h : (⟨S4x4096x1024, .f32⟩ : BufTy).Contents (Elt F)) (wc : (⟨S1024x4, .f32⟩ : BufTy).Contents (Elt F)) (bc : (⟨S4, .f32⟩ : BufTy).Contents (Elt F)) : (⟨S4x4096x4, .f32⟩ : BufTy).Contents (Elt F) :=
  (addf (Host.dotGeneral dot_S4x4096x1024_S1024x4_S4x4096x4_2_0_01_1_n_n (some .fp32) h wc) (broadcastInDim S4x4096x4 ![0, 1, 2] bcast_S1x1x4_S4x4096x4_0_1_2 (broadcastInDim S1x1x4 ![2] bcast_S4_S1x1x4_2 bc)))

/-- In one term: the coarse group chosen, the first largest logit. -/
def refIdx (lc : (⟨S4x4096x4, .f32⟩ : BufTy).Contents (Elt F)) : (⟨S4x4096, .i32⟩ : BufTy).Contents (Elt F) :=
  (fun j => (Host.argReduce reducer_argmax_f32_i32 lc (iotaInDim S4x4096x4 32 2) (constant S_ .f32 0xFF800000#32) (constantI S_ 32 0#32) reducesTo_S4x4096x4_S4x4096_d2 h_S_ j).2)

/-- In one term: the largest coarse softmax weight. -/
def refGw (lc : (⟨S4x4096x4, .f32⟩ : BufTy).Contents (Elt F)) : (⟨S4x4096, .f32⟩ : BufTy).Contents (Elt F) :=
  (Host.reduce FloatOps.maximumf (Host.divf (Host.exp (subf lc (broadcastInDim S4x4096x4 ![0, 1, 2] bcast_S4x4096x1_S4x4096x4_0_1_2 (broadcastInDim S4x4096x1 ![0, 1] bcast_S4x4096_S4x4096x1_0_1 (maximumf (broadcastInDim S4x4096 ![] bcast_S_S4x4096 (constant S_ .f32 0xFF800000#32)) (Host.reduce FloatOps.maximumf lc (constant S_ .f32 0xFF800000#32) reducesTo_S4x4096x4_S4x4096_d2 h_S_)))))) (broadcastInDim S4x4096x4 ![0, 1, 2] bcast_S4x4096x1_S4x4096x4_0_1_2 (broadcastInDim S4x4096x1 ![0, 1] bcast_S4x4096_S4x4096x1_0_1 (Host.reduceAdd (Host.exp (subf lc (broadcastInDim S4x4096x4 ![0, 1, 2] bcast_S4x4096x1_S4x4096x4_0_1_2 (broadcastInDim S4x4096x1 ![0, 1] bcast_S4x4096_S4x4096x1_0_1 (maximumf (broadcastInDim S4x4096 ![] bcast_S_S4x4096 (constant S_ .f32 0xFF800000#32)) (Host.reduce FloatOps.maximumf lc (constant S_ .f32 0xFF800000#32) reducesTo_S4x4096x4_S4x4096_d2 h_S_)))))) (constant S_ .f32 0x00000000#32) reducesTo_S4x4096x4_S4x4096_d2 h_S_)))) (constant S_ .f32 0xFF800000#32) reducesTo_S4x4096x4_S4x4096_d2 h_S_)

/-- In one term: the four fine logits of the chosen group. -/
def refLf (h : (⟨S4x4096x1024, .f32⟩ : BufTy).Contents (Elt F)) (wf : (⟨S1024x16, .f32⟩ : BufTy).Contents (Elt F)) (bf : (⟨S16, .f32⟩ : BufTy).Contents (Elt F)) (gi : (⟨S4x4096, .i32⟩ : BufTy).Contents (Elt F)) : (⟨S4x4096x4, .f32⟩ : BufTy).Contents (Elt F) :=
  (Host.dotGeneral dot_S4x4096x4x4_S4x4096x4_S4x4096x4_2_2_3_n_01_01 none (shapeCast _ (addf (Host.dotGeneral dot_S4x4096x1024_S1024x16_S4x4096x16_2_0_01_1_n_n (some .fp32) h wf) (broadcastInDim S4x4096x16 ![0, 1, 2] bcast_S1x1x16_S4x4096x16_0_1_2 (broadcastInDim S1x1x16 ![2] bcast_S16_S1x1x16_2 bf))) shapeCasts_S4x4096x16_S4x4096x4x4) (uitofp .f32 (cmpi .eq (broadcastInDim S4x4096x4 ![0, 1, 2] bcast_S4x4096x1_S4x4096x4_0_1_2 (broadcastInDim S4x4096x1 ![0, 1] bcast_S4x4096_S4x4096x1_0_1 gi)) (broadcastInDim S4x4096x4 ![0, 1, 2] bcast_S1x1x4_S4x4096x4_0_1_2 (iotaInDim S1x1x4 32 2)))))

/-- In one term: the two largest fine logits. -/
def refTopV (lf : (⟨S4x4096x4, .f32⟩ : BufTy).Contents (Elt F)) : (⟨S4x4096x2, .f32⟩ : BufTy).Contents (Elt F) :=
  ((Host.topK S4x4096x2 2 (FloatOps.cmpfTotal .gt) lf sliceFits_S4x4096x4_S4x4096x2).1)

/-- In one term: their places. -/
def refTopI (lf : (⟨S4x4096x4, .f32⟩ : BufTy).Contents (Elt F)) : (⟨S4x4096x2, .i32⟩ : BufTy).Contents (Elt F) :=
  ((Host.topK S4x4096x2 2 (FloatOps.cmpfTotal .gt) lf sliceFits_S4x4096x4_S4x4096x2).2)

/-- In one term: the two weights. -/
def refW (tv : (⟨S4x4096x2, .f32⟩ : BufTy).Contents (Elt F)) (gw : (⟨S4x4096, .f32⟩ : BufTy).Contents (Elt F)) : (⟨S4x4096x2, .f32⟩ : BufTy).Contents (Elt F) :=
  (mulf (Host.divf (Host.exp (subf tv (broadcastInDim S4x4096x2 ![0, 1, 2] bcast_S4x4096x1_S4x4096x2_0_1_2 (broadcastInDim S4x4096x1 ![0, 1] bcast_S4x4096_S4x4096x1_0_1 (maximumf (broadcastInDim S4x4096 ![] bcast_S_S4x4096 (constant S_ .f32 0xFF800000#32)) (Host.reduce FloatOps.maximumf tv (constant S_ .f32 0xFF800000#32) reducesTo_S4x4096x2_S4x4096_d2 h_S_)))))) (broadcastInDim S4x4096x2 ![0, 1, 2] bcast_S4x4096x1_S4x4096x2_0_1_2 (broadcastInDim S4x4096x1 ![0, 1] bcast_S4x4096_S4x4096x1_0_1 (Host.reduceAdd (Host.exp (subf tv (broadcastInDim S4x4096x2 ![0, 1, 2] bcast_S4x4096x1_S4x4096x2_0_1_2 (broadcastInDim S4x4096x1 ![0, 1] bcast_S4x4096_S4x4096x1_0_1 (maximumf (broadcastInDim S4x4096 ![] bcast_S_S4x4096 (constant S_ .f32 0xFF800000#32)) (Host.reduce FloatOps.maximumf tv (constant S_ .f32 0xFF800000#32) reducesTo_S4x4096x2_S4x4096_d2 h_S_)))))) (constant S_ .f32 0x00000000#32) reducesTo_S4x4096x2_S4x4096_d2 h_S_)))) (broadcastInDim S4x4096x2 ![0, 1, 2] bcast_S4x4096x1_S4x4096x2_0_1_2 (broadcastInDim S4x4096x1 ![0, 1] bcast_S4x4096_S4x4096x1_0_1 gw)))

/-- In one term: the gate of each expert. -/
def refGate (gi : (⟨S4x4096, .i32⟩ : BufTy).Contents (Elt F)) (ti : (⟨S4x4096x2, .i32⟩ : BufTy).Contents (Elt F)) (w : (⟨S4x4096x2, .f32⟩ : BufTy).Contents (Elt F)) : (⟨S4x4096x16, .f32⟩ : BufTy).Contents (Elt F) :=
  (Host.dotGeneral dot_S4x4096x2x16_S4x4096x2_S4x4096x16_2_2_3_n_01_01 none (uitofp .f32 (cmpi .eq (broadcastInDim S4x4096x2x16 ![0, 1, 2, 3] bcast_S4x4096x2x1_S4x4096x2x16_0_1_2_3 (broadcastInDim S4x4096x2x1 ![0, 1, 2] bcast_S4x4096x2_S4x4096x2x1_0_1_2 (addi (broadcastInDim S4x4096x2 ![0, 1, 2] bcast_S4x4096x1_S4x4096x2_0_1_2 (muli (broadcastInDim S4x4096x1 ![0, 1] bcast_S4x4096_S4x4096x1_0_1 gi) (broadcastInDim S4x4096x1 ![] bcast_S_S4x4096x1 (constantI S_ 32 4#32)))) ti))) (broadcastInDim S4x4096x2x16 ![0, 1, 2, 3] bcast_S1x1x1x16_S4x4096x2x16_0_1_2_3 (iotaInDim S1x1x1x16 32 3)))) w)

/-- In one term: the gated activations. -/
def refAct (h : (⟨S4x4096x1024, .f32⟩ : BufTy).Contents (Elt F)) (wg : (⟨S16x1024x256, .f32⟩ : BufTy).Contents (Elt F)) (wu : (⟨S16x1024x256, .f32⟩ : BufTy).Contents (Elt F)) (gate : (⟨S4x4096x16, .f32⟩ : BufTy).Contents (Elt F)) : (⟨S4x4096x16x256, .f32⟩ : BufTy).Contents (Elt F) :=
  (mulf (mulf (mulf (Host.dotGeneral dot_S4x4096x1024_S16x1024x256_S4x4096x16x256_2_1_01_02_n_n none h wg) (Host.divf (broadcastInDim S4x4096x16x256 ![] bcast_S_S4x4096x16x256 (constant S_ .f32 0x3F800000#32)) (addf (broadcastInDim S4x4096x16x256 ![] bcast_S_S4x4096x16x256 (constant S_ .f32 0x3F800000#32)) (Host.exp (Host.negf (Host.dotGeneral dot_S4x4096x1024_S16x1024x256_S4x4096x16x256_2_1_01_02_n_n none h wg)))))) (Host.dotGeneral dot_S4x4096x1024_S16x1024x256_S4x4096x16x256_2_1_01_02_n_n none h wu)) (broadcastInDim S4x4096x16x256 ![0, 1, 2, 3] bcast_S4x4096x16x1_S4x4096x16x256_0_1_2_3 (broadcastInDim S4x4096x16x1 ![0, 1, 2] bcast_S4x4096x16_S4x4096x16x1_0_1_2 gate)))

/-- In one term: the result. -/
def refOut (x : (⟨S4x4096x1024, .f32⟩ : BufTy).Contents (Elt F)) (act : (⟨S4x4096x16x256, .f32⟩ : BufTy).Contents (Elt F)) (wd : (⟨S16x256x1024, .f32⟩ : BufTy).Contents (Elt F)) : (⟨S16384x1024, .f32⟩ : BufTy).Contents (Elt F) :=
  (shapeCast _ (addf x (Host.dotGeneral dot_S4x4096x16x256_S16x256x1024_S4x4096x1024_23_01_01_2_n_n none act wd)) shapeCasts_S4x4096x1024_S16384x1024)

section Result
variable (m : (ℓ : Loc nD τ sig) → Buf (Elt F) ℓ) (c : Dev nD)

/-- From the memory at launch: the normalised stream. -/
def atH : (⟨S4x4096x1024, .f32⟩ : BufTy).Contents (Elt F) := refH (m ((c.tc : Thread nD τ).loc main_arg0)) (m ((c.tc : Thread nD τ).loc main_arg1))

/-- From the memory at launch: the four coarse logits of each token. -/
def atLc : (⟨S4x4096x4, .f32⟩ : BufTy).Contents (Elt F) := refLc (atH m c) (m ((c.tc : Thread nD τ).loc main_arg2)) (m ((c.tc : Thread nD τ).loc main_arg3))

/-- From the memory at launch: the coarse group chosen, the first largest logit. -/
def atIdx : (⟨S4x4096, .i32⟩ : BufTy).Contents (Elt F) := refIdx (atLc m c)

/-- From the memory at launch: the largest coarse softmax weight. -/
def atGw : (⟨S4x4096, .f32⟩ : BufTy).Contents (Elt F) := refGw (atLc m c)

/-- From the memory at launch: the four fine logits of the chosen group. -/
def atLf : (⟨S4x4096x4, .f32⟩ : BufTy).Contents (Elt F) := refLf (atH m c) (m ((c.tc : Thread nD τ).loc main_arg4)) (m ((c.tc : Thread nD τ).loc main_arg5)) (atIdx m c)

/-- From the memory at launch: the two largest fine logits. -/
def atTopV : (⟨S4x4096x2, .f32⟩ : BufTy).Contents (Elt F) := refTopV (atLf m c)

/-- From the memory at launch: their places. -/
def atTopI : (⟨S4x4096x2, .i32⟩ : BufTy).Contents (Elt F) := refTopI (atLf m c)

/-- From the memory at launch: the two weights. -/
def atW : (⟨S4x4096x2, .f32⟩ : BufTy).Contents (Elt F) := refW (atTopV m c) (atGw m c)

/-- From the memory at launch: the gate of each expert. -/
def atGate : (⟨S4x4096x16, .f32⟩ : BufTy).Contents (Elt F) := refGate (atIdx m c) (atTopI m c) (atW m c)

/-- From the memory at launch: the gated activations. -/
def atAct : (⟨S4x4096x16x256, .f32⟩ : BufTy).Contents (Elt F) := refAct (atH m c) (m ((c.tc : Thread nD τ).loc main_arg6)) (m ((c.tc : Thread nD τ).loc main_arg7)) (atGate m c)

/-- From the memory at launch: the result. -/
def atOut : (⟨S16384x1024, .f32⟩ : BufTy).Contents (Elt F) := refOut (m ((c.tc : Thread nD τ).loc main_arg0)) (atAct m c) (m ((c.tc : Thread nD τ).loc main_arg8))

end Result

set_option maxRecDepth 8192 in
set_option maxHeartbeats 40400000 in
/-- From any memory with zero counters the reference terminates, its result the staged term and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = atOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v67).trans (by simp only [ops, TRef.binary, TRef.nullary, TRef.unary, TRef.quaternary, TRef.toBuf, TRef.ofBuf, cast_eq]; after_results_simp; rfl),
      (h c main_arg0).trans (by simp only [ops, TRef.binary, TRef.nullary, TRef.unary, TRef.quaternary, TRef.toBuf, TRef.ofBuf, cast_eq]; after_results_simp <;> rfl),
      (h c main_arg1).trans (by simp only [ops, TRef.binary, TRef.nullary, TRef.unary, TRef.quaternary, TRef.toBuf, TRef.ofBuf, cast_eq]; after_results_simp <;> rfl),
      (h c main_arg2).trans (by simp only [ops, TRef.binary, TRef.nullary, TRef.unary, TRef.quaternary, TRef.toBuf, TRef.ofBuf, cast_eq]; after_results_simp <;> rfl),
      (h c main_arg3).trans (by simp only [ops, TRef.binary, TRef.nullary, TRef.unary, TRef.quaternary, TRef.toBuf, TRef.ofBuf, cast_eq]; after_results_simp <;> rfl),
      (h c main_arg4).trans (by simp only [ops, TRef.binary, TRef.nullary, TRef.unary, TRef.quaternary, TRef.toBuf, TRef.ofBuf, cast_eq]; after_results_simp <;> rfl),
      (h c main_arg5).trans (by simp only [ops, TRef.binary, TRef.nullary, TRef.unary, TRef.quaternary, TRef.toBuf, TRef.ofBuf, cast_eq]; after_results_simp <;> rfl),
      (h c main_arg6).trans (by simp only [ops, TRef.binary, TRef.nullary, TRef.unary, TRef.quaternary, TRef.toBuf, TRef.ofBuf, cast_eq]; after_results_simp <;> rfl),
      (h c main_arg7).trans (by simp only [ops, TRef.binary, TRef.nullary, TRef.unary, TRef.quaternary, TRef.toBuf, TRef.ofBuf, cast_eq]; after_results_simp <;> rfl),
      (h c main_arg8).trans (by simp only [ops, TRef.binary, TRef.nullary, TRef.unary, TRef.quaternary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.RefRows.lean ====
module

public import proofs.«01_k».proof.Proof.Pick
public import proofs.«01_k».proof.Proof.RefRun

/-! The reference's stages at an index: the normalised row, the two logits, the gates, and the result. -/

@[expose] public section

set_option maxRecDepth 16384

noncomputable section

namespace Cert.ReferenceIdeal.Rows

open Cert.ReferenceIdeal Cert.ReferenceIdeal.Gen Cert.ReferenceIdeal.Value Router
open Idealize.ShloMosaic Idealize.ShloMosaic.TcCoe Idealize.SL.Sem

/-- A device buffer's contents over the extended reals. -/
abbrev A (S : Shape) (e : EltTy) := (⟨S, e⟩ : BufTy).Contents (Elt Ideal)

/-- The row of the stream at a position. -/
def xRow (x : A S4x4096x1024 .f32) (b : Fin 4) (s : Fin 4096) (k : Fin 1024) : EReal := x (ix3 b s k)
/-- The norm's weights. -/
def gRow (g : A S1024 .f32) (k : Fin 1024) : EReal := g (ix1 k)
/-- The four coarse logits of a row. -/
def cLog (h : Fin 1024 → EReal) (wc : A S1024x4 .f32) (bc : A S4 .f32) (a : Fin 4) : EReal :=
  ∑ k, h k * wc (ix2 k a) + bc (ix1 a)
/-- The sixteen fine logits of a row, by group and entry. -/
def fLog (h : Fin 1024 → EReal) (wf : A S1024x16 .f32) (bf : A S16 .f32) (g e : Fin 4) : EReal :=
  ∑ k, h k * wf (ix2 k ⟨g.val * 4 + e.val, by omega⟩) + bf (ix1 ⟨g.val * 4 + e.val, by omega⟩)

theorem h_at (x : A S4x4096x1024 .f32) (g : A S1024 .f32) (b : Fin 4) (s : Fin 4096) (k : Fin 1024) :
    refH x g (ix3 b s k) = normRow (xRow x b s) (gRow g) k := by
  pointwise [refH]
  rfl

theorem lc_at (h : A S4x4096x1024 .f32) (wc : A S1024x4 .f32) (bc : A S4 .f32) (b : Fin 4) (s : Fin 4096) (a : Fin 4) :
    refLc h wc bc (ix3 b s a) = cLog (fun k => h (ix3 b s k)) wc bc a := by
  pointwise [refLc]
  rfl

/-- An equality of words, read as a number. -/
theorem eq_bit (u v : BitVec 32) : FloatOps.uitofp (F := Ideal) .f32 (IntOp.cmpi .eq u v) = if u = v then (1 : EReal) else 0 := by
  show (((IntOp.cmpi .eq u v).toNat : ℝ) : EReal) = _
  unfold IntOp.cmpi
  by_cases h : u = v <;> simp [h]

theorem lf_at (h : A S4x4096x1024 .f32) (wf : A S1024x16 .f32) (bf : A S16 .f32) (gi : A S4x4096 .i32) (b : Fin 4) (s : Fin 4096)
    (G : Fin 4) (hG : gi (ix2 b s) = BitVec.ofNat 32 G.val) (e : Fin 4) :
    refLf h wf bf gi (ix3 b s e) = fLog (fun k => h (ix3 b s k)) wf bf G e := by
  pointwise [refLf]
  rw [hG]
  have hk : ∀ G x : Fin 4, (BitVec.ofNat 32 G.val = BitVec.ofNat 32 x.val) ↔ G = x := by decide
  have : ∀ x : Fin 4, FloatOps.uitofp (F := Ideal) .f32 (IntOp.cmpi .eq (BitVec.ofNat 32 G.val) (BitVec.ofNat 32 x.val))
      = if G = x then (1 : EReal) else 0 := by
    intro x; rw [eq_bit]; simp only [hk]
  simp only [this, mul_ite, mul_one, mul_zero, Finset.sum_ite_eq, Finset.mem_univ, if_true]
  rfl

theorem along_at (b : Fin 4) (s : Fin 4096) (k q : Fin 4) :
    Shape.Idx.along (s := S4x4096x4) (ix3 b s k) 2 q = ix3 b s q := by
  funext i; fin_cases i <;> rfl

/-- The places of the two largest of a row's four entries. -/
def places (lf : A S4x4096x4 .f32) (b : Fin 4) (s : Fin 4096) : Fin 4 → Fin 4 :=
  sortedFrom (n := 4) fun k k' => Ideal.cmp .ogt (lf (ix3 b s k)) (lf (ix3 b s k')) == 1#1

theorem topV_at (lf : A S4x4096x4 .f32) (b : Fin 4) (s : Fin 4096) (k : Fin 2) :
    refTopV lf (ix3 b s k) = lf (ix3 b s (places lf b s ⟨k.val, by omega⟩)) := by
  pointwise [refTopV, Host.topK, Host.sort2]
  simp only [along_at]
  rfl

theorem topI_at (lf : A S4x4096x4 .f32) (b : Fin 4) (s : Fin 4096) (k : Fin 2) :
    refTopI lf (ix3 b s k) = BitVec.ofNat 32 (places lf b s ⟨k.val, by omega⟩).val := by
  pointwise [refTopI, Host.topK, Host.sort2]
  simp only [along_at]
  rfl

theorem gw_at (lc : A S4x4096x4 .f32) (b : Fin 4) (s : Fin 4096) (G : Fin 4) (hr : ∀ a, IsReal (lc (ix3 b s a)))
    (hG : IsFirst (fun a => lc (ix3 b s a)) G) : refGw lc (ix2 b s) = top (fun a => lc (ix3 b s a)) G := by
  choose c hc using hr
  have he : (fun a => lc (ix3 b s a)) = fun a => (c a : EReal) := funext hc
  rw [he] at hG ⊢
  rw [← softmax_top c G hG]
  pointwise [refGw]
  simp only [bits_bot, hc]

theorem w_at (tv : A S4x4096x2 .f32) (gw : A S4x4096 .f32) (b : Fin 4) (s : Fin 4096) (v1 v2 : EReal)
    (h0 : tv (ix3 b s 0) = v1) (h1 : tv (ix3 b s 1) = v2) (r1 : IsReal v1) (r2 : IsReal v2) (hle : v2 ≤ v1) :
    refW tv gw (ix3 b s 0) = w1 (gw (ix2 b s)) v1 v2 ∧ refW tv gw (ix3 b s 1) = w2 (gw (ix2 b s)) v1 v2 := by
  obtain ⟨a1, rfl⟩ := r1
  obtain ⟨a2, rfl⟩ := r2
  have := softmax_two a1 a2 (EReal.coe_le_coe_iff.1 hle) (gw (ix2 b s)) (fun k => tv (ix3 b s k)) h0 h1
  constructor
  · rw [← this.1]
    pointwise [refW]
    simp only [bits_bot]
  · rw [← this.2]
    pointwise [refW]
    simp only [bits_bot]

theorem gate_at (gi : A S4x4096 .i32) (ti : A S4x4096x2 .i32) (w : A S4x4096x2 .f32) (b : Fin 4) (s : Fin 4096) (E : Fin 16)
    (G I K : Fin 4) (hG : gi (ix2 b s) = BitVec.ofNat 32 G.val) (hI : ti (ix3 b s 0) = BitVec.ofNat 32 I.val)
    (hK : ti (ix3 b s 1) = BitVec.ofNat 32 K.val) :
    refGate gi ti w (ix3 b s E) = (if E.val = G.val * 4 + I.val then w (ix3 b s 0) else 0)
      + (if E.val = G.val * 4 + K.val then w (ix3 b s 1) else 0) := by
  pointwise [refGate]
  rw [Fin.sum_univ_two, hG, hI, hK, eq_bit, eq_bit]
  have hk : ∀ (G I : Fin 4) (E : Fin 16),
      (IntOp.addi (IntOp.muli (BitVec.ofNat 32 G.val) 4#32) (BitVec.ofNat 32 I.val) = BitVec.ofNat 32 E.val)
        ↔ E.val = G.val * 4 + I.val := by decide +kernel
  simp only [hk, ite_mul, one_mul, zero_mul]

theorem act_at (h : A S4x4096x1024 .f32) (wg wu : A S16x1024x256 .f32) (gate : A S4x4096x16 .f32) (b : Fin 4) (s : Fin 4096)
    (E : Fin 16) (f : Fin 256) :
    refAct h wg wu gate (ix4 b s E f)
      = (∑ k, h (ix3 b s k) * wg (ix3 E k f)) * Ideal.logistic (∑ k, h (ix3 b s k) * wg (ix3 E k f))
          * (∑ k, h (ix3 b s k) * wu (ix3 E k f)) * gate (ix3 b s E) := by
  pointwise [refAct]
  rfl

theorem out_at (x : A S4x4096x1024 .f32) (act : A S4x4096x16x256 .f32) (wd : A S16x256x1024 .f32) (r : Fin 16384) (n : Fin 1024) :
    refOut x act wd (ix2 r n) = x (ix3 ⟨r.val / 4096, by omega⟩ ⟨r.val % 4096, by omega⟩ n)
      + ∑ E, ∑ f, act (ix4 ⟨r.val / 4096, by omega⟩ ⟨r.val % 4096, by omega⟩ E f) * wd (ix3 E f n) := by
  pointwise [refOut]

end Cert.ReferenceIdeal.Rows

end
-- ==== Proof.Gates.lean ====
module

public import proofs.«01_k».proof.Proof.RefRows

/-! The reference's gates: the group and the two experts it chooses, and the gate it gives each expert. -/

@[expose] public section

set_option maxRecDepth 16384

noncomputable section

namespace Cert.ReferenceIdeal.Rows

open Cert.ReferenceIdeal Cert.ReferenceIdeal.Gen Cert.ReferenceIdeal.Value Router
open Idealize.ShloMosaic Idealize.ShloMosaic.TcCoe Idealize.SL.Sem

theorem isReal_cLog {h : Fin 1024 → EReal} (hh : ∀ k, IsReal (h k)) {wc : A S1024x4 .f32} (hw : ∀ i, IsReal (wc i)) {bc : A S4 .f32}
    (hb : ∀ i, IsReal (bc i)) (a : Fin 4) : IsReal (cLog h wc bc a) :=
  (IsReal.sum fun k => (hh k).mul (hw _)).add (hb _)

theorem isReal_fLog {h : Fin 1024 → EReal} (hh : ∀ k, IsReal (h k)) {wf : A S1024x16 .f32} (hw : ∀ i, IsReal (wf i)) {bf : A S16 .f32}
    (hb : ∀ i, IsReal (bf i)) (g e : Fin 4) : IsReal (fLog h wf bf g e) :=
  (IsReal.sum fun k => (hh k).mul (hw _)).add (hb _)

/-- An expert's number picks the chosen group's chosen entry. -/
theorem expert_iff (E : Fin 16) (G I : Fin 4) : E.val = G.val * 4 + I.val
    ↔ (⟨E.val / 4, by omega⟩ : Fin 4) = G ∧ (⟨E.val % 4, by omega⟩ : Fin 4) = I := by
  rw [Fin.ext_iff, Fin.ext_iff]; dsimp only; omega

section
variable (h : A S4x4096x1024 .f32) (wc : A S1024x4 .f32) (bc : A S4 .f32) (wf : A S1024x16 .f32) (bf : A S16 .f32) (b : Fin 4) (s : Fin 4096)

/-- The gates of a row: there are a group and two experts, each the first largest of its logits, and every gate is theirs. -/
theorem gates_at (hh : ∀ k, IsReal (h (ix3 b s k))) (hwc : ∀ i, IsReal (wc i)) (hbc : ∀ i, IsReal (bc i)) (hwf : ∀ i, IsReal (wf i))
    (hbf : ∀ i, IsReal (bf i)) : ∃ G I K : Fin 4,
      IsFirst (cLog (fun k => h (ix3 b s k)) wc bc) G ∧ IsFirst (fLog (fun k => h (ix3 b s k)) wf bf G) I
      ∧ IsSecond (fLog (fun k => h (ix3 b s k)) wf bf G) I K
      ∧ ∀ E : Fin 16,
          refGate (refIdx (refLc h wc bc)) (refTopI (refLf h wf bf (refIdx (refLc h wc bc))))
            (refW (refTopV (refLf h wf bf (refIdx (refLc h wc bc)))) (refGw (refLc h wc bc))) (ix3 b s E)
          = gate (cLog (fun k => h (ix3 b s k)) wc bc) (fLog (fun k => h (ix3 b s k)) wf bf) G I K ⟨E.val / 4, by omega⟩ ⟨E.val % 4, by omega⟩ := by
  have hlc : (fun a => refLc h wc bc (ix3 b s a)) = cLog (fun k => h (ix3 b s k)) wc bc := funext fun a => lc_at h wc bc b s a
  have hlr : ∀ a, IsReal (refLc h wc bc (ix3 b s a)) := fun a => by rw [lc_at]; exact isReal_cLog hh hwc hbc a
  obtain ⟨G, hG, hGi⟩ := argmax_spec (refLc h wc bc) b s hlr
  have hidx : refIdx (refLc h wc bc) (ix2 b s) = BitVec.ofNat 32 G.val := hGi
  generalize refIdx (refLc h wc bc) = gi at hidx ⊢
  have hlf : (fun e => refLf h wf bf gi (ix3 b s e)) = fLog (fun k => h (ix3 b s k)) wf bf G :=
    funext fun e => lf_at h wf bf gi b s G hidx e
  have hgw := gw_at (refLc h wc bc) b s G hlr hG
  generalize hlfe : refLf h wf bf gi = lf at hlf ⊢
  have hpl := sorted_spec fun e => lf (ix3 b s e)
  have hp0 : IsFirst (fun e => lf (ix3 b s e)) (places lf b s 0) := hpl.1
  have hp1 : IsSecond (fun e => lf (ix3 b s e)) (places lf b s 0) (places lf b s 1) := hpl.2
  have hI : refTopI lf (ix3 b s 0) = BitVec.ofNat 32 (places lf b s 0).val := topI_at lf b s 0
  have hK : refTopI lf (ix3 b s 1) = BitVec.ofNat 32 (places lf b s 1).val := topI_at lf b s 1
  have hV1 : refTopV lf (ix3 b s 0) = lf (ix3 b s (places lf b s 0)) := topV_at lf b s 0
  have hV2 : refTopV lf (ix3 b s 1) = lf (ix3 b s (places lf b s 1)) := topV_at lf b s 1
  have hfr : ∀ e, IsReal (lf (ix3 b s e)) := fun e => by
    rw [congrFun hlf e]; exact isReal_fLog hh hwf hbf G e
  have hw := w_at (refTopV lf) (refGw (refLc h wc bc)) b s _ _ hV1 hV2 (hfr _) (hfr _) (hp0.1 _)
  refine ⟨G, places lf b s 0, places lf b s 1, hlc ▸ hG, hlf ▸ hp0, hlf ▸ hp1, fun E => ?_⟩
  rw [gate_at gi _ _ b s E G (places lf b s 0) (places lf b s 1) hidx hI hK, hw.1, hw.2, hgw, hlc]
  simp only [expert_iff]
  have e0 : lf (ix3 b s (places lf b s 0)) = fLog (fun k => h (ix3 b s k)) wf bf G (places lf b s 0) := congrFun hlf _
  have e1 : lf (ix3 b s (places lf b s 1)) = fLog (fun k => h (ix3 b s k)) wf bf G (places lf b s 1) := congrFun hlf _
  have hne := hp1.1
  generalize places lf b s 0 = I at *
  generalize places lf b s 1 = K at *
  rw [e0, e1]
  unfold gate
  by_cases h1 : (⟨E.val / 4, by omega⟩ : Fin 4) = G ∧ (⟨E.val % 4, by omega⟩ : Fin 4) = I
  · have h2 : ¬((⟨E.val / 4, by omega⟩ : Fin 4) = G ∧ (⟨E.val % 4, by omega⟩ : Fin 4) = K) := fun h2 => hne (h2.2.symm.trans h1.2)
    rw [if_pos h1, if_neg h2, if_pos h1, add_zero]
  · rw [if_neg h1, if_neg h1, zero_add]
end

/-- Sums over the experts' numbers, split by group. -/
theorem sum_split {a b : ℕ} (F : Fin (a * b) → EReal) (hlt : ∀ (i : Fin a) (j : Fin b), i.val * b + j.val < a * b) :
    ∑ k, F k = ∑ i : Fin a, ∑ j : Fin b, F ⟨i.val * b + j.val, hlt i j⟩ := by
  rw [← finProdFinEquiv.sum_comp, Fintype.sum_prod_type]
  refine Finset.sum_congr rfl fun i _ => Finset.sum_congr rfl fun j _ => congrArg F (Fin.ext ?_)
  show j.val + b * i.val = _
  rw [Nat.mul_comm, Nat.add_comm]

/-- Over all experts and their columns: by group, then by the group's 1024 columns. -/
theorem regroup (F : Fin 16 → Fin 256 → EReal) :
    ∑ E, ∑ f, F E f = ∑ g : Fin 4, ∑ y : Fin 1024, F ⟨g.val * 4 + y.val / 256, by omega⟩ ⟨y.val % 256, by omega⟩ := by
  rw [sum_split (a := 4) (b := 4) (fun E => ∑ f, F E f) (by omega)]
  refine Finset.sum_congr rfl fun g _ => ?_
  rw [sum_split (a := 4) (b := 256) (fun y : Fin 1024 => F ⟨g.val * 4 + y.val / 256, by omega⟩ ⟨y.val % 256, by omega⟩) (by omega)]
  refine Finset.sum_congr rfl fun e _ => Finset.sum_congr rfl fun f _ => ?_
  congr 1
  · exact Fin.ext (by dsimp only; omega)
  · exact Fin.ext (by dsimp only; omega)

/-- The result of a row, in the gates' own numbers. -/
def rowOut (x : A S4x4096x1024 .f32) (h : Fin 1024 → EReal) (wg wu : A S16x1024x256 .f32) (wd : A S16x256x1024 .f32)
    (gt : Fin 4 → Fin 4 → EReal) (b : Fin 4) (s : Fin 4096) (n : Fin 1024) : EReal :=
  x (ix3 b s n) + ∑ g : Fin 4, ∑ y : Fin 1024,
    ((∑ k, h k * wg (ix3 ⟨g.val * 4 + y.val / 256, by omega⟩ k ⟨y.val % 256, by omega⟩))
        * Ideal.logistic (∑ k, h k * wg (ix3 ⟨g.val * 4 + y.val / 256, by omega⟩ k ⟨y.val % 256, by omega⟩))
        * (∑ k, h k * wu (ix3 ⟨g.val * 4 + y.val / 256, by omega⟩ k ⟨y.val % 256, by omega⟩))
        * gt g ⟨y.val / 256, by omega⟩)
      * wd (ix3 ⟨g.val * 4 + y.val / 256, by omega⟩ ⟨y.val % 256, by omega⟩ n)

theorem ref_row (x h : A S4x4096x1024 .f32) (wg wu : A S16x1024x256 .f32) (wd : A S16x256x1024 .f32) (gates : A S4x4096x16 .f32)
    (gt : Fin 4 → Fin 4 → EReal) (r : Fin 16384) (n : Fin 1024)
    (hg : ∀ E : Fin 16, gates (ix3 ⟨r.val / 4096, by omega⟩ ⟨r.val % 4096, by omega⟩ E) = gt ⟨E.val / 4, by omega⟩ ⟨E.val % 4, by omega⟩) :
    refOut x (refAct h wg wu gates) wd (ix2 r n)
      = rowOut x (fun k => h (ix3 ⟨r.val / 4096, by omega⟩ ⟨r.val % 4096, by omega⟩ k)) wg wu wd gt ⟨r.val / 4096, by omega⟩ ⟨r.val % 4096, by omega⟩ n := by
  rw [out_at, regroup]
  unfold rowOut
  congr 1
  refine Finset.sum_congr rfl fun g _ => Finset.sum_congr rfl fun y _ => ?_
  rw [act_at, hg]
  congr 2
  congr 1
  · exact Fin.ext (by dsimp only; omega)
  · exact Fin.ext (by dsimp only; omega)

end Cert.ReferenceIdeal.Rows

end
-- ==== Proof.KernelValue.lean ====
module

public import proofs.«01_k».proof.Proof.Fold
public import proofs.«01_k».proof.Proof.Gates

/-! The kernel's array at a place is the row's result, in the gates' own numbers. -/

@[expose] public section

set_option maxRecDepth 16384

noncomputable section

namespace Cert.KernelIdeal.Result

open Cert.KernelIdeal Cert.KernelIdeal.Gen Cert.KernelIdeal.Body Cert.KernelIdeal.Rows Cert.KernelIdeal.Blocks Cert.KernelIdeal.Fold Router
open Cert.ReferenceIdeal.Rows (xRow gRow cLog fLog rowOut)
open Idealize.ShloMosaic Idealize.ShloMosaic.TcCoe Idealize.SL.Sem

variable (m : (ℓ : Loc nD τ sig) → Buf (Elt Ideal) ℓ) (c : Dev nD)

/-- The router's six arrays hold real numbers. -/
structure Reals : Prop where
  x : ∀ i, IsReal (arg0 m c i)
  g : ∀ i, IsReal (arg1 m c i)
  wc : ∀ i, IsReal (arg2 m c i)
  bc : ∀ i, IsReal (arg3 m c i)
  wf : ∀ i, IsReal (arg4 m c i)
  bf : ∀ i, IsReal (arg5 m c i)

theorem isReal_zero_word : IsReal (FloatOps.sitofp (F := Ideal) .f32 0#32) := ⟨(((0#32 : BitVec 32).toInt : ℤ) : ℝ), rfl⟩

variable {m c} in
theorem isReal_wr (h : Reals m c) (k : Fin 1024) (x : Fin 128) : IsReal (wrAt m c k x) := by
  unfold wrAt
  split
  · split
    · exact h.wc _
    · exact h.wf _
  · exact isReal_zero_word

theorem wr_coarse (k : Fin 1024) (a : Fin 4) : wrAt m c k (coarse a) = arg2 m c (ix2 k a) := by
  have h4 : (coarse a).val < 4 := a.isLt
  unfold wrAt
  rw [dif_pos (by omega), dif_pos h4]
  rfl
theorem br_coarse (a : Fin 4) : brAt m c (coarse a) = arg3 m c (ix1 a) := by
  have h4 : (coarse a).val < 4 := a.isLt
  unfold brAt
  rw [dif_pos (by omega), dif_pos h4]
  rfl
theorem fine_val (g e : Fin 4) : (fine g e).val = 4 + 4 * g.val + e.val := rfl
theorem wr_fine (k : Fin 1024) (g e : Fin 4) : wrAt m c k (fine g e) = arg4 m c (ix2 k ⟨g.val * 4 + e.val, by omega⟩) := by
  have hv := fine_val g e
  unfold wrAt
  rw [dif_pos (by omega), dif_neg (by omega)]
  congr 2
  exact Fin.ext (by dsimp only; omega)
theorem br_fine (g e : Fin 4) : brAt m c (fine g e) = arg5 m c (ix1 ⟨g.val * 4 + e.val, by omega⟩) := by
  have hv := fine_val g e
  unfold brAt
  rw [dif_pos (by omega), dif_neg (by omega)]
  congr 2
  exact Fin.ext (by dsimp only; omega)

/-- One group's contribution, over any blocks whose entries are known. -/
theorem contrib_of (hb : Vec Ideal S512x1024 .bf16) (gb : Vec Ideal S512x128 .f32) (x5 x6 x7 : Vec Ideal S1x1024x1024 .bf16) (q : Fin 512) (n : Fin 1024)
    (j : Fin 4) (hr : Fin 1024 → EReal) (gt : Fin 4 → EReal) (u v d : Fin 1024 → Fin 1024 → EReal)
    (hh : ∀ k, hb (ix2 q k) = hr k) (hg : ∀ e, gb (ix2 q (fine j e)) = gt e) (h5 : ∀ k y, x5 (ix3 0 k y) = u k y)
    (h6 : ∀ k y, x6 (ix3 0 k y) = v k y) (h7 : ∀ k y, x7 (ix3 0 k y) = d k y) :
    ∑ y : Fin 1024, (k0_pay19 hb x5 (ix2 q y) * Ideal.logistic (k0_pay19 hb x5 (ix2 q y)) * k0_pay20 hb x6 (ix2 q y)
        * gb (ix2 q (fine j ⟨y.val / 256, by omega⟩))) * x7 (ix3 0 y n)
      = ∑ y : Fin 1024, ((∑ k, hr k * u k y) * Ideal.logistic (∑ k, hr k * u k y) * (∑ k, hr k * v k y) * gt ⟨y.val / 256, by omega⟩) * d y n := by
  refine Finset.sum_congr rfl fun y _ => ?_
  rw [up_at, up_at', hg, h7]
  simp only [hh, h5, h6]

variable (T : Fin 32) (p : Fin 512) (b : Fin 4) (s : Fin 4096) (hbs : b.val * 4096 + s.val = T.val * 512 + p.val)

/-- The normalised row at a position. -/
def hRow (b : Fin 4) (s : Fin 4096) : Fin 1024 → EReal := normRow (xRow (arg0 m c) b s) (gRow (arg1 m c))

include hbs in
theorem x_at (k : Fin 1024) : xBlk m c T (ix2 p k) = arg0 m c (ix3 b s k) := by
  unfold xBlk
  rw [b0, v20_at]
  have := pt_div T 0
  congr 2
  · exact Fin.ext (by dsimp only; omega)
  · exact Fin.ext (by dsimp only; omega)

include hbs in
theorem rows_eq : (fun k => xBlk m c T (ix2 p k)) = xRow (arg0 m c) b s := funext fun k => x_at m c T p b s hbs k

theorem g_eq (t : Fin cfg0.N) : (fun k => (iblk m c 1 t : Vec Ideal S1x1024 .f32) (ix2 0 k)) = gRow (arg1 m c) :=
  funext fun k => by rw [b1, v11_at]; rfl

include hbs in
theorem hid3 (k : Fin 1024) : k0_pay3 (xBlk m c T) (iblk m c 1 (pt T 0)) (ix2 p k) = hRow m c b s k := by
  rw [hid_at, rows_eq m c T p b s hbs, g_eq]; rfl
include hbs in
theorem hid5 (k : Fin 1024) : hBlk m c T (ix2 p k) = hRow m c b s k := by
  show k0_pay5 (xBlk m c T) (iblk m c 1 (pt T 0)) (ix2 p k) = _
  rw [hid5_at, rows_eq m c T p b s hbs, g_eq]; rfl

variable {m c} in
theorem isReal_h (h : Reals m c) (b : Fin 4) (s : Fin 4096) (k : Fin 1024) : IsReal (hRow m c b s k) :=
  isReal_normRow (fun _ => h.x _) (fun _ => h.g _) k

/-- The logits at a row and lane, over any blocks whose entries are known. -/
theorem logits_of (x0 : Vec Ideal S512x1024 .f32) (x1 : Vec Ideal S1x1024 .f32) (x2 x3 : Vec Ideal S1024x128 .bf16) (x4 : Vec Ideal S1x128 .f32)
    (q : Fin 512) (hr : Fin 1024 → EReal) (wr : Fin 1024 → Fin 128 → EReal) (br : Fin 128 → EReal)
    (hh : ∀ k, k0_pay3 x0 x1 (ix2 q k) = hr k) (hreal : ∀ k, IsReal (hr k)) (h2 : ∀ k x, x2 (ix2 k x) = wr k x)
    (h3 : ∀ k x, x3 (ix2 k x) = 0) (h4 : ∀ x, x4 (ix2 0 x) = br x) (x : Fin 128) :
    logitsOf (F := Ideal) x0 x1 x2 x3 x4 (ix2 q x) = ∑ k, hr k * wr k x + br x := by
  rw [logits_at x0 x1 x2 x3 x4 q x (fun k => h3 k x) (fun k => by rw [hh]; exact hreal k), h4]
  congr 1
  exact Finset.sum_congr rfl fun k _ => by rw [hh, h2]

/-- The gates at a row, over any logits, the chosen group and experts being `G`, `I` and `K`. -/
theorem gate_of (l : Vec Ideal S512x128 .f32) (q : Fin 512) (cl : Fin 4 → EReal) (fl : Fin 4 → Fin 4 → EReal) (G I K : Fin 4)
    (hc : (fun a => l (ix2 q (coarse a))) = cl) (hf : (fun g e => l (ix2 q (fine g e))) = fl)
    (rc : ∀ a, IsReal (cl a)) (rf : ∀ g e, IsReal (fl g e)) (hG : IsFirst cl G) (hI : IsFirst (fl G) I) (hK : IsSecond (fl G) I K) (g e : Fin 4) :
    gateOf (F := Ideal) l (ix2 q (fine g e)) = gate cl fl G I K g e := by
  subst hc hf
  have e1 := first_maskC (L := fun x => l (ix2 q x)) (rc G).ne_bot hG
  have e2 := first_maskF (L := fun x => l (ix2 q x)) (rf G I).ne_bot hI
  have e3 := first_maskS (L := fun x => l (ix2 q x)) (rf G K).ne_bot hK
  have v2 : maskF (fun x => l (ix2 q x)) (((4 : ℝ) : EReal) + ((4 : ℝ) : EReal) * lane (coarse G)) (fine G I) = l (ix2 q (fine G I)) := by
    rw [maskF_eq, if_pos (by rw [fine_val]; omega)]
  have v3 : maskS (maskF (fun x => l (ix2 q x)) (((4 : ℝ) : EReal) + ((4 : ℝ) : EReal) * lane (coarse G))) (lane (fine G I)) (fine G K)
      = l (ix2 q (fine G K)) := by
    unfold maskS
    rw [if_neg (by rw [lane_inj, fine_inj]; exact fun h => hK.1 h.2), maskF_eq, if_pos (by rw [fine_val]; omega)]
  rw [Rows.gate_at l q (fine g e) e1 e2 v2 e3 v3]
  exact gateRow_eq (L := fun x => l (ix2 q x)) g e

/-- The router's logits block. -/
def lBlk : Vec Ideal S512x128 .f32 := logitsOf (xBlk m c T) (iblk m c 1 (pt T 0)) (iblk m c 2 (pt T 0)) (iblk m c 3 (pt T 0)) (iblk m c 4 (pt T 0))

include hbs in
theorem lBlk_at (h : Reals m c) (x : Fin 128) : lBlk m c T (ix2 p x) = ∑ k, hRow m c b s k * wrAt m c k x + brAt m c x :=
  logits_of (xBlk m c T) (iblk m c 1 (pt T 0)) (iblk m c 2 (pt T 0)) (iblk m c 3 (pt T 0)) (iblk m c 4 (pt T 0)) p (hRow m c b s)
    (wrAt m c) (brAt m c) (fun k => hid3 m c T p b s hbs k) (fun k => isReal_h h b s k) (fun k x => (b2 m c (pt T 0) k x).trans (v2_at m c k x))
    (fun k x => ((b3 m c (pt T 0) k x).trans (v5_at m c k x)).trans (isReal_wr h k x).sub_self) (fun x => (b4 m c (pt T 0) x).trans (v8_at m c x)) x

include hbs in
theorem l_coarse (h : Reals m c) : (fun a => lBlk m c T (ix2 p (coarse a))) = cLog (hRow m c b s) (arg2 m c) (arg3 m c) := by
  funext a
  rw [lBlk_at m c T p b s hbs h, br_coarse]
  unfold cLog
  congr 1
  exact Finset.sum_congr rfl fun k _ => by rw [wr_coarse]
include hbs in
theorem l_fine (h : Reals m c) : (fun g e => lBlk m c T (ix2 p (fine g e))) = fLog (hRow m c b s) (arg4 m c) (arg5 m c) := by
  funext g e
  rw [lBlk_at m c T p b s hbs h, br_fine]
  unfold fLog
  congr 1
  exact Finset.sum_congr rfl fun k _ => by rw [wr_fine]

variable (G I K : Fin 4)

include hbs in
/-- The gate block at a row, the chosen group and experts being `G`, `I` and `K`. -/
theorem gBlk_at (h : Reals m c) (hG : IsFirst (cLog (hRow m c b s) (arg2 m c) (arg3 m c)) G)
    (hI : IsFirst (fLog (hRow m c b s) (arg4 m c) (arg5 m c) G) I) (hK : IsSecond (fLog (hRow m c b s) (arg4 m c) (arg5 m c) G) I K) (g e : Fin 4) :
    gBlk m c T (ix2 p (fine g e)) = gate (cLog (hRow m c b s) (arg2 m c) (arg3 m c)) (fLog (hRow m c b s) (arg4 m c) (arg5 m c)) G I K g e  :=
  gate_of (lBlk m c T) p _ _ G I K (l_coarse m c T p b s hbs h) (l_fine m c T p b s hbs h)
    (Cert.ReferenceIdeal.Rows.isReal_cLog (isReal_h h b s) h.wc h.bc) (Cert.ReferenceIdeal.Rows.isReal_fLog (isReal_h h b s) h.wf h.bf) hG hI hK g e

include hbs in
/-- The kernel's array at a place. -/
theorem kernel_row (h : Reals m c) (hG : IsFirst (cLog (hRow m c b s) (arg2 m c) (arg3 m c)) G)
    (hI : IsFirst (fLog (hRow m c b s) (arg4 m c) (arg5 m c) G) I) (hK : IsSecond (fLog (hRow m c b s) (arg4 m c) (arg5 m c) G) I K)
    (n : Fin 1024) (r : Fin 16384) (hr : r.val = T.val * 512 + p.val) :
    (Value.G8 m c : Vec Ideal S16384x1024 .f32) (ix2 r n)
      = rowOut (arg0 m c) (hRow m c b s) (arg6 m c) (arg7 m c) (arg8 m c)
          (gate (cLog (hRow m c b s) (arg2 m c) (arg3 m c)) (fLog (hRow m c b s) (arg4 m c) (arg5 m c)) G I K) b s n := by
  rw [G8_at m c T p n r hr, out_at, x_at m c T p b s hbs]
  unfold rowOut
  refine congrArg (fun z : EReal => (arg0 m c (ix3 b s n) : EReal) + z) (Finset.sum_congr rfl fun j _ => ?_)
  have hj : (⟨(pt T j).val % 4, by omega⟩ : Fin 4) = j := Fin.ext (pt_mod T j)
  have w5 : ∀ k y : Fin 1024, (iblk m c 5 (pt T j) : Vec Ideal S1x1024x1024 .bf16) (ix3 0 k y)
      = arg6 m c (ix3 ⟨j.val * 4 + y.val / 256, by omega⟩ k ⟨y.val % 256, by omega⟩) := fun k y => by rw [b5, hj, v15_at]
  have w6 : ∀ k y : Fin 1024, (iblk m c 6 (pt T j) : Vec Ideal S1x1024x1024 .bf16) (ix3 0 k y)
      = arg7 m c (ix3 ⟨j.val * 4 + y.val / 256, by omega⟩ k ⟨y.val % 256, by omega⟩) := fun k y => by rw [b6, hj, v19_at]
  have w7 : ∀ y n : Fin 1024, (iblk m c 7 (pt T j) : Vec Ideal S1x1024x1024 .bf16) (ix3 0 y n)
      = arg8 m c (ix3 ⟨j.val * 4 + y.val / 256, by omega⟩ ⟨y.val % 256, by omega⟩ n) := fun y n => by rw [b7, hj, v10_at]
  have e := contrib_of (hBlk m c T) (gBlk m c T) (iblk m c 5 (pt T j)) (iblk m c 6 (pt T j)) (iblk m c 7 (pt T j)) p n j (hRow m c b s)
    (gate (cLog (hRow m c b s) (arg2 m c) (arg3 m c)) (fLog (hRow m c b s) (arg4 m c) (arg5 m c)) G I K j)
    (fun k y => arg6 m c (ix3 ⟨j.val * 4 + y.val / 256, by omega⟩ k ⟨y.val % 256, by omega⟩))
    (fun k y => arg7 m c (ix3 ⟨j.val * 4 + y.val / 256, by omega⟩ k ⟨y.val % 256, by omega⟩))
    (fun y n => arg8 m c (ix3 ⟨j.val * 4 + y.val / 256, by omega⟩ ⟨y.val % 256, by omega⟩ n))
    (fun k => hid5 m c T p b s hbs k) (fun e => gBlk_at m c T p b s hbs G I K h hG hI hK j e) w5 w6 w7
  unfold contrib
  exact e

end Cert.KernelIdeal.Result

end
-- ==== Proof.Finite.lean ====
module

public import proofs.«01_k».proof.Defs
public import proofs.«01_k».proof.Proof.Reals
public import Idealize.ShloMosaic.Lib.ReduceAll
public import Idealize.ShloMosaic.Lib.Pointwise

/-! The precondition: what it says of the six arrays the router reads. -/

@[expose] public section

set_option maxRecDepth 16384

noncomputable section

namespace Cert.Pre_router_finite

open Idealize.ShloMosaic Router

/-- The side conditions the predicate takes. -/
theorem sides : Facts where
  bcast_S_S4x4096x1024 := by decide
  reducesTo_S4x4096x1024_S_d0_1_2 := by decide
  h_S_ := by decide
  bcast_S_S1024 := by decide
  reducesTo_S1024_S_d0 := by decide
  bcast_S_S1024x4 := by decide
  reducesTo_S1024x4_S_d0_1 := by decide
  bcast_S_S4 := by decide
  reducesTo_S4_S_d0 := by decide
  bcast_S_S1024x16 := by decide
  reducesTo_S1024x16_S_d0_1 := by decide
  bcast_S_S16 := by decide
  reducesTo_S16_S_d0 := by decide

theorem and_one (a b : BitVec 1) (h : IntOp.andi a b = 1#1) : a = 1#1 ∧ b = 1#1 := by
  revert a b; decide

/-- A value below infinity in size is a real number. -/
theorem isReal_of_lt (v : EReal) (h : Ideal.cmp .olt (max v (-v)) (Ideal.ofBits .f32 0x7F800000#32) = 1#1) : IsReal v := by
  rw [bits_top] at h
  have hlt : max v (-v) < ⊤ := by
    by_contra hc
    have : Ideal.cmp .olt (max v (-v)) ⊤ = 0#1 := by
      show BitVec.ofBool (decide (max v (-v) < ⊤)) = 0#1
      rw [decide_eq_false hc]; rfl
    rw [this] at h; exact absurd h (by decide)
  have h1 := (max_lt_iff.1 hlt)
  refine isReal_of_ne h1.1.ne ?_
  rintro rfl
  exact absurd h1.2 (by simp)

/-- One array's part of the predicate. -/
theorem array_real {S : Shape} {axes : List (Fin S.rank)} [Facts] (x : FVec Ideal S .f32) (hb : S_.BroadcastsInDim S (![] : Fin 0 → Fin S.rank))
    (hr : S.ReducesTo axes S_) (hu : 0 < S_.numel) (j : S_.Idx)
    (e : Host.reduce IntOp.andi (cmpf .olt (Host.absf x) (broadcastInDim S ![] hb (constant S_ .f32 0x7F800000#32))) (constantI S_ 1 1#1) hr hu j = 1#1)
    (i : S.Idx) : IsReal (x i) :=
  isReal_of_lt _ (Host.reduce_andi_all _ _ hr hu j e i)

theorem reals [Facts] (x0 : FVec Ideal S4x4096x1024 .f32) (x1 : FVec Ideal S1024 .f32) (x2 : FVec Ideal S1024x4 .f32) (x3 : FVec Ideal S4 .f32)
    (x4 : FVec Ideal S1024x16 .f32) (x5 : FVec Ideal S16 .f32) (x6 x7 : FVec Ideal S16x1024x256 .f32) (x8 : FVec Ideal S16x256x1024 .f32)
    (j : S_.Idx) (e : fn (F := Ideal) x0 x1 x2 x3 x4 x5 x6 x7 x8 j = 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have e5 := and_one _ _ e
  have e4 := and_one _ _ e5.1
  have e3 := and_one _ _ e4.1
  have e2 := and_one _ _ e3.1
  have e1 := and_one _ _ e2.1
  exact ⟨array_real x0 _ _ _ j e1.1, array_real x1 _ _ _ j e1.2, array_real x2 _ _ _ j e2.2, array_real x3 _ _ _ j e3.2,
    array_real x4 _ _ _ j e4.2, array_real x5 _ _ _ j e5.2⟩

end Cert.Pre_router_finite

end
-- ==== Proof.Heads.lean ====
module

public import proofs.«01_k».proof.Proof.Reals
public import Mathlib.Algebra.BigOperators.Fin

/-! Sums over a head's 64 columns, written as two products with the matrix that says which column belongs to which head. -/

@[expose] public section

set_option maxRecDepth 16384

noncomputable section

namespace Heads

open Idealize.ShloMosaic Router

/-- The column `e` of head `h`. -/
abbrev col (h : Fin 16) (e : Fin 64) : Fin 1024 := ⟨h.val * 64 + e.val, by omega⟩
/-- The head of a column. -/
abbrev headOf (j : Fin 1024) : Fin 16 := ⟨j.val / 64, by omega⟩
/-- The sum of a row over one head's columns. -/
def headSum (z : Fin 1024 → EReal) (h : Fin 16) : EReal := ∑ e : Fin 64, z (col h e)
/-- Whether a column belongs to the head that a lane stands for, as a number. -/
def ind (j : Fin 1024) (x : Fin 128) : EReal := if j.val / 64 = x.val then 1 else 0
/-- The sums over heads, by lane: the lanes past the sixteenth hold 0. -/
def laneSum (z : Fin 1024 → EReal) (x : Fin 128) : EReal := if h : x.val < 16 then headSum z ⟨x.val, h⟩ else 0

theorem headSum_eq (z : Fin 1024 → EReal) (h : Fin 16) : headSum z h = ∑ j : Fin 1024, if j.val / 64 = h.val then z j else 0 := by
  unfold headSum
  rw [← Finset.sum_filter]
  refine Finset.sum_bij (fun e _ => col h e) ?_ ?_ ?_ ?_
  · intro e _; simp only [Finset.mem_filter, Finset.mem_univ, true_and]; show (h.val * 64 + e.val) / 64 = h.val; omega
  · intro a _ b _ hab
    have := congrArg Fin.val hab
    exact Fin.ext (by dsimp only at this; omega)
  · intro j hj
    have hj' := (Finset.mem_filter.1 hj).2
    exact ⟨⟨j.val % 64, by omega⟩, Finset.mem_univ _, Fin.ext (by dsimp only; omega)⟩
  · intro e _; rfl

theorem sum_in (z : Fin 1024 → EReal) (x : Fin 128) : ∑ j, z j * ind j x = laneSum z x := by
  unfold laneSum ind
  simp only [mul_ite, mul_one, mul_zero]
  split
  · rename_i h
    rw [headSum_eq]
  · rename_i h
    refine Finset.sum_eq_zero fun j _ => if_neg ?_
    omega

theorem sum_out (w : Fin 128 → EReal) (j : Fin 1024) : ∑ x, w x * ind j x = w ⟨j.val / 64, by omega⟩ := by
  unfold ind
  simp only [mul_ite, mul_one, mul_zero]
  rw [Finset.sum_eq_single (⟨j.val / 64, by omega⟩ : Fin 128)]
  · rw [if_pos rfl]
  · intro x _ hx
    refine if_neg fun h => hx (Fin.ext h.symm)
  · intro h; exact absurd (Finset.mem_univ _) h

theorem laneSum_head (z : Fin 1024 → EReal) (j : Fin 1024) : laneSum z ⟨j.val / 64, by omega⟩ = headSum z (headOf j) :=
  dif_pos (by show j.val / 64 < 16; omega)

theorem isReal_zero : IsReal 0 := ⟨0, EReal.coe_zero.symm⟩

theorem isReal_headSum {z : Fin 1024 → EReal} (hz : ∀ j, IsReal (z j)) (h : Fin 16) : IsReal (headSum z h) :=
  IsReal.sum fun _ => hz _

theorem isReal_laneSum {z : Fin 1024 → EReal} (hz : ∀ j, IsReal (z j)) (x : Fin 128) : IsReal (laneSum z x) := by
  unfold laneSum; split
  · exact isReal_headSum hz _
  · exact isReal_zero

theorem IsReal.subR {x y : EReal} (hx : IsReal x) (hy : IsReal y) : IsReal (x - y) := by
  obtain ⟨a, rfl⟩ := hx; obtain ⟨b, rfl⟩ := hy; exact ⟨a - b, (EReal.coe_sub a b).symm⟩

/-- The iota's head: dividing a column's number by 64, rounding down, as the host code does it on words. -/
theorem eq_word (a b : ℕ) (ha : a < 1024) (hb : b < 1024) : (BitVec.ofNat 32 a = BitVec.ofNat 32 b) ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The host's floor division of a column's number by 64. -/
theorem floor_word : ∀ j : Fin 1024, Scalar.select (IntOp.andi
      (IntOp.cmpi CmpIPredicate.ne (if BitVec.ofNat 32 j.val = 0 then (0 : BitVec 32) else if (BitVec.ofNat 32 j.val).msb = true then -1 else 1)
        (if 64#32 = 0 then (0 : BitVec 32) else if BitVec.msb 64#32 = true then -1 else 1))
      (IntOp.cmpi CmpIPredicate.ne (IntOp.remsi ArithUnit.host (BitVec.ofNat 32 j.val) 64#32) 0#32))
    (IntOp.subi (IntOp.divsi ArithUnit.host (BitVec.ofNat 32 j.val) 64#32) 1#32) (IntOp.divsi ArithUnit.host (BitVec.ofNat 32 j.val) 64#32)
    = BitVec.ofNat 32 (j.val / 64) := by decide +kernel

/-- Whether two words are one, as a number. -/
theorem ind_word (j : Fin 1024) (x : Fin 128) :
    FloatOps.uitofp (F := Ideal) FTy.bf16 (IntOp.cmpi CmpIPredicate.eq (BitVec.ofNat 32 (j.val / 64)) (BitVec.ofNat 32 x.val)) = ind j x := by
  have h := eq_word (j.val / 64) x.val (by omega) (by omega)
  unfold ind
  by_cases e : j.val / 64 = x.val
  · rw [if_pos e, h.2 e]
    have : IntOp.cmpi CmpIPredicate.eq (BitVec.ofNat 32 x.val) (BitVec.ofNat 32 x.val) = 1#1 := by simp [IntOp.cmpi]
    rw [this]
    show (((1#1 : BitVec 1).toNat : ℝ) : EReal) = 1
    norm_num
  · rw [if_neg e]
    have : IntOp.cmpi CmpIPredicate.eq (BitVec.ofNat 32 (j.val / 64)) (BitVec.ofNat 32 x.val) = 0#1 := by
      have hne : ¬ BitVec.ofNat 32 (j.val / 64) = BitVec.ofNat 32 x.val := fun q => e (h.1 q)
      simp only [IntOp.cmpi, beq_eq_false_iff_ne.2 hne, decide_eq_false hne]; first | rfl | simp [hne]
    rw [this]
    show (((0#1 : BitVec 1).toNat : ℝ) : EReal) = 0
    norm_num

end Heads

end
-- ==== Proof.PostRows.lean ====
module

public import proofs.«01_k».proof.Proof.Heads
public import proofs.«01_k».proof.Proof.Gen.Kernel3Ideal.Skeleton
public import Idealize.ShloMosaic.Lib.Pointwise

/-! The second kernel of the recurrence (its norm over heads, its bonus, its gate and its output projection): the payloads at an index. -/

@[expose] public section

set_option maxRecDepth 16384

noncomputable section

namespace Cert.Kernel3Ideal.Rows

open Cert.Kernel3Ideal Cert.Kernel3Ideal.Gen Router Heads
open Idealize.ShloMosaic Idealize.ShloMosaic.TcCoe Idealize.SL.Sem

/-- A row less its head's mean. -/
def cntr (o : Fin 1024 → EReal) (j : Fin 1024) : EReal := o j - headSum o (headOf j) * Ideal.ofBits .f32 0x3C800000#32
/-- The row normalised over its head, with gain and bias. -/
def gnRow (o w b : Fin 1024 → EReal) (j : Fin 1024) : EReal :=
  cntr o j * Ideal.rsqrt (headSum (fun j => cntr o j * cntr o j) (headOf j) * Ideal.ofBits .f32 0x3C800000#32 + Ideal.ofBits .f32 0x3A27C5AC#32) * w j + b j
/-- The row that the output projection takes. -/
def outRow (o r k v g w b rk : Fin 1024 → EReal) (j : Fin 1024) : EReal :=
  (gnRow o w b j + headSum (fun j => r j * k j * rk j) (headOf j) * v j) * g j

theorem bits_64inv : Ideal.ofBits .f32 0x3C800000#32 = ((64⁻¹ : ℝ) : EReal) := by
  simp [Ideal.ofBits, Ideal.ieee, -EReal.coe_mul]; norm_num

theorem isReal_cntr {o : Fin 1024 → EReal} (ho : ∀ j, IsReal (o j)) (j : Fin 1024) : IsReal (cntr o j) :=
  IsReal.subR (ho j) (IsReal.mul (isReal_headSum ho _) ⟨_, bits_64inv⟩)

variable {hs : Vec Ideal S1024x128 .bf16} {he : Vec Ideal S128x1024 .bf16}
  (hhs : ∀ j x, hs (ix2 j x) = ind j x) (hhe : ∀ x j, he (ix2 x j) = ind j x)
include hhs hhe

theorem pay4_at (o : Vec Ideal S256x1024 .f32) (p : Fin 256) (ho : ∀ j, IsReal (o (ix2 p j))) (j : Fin 1024) :
    k0_pay4 hs he o (ix2 p j) = cntr (fun j => o (ix2 p j)) j := by
  have h0 : ∀ j, o (ix2 p j) - o (ix2 p j) = (0 : EReal) := fun j => (ho j).sub_self
  have h1 : ∀ x, laneSum (fun j => o (ix2 p j)) x - laneSum (fun j => o (ix2 p j)) x = 0 := fun x => (isReal_laneSum ho x).sub_self
  have h2 := sum_in (fun j => o (ix2 p j))
  have h3 := sum_out (laneSum (fun j => o (ix2 p j)))
  pointwise [k0_pay4, k0_pay2, k0_pay3]
  simp only [hhs, hhe, h0, h2, sub_zero, zero_mul, Finset.sum_const_zero, add_zero, h1, h3, laneSum_head]
  rfl

theorem pay5_at (o : Vec Ideal S256x1024 .f32) (p : Fin 256) (ho : ∀ j, IsReal (o (ix2 p j))) (j : Fin 1024) :
    k0_pay5 hs he o (ix2 p j) = cntr (fun j => o (ix2 p j)) j * cntr (fun j => o (ix2 p j)) j := by
  have h := pay4_at hhs hhe o p ho j
  unfold k0_pay5
  pointwise []
  rw [h]

theorem isReal_pay5 (o : Vec Ideal S256x1024 .f32) (p : Fin 256) (ho : ∀ j, IsReal (o (ix2 p j))) (j : Fin 1024) :
    IsReal (k0_pay5 hs he o (ix2 p j)) := by
  rw [pay5_at hhs hhe o p ho j]
  exact IsReal.mul (isReal_cntr ho j) (isReal_cntr ho j)

theorem pay8_at (o : Vec Ideal S256x1024 .f32) (p : Fin 256) (ho : ∀ j, IsReal (o (ix2 p j))) (j : Fin 1024) :
    k0_pay8 hs he o (ix2 p j) = (0 : EReal) := by
  have h := (isReal_pay5 hhs hhe o p ho j).sub_self
  unfold k0_pay8 k0_pay7 k0_pay6
  generalize k0_pay5 hs he o = d at *
  pointwise []
  exact h

theorem pay9_at (o : Vec Ideal S256x1024 .f32) (p : Fin 256) (ho : ∀ j, IsReal (o (ix2 p j))) (j : Fin 1024) :
    k0_pay9 hs he o (ix2 p j) = (0 : EReal) := by
  have h := (isReal_pay5 hhs hhe o p ho j).sub_self
  unfold k0_pay9 k0_pay8 k0_pay7 k0_pay6
  generalize k0_pay5 hs he o = d at *
  pointwise []
  rw [h, sub_zero]

theorem pay10_at (o : Vec Ideal S256x1024 .f32) (p : Fin 256) (ho : ∀ j, IsReal (o (ix2 p j))) (x : Fin 128) :
    k0_pay10 hs he o (ix2 p x) = laneSum (fun j => cntr (fun j => o (ix2 p j)) j * cntr (fun j => o (ix2 p j)) j) x := by
  have h := fun j => pay5_at hhs hhe o p ho j
  have h2 := sum_in (fun j => cntr (fun j => o (ix2 p j)) j * cntr (fun j => o (ix2 p j)) j)
  unfold k0_pay10 k0_pay6
  generalize k0_pay5 hs he o = d at *
  pointwise [k0_pay2]
  simp only [hhs, h, h2]

theorem pay11_at (d : FVec Ideal S256x1024 .f32) (s1 s2 : FVec Ideal S256x1024 .bf16) (s0 : FVec Ideal S256x128 .f32)
    (w b : Vec Ideal S1x1024 .f32) (p : Fin 256) (q : Fin 1024 → EReal) (hq : ∀ j, IsReal (q j))
    (h1 : ∀ j, s1 (ix2 p j) = (0 : EReal)) (h2 : ∀ j, s2 (ix2 p j) = (0 : EReal)) (h0 : ∀ x, s0 (ix2 p x) = laneSum q x) (j : Fin 1024) :
    k0_pay11 hs he d s1 s2 s0 (constant (F := Ideal) S256x128 .f32 0x00000000#32) w b (ix2 p j)
      = d (ix2 p j) * Ideal.rsqrt (headSum q (headOf j) * Ideal.ofBits .f32 0x3C800000#32 + Ideal.ofBits .f32 0x3A27C5AC#32) * w (ix2 0 j) + b (ix2 0 j) := by
  have e1 : ∀ x, laneSum q x - laneSum q x = 0 := fun x => (isReal_laneSum hq x).sub_self
  have e3 := sum_out (laneSum q)
  pointwise [k0_pay11]
  simp only [hhs, hhe, h0, h1, h2, sub_zero, zero_mul, Finset.sum_const_zero, add_zero, e1, e3, laneSum_head]

theorem pay1_at (v on : FVec Ideal S256x1024 .f32) (q0 q1 q2 : FVec Ideal S256x1024 .bf16) (g x : Vec Ideal S256x1024 .f32)
    (wo : Vec Ideal S1024x1024 .bf16) (p : Fin 256) (q : Fin 1024 → EReal) (hq : ∀ j, IsReal (q j))
    (h0 : ∀ j, q0 (ix2 p j) = q j) (h1 : ∀ j, q1 (ix2 p j) = (0 : EReal)) (h2 : ∀ j, q2 (ix2 p j) = (0 : EReal)) (n : Fin 1024) :
    k0_pay1 hs he v on q0 q1 q2 g x wo (ix2 p n)
      = x (ix2 p n) + ∑ j : Fin 1024, (on (ix2 p j) + headSum q (headOf j) * v (ix2 p j)) * g (ix2 p j) * wo (ix2 j n) := by
  have e1 : ∀ x, laneSum q x - laneSum q x = 0 := fun x => (isReal_laneSum hq x).sub_self
  have e2 := sum_in q
  have e3 := sum_out (laneSum q)
  pointwise [k0_pay1]
  simp only [hhs, hhe, h0, h1, h2, sub_zero, zero_mul, Finset.sum_const_zero, add_zero, e1, e2, e3, laneSum_head]

omit hhs hhe in
theorem pay13_at (r k : Vec Ideal S256x1024 .f32) (w : Vec Ideal S1x1024 .f32) (p : Fin 256) (j : Fin 1024) :
    k0_pay13 r k w (ix2 p j) = r (ix2 p j) * k (ix2 p j) * w (ix2 0 j) := by
  pointwise [k0_pay13, k0_pay12]

omit hhs hhe in
theorem pay15_at (r k : Vec Ideal S256x1024 .f32) (w : Vec Ideal S1x1024 .f32) (p : Fin 256) (j : Fin 1024)
    (h : IsReal (r (ix2 p j) * k (ix2 p j) * w (ix2 0 j))) : k0_pay15 r k w (ix2 p j) = (0 : EReal) := by
  have h := h.sub_self
  pointwise [k0_pay15, k0_pay14, k0_pay13, k0_pay12]
  exact h

omit hhs hhe in
theorem pay16_at (r k : Vec Ideal S256x1024 .f32) (w : Vec Ideal S1x1024 .f32) (p : Fin 256) (j : Fin 1024)
    (h : IsReal (r (ix2 p j) * k (ix2 p j) * w (ix2 0 j))) : k0_pay16 r k w (ix2 p j) = (0 : EReal) := by
  have h := h.sub_self
  pointwise [k0_pay16, k0_pay15, k0_pay14, k0_pay13, k0_pay12]
  rw [h, sub_zero]

/-- What the body writes, row by row. -/
theorem body_at (o r k v g x : Vec Ideal S256x1024 .f32) (w b rk : Vec Ideal S1x1024 .f32) (wo : Vec Ideal S1024x1024 .bf16) (p : Fin 256)
    (ho : ∀ j, IsReal (o (ix2 p j))) (hr : ∀ j, IsReal (r (ix2 p j))) (hk : ∀ j, IsReal (k (ix2 p j))) (hw : ∀ j, IsReal (rk (ix2 0 j)))
    (n : Fin 1024) :
    k0_pay1 (k0_pay2 hs) (k0_pay3 he) v (k0_pay11 (k0_pay2 hs) (k0_pay3 he) (k0_pay4 hs he o) (k0_pay8 hs he o) (k0_pay9 hs he o) (k0_pay10 hs he o)
      (constant (F := Ideal) S256x128 .f32 0x00000000#32) w b) (k0_pay13 r k rk) (k0_pay15 r k rk) (k0_pay16 r k rk) g x wo (ix2 p n)
      = x (ix2 p n) + ∑ j : Fin 1024, outRow (fun j => o (ix2 p j)) (fun j => r (ix2 p j)) (fun j => k (ix2 p j)) (fun j => v (ix2 p j))
          (fun j => g (ix2 p j)) (fun j => w (ix2 0 j)) (fun j => b (ix2 0 j)) (fun j => rk (ix2 0 j)) j * wo (ix2 j n) := by
  have hs2 : ∀ j x, k0_pay2 hs (ix2 j x) = ind j x := fun j x => (show k0_pay2 hs (ix2 j x) = hs (ix2 j x) by pointwise [k0_pay2]).trans (hhs j x)
  have he2 : ∀ x j, k0_pay3 he (ix2 x j) = ind j x := fun x j => (show k0_pay3 he (ix2 x j) = he (ix2 x j) by pointwise [k0_pay3]).trans (hhe x j)
  have hq : ∀ j, IsReal (r (ix2 p j) * k (ix2 p j) * rk (ix2 0 j)) := fun j => IsReal.mul (IsReal.mul (hr j) (hk j)) (hw j)
  refine (pay1_at hs2 he2 v _ _ _ _ g x wo p (fun j => r (ix2 p j) * k (ix2 p j) * rk (ix2 0 j)) hq (fun j => pay13_at r k rk p j)
    (fun j => pay15_at r k rk p j (hq j)) (fun j => pay16_at r k rk p j (hq j)) n).trans ?_
  refine congrArg (fun z : EReal => x (ix2 p n) + z) (Finset.sum_congr rfl fun j _ => ?_)
  refine congrArg (fun z : EReal => (z + headSum (fun j => r (ix2 p j) * k (ix2 p j) * rk (ix2 0 j)) (headOf j) * v (ix2 p j)) * g (ix2 p j) * wo (ix2 j n)) ?_
  refine (pay11_at hs2 he2 _ _ _ _ w b p (fun j => cntr (fun j => o (ix2 p j)) j * cntr (fun j => o (ix2 p j)) j)
    (fun j => IsReal.mul (isReal_cntr ho j) (isReal_cntr ho j)) (fun j => pay8_at hhs hhe o p ho j) (fun j => pay9_at hhs hhe o p ho j)
    (fun x => pay10_at hhs hhe o p ho x) j).trans ?_
  rw [pay4_at hhs hhe o p ho j]
  rfl

end Cert.Kernel3Ideal.Rows

end
-- ==== Proof.PostBlocks.lean ====
module

public import proofs.«01_k».proof.Proof.PostRows
public import proofs.«01_k».proof.Proof.Gen.Kernel3Ideal.Value
public import Idealize.ShloMosaic.Lib.StableHlo.ReadAt
public import Idealize.ShloMosaic.Lib.Pipeline.ValueKit

/-! The second kernel of the recurrence: what its windows hold at a grid point, and the array it leaves. -/

@[expose] public section

set_option maxRecDepth 16384

noncomputable section

namespace Cert.Kernel3Ideal.Blocks

open Cert.Kernel3Ideal Cert.Kernel3Ideal.Gen Cert.Kernel3Ideal.Rows Router Heads
open Idealize.ShloMosaic Idealize.ShloMosaic.TcCoe Idealize.SL.Sem

variable (m : (ℓ : Loc nD τ sig) → Buf (Elt Ideal) ℓ) (c : Dev nD)

/-- The arguments as arrays. -/
abbrev arg0 : Vec Ideal S16384x1024 .f32 := m ((c.tc : Thread nD τ).loc main_arg0)
abbrev arg1 : Vec Ideal S16384x1024 .f32 := m ((c.tc : Thread nD τ).loc main_arg1)
abbrev arg2 : Vec Ideal S16384x1024 .f32 := m ((c.tc : Thread nD τ).loc main_arg2)
abbrev arg3 : Vec Ideal S16384x1024 .f32 := m ((c.tc : Thread nD τ).loc main_arg3)
abbrev arg4 : Vec Ideal S16384x1024 .f32 := m ((c.tc : Thread nD τ).loc main_arg4)
abbrev arg5 : Vec Ideal S16384x1024 .f32 := m ((c.tc : Thread nD τ).loc main_arg5)
abbrev arg6 : Vec Ideal S1024 .f32 := m ((c.tc : Thread nD τ).loc main_arg6)
abbrev arg7 : Vec Ideal S1024 .f32 := m ((c.tc : Thread nD τ).loc main_arg7)
abbrev arg8 : Vec Ideal S16x64 .f32 := m ((c.tc : Thread nD τ).loc main_arg8)
abbrev arg9 : Vec Ideal S1024x1024 .f32 := m ((c.tc : Thread nD τ).loc main_arg9)

theorem v6_at (j : Fin 1024) : (V m c main_v6 : Vec Ideal S1x1024 .f32) (ix2 0 j) = arg6 m c (ix1 j) := by
  unfold V
  after_reads_at
theorem v7_at (j : Fin 1024) : (V m c main_v7 : Vec Ideal S1x1024 .f32) (ix2 0 j) = arg7 m c (ix1 j) := by
  unfold V
  after_reads_at
theorem v8_at (j : Fin 1024) : (V m c main_v8 : Vec Ideal S1x1024 .f32) (ix2 0 j) = arg8 m c (ix2 (headOf j) ⟨j.val % 64, by omega⟩) := by
  unfold V
  after_reads_at
theorem v9_at (j n : Fin 1024) : (V m c main_v9 : Vec Ideal S1024x1024 .bf16) (ix2 j n) = arg9 m c (ix2 j n) := by
  unfold V
  after_reads_at
theorem args_at : (V m c main_arg0 : Vec Ideal S16384x1024 .f32) = arg0 m c ∧ (V m c main_arg1 : Vec Ideal S16384x1024 .f32) = arg1 m c
    ∧ (V m c main_arg2 : Vec Ideal S16384x1024 .f32) = arg2 m c ∧ (V m c main_arg3 : Vec Ideal S16384x1024 .f32) = arg3 m c
    ∧ (V m c main_arg4 : Vec Ideal S16384x1024 .f32) = arg4 m c ∧ (V m c main_arg5 : Vec Ideal S16384x1024 .f32) = arg5 m c :=
  ⟨rfl, rfl, rfl, rfl, rfl, rfl⟩
theorem v4_at (j : Fin 1024) (x : Fin 128) : (V m c main_v4 : Vec Ideal S1024x128 .bf16) (ix2 j x) = ind j x := by
  unfold V
  after_reads_at
  exact (congrArg (fun w => FloatOps.uitofp (F := Ideal) FTy.bf16 (IntOp.cmpi CmpIPredicate.eq w (BitVec.ofNat 32 x.val))) (floor_word j)).trans (ind_word j x)
theorem v5_at (j : Fin 1024) (x : Fin 128) : (V m c main_v5 : Vec Ideal S128x1024 .bf16) (ix2 x j) = ind j x := by
  refine Eq.trans ?_ (v4_at m c j x)
  unfold V
  after_reads_at

/-- Where each window's block lies at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] := by decide +kernel

variable (t : Fin cfg0.N)

/-- The row of the arrays that row `p` of point `t` is. -/
abbrev row (p : Fin 256) : Fin 16384 := ⟨t.val * 256 + p.val, by have := t.isLt; have : cfg0.N = 64 := rfl; omega⟩

theorem b0 (p : Fin 256) (k : Fin 1024) : (iblk m c 0 t : Vec Ideal S256x1024 .f32) (ix2 p k) = arg0 m c (ix2 (row t p) k) := by
  refine Eq.trans (?_ : _ = (V m c main_arg0 : Vec Ideal S16384x1024 .f32) (ix2 (row t p) k)) rfl
  have h := idx t
  blk_ext [iblk, h]
theorem b1 (p : Fin 256) (k : Fin 1024) : (iblk m c 1 t : Vec Ideal S256x1024 .f32) (ix2 p k) = arg1 m c (ix2 (row t p) k) := by
  refine Eq.trans (?_ : _ = (V m c main_arg1 : Vec Ideal S16384x1024 .f32) (ix2 (row t p) k)) rfl
  have h := idx t
  blk_ext [iblk, h]
theorem b2 (p : Fin 256) (k : Fin 1024) : (iblk m c 2 t : Vec Ideal S256x1024 .f32) (ix2 p k) = arg2 m c (ix2 (row t p) k) := by
  refine Eq.trans (?_ : _ = (V m c main_arg2 : Vec Ideal S16384x1024 .f32) (ix2 (row t p) k)) rfl
  have h := idx t
  blk_ext [iblk, h]
theorem b3 (p : Fin 256) (k : Fin 1024) : (iblk m c 3 t : Vec Ideal S256x1024 .f32) (ix2 p k) = arg3 m c (ix2 (row t p) k) := by
  refine Eq.trans (?_ : _ = (V m c main_arg3 : Vec Ideal S16384x1024 .f32) (ix2 (row t p) k)) rfl
  have h := idx t
  blk_ext [iblk, h]
theorem b4 (p : Fin 256) (k : Fin 1024) : (iblk m c 4 t : Vec Ideal S256x1024 .f32) (ix2 p k) = arg4 m c (ix2 (row t p) k) := by
  refine Eq.trans (?_ : _ = (V m c main_arg4 : Vec Ideal S16384x1024 .f32) (ix2 (row t p) k)) rfl
  have h := idx t
  blk_ext [iblk, h]
theorem b5 (p : Fin 256) (k : Fin 1024) : (iblk m c 5 t : Vec Ideal S256x1024 .f32) (ix2 p k) = arg5 m c (ix2 (row t p) k) := by
  refine Eq.trans (?_ : _ = (V m c main_arg5 : Vec Ideal S16384x1024 .f32) (ix2 (row t p) k)) rfl
  have h := idx t
  blk_ext [iblk, h]
theorem b6 (j : Fin 1024) : (iblk m c 6 t : Vec Ideal S1x1024 .f32) (ix2 0 j) = arg6 m c (ix1 j) := by
  refine Eq.trans (?_ : _ = (V m c main_v6 : Vec Ideal S1x1024 .f32) (ix2 0 j)) (v6_at m c j)
  have h := idx t
  blk_ext [iblk, h]
theorem b7 (j : Fin 1024) : (iblk m c 7 t : Vec Ideal S1x1024 .f32) (ix2 0 j) = arg7 m c (ix1 j) := by
  refine Eq.trans (?_ : _ = (V m c main_v7 : Vec Ideal S1x1024 .f32) (ix2 0 j)) (v7_at m c j)
  have h := idx t
  blk_ext [iblk, h]
theorem b8 (j : Fin 1024) : (iblk m c 8 t : Vec Ideal S1x1024 .f32) (ix2 0 j) = arg8 m c (ix2 (headOf j) ⟨j.val % 64, by omega⟩) := by
  refine Eq.trans (?_ : _ = (V m c main_v8 : Vec Ideal S1x1024 .f32) (ix2 0 j)) (v8_at m c j)
  have h := idx t
  blk_ext [iblk, h]
theorem b9 (j : Fin 1024) (x : Fin 128) : (iblk m c 9 t : Vec Ideal S1024x128 .bf16) (ix2 j x) = ind j x := by
  refine Eq.trans (?_ : _ = (V m c main_v4 : Vec Ideal S1024x128 .bf16) (ix2 j x)) (v4_at m c j x)
  have h := idx t
  blk_ext [iblk, h]
theorem b10 (x : Fin 128) (j : Fin 1024) : (iblk m c 10 t : Vec Ideal S128x1024 .bf16) (ix2 x j) = ind j x := by
  refine Eq.trans (?_ : _ = (V m c main_v5 : Vec Ideal S128x1024 .bf16) (ix2 x j)) (v5_at m c j x)
  have h := idx t
  blk_ext [iblk, h]
theorem b11 (j n : Fin 1024) : (iblk m c 11 t : Vec Ideal S1024x1024 .bf16) (ix2 j n) = arg9 m c (ix2 j n) := by
  refine Eq.trans (?_ : _ = (V m c main_v9 : Vec Ideal S1024x1024 .bf16) (ix2 j n)) (v9_at m c j n)
  have h := idx t
  blk_ext [iblk, h]

/-- The array the kernel leaves. -/
def G : Vec Ideal S16384x1024 .f32 := fun i => arg5 m c i + ∑ j : Fin 1024, outRow (fun j => arg0 m c (ix2 (i 0) j)) (fun j => arg1 m c (ix2 (i 0) j))
  (fun j => arg2 m c (ix2 (i 0) j)) (fun j => arg3 m c (ix2 (i 0) j)) (fun j => arg4 m c (ix2 (i 0) j)) (fun j => arg6 m c (ix1 j))
  (fun j => arg7 m c (ix1 j)) (fun j => arg8 m c (ix2 (headOf j) ⟨j.val % 64, by omega⟩)) j * arg9 m c (ix2 j (i 1))

/-- What the precondition gives. -/
structure Reals : Prop where
  o : ∀ i, IsReal (arg0 m c i)
  r : ∀ i, IsReal (arg1 m c i)
  k : ∀ i, IsReal (arg2 m c i)
  w : ∀ i, IsReal (arg8 m c i)

theorem point_at (hR : Reals m c) (p : Fin 256) (n : Fin 1024) :
    k0_pay1 (k0_pay2 (iblk m c 9 t)) (k0_pay3 (iblk m c 10 t)) (iblk m c 3 t) (k0_pay11 (k0_pay2 (iblk m c 9 t)) (k0_pay3 (iblk m c 10 t))
      (k0_pay4 (iblk m c 9 t) (iblk m c 10 t) (iblk m c 0 t)) (k0_pay8 (iblk m c 9 t) (iblk m c 10 t) (iblk m c 0 t))
      (k0_pay9 (iblk m c 9 t) (iblk m c 10 t) (iblk m c 0 t)) (k0_pay10 (iblk m c 9 t) (iblk m c 10 t) (iblk m c 0 t))
      (constant (F := Ideal) S256x128 .f32 0x00000000#32) (iblk m c 6 t) (iblk m c 7 t)) (k0_pay13 (iblk m c 1 t) (iblk m c 2 t) (iblk m c 8 t))
      (k0_pay15 (iblk m c 1 t) (iblk m c 2 t) (iblk m c 8 t)) (k0_pay16 (iblk m c 1 t) (iblk m c 2 t) (iblk m c 8 t)) (iblk m c 4 t) (iblk m c 5 t)
      (iblk m c 11 t) (ix2 p n) = G m c (ix2 (row t p) n) := by
  refine (body_at (hs := iblk m c 9 t) (he := iblk m c 10 t) (b9 m c t) (b10 m c t) (iblk m c 0 t) (iblk m c 1 t) (iblk m c 2 t) (iblk m c 3 t) (iblk m c 4 t) (iblk m c 5 t)
    (iblk m c 6 t) (iblk m c 7 t) (iblk m c 8 t) (iblk m c 11 t) p (fun j => ?_) (fun j => ?_) (fun j => ?_) (fun j => ?_) n).trans ?_
  · rw [b0]; exact hR.o _
  · rw [b1]; exact hR.r _
  · rw [b2]; exact hR.k _
  · rw [b8]; exact hR.w _
  · have e0 := funext fun j => b0 m c t p j
    have e1 := funext fun j => b1 m c t p j
    have e2 := funext fun j => b2 m c t p j
    have e3 := funext fun j => b3 m c t p j
    have e4 := funext fun j => b4 m c t p j
    have e6 := funext fun j => b6 m c t j
    have e7 := funext fun j => b7 m c t j
    have e8 := funext fun j => b8 m c t j
    have e11 := fun j => b11 m c t j n
    rw [e0, e1, e2, e3, e4, e6, e7, e8, b5]
    refine congrArg (fun z : EReal => arg5 m c (ix2 (row t p) n) + z) (Finset.sum_congr rfl fun j _ => ?_)
    rw [e11]
    rfl

theorem hz2 : (![0, 0] : Fin 2 → Nat) = fun _ => 0 := by decide

section
variable (x0 x1 x2 x3 x4 x5 : Vec Ideal S256x1024 .f32) (x6 x7 x8 : Vec Ideal S1x1024 .f32) (x9 : Vec Ideal S1024x128 .bf16)
  (x10 : Vec Ideal S128x1024 .bf16) (x11 : Vec Ideal S1024x1024 .bf16)
theorem p17 : k0_pay17 x0 x1 x2 x3 x4 x5 x6 x7 x8 x9 x10 x11 = k0_pay2 x9 := congrArg k0_pay2 (View.ld_unit_zero (S := S1024x128) hz2 _ _)
theorem p18 : k0_pay18 x0 x1 x2 x3 x4 x5 x6 x7 x8 x9 x10 x11 = k0_pay3 x10 := congrArg k0_pay3 (View.ld_unit_zero (S := S128x1024) hz2 _ _)
end

theorem final (hR : Reals m c) : (dats m 0 c).arrAt 12 cfg0.N = G m c := by
  refine (dats m 0 c).arrAt_eq_of_covers 12 _ (by decide +kernel) fun t hf y => ?_
  blk_simp
  rw [after0_12]
  frame_out
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v10).slice (win0_12.rect t)).emb (ix2 p n : S256x1024.Idx) = (ix2 (row t p) n : S16384x1024.Idx) := by
    have h := idx t
    blk_ext [h]
  rw [he]
  rw [p17, p18]
  exact point_at m c t hR p n

end Cert.Kernel3Ideal.Blocks

end
-- ==== Proof.PostRef.lean ====
module

public import proofs.«01_k».proof.Proof.PostRows
public import proofs.«01_k».proof.Proof.Gen.Reference3Ideal.Run

/-! The reference of the recurrence's second kernel, in stages and at an index. -/

@[expose] public section

set_option maxRecDepth 16384

noncomputable section

namespace Cert.Reference3Ideal.Rows

open Cert.Reference3Ideal Cert.Reference3Ideal.Gen Router Heads
open Idealize.ShloMosaic Idealize.ShloMosaic.TcCoe Idealize.SL.Sem

/-- Arrays over the extended reals. -/
abbrev A (s : Shape) := FVec Ideal s .f32

/-- A sum over a head, spread over the head's columns; and the same over 64. -/
def refSum (z : A S16384x16x64) : A S16384x16x1 := broadcastInDim S16384x16x1 ![0, 1] bcast_S16384x16_S16384x16x1_0_1
  (Host.reduceAdd z (constant S_ .f32 0x00000000#32) reducesTo_S16384x16x64_S16384x16_d2 h_S_)
def refMean (z : A S16384x16x64) : A S16384x16x1 := Host.divf (refSum z) (broadcastInDim S16384x16x1 ![] bcast_S_S16384x16x1 (constant S_ .f32 0x42800000#32))
def refSpread (z : A S16384x16x1) : A S16384x16x64 := broadcastInDim S16384x16x64 ![0, 1, 2] bcast_S16384x16x1_S16384x16x64_0_1_2 z
def refRows (z : A S16x64) : A S16384x16x64 := broadcastInDim S16384x16x64 ![0, 1, 2] bcast_S1x16x64_S16384x16x64_0_1_2
  (broadcastInDim S1x16x64 ![1, 2] bcast_S16x64_S1x16x64_1_2 z)
def refHeads (z : A S16384x1024) : A S16384x16x64 := shapeCast _ z shapeCasts_S16384x1024_S16384x16x64
def refC (o : A S16384x1024) : A S16384x16x64 := subf (refHeads o) (refSpread (refMean (refHeads o)))
def refOn (o : A S16384x1024) (w b : A S1024) : A S16384x16x64 :=
  addf (mulf (mulf (refC o) (refSpread (Host.rsqrt (addf (refMean (mulf (refC o) (refC o)))
    (broadcastInDim S16384x16x1 ![] bcast_S_S16384x16x1 (constant S_ .f32 0x3A27C5AC#32))))))
    (refRows (shapeCast _ w shapeCasts_S1024_S16x64))) (refRows (shapeCast _ b shapeCasts_S1024_S16x64))
def refB (r k v : A S16384x1024) (rk : A S16x64) : A S16384x16x64 :=
  mulf (refSpread (refSum (mulf (mulf (refHeads r) (refHeads k)) (refRows rk)))) (refHeads v)
def refOut (o r k v g x : A S16384x1024) (w b : A S1024) (rk : A S16x64) (wo : A S1024x1024) : A S16384x1024 :=
  addf x (Host.dotGeneral dot_S16384x1024_S1024x1024_S16384x1024_1_0_0_1_n_n none
    (mulf (shapeCast _ (addf (refOn o w b) (refB r k v rk)) shapeCasts_S16384x16x64_S16384x1024) g) wo)

theorem heads_at (z : A S16384x1024) (t : Fin 16384) (h : Fin 16) (e : Fin 64) : refHeads z (ix3 t h e) = z (ix2 t (col h e)) := by
  pointwise [refHeads]
theorem spread_at (z : A S16384x16x1) (t : Fin 16384) (h : Fin 16) (e : Fin 64) : refSpread z (ix3 t h e) = z (ix3 t h 0) := by
  pointwise [refSpread]
theorem rows_at (z : A S16x64) (t : Fin 16384) (h : Fin 16) (e : Fin 64) : refRows z (ix3 t h e) = z (ix2 h e) := by
  pointwise [refRows]
theorem sum_at (z : A S16384x16x64) (t : Fin 16384) (h : Fin 16) : refSum z (ix3 t h 0) = ∑ e : Fin 64, z (ix3 t h e) := by
  pointwise [refSum]
theorem bits_64 : Ideal.ofBits .f32 0x42800000#32 = ((64 : ℝ) : EReal) := by
  simp [Ideal.ofBits, Ideal.ieee, -EReal.coe_mul]; norm_num
theorem mean_at (z : A S16384x16x64) (t : Fin 16384) (h : Fin 16) :
    refMean z (ix3 t h 0) = (∑ e : Fin 64, z (ix3 t h e)) * Ideal.ofBits .f32 0x3C800000#32 := by
  rw [← sum_at z t h]
  have e : refMean z (ix3 t h 0) = Ideal.div (refSum z (ix3 t h 0)) (Ideal.ofBits .f32 0x42800000#32) := by
    unfold refMean
    generalize refSum z = s
    pointwise []
  rw [e, bits_64, Cert.Kernel3Ideal.Rows.bits_64inv]
  exact div_pos_coe _ (by norm_num)
theorem c_at (o : A S16384x1024) (t : Fin 16384) (h : Fin 16) (e : Fin 64) :
    refC o (ix3 t h e) = Cert.Kernel3Ideal.Rows.cntr (fun j => o (ix2 t j)) (col h e) := by
  have e1 : refC o (ix3 t h e) = refHeads o (ix3 t h e) - refSpread (refMean (refHeads o)) (ix3 t h e) := rfl
  have e2 : headOf (col h e) = h := Fin.ext (by show (h.val * 64 + e.val) / 64 = h.val; omega)
  rw [e1, spread_at, mean_at, heads_at]
  simp only [heads_at]
  unfold Cert.Kernel3Ideal.Rows.cntr
  rw [e2]
  rfl
theorem on_at (o : A S16384x1024) (w b : A S1024) (t : Fin 16384) (h : Fin 16) (e : Fin 64) :
    refOn o w b (ix3 t h e) = Cert.Kernel3Ideal.Rows.gnRow (fun j => o (ix2 t j)) (fun j => w (ix1 j)) (fun j => b (ix1 j)) (col h e) := by
  have e2 : headOf (col h e) = h := Fin.ext (by show (h.val * 64 + e.val) / 64 = h.val; omega)
  have e1 : refOn o w b (ix3 t h e) = refC o (ix3 t h e) * refSpread (Host.rsqrt (addf (refMean (mulf (refC o) (refC o)))
      (broadcastInDim S16384x16x1 ![] bcast_S_S16384x16x1 (constant S_ .f32 0x3A27C5AC#32)))) (ix3 t h e)
      * refRows (shapeCast _ w shapeCasts_S1024_S16x64) (ix3 t h e) + refRows (shapeCast _ b shapeCasts_S1024_S16x64) (ix3 t h e) := rfl
  have e3 : Host.rsqrt (addf (refMean (mulf (refC o) (refC o))) (broadcastInDim S16384x16x1 ![] bcast_S_S16384x16x1 (constant S_ .f32 0x3A27C5AC#32))) (ix3 t h 0)
      = Ideal.rsqrt (refMean (mulf (refC o) (refC o)) (ix3 t h 0) + Ideal.ofBits .f32 0x3A27C5AC#32) := by
    generalize refMean (mulf (refC o) (refC o)) = s
    pointwise []
  have e4 : ∀ e, mulf (refC o) (refC o) (ix3 t h e) = refC o (ix3 t h e) * refC o (ix3 t h e) := fun e => rfl
  have e5 : ∀ z : A S1024, shapeCast S16x64 z shapeCasts_S1024_S16x64 (ix2 h e) = z (ix1 (col h e)) := fun z => by pointwise []
  rw [e1, spread_at, e3, mean_at, rows_at, rows_at, e5, e5]
  simp only [e4, c_at]
  unfold Cert.Kernel3Ideal.Rows.gnRow
  rw [e2]
  rfl
theorem b_at (r k v : A S16384x1024) (rk : A S16x64) (t : Fin 16384) (h : Fin 16) (e : Fin 64) :
    refB r k v rk (ix3 t h e) = headSum (fun j => r (ix2 t j) * k (ix2 t j) * rk (ix2 (headOf j) ⟨j.val % 64, by omega⟩)) h * v (ix2 t (col h e)) := by
  have e1 : refB r k v rk (ix3 t h e) = refSpread (refSum (mulf (mulf (refHeads r) (refHeads k)) (refRows rk))) (ix3 t h e) * refHeads v (ix3 t h e) := rfl
  have e4 : ∀ e, mulf (mulf (refHeads r) (refHeads k)) (refRows rk) (ix3 t h e) = refHeads r (ix3 t h e) * refHeads k (ix3 t h e) * refRows rk (ix3 t h e) := fun e => rfl
  rw [e1, spread_at, sum_at, heads_at]
  simp only [e4, heads_at, rows_at]
  refine congrArg (fun z : EReal => z * v (ix2 t (col h e))) (Finset.sum_congr rfl fun e _ => ?_)
  refine congrArg (fun z : EReal => r (ix2 t (col h e)) * k (ix2 t (col h e)) * z) (congrArg rk ?_)
  have eh : headOf (col h e) = h := Fin.ext (by show (h.val * 64 + e.val) / 64 = h.val; omega)
  have ee : (⟨(col h e).val % 64, by omega⟩ : Fin 64) = e := Fin.ext (by show (h.val * 64 + e.val) % 64 = e.val; omega)
  rw [eh, ee]
theorem out_at (o r k v g x : A S16384x1024) (w b : A S1024) (rk : A S16x64) (wo : A S1024x1024) (t : Fin 16384) (n : Fin 1024) :
    refOut o r k v g x w b rk wo (ix2 t n) = x (ix2 t n) + ∑ j : Fin 1024, Cert.Kernel3Ideal.Rows.outRow (fun j => o (ix2 t j)) (fun j => r (ix2 t j))
      (fun j => k (ix2 t j)) (fun j => v (ix2 t j)) (fun j => g (ix2 t j)) (fun j => w (ix1 j)) (fun j => b (ix1 j))
      (fun j => rk (ix2 (headOf j) ⟨j.val % 64, by omega⟩)) j * wo (ix2 j n) := by
  have hon := fun h e => on_at o w b t h e
  have hb := fun h e => b_at r k v rk t h e
  have hcol : ∀ j : Fin 1024, col (headOf j) ⟨j.val % 64, by omega⟩ = j := fun j => Fin.ext (by show j.val / 64 * 64 + j.val % 64 = j.val; omega)
  have e1 : refOut o r k v g x w b rk wo (ix2 t n) = x (ix2 t n) + ∑ j : Fin 1024,
      (refOn o w b (ix3 t (headOf j) ⟨j.val % 64, by omega⟩) + refB r k v rk (ix3 t (headOf j) ⟨j.val % 64, by omega⟩)) * g (ix2 t j) * wo (ix2 j n) := by
    unfold refOut
    generalize refOn o w b = p
    generalize refB r k v rk = q
    pointwise []
  rw [e1]
  refine congrArg (fun z : EReal => x (ix2 t n) + z) (Finset.sum_congr rfl fun j _ => ?_)
  rw [hon, hb, hcol]
  rfl

end Cert.Reference3Ideal.Rows

end
-- ==== Proof.PostFinite.lean ====
module

public import proofs.«01_k».proof.Proof.Finite

/-! The second kernel's precondition: what it says of the four arrays whose products are summed over heads. -/

@[expose] public section

set_option maxRecDepth 16384

noncomputable section

namespace Cert.Pre_heads_finite

open Idealize.ShloMosaic Router

/-- The side conditions the predicate takes. -/
theorem sides : Facts where
  bcast_S_S16384x1024 := by decide
  reducesTo_S16384x1024_S_d0_1 := by decide
  h_S_ := by decide
  bcast_S_S16x64 := by decide
  reducesTo_S16x64_S_d0_1 := by decide

attribute [local instance] sides

/-- One array's part of the predicate. -/
theorem part {S : Shape} {axes : List (Fin S.rank)} (x : FVec Ideal S .f32) (hb : S_.BroadcastsInDim S (![] : Fin 0 → Fin S.rank))
    (hr : S.ReducesTo axes S_) (hu : 0 < S_.numel) (j : S_.Idx)
    (e : Host.reduce IntOp.andi (cmpf .olt (Host.absf x) (broadcastInDim S ![] hb (constant S_ .f32 0x7F800000#32))) (constantI S_ 1 1#1) hr hu j = 1#1)
    (i : S.Idx) : IsReal (x i) :=
  Cert.Pre_router_finite.isReal_of_lt _ (Host.reduce_andi_all _ _ hr hu j e i)

theorem reals (x0 x1 x2 x3 x4 x5 : FVec Ideal S16384x1024 .f32) (x6 x7 : FVec Ideal S1024 .f32) (x8 : FVec Ideal S16x64 .f32)
    (x9 : FVec Ideal S1024x1024 .f32) (j : S_.Idx) (e : fn (F := Ideal) x0 x1 x2 x3 x4 x5 x6 x7 x8 x9 j = 1#1) :
    (∀ i, IsReal (x0 i)) ∧ (∀ i, IsReal (x1 i)) ∧ (∀ i, IsReal (x2 i)) ∧ ∀ i, IsReal (x8 i) := by
  have e3 := Cert.Pre_router_finite.and_one _ _ e
  have e2 := Cert.Pre_router_finite.and_one _ _ e3.1
  have e1 := Cert.Pre_router_finite.and_one _ _ e2.1
  exact ⟨part x0 _ _ _ j e1.1, part x1 _ _ _ j e1.2, part x2 _ _ _ j e2.2, part x8 _ _ _ j e3.2⟩

end Cert.Pre_heads_finite

end
-- ==== Proof.PostClaim.lean ====
module

public import proofs.«01_k».proof.Proof.PostBlocks
public import proofs.«01_k».proof.Proof.PostRef
public import proofs.«01_k».proof.Proof.PostFinite
public import proofs.«01_k».proof.Proof.Gen.Kernel3
public import proofs.«01_k».proof.Proof.Gen.Kernel3.Frame
public import Idealize.ShloMosaic.Adequacy
public import Idealize.ShloMosaic.Init

/-! The claims of the recurrence's second kernel. -/

@[expose] public section

set_option maxRecDepth 16384

noncomputable section

namespace Cert.PostClaim

open Idealize.ShloMosaic Idealize.ShloMosaic.TcCoe Idealize.SL.Sem Router

attribute [local instance] Cert.Kernel3.Gen.facts Cert.Kernel3Ideal.Gen.facts Cert.Reference3Ideal.Gen.facts Cert.Pre_heads_finite.sides

open Cert.Kernel3Ideal.Blocks in
theorem reals_of (m : (ℓ : Loc Cert.Kernel3Ideal.nD Cert.Kernel3Ideal.τ Cert.Kernel3Ideal.sig) → Buf (Elt Ideal) ℓ)
    (h : Cert.Pre_Kernel3Ideal_heads_finite m) (c : Dev Cert.Kernel3Ideal.nD) : Reals m c := by
  have e := Cert.Pre_heads_finite.reals (arg0 m c) (arg1 m c) (arg2 m c) (arg3 m c) (arg4 m c) (arg5 m c) (arg6 m c) (arg7 m c) (arg8 m c) (arg9 m c) _
    (congrFun (h c) (Shape.Idx.first Cert.Pre_heads_finite.sides.h_S_))
  exact ⟨e.1, e.2.1, e.2.2.1, e.2.2.2⟩

open Cert.Reference3Ideal.Rows in
/-- The kernel's array and the reference's are one. -/
theorem value_eq (m : (ℓ : Loc Cert.Kernel3Ideal.nD Cert.Kernel3Ideal.τ Cert.Kernel3Ideal.sig) → Buf (Elt Ideal) ℓ) (c : Dev Cert.Kernel3Ideal.nD)
    (o r k v g x : A Cert.Reference3Ideal.S16384x1024) (w b : A Cert.Reference3Ideal.S1024) (rk : A Cert.Reference3Ideal.S16x64)
    (wo : A Cert.Reference3Ideal.S1024x1024) (h0 : o = Cert.Kernel3Ideal.Blocks.arg0 m c) (h1 : r = Cert.Kernel3Ideal.Blocks.arg1 m c)
    (h2 : k = Cert.Kernel3Ideal.Blocks.arg2 m c) (h3 : v = Cert.Kernel3Ideal.Blocks.arg3 m c) (h4 : g = Cert.Kernel3Ideal.Blocks.arg4 m c)
    (h5 : x = Cert.Kernel3Ideal.Blocks.arg5 m c) (h6 : w = Cert.Kernel3Ideal.Blocks.arg6 m c) (h7 : b = Cert.Kernel3Ideal.Blocks.arg7 m c)
    (h8 : rk = Cert.Kernel3Ideal.Blocks.arg8 m c) (h9 : wo = Cert.Kernel3Ideal.Blocks.arg9 m c) :
    refOut o r k v g x w b rk wo = Cert.Kernel3Ideal.Blocks.G m c := by
  subst h0 h1 h2 h3 h4 h5 h6 h7 h8 h9
  refine funext fun i => ?_
  obtain ⟨t, n, rfl⟩ : ∃ (t : Fin 16384) (n : Fin 1024), i = ix2 t n := ⟨i 0, i 1, by funext a; match a with | ⟨0, _⟩ => rfl | ⟨1, _⟩ => rfl⟩
  rw [out_at]
  rfl

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal_pre_heads_finite := fun m ρ m' ρ' hpre hag =>
  ⟨fun c => Cert.Kernel3Ideal.Blocks.G m c,
    (θ_run Cert.Kernel3Ideal.defs _ _).mono (fun r h c => ⟨(h c).1.trans (Cert.Kernel3Ideal.Blocks.final m c (reals_of m hpre c)), (h c).2⟩)
      (Cert.Kernel3Ideal.Value.run_blocks m ρ),
    (θ_run Cert.Reference3Ideal.defs _ _).mono (fun r h c => ⟨(h c).1.trans (value_eq m c _ _ _ _ _ _ _ _ _ _
        (hag c).1 (hag c).2.1 (hag c).2.2.1 (hag c).2.2.2.1 (hag c).2.2.2.2.1 (hag c).2.2.2.2.2.1 (hag c).2.2.2.2.2.2.1
        (hag c).2.2.2.2.2.2.2.1 (hag c).2.2.2.2.2.2.2.2.1 (hag c).2.2.2.2.2.2.2.2.2), (h c).2⟩)
      (Cert.Reference3Ideal.Value.run (F := Ideal) m' ρ')⟩

end Cert.PostClaim

end
-- ==== Proof.PreRows.lean ====
module

public import proofs.«01_k».proof.Proof.Heads
public import proofs.«01_k».proof.Proof.Gen.Kernel2Ideal.Skeleton
public import Idealize.ShloMosaic.Lib.Pointwise

/-! The first kernel of the recurrence: its rows, as functions of a token's normalised row and its predecessor's; and its payloads at an index. -/

@[expose] public section

set_option maxRecDepth 16384

noncomputable section

namespace Cert.Kernel2Ideal.Rows

open Cert.Kernel2Ideal Cert.Kernel2Ideal.Gen Router Heads
open Idealize.ShloMosaic Idealize.ShloMosaic.TcCoe Idealize.SL.Sem

/-- A row moved towards its predecessor, column by column. -/
def mixRow (H P w : Fin 1024 → EReal) (j : Fin 1024) : EReal := H j + (P j - H j) * w j
/-- A row times a matrix. -/
def dotRow {a b : Nat} (z : Fin a → EReal) (W : Fin a → Fin b → EReal) (n : Fin b) : EReal := ∑ j, z j * W j n
/-- What the decay's exponent is taken of: the negated low-rank form. -/
def decay (u : EReal) : EReal :=
  Ideal.ofBits .f32 0x00000000#32 - Ideal.exp (Ideal.ofBits .f32 0x00000000#32 - (max u (Ideal.ofBits .f32 0x00000000#32)
    + Ideal.log (Ideal.ofBits .f32 0x3F800000#32 + Ideal.exp (Ideal.ofBits .f32 0x00000000#32 - max u (-u)))) - Ideal.ofBits .f32 0x3F000000#32)
def lwRow (x w0 : Fin 1024 → EReal) (w1 : Fin 1024 → Fin 64 → EReal) (w2 : Fin 64 → Fin 1024 → EReal) (n : Fin 1024) : EReal :=
  decay (Ideal.ofBits .f32 0x00000000#32 - (w0 n + dotRow (fun y => Ideal.tanh (dotRow x w1 y)) w2 n))
def aRow (x a0 : Fin 1024 → EReal) (a1 : Fin 1024 → Fin 64 → EReal) (a2 : Fin 64 → Fin 1024 → EReal) (n : Fin 1024) : EReal :=
  Ideal.logistic (a0 n + dotRow (dotRow x a1) a2 n)
def gRow (x : Fin 1024 → EReal) (g1 : Fin 1024 → Fin 128 → EReal) (g2 : Fin 128 → Fin 1024 → EReal) (n : Fin 1024) : EReal :=
  dotRow (fun y => Ideal.logistic (dotRow x g1 y)) g2 n
def vRow (x vf v0 : Fin 1024 → EReal) (wv : Fin 1024 → Fin 1024 → EReal) (v1 : Fin 1024 → Fin 32 → EReal) (v2 : Fin 32 → Fin 1024 → EReal)
    (n : Fin 1024) : EReal :=
  dotRow x wv n + (vf n - dotRow x wv n) * Ideal.logistic (v0 n + dotRow (dotRow x v1) v2 n)
def kRow (k a ka : Fin 1024 → EReal) (n : Fin 1024) : EReal :=
  k n * (Ideal.ofBits .f32 0x3F800000#32 + (a n - Ideal.ofBits .f32 0x3F800000#32) * ka n)
/-- A head's norm, not below a small number. -/
def nrm (s : EReal) : EReal := max (Ideal.sqrt s) (Ideal.ofBits .f32 0x2B8CBCCC#32)
def kkRow (z : Fin 1024 → EReal) (n : Fin 1024) : EReal :=
  z n * Ideal.div (Ideal.ofBits .f32 0x3F800000#32) (nrm (headSum (fun j => z j * z j) (headOf n)))

theorem pay3_at (x : Vec Ideal S256x1024 .f32) (g : Vec Ideal S1x1024 .f32) (p : Fin 256) (k : Fin 1024) :
    k0_pay3 x g (ix2 p k) = normRow (fun k => x (ix2 p k)) (fun k => g (ix2 0 k)) k := by
  pointwise [k0_pay3]
  rfl

theorem pay4_at (x : Vec Ideal S256x1024 .f32) (g : Vec Ideal S1x1024 .f32) (p : Fin 256) (k : Fin 1024) (q : Fin 256) (h : q.val + 1 = p.val) :
    k0_pay4 x g (ix2 p k) = normRow (fun k => x (ix2 q k)) (fun k => g (ix2 0 k)) k := by
  rw [← pay3_at]
  unfold k0_pay4
  generalize k0_pay3 x g = z
  pointwise []
  exact congrArg z (congrArg (fun r : Fin 256 => (ix2 r k : S256x1024.Idx)) (Fin.ext (by show (p.val + 256 - 1) % 256 = q.val; omega)))

theorem pay5_at (x : Vec Ideal S8x1024 .f32) (p : Fin 8) (k : Fin 1024) : k0_pay5 x (ix2 p k) = x (ix2 p k) := by
  pointwise [k0_pay5]
theorem pay6_at (x : Vec Ideal S8x1024 .f32) (p : Fin 8) : k0_pay6 x (ix2 p 0)
    = Ideal.rsqrt (Ideal.div (∑ j, x (ix2 p j) * x (ix2 p j)) (Ideal.ofBits .f32 0x44800000#32) + Ideal.ofBits .f32 0x358637BD#32) := by
  pointwise [k0_pay6, k0_pay5]

theorem pay7_at (h : FVec Ideal S256x1024 .f32) (it : IVec S256x1 32) (ro : FVec Ideal S256x1024 .f32) (first : BitVec 1) (xp : FVec Ideal S8x1024 .f32)
    (rs : FVec Ideal S8x1 .f32) (g : Vec Ideal S1x1024 .f32) (fp : Vec Ideal S1x1x1024 .f32) (p : Fin 256) (k : Fin 1024) :
    k0_pay7 h it ro first xp rs g fp (ix2 p k)
      = Scalar.select (IntOp.cmpi .eq (it (ix2 p 0)) 0#32) (Scalar.select first (fp (ix3 0 0 k)) (xp (ix2 7 k) * rs (ix2 7 0) * g (ix2 0 k))) (ro (ix2 p k))
        - h (ix2 p k) := by
  pointwise [k0_pay7]

section
variable (h : FVec Ideal S256x1024 .f32) (it : IVec S256x1 32) (ro : FVec Ideal S256x1024 .f32) (first : BitVec 1) (xp : FVec Ideal S8x1024 .f32)
    (rs : FVec Ideal S8x1 .f32) (g : Vec Ideal S1x1024 .f32) (fp : Vec Ideal S1x1x1024 .f32) (w : Vec Ideal S1x1024 .f32) (p : Fin 256) (k : Fin 1024)
theorem pay8_at : k0_pay8 h it ro first xp rs g fp w (ix2 p k) = h (ix2 p k) + k0_pay7 h it ro first xp rs g fp (ix2 p k) * w (ix2 0 k) := by
  unfold k0_pay8
  generalize k0_pay7 h it ro first xp rs g fp = z
  pointwise []
theorem pay9_at : k0_pay9 h it ro first xp rs g fp w (ix2 p k) = h (ix2 p k) + k0_pay7 h it ro first xp rs g fp (ix2 p k) * w (ix2 0 k) := by
  unfold k0_pay9
  generalize k0_pay7 h it ro first xp rs g fp = z
  pointwise []
theorem pay10_at : k0_pay10 h it ro first xp rs g fp w (ix2 p k) = h (ix2 p k) + k0_pay7 h it ro first xp rs g fp (ix2 p k) * w (ix2 0 k) := by
  unfold k0_pay10
  generalize k0_pay7 h it ro first xp rs g fp = z
  pointwise []
theorem pay11_at : k0_pay11 h it ro first xp rs g fp w (ix2 p k) = h (ix2 p k) + k0_pay7 h it ro first xp rs g fp (ix2 p k) * w (ix2 0 k) := by
  unfold k0_pay11
  generalize k0_pay7 h it ro first xp rs g fp = z
  pointwise []
theorem pay13_at (xx : FVec Ideal S256x1024 .f32) : k0_pay13 h xx (k0_pay12 w) (ix2 p k) = h (ix2 p k) + xx (ix2 p k) * w (ix2 0 k) := by
  pointwise [k0_pay13, k0_pay12]
theorem pay14_at (xx : FVec Ideal S256x1024 .f32) : k0_pay14 h xx w (ix2 p k) = h (ix2 p k) + xx (ix2 p k) * w (ix2 0 k) := by
  pointwise [k0_pay14]
end

section
variable (x : FVec Ideal S256x1024 .bf16) (W : Vec Ideal S1024x1024 .bf16) (p : Fin 256) (n : Fin 1024) (X : Fin 1024 → EReal) (hx : ∀ j, x (ix2 p j) = X j)
include hx
theorem pay15_at : k0_pay15 x W (ix2 p n) = dotRow X (fun j n => W (ix2 j n)) n := by
  unfold dotRow
  pointwise [k0_pay15]
  simp only [hx]
theorem pay16_at : k0_pay16 x W (ix2 p n) = dotRow X (fun j n => W (ix2 j n)) n := by
  unfold dotRow
  pointwise [k0_pay16]
  simp only [hx]
theorem pay17_at : k0_pay17 x W (ix2 p n) = dotRow X (fun j n => W (ix2 j n)) n := by
  unfold dotRow
  pointwise [k0_pay17]
  simp only [hx]
theorem lw_at (w0 : Vec Ideal S1x1024 .f32) (w1 : Vec Ideal S1024x64 .bf16) (w2 : Vec Ideal S64x1024 .bf16) :
    k0_pay20 (k0_pay18 x w0 w1 w2) (k0_pay19 x w0 w1 w2) (ix2 p n)
      = lwRow X (fun j => w0 (ix2 0 j)) (fun j y => w1 (ix2 j y)) (fun y n => w2 (ix2 y n)) n := by
  have e1 : k0_pay18 x w0 w1 w2 (ix2 p n) = Ideal.ofBits .f32 0x00000000#32 - (w0 (ix2 0 n)
      + dotRow (fun y => Ideal.tanh (dotRow X (fun j y => w1 (ix2 j y)) y)) (fun y n => w2 (ix2 y n)) n) := by
    unfold dotRow
    pointwise [k0_pay18]
    simp only [hx]
  have e2 : k0_pay20 (k0_pay18 x w0 w1 w2) (k0_pay19 x w0 w1 w2) (ix2 p n) = decay (k0_pay18 x w0 w1 w2 (ix2 p n)) := by
    unfold k0_pay19
    generalize k0_pay18 x w0 w1 w2 = u
    unfold decay
    pointwise [k0_pay20]
    rfl
  rw [e2, e1]
  rfl
theorem pay21_at (a0 : Vec Ideal S1x1024 .f32) (a1 : Vec Ideal S1024x64 .bf16) (a2 : Vec Ideal S64x1024 .bf16) :
    k0_pay21 x a0 a1 a2 (ix2 p n) = aRow X (fun j => a0 (ix2 0 j)) (fun j y => a1 (ix2 j y)) (fun y n => a2 (ix2 y n)) n := by
  unfold aRow dotRow
  pointwise [k0_pay21]
  simp only [hx]
theorem gg_at (g1 : Vec Ideal S1024x128 .bf16) (g2 : Vec Ideal S128x1024 .bf16) :
    k0_pay24 (k0_pay22 x g1) (k0_pay23 g2) (ix2 p n) = gRow X (fun j y => g1 (ix2 j y)) (fun y n => g2 (ix2 y n)) n := by
  unfold gRow dotRow
  pointwise [k0_pay24, k0_pay22, k0_pay23]
  simp only [hx]
theorem pay25_at (vf : Vec Ideal S256x1024 .f32) (v0 : Vec Ideal S1x1024 .f32) (v1 : Vec Ideal S1024x32 .bf16) (v2 : Vec Ideal S32x1024 .bf16) :
    k0_pay25 x (k0_pay16 x W) vf v0 v1 v2 (ix2 p n)
      = vRow X (fun j => vf (ix2 p j)) (fun j => v0 (ix2 0 j)) (fun j n => W (ix2 j n)) (fun j y => v1 (ix2 j y)) (fun y n => v2 (ix2 y n)) n := by
  have h := pay16_at x W p n X hx
  unfold vRow
  rw [← h]
  generalize k0_pay16 x W = v
  unfold dotRow
  pointwise [k0_pay25]
  simp only [hx]
end

theorem pay2_at (k a : FVec Ideal S256x1024 .f32) (ka : Vec Ideal S1x1024 .f32) (p : Fin 256) (n : Fin 1024) (K A : Fin 1024 → EReal)
    (hk : ∀ j, k (ix2 p j) = K j) (ha : ∀ j, a (ix2 p j) = A j) : k0_pay2 k a ka (ix2 p n) = kRow K A (fun j => ka (ix2 0 j)) n := by
  unfold kRow
  pointwise [k0_pay2]
  simp only [hk, ha]

theorem bits_tiny : ∃ e : ℝ, 0 < e ∧ Ideal.ofBits .f32 0x2B8CBCCC#32 = (e : EReal) := by
  refine ⟨_, ?_, by simp [Ideal.ofBits, Ideal.ieee, -EReal.coe_mul]; rfl⟩
  positivity
theorem bits_one : Ideal.ofBits .f32 0x3F800000#32 = ((1 : ℝ) : EReal) := by
  simp [Ideal.ofBits, Ideal.ieee, -EReal.coe_mul]; norm_num

/-- The norm of a real, nonnegative sum of squares is a positive real number. -/
theorem nrm_pos (s : ℝ) (hs : 0 ≤ s) : ∃ r : ℝ, 0 < r ∧ nrm (s : EReal) = (r : EReal) := by
  obtain ⟨e, he, hee⟩ := bits_tiny
  refine ⟨max (Real.sqrt s) e, lt_max_of_lt_right he, ?_⟩
  unfold nrm
  rw [hee]
  have : Ideal.sqrt (s : EReal) = ((Real.sqrt s : ℝ) : EReal) := by
    show (if _ then _ else _) = _
    rw [if_neg (not_lt.2 hs)]
  rw [this]
  exact (EReal.coe_strictMono.monotone.map_max).symm

theorem laneSum_sq {z : Fin 1024 → EReal} (hz : ∀ j, IsReal (z j)) (x : Fin 128) : ∃ s : ℝ, 0 ≤ s ∧ laneSum (fun j => z j * z j) x = (s : EReal) := by
  choose r hr using hz
  unfold laneSum headSum
  split
  · rename_i h
    refine ⟨∑ e : Fin 64, r (col ⟨x.val, h⟩ e) * r (col ⟨x.val, h⟩ e), Finset.sum_nonneg fun _ _ => mul_self_nonneg _, ?_⟩
    rw [← coe_sum]
    exact Finset.sum_congr rfl fun e _ => by show z _ * z _ = _; rw [hr, EReal.coe_mul]
  · exact ⟨0, le_rfl, EReal.coe_zero.symm⟩

theorem isReal_inv {z : Fin 1024 → EReal} (hz : ∀ j, IsReal (z j)) (x : Fin 128) :
    IsReal (Ideal.div (Ideal.ofBits .f32 0x3F800000#32) (nrm (laneSum (fun j => z j * z j) x))) := by
  obtain ⟨s, hs, e⟩ := laneSum_sq hz x
  obtain ⟨r, hr, er⟩ := nrm_pos s hs
  rw [e, er, bits_one, div_pos_coe _ hr]
  exact IsReal.mul ⟨_, rfl⟩ ⟨_, rfl⟩

theorem kk_at (k : FVec Ideal S256x1024 .f32) (w : Vec Ideal S1x1024 .f32) (hs : Vec Ideal S1024x128 .bf16) (he : Vec Ideal S128x1024 .bf16)
    (hhs : ∀ j x, hs (ix2 j x) = ind j x) (hhe : ∀ x j, he (ix2 x j) = ind j x) (p : Fin 256) (n : Fin 1024) (Z : Fin 1024 → EReal)
    (hz : ∀ j, k (ix2 p j) * w (ix2 0 j) = Z j) (hr : ∀ j, IsReal (Z j)) :
    k0_pay1 (k0_pay26 k w) (k0_pay28 hs) (k0_pay32 k w) (k0_pay33 k w hs) (k0_pay34 k w hs) (constant (F := Ideal) S256x128 .f32 0x00000000#32) he (ix2 p n)
      = kkRow Z n := by
  have z0 : ∀ j, Z j * Z j - Z j * Z j = 0 := fun j => (IsReal.mul (hr j) (hr j)).sub_self
  have h2 := sum_in (fun j => Z j * Z j)
  have e26 : ∀ j, k0_pay26 k w (ix2 p j) = Z j := fun j => by rw [← hz j]; pointwise [k0_pay26]
  have e27 : ∀ j, k0_pay27 k w (ix2 p j) = Z j * Z j := fun j => by
    unfold k0_pay27
    have := e26 j
    generalize k0_pay26 k w = d at *
    pointwise []
    rw [this]
  have e31 : ∀ j, k0_pay31 k w (ix2 p j) = (0 : EReal) := fun j => by
    unfold k0_pay31 k0_pay30 k0_pay29
    have := e27 j
    generalize k0_pay27 k w = d at *
    pointwise []
    rw [this, z0]
  have e32 : ∀ j, k0_pay32 k w (ix2 p j) = (0 : EReal) := fun j => by
    unfold k0_pay32 k0_pay31 k0_pay30 k0_pay29
    have := e27 j
    generalize k0_pay27 k w = d at *
    pointwise []
    rw [this, z0, sub_zero]
  have e33 : ∀ x, k0_pay33 k w hs (ix2 p x) = laneSum (fun j => Z j * Z j) x := fun x => by
    unfold k0_pay33 k0_pay29
    have := e27
    generalize k0_pay27 k w = d at *
    pointwise [k0_pay28]
    simp only [hhs, this, h2]
  have e34 : ∀ x, k0_pay34 k w hs (ix2 p x) = (0 : EReal) := fun x => by
    unfold k0_pay34
    have := e31
    generalize k0_pay31 k w = d at *
    pointwise [k0_pay28]
    simp only [this, zero_mul, Finset.sum_const_zero]
  have e1 : ∀ x, Ideal.div (Ideal.ofBits .f32 0x3F800000#32) (nrm (laneSum (fun j => Z j * Z j) x))
      - Ideal.div (Ideal.ofBits .f32 0x3F800000#32) (nrm (laneSum (fun j => Z j * Z j) x)) = 0 := fun x => (isReal_inv hr x).sub_self
  have e3 := sum_out (fun x => Ideal.div (Ideal.ofBits .f32 0x3F800000#32) (nrm (laneSum (fun j => Z j * Z j) x)))
  unfold kkRow
  have one : Ideal.ofBits .f32 0x3F800000#32 = (1 : EReal) := bits_one.trans EReal.coe_one
  simp only [one] at e1 e3 ⊢
  unfold nrm at *
  have e26n := e26 n
  generalize k0_pay26 k w = d at *
  generalize k0_pay32 k w = d2 at *
  generalize k0_pay33 k w hs = s1 at *
  generalize k0_pay34 k w hs = s2 at *
  pointwise [k0_pay1, k0_pay28]
  simp only [hhs, hhe, e26n, e32, e33, e34, zero_mul, Finset.sum_const_zero, add_zero, zero_add, e1, sub_zero]
  rw [e3 n, laneSum_head]
  done

end Cert.Kernel2Ideal.Rows

end
-- ==== Proof.PreSpec.lean ====
module

public import proofs.«01_k».proof.Proof.PreRows

/-! The first kernel of the recurrence: its seven results as functions of the arguments, token by token, and the tile's mixed rows. -/

@[expose] public section

set_option maxRecDepth 16384

noncomputable section

namespace Cert.Kernel2Ideal.Spec

open Cert.Kernel2Ideal Cert.Kernel2Ideal.Gen Cert.Kernel2Ideal.Rows Router Heads
open Idealize.ShloMosaic Idealize.ShloMosaic.TcCoe Idealize.SL.Sem

/-- The arguments, by coordinates. -/
structure Par where
  x : Fin 4 → Fin 4096 → Fin 1024 → EReal
  g : Fin 1024 → EReal
  sp : Fin 4 → Fin 1024 → EReal
  vf : Fin 4 → Fin 4096 → Fin 1024 → EReal
  v0 : Fin 1024 → EReal
  v1 : Fin 1024 → Fin 32 → EReal
  v2 : Fin 32 → Fin 1024 → EReal
  mu : Fin 6 → Fin 1024 → EReal
  wr : Fin 1024 → Fin 1024 → EReal
  wk : Fin 1024 → Fin 1024 → EReal
  wv : Fin 1024 → Fin 1024 → EReal
  w0 : Fin 1024 → EReal
  w1 : Fin 1024 → Fin 64 → EReal
  w2 : Fin 64 → Fin 1024 → EReal
  a0 : Fin 1024 → EReal
  a1 : Fin 1024 → Fin 64 → EReal
  a2 : Fin 64 → Fin 1024 → EReal
  g1 : Fin 1024 → Fin 128 → EReal
  g2 : Fin 128 → Fin 1024 → EReal
  kk : Fin 1024 → EReal
  ka : Fin 1024 → EReal

variable (q : Par) (b : Fin 4) (s : Fin 4096)

/-- A token's normalised row, and the row before it: the carried one at a sequence's start. -/
def hAt : Fin 1024 → EReal := normRow (q.x b s) q.g
def pAt : Fin 1024 → EReal := if s.val = 0 then q.sp b else hAt q b ⟨s.val - 1, by omega⟩
/-- A token's mixed rows. -/
def mix (i : Fin 6) : Fin 1024 → EReal := mixRow (hAt q b s) (pAt q b s) (q.mu i)
def rAt : Fin 1024 → EReal := dotRow (mix q b s 0) q.wr
def k0At : Fin 1024 → EReal := dotRow (mix q b s 2) q.wk
def aAt : Fin 1024 → EReal := aRow (mix q b s 4) q.a0 q.a1 q.a2
def kAt : Fin 1024 → EReal := kRow (k0At q b s) (aAt q b s) q.ka
def vAt : Fin 1024 → EReal := vRow (mix q b s 3) (q.vf b s) q.v0 q.wv q.v1 q.v2
def lwAt : Fin 1024 → EReal := lwRow (mix q b s 1) q.w0 q.w1 q.w2
def kkAt : Fin 1024 → EReal := kkRow (fun j => k0At q b s j * q.kk j)
def gAt : Fin 1024 → EReal := gRow (mix q b s 5) q.g1 q.g2

/-- What the precondition gives. -/
structure Reals : Prop where
  x : ∀ b s k, IsReal (q.x b s k)
  g : ∀ k, IsReal (q.g k)
  sp : ∀ b k, IsReal (q.sp b k)
  mu : ∀ i k, IsReal (q.mu i k)
  wk : ∀ j n, IsReal (q.wk j n)
  kk : ∀ k, IsReal (q.kk k)

theorem isReal_h {q : Par} (h : Reals q) (k : Fin 1024) : IsReal (hAt q b s k) := isReal_normRow (h.x b s) h.g k
theorem isReal_p {q : Par} (h : Reals q) (k : Fin 1024) : IsReal (pAt q b s k) := by
  unfold pAt
  split
  · exact h.sp b k
  · exact isReal_h b _ h k
theorem isReal_mix {q : Par} (h : Reals q) (i : Fin 6) (k : Fin 1024) : IsReal (mix q b s i k) :=
  (isReal_h b s h k).add ((IsReal.subR (isReal_p b s h k) (isReal_h b s h k)).mul (h.mu i k))
theorem isReal_z {q : Par} (h : Reals q) (n : Fin 1024) : IsReal (k0At q b s n * q.kk n) :=
  (IsReal.sum fun j => (isReal_mix b s h 2 j).mul (h.wk j n)).mul (h.kk n)

/-- An array of token rows, flat. -/
def flat (f : Fin 4 → Fin 4096 → Fin 1024 → EReal) : Vec Ideal S16384x1024 .f32 :=
  fun i => f ⟨(i 0).val / 4096, by have : (i 0).val < 16384 := (i 0).isLt; omega⟩ ⟨(i 0).val % 4096, by omega⟩ (i 1)

/-- The row numbers of a tile. -/
def itW : IVec S256x1 32 := iota .tc S256x1 32 [0] iota_S256x1_d0_w32
theorem it_at (p : Fin 256) : itW (ix2 p 0) = BitVec.ofNat 32 p.val := by
  unfold itW
  pointwise []

theorem zero_word : IntOp.cmpi .eq (BitVec.ofNat 32 0) 0#32 = 1#1 := by decide
theorem pos_word : ∀ p : Fin 256, 0 < p.val → IntOp.cmpi .eq (BitVec.ofNat 32 p.val) 0#32 = 0#1 := by decide +kernel

section
variable (x0 : Vec Ideal S256x1024 .f32) (x1 : Vec Ideal S8x1024 .f32) (x2 : Vec Ideal S1x1x1024 .f32) (x3 : Vec Ideal S1x1024 .f32)

theorem xx_first (k : Fin 1024) : k0_pay7 (k0_pay3 x0 x3) itW (k0_pay4 x0 x3) 1#1 (k0_pay5 x1) (k0_pay6 x1) x3 x2 (ix2 0 k)
    = x2 (ix3 0 0 k) - k0_pay3 x0 x3 (ix2 0 k) := by
  rw [pay7_at, it_at]
  rfl
theorem xx_prev (k : Fin 1024) : k0_pay7 (k0_pay3 x0 x3) itW (k0_pay4 x0 x3) 0#1 (k0_pay5 x1) (k0_pay6 x1) x3 x2 (ix2 0 k)
    = normRow (fun k => x1 (ix2 7 k)) (fun k => x3 (ix2 0 k)) k - k0_pay3 x0 x3 (ix2 0 k) := by
  rw [pay7_at, it_at, pay5_at, pay6_at]
  rfl
theorem xx_in (first : BitVec 1) (p r : Fin 256) (h : r.val + 1 = p.val) (k : Fin 1024) :
    k0_pay7 (k0_pay3 x0 x3) itW (k0_pay4 x0 x3) first (k0_pay5 x1) (k0_pay6 x1) x3 x2 (ix2 p k)
    = normRow (fun k => x0 (ix2 r k)) (fun k => x3 (ix2 0 k)) k - k0_pay3 x0 x3 (ix2 p k) := by
  rw [pay7_at, it_at, pay4_at _ _ p k r h, pos_word p (by omega)]
  rfl

/-- The token of row `p` of tile `T`. -/
abbrev sq (T : Nat) (hT : T < 64) (p : Fin 256) : Fin 4 := ⟨(T * 256 + p.val) / 4096, by omega⟩
abbrev ps (T : Nat) (p : Fin 256) : Fin 4096 := ⟨(T * 256 + p.val) % 4096, by omega⟩

variable (T : Nat) (hT : T < 64) (h0 : ∀ (p : Fin 256) (k : Fin 1024), x0 (ix2 p k) = q.x (sq T hT p) (ps T p) k)
  (h3 : ∀ k : Fin 1024, x3 (ix2 0 k) = q.g k)
include h0 h3

theorem h_of (p : Fin 256) (k : Fin 1024) : k0_pay3 x0 x3 (ix2 p k) = hAt q (sq T hT p) (ps T p) k := by
  rw [pay3_at, funext (h0 p), funext h3]
  rfl

theorem xx_of (h1 : 0 < T → ∀ k : Fin 1024, x1 (ix2 7 k) = q.x ⟨(T * 256 - 1) / 4096, by omega⟩ ⟨(T * 256 - 1) % 4096, by omega⟩ k)
    (h2 : ∀ k : Fin 1024, x2 (ix3 0 0 k) = q.sp ⟨T / 16, by omega⟩ k) (first : BitVec 1) (hf : first = if T % 16 = 0 then 1#1 else 0#1)
    (p : Fin 256) (k : Fin 1024) : k0_pay7 (k0_pay3 x0 x3) itW (k0_pay4 x0 x3) first (k0_pay5 x1) (k0_pay6 x1) x3 x2 (ix2 p k)
      = pAt q (sq T hT p) (ps T p) k - hAt q (sq T hT p) (ps T p) k := by
  rw [← h_of q x0 x3 T hT h0 h3 p k]
  unfold pAt
  by_cases hp : p = 0
  · subst hp
    by_cases ht : T % 16 = 0
    · rw [hf, if_pos ht, xx_first, h2]
      rw [if_pos (show (ps T 0).val = 0 by show (T * 256 + 0) % 4096 = 0; omega)]
      exact congrArg (fun a => q.sp a k - k0_pay3 x0 x3 (ix2 0 k)) (Fin.ext (by show T / 16 = (T * 256 + 0) / 4096; omega))
    · rw [hf, if_neg ht, xx_prev, funext (h1 (by omega)), funext h3]
      rw [if_neg (show ¬(ps T 0).val = 0 by show ¬(T * 256 + 0) % 4096 = 0; omega)]
      have ea : (⟨(T * 256 - 1) / 4096, by omega⟩ : Fin 4) = sq T hT 0 := Fin.ext (by show (T * 256 - 1) / 4096 = (T * 256 + 0) / 4096; omega)
      have eb : (⟨(T * 256 - 1) % 4096, by omega⟩ : Fin 4096) = ⟨(ps T 0).val - 1, by omega⟩ :=
        Fin.ext (by show (T * 256 - 1) % 4096 = (T * 256 + 0) % 4096 - 1; omega)
      rw [ea, eb]
      rfl
  · have hp' : 0 < p.val := Nat.pos_of_ne_zero fun h => hp (Fin.ext h)
    rw [xx_in x0 x1 x2 x3 first p ⟨p.val - 1, by omega⟩ (by show p.val - 1 + 1 = p.val; omega), funext (h0 _), funext h3]
    rw [if_neg (show ¬(ps T p).val = 0 by show ¬(T * 256 + p.val) % 4096 = 0; omega)]
    have ea : sq T hT ⟨p.val - 1, by omega⟩ = sq T hT p := Fin.ext (by show (T * 256 + (p.val - 1)) / 4096 = (T * 256 + p.val) / 4096; omega)
    have eb : ps T ⟨p.val - 1, by omega⟩ = ⟨(ps T p).val - 1, by omega⟩ :=
      Fin.ext (by show (T * 256 + (p.val - 1)) % 4096 = (T * 256 + p.val) % 4096 - 1; omega)
    rw [ea, eb]
    rfl
end

section
variable (h : FVec Ideal S256x1024 .f32) (it : IVec S256x1 32) (ro : FVec Ideal S256x1024 .f32) (first : BitVec 1) (xp : FVec Ideal S8x1024 .f32)
    (rs : FVec Ideal S8x1 .f32) (g : Vec Ideal S1x1024 .f32) (fp : Vec Ideal S1x1x1024 .f32) (w : Vec Ideal S1x1024 .f32) (p : Fin 256)
    (i : Fin 6) (hH : ∀ j, h (ix2 p j) = hAt q b s j) (hP : ∀ j, k0_pay7 h it ro first xp rs g fp (ix2 p j) = pAt q b s j - hAt q b s j)
    (hw : ∀ j : Fin 1024, w (ix2 0 j) = q.mu i j)
include hH hP hw
theorem m8 (j : Fin 1024) : k0_pay8 h it ro first xp rs g fp w (ix2 p j) = mix q b s i j := by rw [pay8_at, hH, hP, hw]; rfl
theorem m9 (j : Fin 1024) : k0_pay9 h it ro first xp rs g fp w (ix2 p j) = mix q b s i j := by rw [pay9_at, hH, hP, hw]; rfl
theorem m10 (j : Fin 1024) : k0_pay10 h it ro first xp rs g fp w (ix2 p j) = mix q b s i j := by rw [pay10_at, hH, hP, hw]; rfl
theorem m11 (j : Fin 1024) : k0_pay11 h it ro first xp rs g fp w (ix2 p j) = mix q b s i j := by rw [pay11_at, hH, hP, hw]; rfl
theorem m13 (j : Fin 1024) : k0_pay13 h (k0_pay7 h it ro first xp rs g fp) (k0_pay12 w) (ix2 p j) = mix q b s i j := by rw [pay13_at, hH, hP, hw]; rfl
theorem m14 (j : Fin 1024) : k0_pay14 h (k0_pay7 h it ro first xp rs g fp) w (ix2 p j) = mix q b s i j := by rw [pay14_at, hH, hP, hw]; rfl
end

end Cert.Kernel2Ideal.Spec

end
-- ==== Proof.PreFrameIdeal.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The first kernel of the recurrence: its launch, its body's triple and its frame, with room for its thirty-one windows. -/

@[expose] public section

set_option maxRecDepth 16384

noncomputable section

namespace Cert.Kernel2Ideal.Own

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1860000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S8x1024 := Rect.unit (s := S8x1024) ![0, 0] S8x1024.size inb_S8x1024_S8x1024_0_0
abbrev r0_3 : Rect S1x1x1024 := Rect.unit (s := S1x1x1024) ![0, 0, 0] S1x1x1024.size inb_S1x1x1024_S1x1x1024_0_0_0
abbrev r0_4 : Rect S8x1024 := Rect.unit (s := S8x1024) ![0, 0] S1x1024.size inb_S8x1024_S1x1024_0_0
abbrev r0_5 : Rect S8x1024 := Rect.unit (s := S8x1024) ![1, 0] S1x1024.size inb_S8x1024_S1x1024_1_0
abbrev r0_6 : Rect S8x1024 := Rect.unit (s := S8x1024) ![2, 0] S1x1024.size inb_S8x1024_S1x1024_2_0
abbrev r0_7 : Rect S8x1024 := Rect.unit (s := S8x1024) ![3, 0] S1x1024.size inb_S8x1024_S1x1024_3_0
abbrev r0_8 : Rect S8x1024 := Rect.unit (s := S8x1024) ![4, 0] S1x1024.size inb_S8x1024_S1x1024_4_0
abbrev r0_9 : Rect S8x1024 := Rect.unit (s := S8x1024) ![5, 0] S1x1024.size inb_S8x1024_S1x1024_5_0
abbrev r0_10 : Rect S1024x1024 := Rect.unit (s := S1024x1024) ![0, 0] S1024x1024.size inb_S1024x1024_S1024x1024_0_0
abbrev r0_11 : Rect S1024x64 := Rect.unit (s := S1024x64) ![0, 0] S1024x64.size inb_S1024x64_S1024x64_0_0
abbrev r0_12 : Rect S64x1024 := Rect.unit (s := S64x1024) ![0, 0] S64x1024.size inb_S64x1024_S64x1024_0_0
abbrev r0_13 : Rect S1024x128 := Rect.unit (s := S1024x128) ![0, 0] S1024x128.size inb_S1024x128_S1024x128_0_0
abbrev r0_14 : Rect S128x1024 := Rect.unit (s := S128x1024) ![0, 0] S128x1024.size inb_S128x1024_S128x1024_0_0
abbrev r0_15 : Rect S1024x32 := Rect.unit (s := S1024x32) ![0, 0] S1024x32.size inb_S1024x32_S1024x32_0_0
abbrev r0_16 : Rect S32x1024 := Rect.unit (s := S32x1024) ![0, 0] S32x1024.size inb_S32x1024_S32x1024_0_0

def k0_pay35 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : IVec S256x1 32 :=
  iota .tc S256x1 32 [0] iota_S256x1_d0_w32
def k0_pay36 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .f32 :=
  k0_pay3 (View.ld x0 r0_0) (View.ld x3 r0_1)
def k0_pay37 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .f32 :=
  k0_pay4 (View.ld x0 r0_0) (View.ld x3 r0_1)
def k0_pay38 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S8x1024 .f32 :=
  k0_pay5 (View.ld x1 r0_2)
def k0_pay39 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S8x1 .f32 :=
  k0_pay6 (View.ld x1 r0_2)
def k0_pay40 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .f32 :=
  k0_pay7 (k0_pay36 i x0 x1 x2 x3 x4 x5 x6 x7 x8 x9 x10 x11 x12 x13 x14 x15 x16 x17 x18 x19 x20 x21 x22 x23) (k0_pay35 i x0 x1 x2 x3 x4 x5 x6 x7 x8 x9 x10 x11 x12 x13 x14 x15 x16 x17 x18 x19 x20 x21 x22 x23) (k0_pay37 i x0 x1 x2 x3 x4 x5 x6 x7 x8 x9 x10 x11 x12 x13 x14 x15 x16 x17 x18 x19 x20 x21 x22 x23) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay38 i x0 x1 x2 x3 x4 x5 x6 x7 x8 x9 x10 x11 x12 x13 x14 x15 x16 x17 x18 x19 x20 x21 x22 x23) (k0_pay39 i x0 x1 x2 x3 x4 x5 x6 x7 x8 x9 x10 x11 x12 x13 x14 x15 x16 x17 x18 x19 x20 x21 x22 x23) (View.ld x3 r0_1) (View.ld x2 r0_3)
def k0_pay41 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .bf16 :=
  k0_pay9 (k0_pay36 i x0 x1 x2 x3 x4 x5 x6 x7 x8 x9 x10 x11 x12 x13 x14 x15 x16 x17 x18 x19 x20 x21 x22 x23) (k0_pay35 i x0 x1 x2 x3 x4 x5 x6 x7 x8 x9 x10 x11 x12 x13 x14 x15 x16 x17 x18 x19 x20 x21 x22 x23) (k0_pay37 i x0 x1 x2 x3 x4 x5 x6 x7 x8 x9 x10 x11 x12 x13 x14 x15 x16 x17 x18 x19 x20 x21 x22 x23) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay38 i x0 x1 x2 x3 x4 x5 x6 x7 x8 x9 x10 x11 x12 x13 x14 x15 x16 x17 x18 x19 x20 x21 x22 x23) (k0_pay39 i x0 x1 x2 x3 x4 x5 x6 x7 x8 x9 x10 x11 x12 x13 x14 x15 x16 x17 x18 x19 x20 x21 x22 x23) (View.ld x3 r0_1) (View.ld x2 r0_3) (View.ld x4 r0_5)
def k0_pay42 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .bf16 :=
  k0_pay11 (k0_pay36 i x0 x1 x2 x3 x4 x5 x6 x7 x8 x9 x10 x11 x12 x13 x14 x15 x16 x17 x18 x19 x20 x21 x22 x23) (k0_pay35 i x0 x1 x2 x3 x4 x5 x6 x7 x8 x9 x10 x11 x12 x13 x14 x15 x16 x17 x18 x19 x20 x21 x22 x23) (k0_pay37 i x0 x1 x2 x3 x4 x5 x6 x7 x8 x9 x10 x11 x12 x13 x14 x15 x16 x17 x18 x19 x20 x21 x22 x23) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay38 i x0 x1 x2 x3 x4 x5 x6 x7 x8 x9 x10 x11 x12 x13 x14 x15 x16 x17 x18 x19 x20 x21 x22 x23) (k0_pay39 i x0 x1 x2 x3 x4 x5 x6 x7 x8 x9 x10 x11 x12 x13 x14 x15 x16 x17 x18 x19 x20 x21 x22 x23) (View.ld x3 r0_1) (View.ld x2 r0_3) (View.ld x4 r0_7)
def k0_pay43 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .bf16 :=
  k0_pay13 (k0_pay36 i x0 x1 x2 x3 x4 x5 x6 x7 x8 x9 x10 x11 x12 x13 x14 x15 x16 x17 x18 x19 x20 x21 x22 x23) (k0_pay40 i x0 x1 x2 x3 x4 x5 x6 x7 x8 x9 x10 x11 x12 x13 x14 x15 x16 x17 x18 x19 x20 x21 x22 x23) (k0_pay12 (View.ld x4 r0_8))
def k0_pay44 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : FVec F S256x1024 .f32 :=
  k0_pay15 (k0_pay10 (k0_pay36 i x0 x1 x2 x3 x4 x5 x6 x7 x8 x9 x10 x11 x12 x13 x14 x15 x16 x17 x18 x19 x20 x21 x22 x23) (k0_pay35 i x0 x1 x2 x3 x4 x5 x6 x7 x8 x9 x10 x11 x12 x13 x14 x15 x16 x17 x18 x19 x20 x21 x22 x23) (k0_pay37 i x0 x1 x2 x3 x4 x5 x6 x7 x8 x9 x10 x11 x12 x13 x14 x15 x16 x17 x18 x19 x20 x21 x22 x23) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay38 i x0 x1 x2 x3 x4 x5 x6 x7 x8 x9 x10 x11 x12 x13 x14 x15 x16 x17 x18 x19 x20 x21 x22 x23) (k0_pay39 i x0 x1 x2 x3 x4 x5 x6 x7 x8 x9 x10 x11 x12 x13 x14 x15 x16 x17 x18 x19 x20 x21 x22 x23) (View.ld x3 r0_1) (View.ld x2 r0_3) (View.ld x4 r0_6)) (View.ld x6 r0_10)

def out0_24 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay17 (k0_pay8 (k0_pay36 i x0 x1 x2 x3 x4 x5 x6 x7 x8 x9 x10 x11 x12 x13 x14 x15 x16 x17 x18 x19 x20 x21 x22 x23) (k0_pay35 i x0 x1 x2 x3 x4 x5 x6 x7 x8 x9 x10 x11 x12 x13 x14 x15 x16 x17 x18 x19 x20 x21 x22 x23) (k0_pay37 i x0 x1 x2 x3 x4 x5 x6 x7 x8 x9 x10 x11 x12 x13 x14 x15 x16 x17 x18 x19 x20 x21 x22 x23) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay38 i x0 x1 x2 x3 x4 x5 x6 x7 x8 x9 x10 x11 x12 x13 x14 x15 x16 x17 x18 x19 x20 x21 x22 x23) (k0_pay39 i x0 x1 x2 x3 x4 x5 x6 x7 x8 x9 x10 x11 x12 x13 x14 x15 x16 x17 x18 x19 x20 x21 x22 x23) (View.ld x3 r0_1) (View.ld x2 r0_3) (View.ld x4 r0_4)) (View.ld x5 r0_10)⟩]

theorem cover0_24 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_25 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay2 (k0_pay44 i x0 x1 x2 x3 x4 x5 x6 x7 x8 x9 x10 x11 x12 x13 x14 x15 x16 x17 x18 x19 x20 x21 x22 x23) (k0_pay21 (k0_pay43 i x0 x1 x2 x3 x4 x5 x6 x7 x8 x9 x10 x11 x12 x13 x14 x15 x16 x17 x18 x19 x20 x21 x22 x23) (View.ld x11 r0_1) (View.ld x12 r0_11) (View.ld x13 r0_12)) (View.ld x17 r0_1)⟩]

theorem cover0_25 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_26 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay25 (k0_pay42 i x0 x1 x2 x3 x4 x5 x6 x7 x8 x9 x10 x11 x12 x13 x14 x15 x16 x17 x18 x19 x20 x21 x22 x23) (k0_pay16 (k0_pay42 i x0 x1 x2 x3 x4 x5 x6 x7 x8 x9 x10 x11 x12 x13 x14 x15 x16 x17 x18 x19 x20 x21 x22 x23) (View.ld x7 r0_10)) (View.ld x23 r0_0) (View.ld x20 r0_1) (View.ld x21 r0_15) (View.ld x22 r0_16)⟩]

theorem cover0_26 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_27 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay20 (k0_pay18 (k0_pay41 i x0 x1 x2 x3 x4 x5 x6 x7 x8 x9 x10 x11 x12 x13 x14 x15 x16 x17 x18 x19 x20 x21 x22 x23) (View.ld x8 r0_1) (View.ld x9 r0_11) (View.ld x10 r0_12)) (k0_pay19 (k0_pay41 i x0 x1 x2 x3 x4 x5 x6 x7 x8 x9 x10 x11 x12 x13 x14 x15 x16 x17 x18 x19 x20 x21 x22 x23) (View.ld x8 r0_1) (View.ld x9 r0_11) (View.ld x10 r0_12))⟩]

theorem cover0_27 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_28 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay1 (k0_pay26 (k0_pay44 i x0 x1 x2 x3 x4 x5 x6 x7 x8 x9 x10 x11 x12 x13 x14 x15 x16 x17 x18 x19 x20 x21 x22 x23) (View.ld x16 r0_1)) (k0_pay28 (View.ld x18 r0_13)) (k0_pay32 (k0_pay44 i x0 x1 x2 x3 x4 x5 x6 x7 x8 x9 x10 x11 x12 x13 x14 x15 x16 x17 x18 x19 x20 x21 x22 x23) (View.ld x16 r0_1)) (k0_pay33 (k0_pay44 i x0 x1 x2 x3 x4 x5 x6 x7 x8 x9 x10 x11 x12 x13 x14 x15 x16 x17 x18 x19 x20 x21 x22 x23) (View.ld x16 r0_1) (View.ld x18 r0_13)) (k0_pay34 (k0_pay44 i x0 x1 x2 x3 x4 x5 x6 x7 x8 x9 x10 x11 x12 x13 x14 x15 x16 x17 x18 x19 x20 x21 x22 x23) (View.ld x16 r0_1) (View.ld x18 r0_13)) (constant S256x128 .f32 0x00000000#32) (View.ld x19 r0_14)⟩]

theorem cover0_28 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_29 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay21 (k0_pay43 i x0 x1 x2 x3 x4 x5 x6 x7 x8 x9 x10 x11 x12 x13 x14 x15 x16 x17 x18 x19 x20 x21 x22 x23) (View.ld x11 r0_1) (View.ld x12 r0_11) (View.ld x13 r0_12)⟩]

theorem cover0_29 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_30 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) : Vec F S256x1024 .f32 :=
  View.canon [⟨r0_0, k0_pay24 (k0_pay22 (k0_pay14 (k0_pay36 i x0 x1 x2 x3 x4 x5 x6 x7 x8 x9 x10 x11 x12 x13 x14 x15 x16 x17 x18 x19 x20 x21 x22 x23) (k0_pay40 i x0 x1 x2 x3 x4 x5 x6 x7 x8 x9 x10 x11 x12 x13 x14 x15 x16 x17 x18 x19 x20 x21 x22 x23) (View.ld x4 r0_9)) (View.ld x14 r0_13)) (k0_pay23 (View.ld x15 r0_14))⟩]

theorem cover0_30 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

set_option maxHeartbeats 1000000 in
theorem sound_kernel (c : Dev nD) (E : Set ℕ) (i : grid0.Coords) (arg1 : Memref sig .tc .vmem S256x1024 .f32) (harg1 : arg1.IsWhole) (arg2 : Memref sig .tc .vmem S8x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1x1024 .f32) (harg12 : arg12.IsWhole) (arg13 : Memref sig .tc .vmem S1024x64 .bf16) (harg13 : arg13.IsWhole) (arg14 : Memref sig .tc .vmem S64x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S128x1024 .bf16) (harg20 : arg20.IsWhole) (arg21 : Memref sig .tc .vmem S1x1024 .f32) (harg21 : arg21.IsWhole) (arg22 : Memref sig .tc .vmem S1024x32 .bf16) (harg22 : arg22.IsWhole) (arg23 : Memref sig .tc .vmem S32x1024 .bf16) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x1024 .f32) (harg26 : arg26.IsWhole) (arg27 : Memref sig .tc .vmem S256x1024 .f32) (harg27 : arg27.IsWhole) (arg28 : Memref sig .tc .vmem S256x1024 .f32) (harg28 : arg28.IsWhole) (arg29 : Memref sig .tc .vmem S256x1024 .f32) (harg29 : arg29.IsWhole) (arg30 : Memref sig .tc .vmem S256x1024 .f32) (harg30 : arg30.IsWhole) (arg31 : Memref sig .tc .vmem S256x1024 .f32) (harg31 : arg31.IsWhole)
    (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (x20 : Vec F S1x1024 .f32) (x21 : Vec F S1024x32 .bf16) (x22 : Vec F S32x1024 .bf16) (x23 : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 i x0 x1 x2 x3 x4 x5 x6 x7 x8 x9 x10 x11 x12 x13 x14 x15 x16 x17 x18 x19 x20 x21 x22 x23) ∗ owns (c : Thread nD τ) arg26 fullShare (out0_25 i x0 x1 x2 x3 x4 x5 x6 x7 x8 x9 x10 x11 x12 x13 x14 x15 x16 x17 x18 x19 x20 x21 x22 x23) ∗ owns (c : Thread nD τ) arg27 fullShare (out0_26 i x0 x1 x2 x3 x4 x5 x6 x7 x8 x9 x10 x11 x12 x13 x14 x15 x16 x17 x18 x19 x20 x21 x22 x23) ∗ owns (c : Thread nD τ) arg28 fullShare (out0_27 i x0 x1 x2 x3 x4 x5 x6 x7 x8 x9 x10 x11 x12 x13 x14 x15 x16 x17 x18 x19 x20 x21 x22 x23) ∗ owns (c : Thread nD τ) arg29 fullShare (out0_28 i x0 x1 x2 x3 x4 x5 x6 x7 x8 x9 x10 x11 x12 x13 x14 x15 x16 x17 x18 x19 x20 x21 x22 x23) ∗ owns (c : Thread nD τ) arg30 fullShare (out0_29 i x0 x1 x2 x3 x4 x5 x6 x7 x8 x9 x10 x11 x12 x13 x14 x15 x16 x17 x18 x19 x20 x21 x22 x23) ∗ owns (c : Thread nD τ) arg31 fullShare (out0_30 i x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0_rwkv_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_rwkv_pre_eq_skeleton]; unfold cc0_rwkv_pre_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  iexists _; isplitr
  swap; · iexact H30
  ipureintro
  refine (View.read_writes_eq_canon _ _ _ (cover0_30 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨29, _⟩ => out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨30, _⟩ => out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 31, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_29 (c : Dev nD) (t : Fin cfg0.N) : (dats m 0 c).after 29 t = out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after0_30 (c : Dev nD) (t : Fin cfg0.N) : (dats m 0 c).after 30 t = out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Kernel2Ideal.Own

end
-- ==== Proof.PreOut.lean ====
module

public import proofs.«01_k».proof.Proof.PreSpec
public import proofs.«01_k».proof.Proof.PreFrameIdeal
public import Idealize.ShloMosaic.Lib.Pipeline.ValueKit

/-! The first kernel of the recurrence: what its body leaves in each output window, as payloads over the input windows. -/

@[expose] public section

set_option maxRecDepth 16384

noncomputable section

namespace Cert.Kernel2Ideal.Out

open Cert.Kernel2Ideal Cert.Kernel2Ideal.Gen Cert.Kernel2Ideal.Own Cert.Kernel2Ideal.Spec Router Heads
open Idealize.ShloMosaic Idealize.ShloMosaic.TcCoe Idealize.SL.Sem

/-- Whether the point is the first of its sequence. -/
def firstW (i : grid0.Coords) : BitVec 1 :=
  (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)
variable (i : grid0.Coords) (x0 : Vec Ideal S256x1024 .f32) (x1 : Vec Ideal S8x1024 .f32) (x2 : Vec Ideal S1x1x1024 .f32) (x3 : Vec Ideal S1x1024 .f32) (x4 : Vec Ideal S8x1024 .f32) (x5 : Vec Ideal S1024x1024 .bf16) (x6 : Vec Ideal S1024x1024 .bf16) (x7 : Vec Ideal S1024x1024 .bf16) (x8 : Vec Ideal S1x1024 .f32) (x9 : Vec Ideal S1024x64 .bf16) (x10 : Vec Ideal S64x1024 .bf16) (x11 : Vec Ideal S1x1024 .f32) (x12 : Vec Ideal S1024x64 .bf16) (x13 : Vec Ideal S64x1024 .bf16) (x14 : Vec Ideal S1024x128 .bf16) (x15 : Vec Ideal S128x1024 .bf16) (x16 : Vec Ideal S1x1024 .f32) (x17 : Vec Ideal S1x1024 .f32) (x18 : Vec Ideal S1024x128 .bf16) (x19 : Vec Ideal S128x1024 .bf16) (x20 : Vec Ideal S1x1024 .f32) (x21 : Vec Ideal S1024x32 .bf16) (x22 : Vec Ideal S32x1024 .bf16) (x23 : Vec Ideal S256x1024 .f32)

theorem o24 : out0_24 (F := Ideal) i x0 x1 x2 x3 x4 x5 x6 x7 x8 x9 x10 x11 x12 x13 x14 x15 x16 x17 x18 x19 x20 x21 x22 x23
    = k0_pay17 (k0_pay8 (k0_pay3 x0 x3) itW (k0_pay4 x0 x3) (firstW i) (k0_pay5 x1) (k0_pay6 x1) x3 x2 (View.ld x4 r0_4)) x5 := by
  unfold out0_24 k0_pay39 k0_pay38 k0_pay37 k0_pay36 k0_pay35
  frame_out
  rfl

theorem o25 : out0_25 (F := Ideal) i x0 x1 x2 x3 x4 x5 x6 x7 x8 x9 x10 x11 x12 x13 x14 x15 x16 x17 x18 x19 x20 x21 x22 x23
    = k0_pay2 (k0_pay15 (k0_pay10 (k0_pay3 x0 x3) itW (k0_pay4 x0 x3) (firstW i) (k0_pay5 x1) (k0_pay6 x1) x3 x2 (View.ld x4 r0_6)) x6) (k0_pay21 (k0_pay13 (k0_pay3 x0 x3) (k0_pay7 (k0_pay3 x0 x3) itW (k0_pay4 x0 x3) (firstW i) (k0_pay5 x1) (k0_pay6 x1) x3 x2) (k0_pay12 (View.ld x4 r0_8))) x11 x12 x13) x17 := by
  unfold out0_25 k0_pay44 k0_pay43 k0_pay40 k0_pay39 k0_pay38 k0_pay37 k0_pay36 k0_pay35
  frame_out
  rfl

theorem o26 : out0_26 (F := Ideal) i x0 x1 x2 x3 x4 x5 x6 x7 x8 x9 x10 x11 x12 x13 x14 x15 x16 x17 x18 x19 x20 x21 x22 x23
    = k0_pay25 (k0_pay11 (k0_pay3 x0 x3) itW (k0_pay4 x0 x3) (firstW i) (k0_pay5 x1) (k0_pay6 x1) x3 x2 (View.ld x4 r0_7)) (k0_pay16 (k0_pay11 (k0_pay3 x0 x3) itW (k0_pay4 x0 x3) (firstW i) (k0_pay5 x1) (k0_pay6 x1) x3 x2 (View.ld x4 r0_7)) x7) x23 x20 x21 x22 := by
  unfold out0_26 k0_pay42 k0_pay39 k0_pay38 k0_pay37 k0_pay36 k0_pay35
  frame_out
  rfl

theorem o27 : out0_27 (F := Ideal) i x0 x1 x2 x3 x4 x5 x6 x7 x8 x9 x10 x11 x12 x13 x14 x15 x16 x17 x18 x19 x20 x21 x22 x23
    = k0_pay20 (k0_pay18 (k0_pay9 (k0_pay3 x0 x3) itW (k0_pay4 x0 x3) (firstW i) (k0_pay5 x1) (k0_pay6 x1) x3 x2 (View.ld x4 r0_5)) x8 x9 x10) (k0_pay19 (k0_pay9 (k0_pay3 x0 x3) itW (k0_pay4 x0 x3) (firstW i) (k0_pay5 x1) (k0_pay6 x1) x3 x2 (View.ld x4 r0_5)) x8 x9 x10) := by
  unfold out0_27 k0_pay41 k0_pay39 k0_pay38 k0_pay37 k0_pay36 k0_pay35
  frame_out
  rfl

theorem o28 : out0_28 (F := Ideal) i x0 x1 x2 x3 x4 x5 x6 x7 x8 x9 x10 x11 x12 x13 x14 x15 x16 x17 x18 x19 x20 x21 x22 x23
    = k0_pay1 (k0_pay26 (k0_pay15 (k0_pay10 (k0_pay3 x0 x3) itW (k0_pay4 x0 x3) (firstW i) (k0_pay5 x1) (k0_pay6 x1) x3 x2 (View.ld x4 r0_6)) x6) x16) (k0_pay28 x18) (k0_pay32 (k0_pay15 (k0_pay10 (k0_pay3 x0 x3) itW (k0_pay4 x0 x3) (firstW i) (k0_pay5 x1) (k0_pay6 x1) x3 x2 (View.ld x4 r0_6)) x6) x16) (k0_pay33 (k0_pay15 (k0_pay10 (k0_pay3 x0 x3) itW (k0_pay4 x0 x3) (firstW i) (k0_pay5 x1) (k0_pay6 x1) x3 x2 (View.ld x4 r0_6)) x6) x16 x18) (k0_pay34 (k0_pay15 (k0_pay10 (k0_pay3 x0 x3) itW (k0_pay4 x0 x3) (firstW i) (k0_pay5 x1) (k0_pay6 x1) x3 x2 (View.ld x4 r0_6)) x6) x16 x18) (constant (F := Ideal) S256x128 .f32 0x00000000#32) x19 := by
  unfold out0_28 k0_pay44 k0_pay39 k0_pay38 k0_pay37 k0_pay36 k0_pay35
  frame_out
  rfl

theorem o29 : out0_29 (F := Ideal) i x0 x1 x2 x3 x4 x5 x6 x7 x8 x9 x10 x11 x12 x13 x14 x15 x16 x17 x18 x19 x20 x21 x22 x23
    = k0_pay21 (k0_pay13 (k0_pay3 x0 x3) (k0_pay7 (k0_pay3 x0 x3) itW (k0_pay4 x0 x3) (firstW i) (k0_pay5 x1) (k0_pay6 x1) x3 x2) (k0_pay12 (View.ld x4 r0_8))) x11 x12 x13 := by
  unfold out0_29 k0_pay43 k0_pay40 k0_pay39 k0_pay38 k0_pay37 k0_pay36 k0_pay35
  frame_out
  rfl

theorem o30 : out0_30 (F := Ideal) i x0 x1 x2 x3 x4 x5 x6 x7 x8 x9 x10 x11 x12 x13 x14 x15 x16 x17 x18 x19 x20 x21 x22 x23
    = k0_pay24 (k0_pay22 (k0_pay14 (k0_pay3 x0 x3) (k0_pay7 (k0_pay3 x0 x3) itW (k0_pay4 x0 x3) (firstW i) (k0_pay5 x1) (k0_pay6 x1) x3 x2) (View.ld x4 r0_9)) x14) (k0_pay23 x15) := by
  unfold out0_30 k0_pay40 k0_pay39 k0_pay38 k0_pay37 k0_pay36 k0_pay35
  frame_out
  rfl

end Cert.Kernel2Ideal.Out

end
-- ==== Proof.PreTile.lean ====
module

public import proofs.«01_k».proof.Proof.PreOut

/-! The first kernel of the recurrence: a tile's seven results, from what its windows hold. -/

@[expose] public section

set_option maxRecDepth 16384

noncomputable section

namespace Cert.Kernel2Ideal.Tile

open Cert.Kernel2Ideal Cert.Kernel2Ideal.Gen Cert.Kernel2Ideal.Own Cert.Kernel2Ideal.Rows Cert.Kernel2Ideal.Spec Router Heads
open Idealize.ShloMosaic Idealize.ShloMosaic.TcCoe Idealize.SL.Sem

theorem mu0 (x : Vec Ideal S8x1024 .f32) (j : Fin 1024) : (View.ld x r0_4 : Vec Ideal S1x1024 .f32) (ix2 0 j) = x (ix2 ⟨((0 : Fin 6)).val, by decide⟩ j) :=
  congrArg x (by funext a; match a with | ⟨0, _⟩ => rfl | ⟨1, _⟩ => exact Fin.ext (by show 0 + 1 * j.val = j.val; omega))
theorem mu1 (x : Vec Ideal S8x1024 .f32) (j : Fin 1024) : (View.ld x r0_5 : Vec Ideal S1x1024 .f32) (ix2 0 j) = x (ix2 ⟨((1 : Fin 6)).val, by decide⟩ j) :=
  congrArg x (by funext a; match a with | ⟨0, _⟩ => rfl | ⟨1, _⟩ => exact Fin.ext (by show 0 + 1 * j.val = j.val; omega))
theorem mu2 (x : Vec Ideal S8x1024 .f32) (j : Fin 1024) : (View.ld x r0_6 : Vec Ideal S1x1024 .f32) (ix2 0 j) = x (ix2 ⟨((2 : Fin 6)).val, by decide⟩ j) :=
  congrArg x (by funext a; match a with | ⟨0, _⟩ => rfl | ⟨1, _⟩ => exact Fin.ext (by show 0 + 1 * j.val = j.val; omega))
theorem mu3 (x : Vec Ideal S8x1024 .f32) (j : Fin 1024) : (View.ld x r0_7 : Vec Ideal S1x1024 .f32) (ix2 0 j) = x (ix2 ⟨((3 : Fin 6)).val, by decide⟩ j) :=
  congrArg x (by funext a; match a with | ⟨0, _⟩ => rfl | ⟨1, _⟩ => exact Fin.ext (by show 0 + 1 * j.val = j.val; omega))
theorem mu4 (x : Vec Ideal S8x1024 .f32) (j : Fin 1024) : (View.ld x r0_8 : Vec Ideal S1x1024 .f32) (ix2 0 j) = x (ix2 ⟨((4 : Fin 6)).val, by decide⟩ j) :=
  congrArg x (by funext a; match a with | ⟨0, _⟩ => rfl | ⟨1, _⟩ => exact Fin.ext (by show 0 + 1 * j.val = j.val; omega))
theorem mu5 (x : Vec Ideal S8x1024 .f32) (j : Fin 1024) : (View.ld x r0_9 : Vec Ideal S1x1024 .f32) (ix2 0 j) = x (ix2 ⟨((5 : Fin 6)).val, by decide⟩ j) :=
  congrArg x (by funext a; match a with | ⟨0, _⟩ => rfl | ⟨1, _⟩ => exact Fin.ext (by show 0 + 1 * j.val = j.val; omega))

/-- What tile `T`'s windows hold. -/
structure Holds (q : Par) (T : Nat) (hT : T < 64) (first : BitVec 1) (x0 : Vec Ideal S256x1024 .f32) (x1 : Vec Ideal S8x1024 .f32) (x2 : Vec Ideal S1x1x1024 .f32) (x3 : Vec Ideal S1x1024 .f32) (x4 : Vec Ideal S8x1024 .f32) (x5 : Vec Ideal S1024x1024 .bf16) (x6 : Vec Ideal S1024x1024 .bf16) (x7 : Vec Ideal S1024x1024 .bf16) (x8 : Vec Ideal S1x1024 .f32) (x9 : Vec Ideal S1024x64 .bf16) (x10 : Vec Ideal S64x1024 .bf16) (x11 : Vec Ideal S1x1024 .f32) (x12 : Vec Ideal S1024x64 .bf16) (x13 : Vec Ideal S64x1024 .bf16) (x14 : Vec Ideal S1024x128 .bf16) (x15 : Vec Ideal S128x1024 .bf16) (x16 : Vec Ideal S1x1024 .f32) (x17 : Vec Ideal S1x1024 .f32) (x18 : Vec Ideal S1024x128 .bf16) (x19 : Vec Ideal S128x1024 .bf16) (x20 : Vec Ideal S1x1024 .f32) (x21 : Vec Ideal S1024x32 .bf16) (x22 : Vec Ideal S32x1024 .bf16) (x23 : Vec Ideal S256x1024 .f32) : Prop where
  hf : first = if T % 16 = 0 then 1#1 else 0#1
  h0 : ∀ (p : Fin 256) (k : Fin 1024), x0 (ix2 p k) = q.x (sq T hT p) (ps T p) k
  h1 : ∀ (_ : 0 < T) (k : Fin 1024), x1 (ix2 7 k) = q.x ⟨(T * 256 - 1) / 4096, by omega⟩ ⟨(T * 256 - 1) % 4096, by omega⟩ k
  h2 : ∀ k : Fin 1024, x2 (ix3 0 0 k) = q.sp ⟨T / 16, by omega⟩ k
  h3 : ∀ k : Fin 1024, x3 (ix2 0 k) = q.g k
  h4 : ∀ (i : Fin 6) (k : Fin 1024), x4 (ix2 ⟨i.val, by omega⟩ k) = q.mu i k
  h5 : ∀ (j : Fin 1024) (n : Fin 1024), x5 (ix2 j n) = q.wr j n
  h6 : ∀ (j : Fin 1024) (n : Fin 1024), x6 (ix2 j n) = q.wk j n
  h7 : ∀ (j : Fin 1024) (n : Fin 1024), x7 (ix2 j n) = q.wv j n
  h8 : ∀ j : Fin 1024, x8 (ix2 0 j) = q.w0 j
  h9 : ∀ (j : Fin 1024) (n : Fin 64), x9 (ix2 j n) = q.w1 j n
  h10 : ∀ (j : Fin 64) (n : Fin 1024), x10 (ix2 j n) = q.w2 j n
  h11 : ∀ j : Fin 1024, x11 (ix2 0 j) = q.a0 j
  h12 : ∀ (j : Fin 1024) (n : Fin 64), x12 (ix2 j n) = q.a1 j n
  h13 : ∀ (j : Fin 64) (n : Fin 1024), x13 (ix2 j n) = q.a2 j n
  h14 : ∀ (j : Fin 1024) (n : Fin 128), x14 (ix2 j n) = q.g1 j n
  h15 : ∀ (j : Fin 128) (n : Fin 1024), x15 (ix2 j n) = q.g2 j n
  h16 : ∀ j : Fin 1024, x16 (ix2 0 j) = q.kk j
  h17 : ∀ j : Fin 1024, x17 (ix2 0 j) = q.ka j
  h20 : ∀ j : Fin 1024, x20 (ix2 0 j) = q.v0 j
  h21 : ∀ (j : Fin 1024) (n : Fin 32), x21 (ix2 j n) = q.v1 j n
  h22 : ∀ (j : Fin 32) (n : Fin 1024), x22 (ix2 j n) = q.v2 j n
  h18 : ∀ (j : Fin 1024) (x : Fin 128), x18 (ix2 j x) = ind j x
  h19 : ∀ (x : Fin 128) (j : Fin 1024), x19 (ix2 x j) = ind j x
  h23 : ∀ (p : Fin 256) (k : Fin 1024), x23 (ix2 p k) = q.vf (sq T hT p) (ps T p) k

section
variable {q : Par} {T : Nat} {hT : T < 64} {first : BitVec 1} {x0 : Vec Ideal S256x1024 .f32} {x1 : Vec Ideal S8x1024 .f32} {x2 : Vec Ideal S1x1x1024 .f32} {x3 : Vec Ideal S1x1024 .f32} {x4 : Vec Ideal S8x1024 .f32} {x5 : Vec Ideal S1024x1024 .bf16} {x6 : Vec Ideal S1024x1024 .bf16} {x7 : Vec Ideal S1024x1024 .bf16} {x8 : Vec Ideal S1x1024 .f32} {x9 : Vec Ideal S1024x64 .bf16} {x10 : Vec Ideal S64x1024 .bf16} {x11 : Vec Ideal S1x1024 .f32} {x12 : Vec Ideal S1024x64 .bf16} {x13 : Vec Ideal S64x1024 .bf16} {x14 : Vec Ideal S1024x128 .bf16} {x15 : Vec Ideal S128x1024 .bf16} {x16 : Vec Ideal S1x1024 .f32} {x17 : Vec Ideal S1x1024 .f32} {x18 : Vec Ideal S1024x128 .bf16} {x19 : Vec Ideal S128x1024 .bf16} {x20 : Vec Ideal S1x1024 .f32} {x21 : Vec Ideal S1024x32 .bf16} {x22 : Vec Ideal S32x1024 .bf16} {x23 : Vec Ideal S256x1024 .f32}
  (w : Holds q T hT first x0 x1 x2 x3 x4 x5 x6 x7 x8 x9 x10 x11 x12 x13 x14 x15 x16 x17 x18 x19 x20 x21 x22 x23) (p : Fin 256) (n : Fin 1024)
include w

theorem hh (j : Fin 1024) : k0_pay3 x0 x3 (ix2 p j) = hAt q (sq T hT p) (ps T p) j := h_of q x0 x3 T hT w.h0 w.h3 p j
theorem hx (j : Fin 1024) : k0_pay7 (k0_pay3 x0 x3) itW (k0_pay4 x0 x3) first (k0_pay5 x1) (k0_pay6 x1) x3 x2 (ix2 p j) = pAt q (sq T hT p) (ps T p) j - hAt q (sq T hT p) (ps T p) j :=
  xx_of q x0 x1 x2 x3 T hT w.h0 w.h3 w.h1 w.h2 first w.hf p j
theorem xr (j : Fin 1024) : (k0_pay8 (k0_pay3 x0 x3) itW (k0_pay4 x0 x3) first (k0_pay5 x1) (k0_pay6 x1) x3 x2 (View.ld x4 r0_4)) (ix2 p j) = mix q (sq T hT p) (ps T p) 0 j :=
  m8 q _ _ _ _ _ _ _ _ _ _ _ p 0 (hh w p) (hx w p) (fun j => (mu0 x4 j).trans (w.h4 0 j)) j
theorem xw (j : Fin 1024) : (k0_pay9 (k0_pay3 x0 x3) itW (k0_pay4 x0 x3) first (k0_pay5 x1) (k0_pay6 x1) x3 x2 (View.ld x4 r0_5)) (ix2 p j) = mix q (sq T hT p) (ps T p) 1 j :=
  m9 q _ _ _ _ _ _ _ _ _ _ _ p 1 (hh w p) (hx w p) (fun j => (mu1 x4 j).trans (w.h4 1 j)) j
theorem xk (j : Fin 1024) : (k0_pay10 (k0_pay3 x0 x3) itW (k0_pay4 x0 x3) first (k0_pay5 x1) (k0_pay6 x1) x3 x2 (View.ld x4 r0_6)) (ix2 p j) = mix q (sq T hT p) (ps T p) 2 j :=
  m10 q _ _ _ _ _ _ _ _ _ _ _ p 2 (hh w p) (hx w p) (fun j => (mu2 x4 j).trans (w.h4 2 j)) j
theorem xv (j : Fin 1024) : (k0_pay11 (k0_pay3 x0 x3) itW (k0_pay4 x0 x3) first (k0_pay5 x1) (k0_pay6 x1) x3 x2 (View.ld x4 r0_7)) (ix2 p j) = mix q (sq T hT p) (ps T p) 3 j :=
  m11 q _ _ _ _ _ _ _ _ _ _ _ p 3 (hh w p) (hx w p) (fun j => (mu3 x4 j).trans (w.h4 3 j)) j
theorem xa (j : Fin 1024) : (k0_pay13 (k0_pay3 x0 x3) (k0_pay7 (k0_pay3 x0 x3) itW (k0_pay4 x0 x3) first (k0_pay5 x1) (k0_pay6 x1) x3 x2) (k0_pay12 (View.ld x4 r0_8))) (ix2 p j) = mix q (sq T hT p) (ps T p) 4 j :=
  m13 q _ _ _ _ _ _ _ _ _ _ _ p 4 (hh w p) (hx w p) (fun j => (mu4 x4 j).trans (w.h4 4 j)) j
theorem xg (j : Fin 1024) : (k0_pay14 (k0_pay3 x0 x3) (k0_pay7 (k0_pay3 x0 x3) itW (k0_pay4 x0 x3) first (k0_pay5 x1) (k0_pay6 x1) x3 x2) (View.ld x4 r0_9)) (ix2 p j) = mix q (sq T hT p) (ps T p) 5 j :=
  m14 q _ _ _ _ _ _ _ _ _ _ _ p 5 (hh w p) (hx w p) (fun j => (mu5 x4 j).trans (w.h4 5 j)) j
theorem r_of : k0_pay17 (k0_pay8 (k0_pay3 x0 x3) itW (k0_pay4 x0 x3) first (k0_pay5 x1) (k0_pay6 x1) x3 x2 (View.ld x4 r0_4)) x5 (ix2 p n) = rAt q (sq T hT p) (ps T p) n := by
  have e5 : (fun (j : Fin 1024) (n : Fin 1024) => x5 (ix2 j n)) = q.wr := funext fun j => funext (w.h5 j)
  rw [pay17_at _ _ p n _ (xr w p), e5]
  rfl
theorem k0_of : (k0_pay15 (k0_pay10 (k0_pay3 x0 x3) itW (k0_pay4 x0 x3) first (k0_pay5 x1) (k0_pay6 x1) x3 x2 (View.ld x4 r0_6)) x6) (ix2 p n) = k0At q (sq T hT p) (ps T p) n := by
  have e6 : (fun (j : Fin 1024) (n : Fin 1024) => x6 (ix2 j n)) = q.wk := funext fun j => funext (w.h6 j)
  rw [pay15_at _ _ p n _ (xk w p), e6]
  rfl
theorem a_of : k0_pay21 (k0_pay13 (k0_pay3 x0 x3) (k0_pay7 (k0_pay3 x0 x3) itW (k0_pay4 x0 x3) first (k0_pay5 x1) (k0_pay6 x1) x3 x2) (k0_pay12 (View.ld x4 r0_8))) x11 x12 x13 (ix2 p n) = aAt q (sq T hT p) (ps T p) n := by
  have e11 : (fun j : Fin 1024 => x11 (ix2 0 j)) = q.a0 := funext w.h11
  have e12 : (fun (j : Fin 1024) (n : Fin 64) => x12 (ix2 j n)) = q.a1 := funext fun j => funext (w.h12 j)
  have e13 : (fun (j : Fin 64) (n : Fin 1024) => x13 (ix2 j n)) = q.a2 := funext fun j => funext (w.h13 j)
  rw [pay21_at _ p n _ (xa w p), e11, e12, e13]
  rfl
theorem k_of : k0_pay2 (k0_pay15 (k0_pay10 (k0_pay3 x0 x3) itW (k0_pay4 x0 x3) first (k0_pay5 x1) (k0_pay6 x1) x3 x2 (View.ld x4 r0_6)) x6) (k0_pay21 (k0_pay13 (k0_pay3 x0 x3) (k0_pay7 (k0_pay3 x0 x3) itW (k0_pay4 x0 x3) first (k0_pay5 x1) (k0_pay6 x1) x3 x2) (k0_pay12 (View.ld x4 r0_8))) x11 x12 x13) x17 (ix2 p n) = kAt q (sq T hT p) (ps T p) n := by
  have e17 : (fun j : Fin 1024 => x17 (ix2 0 j)) = q.ka := funext w.h17
  rw [pay2_at _ _ _ p n _ _ (k0_of w p) (a_of w p), e17]
  rfl
theorem v_of : k0_pay25 (k0_pay11 (k0_pay3 x0 x3) itW (k0_pay4 x0 x3) first (k0_pay5 x1) (k0_pay6 x1) x3 x2 (View.ld x4 r0_7)) (k0_pay16 (k0_pay11 (k0_pay3 x0 x3) itW (k0_pay4 x0 x3) first (k0_pay5 x1) (k0_pay6 x1) x3 x2 (View.ld x4 r0_7)) x7) x23 x20 x21 x22 (ix2 p n) = vAt q (sq T hT p) (ps T p) n := by
  have e7 : (fun (j : Fin 1024) (n : Fin 1024) => x7 (ix2 j n)) = q.wv := funext fun j => funext (w.h7 j)
  have e20 : (fun j : Fin 1024 => x20 (ix2 0 j)) = q.v0 := funext w.h20
  have e21 : (fun (j : Fin 1024) (n : Fin 32) => x21 (ix2 j n)) = q.v1 := funext fun j => funext (w.h21 j)
  have e22 : (fun (j : Fin 32) (n : Fin 1024) => x22 (ix2 j n)) = q.v2 := funext fun j => funext (w.h22 j)
  have e23 : (fun j : Fin 1024 => x23 (ix2 p j)) = q.vf (sq T hT p) (ps T p) := funext (w.h23 p)
  rw [pay25_at _ _ p n _ (xv w p), e7, e20, e21, e22, e23]
  rfl
theorem lw_of : k0_pay20 (k0_pay18 (k0_pay9 (k0_pay3 x0 x3) itW (k0_pay4 x0 x3) first (k0_pay5 x1) (k0_pay6 x1) x3 x2 (View.ld x4 r0_5)) x8 x9 x10) (k0_pay19 (k0_pay9 (k0_pay3 x0 x3) itW (k0_pay4 x0 x3) first (k0_pay5 x1) (k0_pay6 x1) x3 x2 (View.ld x4 r0_5)) x8 x9 x10) (ix2 p n) = lwAt q (sq T hT p) (ps T p) n := by
  have e8 : (fun j : Fin 1024 => x8 (ix2 0 j)) = q.w0 := funext w.h8
  have e9 : (fun (j : Fin 1024) (n : Fin 64) => x9 (ix2 j n)) = q.w1 := funext fun j => funext (w.h9 j)
  have e10 : (fun (j : Fin 64) (n : Fin 1024) => x10 (ix2 j n)) = q.w2 := funext fun j => funext (w.h10 j)
  rw [Rows.lw_at _ p n _ (xw w p), e8, e9, e10]
  rfl
theorem g_of : k0_pay24 (k0_pay22 (k0_pay14 (k0_pay3 x0 x3) (k0_pay7 (k0_pay3 x0 x3) itW (k0_pay4 x0 x3) first (k0_pay5 x1) (k0_pay6 x1) x3 x2) (View.ld x4 r0_9)) x14) (k0_pay23 x15) (ix2 p n) = gAt q (sq T hT p) (ps T p) n := by
  have e14 : (fun (j : Fin 1024) (n : Fin 128) => x14 (ix2 j n)) = q.g1 := funext fun j => funext (w.h14 j)
  have e15 : (fun (j : Fin 128) (n : Fin 1024) => x15 (ix2 j n)) = q.g2 := funext fun j => funext (w.h15 j)
  rw [gg_at _ p n _ (xg w p), e14, e15]
  rfl
theorem kk_of (hR : Reals q) : k0_pay1 (k0_pay26 (k0_pay15 (k0_pay10 (k0_pay3 x0 x3) itW (k0_pay4 x0 x3) first (k0_pay5 x1) (k0_pay6 x1) x3 x2 (View.ld x4 r0_6)) x6) x16) (k0_pay28 x18) (k0_pay32 (k0_pay15 (k0_pay10 (k0_pay3 x0 x3) itW (k0_pay4 x0 x3) first (k0_pay5 x1) (k0_pay6 x1) x3 x2 (View.ld x4 r0_6)) x6) x16) (k0_pay33 (k0_pay15 (k0_pay10 (k0_pay3 x0 x3) itW (k0_pay4 x0 x3) first (k0_pay5 x1) (k0_pay6 x1) x3 x2 (View.ld x4 r0_6)) x6) x16 x18) (k0_pay34 (k0_pay15 (k0_pay10 (k0_pay3 x0 x3) itW (k0_pay4 x0 x3) first (k0_pay5 x1) (k0_pay6 x1) x3 x2 (View.ld x4 r0_6)) x6) x16 x18) (constant (F := Ideal) S256x128 .f32 0x00000000#32) x19 (ix2 p n) = kkAt q (sq T hT p) (ps T p) n :=
  kk_at _ x16 x18 x19 w.h18 w.h19 p n _ (fun j => by rw [k0_of w p j, w.h16]) (isReal_z _ _ hR)
end

end Cert.Kernel2Ideal.Tile

end
-- ==== Proof.PreBlocks.lean ====
module

public import proofs.«01_k».proof.Proof.PreOut
public import Idealize.ShloMosaic.Lib.StableHlo.ReadAt
public import Idealize.ShloMosaic.Lib.Pipeline.ValueKit

/-! The first kernel of the recurrence: what its windows hold at a grid point. -/

@[expose] public section

set_option maxRecDepth 16384

noncomputable section

namespace Cert.Kernel2Ideal.Blocks

open Cert.Kernel2Ideal Cert.Kernel2Ideal.Gen Cert.Kernel2Ideal.Own Cert.Kernel2Ideal.Spec Router Heads
open Idealize.ShloMosaic Idealize.ShloMosaic.TcCoe Idealize.SL.Sem

variable (m : (ℓ : Loc nD τ sig) → Buf (Elt Ideal) ℓ) (c : Dev nD)

/-- The arguments as arrays. -/
abbrev arg0 : Vec Ideal S4x4096x1024 .f32 := m ((c.tc : Thread nD τ).loc main_arg0)
abbrev arg1 : Vec Ideal S1024 .f32 := m ((c.tc : Thread nD τ).loc main_arg1)
abbrev arg2 : Vec Ideal S4x1024 .f32 := m ((c.tc : Thread nD τ).loc main_arg2)
abbrev arg3 : Vec Ideal S4x4096x1024 .f32 := m ((c.tc : Thread nD τ).loc main_arg3)
abbrev arg4 : Vec Ideal S1024 .f32 := m ((c.tc : Thread nD τ).loc main_arg4)
abbrev arg5 : Vec Ideal S1024x32 .f32 := m ((c.tc : Thread nD τ).loc main_arg5)
abbrev arg6 : Vec Ideal S32x1024 .f32 := m ((c.tc : Thread nD τ).loc main_arg6)
abbrev arg7 : Vec Ideal S6x1024 .f32 := m ((c.tc : Thread nD τ).loc main_arg7)
abbrev arg8 : Vec Ideal S1024x1024 .f32 := m ((c.tc : Thread nD τ).loc main_arg8)
abbrev arg9 : Vec Ideal S1024x1024 .f32 := m ((c.tc : Thread nD τ).loc main_arg9)
abbrev arg10 : Vec Ideal S1024x1024 .f32 := m ((c.tc : Thread nD τ).loc main_arg10)
abbrev arg11 : Vec Ideal S1024 .f32 := m ((c.tc : Thread nD τ).loc main_arg11)
abbrev arg12 : Vec Ideal S1024x64 .f32 := m ((c.tc : Thread nD τ).loc main_arg12)
abbrev arg13 : Vec Ideal S64x1024 .f32 := m ((c.tc : Thread nD τ).loc main_arg13)
abbrev arg14 : Vec Ideal S1024 .f32 := m ((c.tc : Thread nD τ).loc main_arg14)
abbrev arg15 : Vec Ideal S1024x64 .f32 := m ((c.tc : Thread nD τ).loc main_arg15)
abbrev arg16 : Vec Ideal S64x1024 .f32 := m ((c.tc : Thread nD τ).loc main_arg16)
abbrev arg17 : Vec Ideal S1024x128 .f32 := m ((c.tc : Thread nD τ).loc main_arg17)
abbrev arg18 : Vec Ideal S128x1024 .f32 := m ((c.tc : Thread nD τ).loc main_arg18)
abbrev arg19 : Vec Ideal S1024 .f32 := m ((c.tc : Thread nD τ).loc main_arg19)
abbrev arg20 : Vec Ideal S1024 .f32 := m ((c.tc : Thread nD τ).loc main_arg20)

/-- The arguments by coordinates. -/
def par : Par where
  x := fun i j k => arg0 m c (ix3 i j k)
  g := fun i => arg1 m c (ix1 i)
  sp := fun i j => arg2 m c (ix2 i j)
  vf := fun i j k => arg3 m c (ix3 i j k)
  v0 := fun i => arg4 m c (ix1 i)
  v1 := fun i j => arg5 m c (ix2 i j)
  v2 := fun i j => arg6 m c (ix2 i j)
  mu := fun i j => arg7 m c (ix2 i j)
  wr := fun i j => arg8 m c (ix2 i j)
  wk := fun i j => arg9 m c (ix2 i j)
  wv := fun i j => arg10 m c (ix2 i j)
  w0 := fun i => arg11 m c (ix1 i)
  w1 := fun i j => arg12 m c (ix2 i j)
  w2 := fun i j => arg13 m c (ix2 i j)
  a0 := fun i => arg14 m c (ix1 i)
  a1 := fun i j => arg15 m c (ix2 i j)
  a2 := fun i j => arg16 m c (ix2 i j)
  g1 := fun i j => arg17 m c (ix2 i j)
  g2 := fun i j => arg18 m c (ix2 i j)
  kk := fun i => arg19 m c (ix1 i)
  ka := fun i => arg20 m c (ix1 i)

theorem v0_at (r : Fin 16384) (k : Fin 1024) : (V m c main_v0 : Vec Ideal S16384x1024 .f32) (ix2 r k) = arg0 m c (ix3 ⟨r.val / 4096, by omega⟩ ⟨r.val % 4096, by omega⟩ k) := by
  unfold V
  after_reads_at
theorem v26_at (r : Fin 16384) (k : Fin 1024) : (V m c main_v26 : Vec Ideal S16384x1024 .f32) (ix2 r k) = arg3 m c (ix3 ⟨r.val / 4096, by omega⟩ ⟨r.val % 4096, by omega⟩ k) := by
  unfold V
  after_reads_at
theorem v7_at (b : Fin 4) (k : Fin 1024) : (V m c main_v7 : Vec Ideal S4x1x1024 .f32) (ix3 b 0 k) = arg2 m c (ix2 b k) := by
  unfold V
  after_reads_at
theorem v8_at (i : Fin 6) (k : Fin 1024) : (V m c main_v8 : Vec Ideal S8x1024 .f32) (ix2 ⟨i.val, by omega⟩ k) = arg7 m c (ix2 i k) := by
  unfold V
  after_reads_at
theorem v9_at (j : Fin 1024) : (V m c main_v9 : Vec Ideal S1x1024 .f32) (ix2 0 j) = arg1 m c (ix1 j) := by
  unfold V
  after_reads_at
theorem v13_at (j : Fin 1024) : (V m c main_v13 : Vec Ideal S1x1024 .f32) (ix2 0 j) = arg11 m c (ix1 j) := by
  unfold V
  after_reads_at
theorem v16_at (j : Fin 1024) : (V m c main_v16 : Vec Ideal S1x1024 .f32) (ix2 0 j) = arg14 m c (ix1 j) := by
  unfold V
  after_reads_at
theorem v21_at (j : Fin 1024) : (V m c main_v21 : Vec Ideal S1x1024 .f32) (ix2 0 j) = arg19 m c (ix1 j) := by
  unfold V
  after_reads_at
theorem v22_at (j : Fin 1024) : (V m c main_v22 : Vec Ideal S1x1024 .f32) (ix2 0 j) = arg20 m c (ix1 j) := by
  unfold V
  after_reads_at
theorem v23_at (j : Fin 1024) : (V m c main_v23 : Vec Ideal S1x1024 .f32) (ix2 0 j) = arg4 m c (ix1 j) := by
  unfold V
  after_reads_at
theorem v10_at (j : Fin 1024) (n : Fin 1024) : (V m c main_v10 : Vec Ideal S1024x1024 .bf16) (ix2 j n) = arg8 m c (ix2 j n) := by
  unfold V
  after_reads_at
theorem v11_at (j : Fin 1024) (n : Fin 1024) : (V m c main_v11 : Vec Ideal S1024x1024 .bf16) (ix2 j n) = arg9 m c (ix2 j n) := by
  unfold V
  after_reads_at
theorem v12_at (j : Fin 1024) (n : Fin 1024) : (V m c main_v12 : Vec Ideal S1024x1024 .bf16) (ix2 j n) = arg10 m c (ix2 j n) := by
  unfold V
  after_reads_at
theorem v14_at (j : Fin 1024) (n : Fin 64) : (V m c main_v14 : Vec Ideal S1024x64 .bf16) (ix2 j n) = arg12 m c (ix2 j n) := by
  unfold V
  after_reads_at
theorem v15_at (j : Fin 64) (n : Fin 1024) : (V m c main_v15 : Vec Ideal S64x1024 .bf16) (ix2 j n) = arg13 m c (ix2 j n) := by
  unfold V
  after_reads_at
theorem v17_at (j : Fin 1024) (n : Fin 64) : (V m c main_v17 : Vec Ideal S1024x64 .bf16) (ix2 j n) = arg15 m c (ix2 j n) := by
  unfold V
  after_reads_at
theorem v18_at (j : Fin 64) (n : Fin 1024) : (V m c main_v18 : Vec Ideal S64x1024 .bf16) (ix2 j n) = arg16 m c (ix2 j n) := by
  unfold V
  after_reads_at
theorem v19_at (j : Fin 1024) (n : Fin 128) : (V m c main_v19 : Vec Ideal S1024x128 .bf16) (ix2 j n) = arg17 m c (ix2 j n) := by
  unfold V
  after_reads_at
theorem v20_at (j : Fin 128) (n : Fin 1024) : (V m c main_v20 : Vec Ideal S128x1024 .bf16) (ix2 j n) = arg18 m c (ix2 j n) := by
  unfold V
  after_reads_at
theorem v24_at (j : Fin 1024) (n : Fin 32) : (V m c main_v24 : Vec Ideal S1024x32 .bf16) (ix2 j n) = arg5 m c (ix2 j n) := by
  unfold V
  after_reads_at
theorem v25_at (j : Fin 32) (n : Fin 1024) : (V m c main_v25 : Vec Ideal S32x1024 .bf16) (ix2 j n) = arg6 m c (ix2 j n) := by
  unfold V
  after_reads_at
theorem v5_at (j : Fin 1024) (x : Fin 128) : (V m c main_v5 : Vec Ideal S1024x128 .bf16) (ix2 j x) = ind j x := by
  unfold V
  after_reads_at
  exact (congrArg (fun w => FloatOps.uitofp (F := Ideal) FTy.bf16 (IntOp.cmpi CmpIPredicate.eq w (BitVec.ofNat 32 x.val))) (floor_word j)).trans (ind_word j x)
theorem v6_at (x : Fin 128) (j : Fin 1024) : (V m c main_v6 : Vec Ideal S128x1024 .bf16) (ix2 x j) = ind j x := by
  refine Eq.trans ?_ (v5_at m c j x)
  unfold V
  after_reads_at

/-- Where each window's block lies at a grid point. -/
theorem idx : ∀ t : Fin cfg0.N, win0_0.index t = ![t.val, 0] ∧ win0_1.index t = ![t.val * 32 - 1, 0] ∧ win0_2.index t = ![t.val / 16, 0, 0]
    ∧ win0_23.index t = ![t.val, 0] := by decide +kernel
theorem idx0 : ∀ t : Fin cfg0.N, win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] := by decide +kernel
theorem idxo : ∀ t : Fin cfg0.N, win0_24.index t = ![t.val, 0] ∧ win0_25.index t = ![t.val, 0] ∧ win0_26.index t = ![t.val, 0] ∧ win0_27.index t = ![t.val, 0] ∧ win0_28.index t = ![t.val, 0] ∧ win0_29.index t = ![t.val, 0] ∧ win0_30.index t = ![t.val, 0] := by decide +kernel
/-- The first tile of a sequence. -/
theorem first_at : ∀ t : Fin cfg0.N, Out.firstW (grid0.coords t) = if t.val % 16 = 0 then 1#1 else 0#1 := by decide +kernel

variable (t : Fin cfg0.N)

theorem lt64 : t.val < 64 := t.isLt

theorem b0 (p : Fin 256) (k : Fin 1024) : (iblk m c 0 t : Vec Ideal S256x1024 .f32) (ix2 p k) = (par m c).x (sq t.val (lt64 t) p) (ps t.val p) k := by
  refine Eq.trans (?_ : _ = (V m c main_v0 : Vec Ideal S16384x1024 .f32) (ix2 ⟨t.val * 256 + p.val, by have := lt64 t; omega⟩ k)) (v0_at m c ⟨t.val * 256 + p.val, by have := lt64 t; omega⟩ k)
  have h := idx t
  blk_ext [iblk, h]
theorem b23 (p : Fin 256) (k : Fin 1024) : (iblk m c 23 t : Vec Ideal S256x1024 .f32) (ix2 p k) = (par m c).vf (sq t.val (lt64 t) p) (ps t.val p) k := by
  refine Eq.trans (?_ : _ = (V m c main_v26 : Vec Ideal S16384x1024 .f32) (ix2 ⟨t.val * 256 + p.val, by have := lt64 t; omega⟩ k)) (v26_at m c ⟨t.val * 256 + p.val, by have := lt64 t; omega⟩ k)
  have h := idx t
  blk_ext [iblk, h]
theorem b1 (ht : 0 < t.val) (k : Fin 1024) : (iblk m c 1 t : Vec Ideal S8x1024 .f32) (ix2 7 k) = (par m c).x ⟨(t.val * 256 - 1) / 4096, by have := lt64 t; omega⟩ ⟨(t.val * 256 - 1) % 4096, by omega⟩ k := by
  refine Eq.trans (?_ : _ = (V m c main_v0 : Vec Ideal S16384x1024 .f32) (ix2 ⟨t.val * 256 - 1, by have := lt64 t; omega⟩ k)) (v0_at m c ⟨t.val * 256 - 1, by have := lt64 t; omega⟩ k)
  have h := idx t
  blk_ext [iblk, h]
theorem b2 (k : Fin 1024) : (iblk m c 2 t : Vec Ideal S1x1x1024 .f32) (ix3 0 0 k) = (par m c).sp ⟨t.val / 16, by have := lt64 t; omega⟩ k := by
  refine Eq.trans (?_ : _ = (V m c main_v7 : Vec Ideal S4x1x1024 .f32) (ix3 ⟨t.val / 16, by have := lt64 t; omega⟩ 0 k)) (v7_at m c ⟨t.val / 16, by have := lt64 t; omega⟩ k)
  have h := idx t
  blk_ext [iblk, h]
theorem b4 (i : Fin 6) (k : Fin 1024) : (iblk m c 4 t : Vec Ideal S8x1024 .f32) (ix2 ⟨i.val, by omega⟩ k) = (par m c).mu i k := by
  refine Eq.trans (?_ : _ = (V m c main_v8 : Vec Ideal S8x1024 .f32) (ix2 ⟨i.val, by omega⟩ k)) (v8_at m c i k)
  have h := idx0 t
  blk_ext [iblk, h]
theorem b3 (j : Fin 1024) : (iblk m c 3 t : Vec Ideal S1x1024 .f32) (ix2 0 j) = (par m c).g j := by
  refine Eq.trans (?_ : _ = (V m c main_v9 : Vec Ideal S1x1024 .f32) (ix2 0 j)) (v9_at m c j)
  have h := idx0 t
  blk_ext [iblk, h]
theorem b8 (j : Fin 1024) : (iblk m c 8 t : Vec Ideal S1x1024 .f32) (ix2 0 j) = (par m c).w0 j := by
  refine Eq.trans (?_ : _ = (V m c main_v13 : Vec Ideal S1x1024 .f32) (ix2 0 j)) (v13_at m c j)
  have h := idx0 t
  blk_ext [iblk, h]
theorem b11 (j : Fin 1024) : (iblk m c 11 t : Vec Ideal S1x1024 .f32) (ix2 0 j) = (par m c).a0 j := by
  refine Eq.trans (?_ : _ = (V m c main_v16 : Vec Ideal S1x1024 .f32) (ix2 0 j)) (v16_at m c j)
  have h := idx0 t
  blk_ext [iblk, h]
theorem b16 (j : Fin 1024) : (iblk m c 16 t : Vec Ideal S1x1024 .f32) (ix2 0 j) = (par m c).kk j := by
  refine Eq.trans (?_ : _ = (V m c main_v21 : Vec Ideal S1x1024 .f32) (ix2 0 j)) (v21_at m c j)
  have h := idx0 t
  blk_ext [iblk, h]
theorem b17 (j : Fin 1024) : (iblk m c 17 t : Vec Ideal S1x1024 .f32) (ix2 0 j) = (par m c).ka j := by
  refine Eq.trans (?_ : _ = (V m c main_v22 : Vec Ideal S1x1024 .f32) (ix2 0 j)) (v22_at m c j)
  have h := idx0 t
  blk_ext [iblk, h]
theorem b20 (j : Fin 1024) : (iblk m c 20 t : Vec Ideal S1x1024 .f32) (ix2 0 j) = (par m c).v0 j := by
  refine Eq.trans (?_ : _ = (V m c main_v23 : Vec Ideal S1x1024 .f32) (ix2 0 j)) (v23_at m c j)
  have h := idx0 t
  blk_ext [iblk, h]
theorem b5 (j : Fin 1024) (n : Fin 1024) : (iblk m c 5 t : Vec Ideal S1024x1024 .bf16) (ix2 j n) = (par m c).wr j n := by
  refine Eq.trans (?_ : _ = (V m c main_v10 : Vec Ideal S1024x1024 .bf16) (ix2 j n)) (v10_at m c j n)
  have h := idx0 t
  blk_ext [iblk, h]
theorem b6 (j : Fin 1024) (n : Fin 1024) : (iblk m c 6 t : Vec Ideal S1024x1024 .bf16) (ix2 j n) = (par m c).wk j n := by
  refine Eq.trans (?_ : _ = (V m c main_v11 : Vec Ideal S1024x1024 .bf16) (ix2 j n)) (v11_at m c j n)
  have h := idx0 t
  blk_ext [iblk, h]
theorem b7 (j : Fin 1024) (n : Fin 1024) : (iblk m c 7 t : Vec Ideal S1024x1024 .bf16) (ix2 j n) = (par m c).wv j n := by
  refine Eq.trans (?_ : _ = (V m c main_v12 : Vec Ideal S1024x1024 .bf16) (ix2 j n)) (v12_at m c j n)
  have h := idx0 t
  blk_ext [iblk, h]
theorem b9 (j : Fin 1024) (n : Fin 64) : (iblk m c 9 t : Vec Ideal S1024x64 .bf16) (ix2 j n) = (par m c).w1 j n := by
  refine Eq.trans (?_ : _ = (V m c main_v14 : Vec Ideal S1024x64 .bf16) (ix2 j n)) (v14_at m c j n)
  have h := idx0 t
  blk_ext [iblk, h]
theorem b10 (j : Fin 64) (n : Fin 1024) : (iblk m c 10 t : Vec Ideal S64x1024 .bf16) (ix2 j n) = (par m c).w2 j n := by
  refine Eq.trans (?_ : _ = (V m c main_v15 : Vec Ideal S64x1024 .bf16) (ix2 j n)) (v15_at m c j n)
  have h := idx0 t
  blk_ext [iblk, h]
theorem b12 (j : Fin 1024) (n : Fin 64) : (iblk m c 12 t : Vec Ideal S1024x64 .bf16) (ix2 j n) = (par m c).a1 j n := by
  refine Eq.trans (?_ : _ = (V m c main_v17 : Vec Ideal S1024x64 .bf16) (ix2 j n)) (v17_at m c j n)
  have h := idx0 t
  blk_ext [iblk, h]
theorem b13 (j : Fin 64) (n : Fin 1024) : (iblk m c 13 t : Vec Ideal S64x1024 .bf16) (ix2 j n) = (par m c).a2 j n := by
  refine Eq.trans (?_ : _ = (V m c main_v18 : Vec Ideal S64x1024 .bf16) (ix2 j n)) (v18_at m c j n)
  have h := idx0 t
  blk_ext [iblk, h]
theorem b14 (j : Fin 1024) (n : Fin 128) : (iblk m c 14 t : Vec Ideal S1024x128 .bf16) (ix2 j n) = (par m c).g1 j n := by
  refine Eq.trans (?_ : _ = (V m c main_v19 : Vec Ideal S1024x128 .bf16) (ix2 j n)) (v19_at m c j n)
  have h := idx0 t
  blk_ext [iblk, h]
theorem b15 (j : Fin 128) (n : Fin 1024) : (iblk m c 15 t : Vec Ideal S128x1024 .bf16) (ix2 j n) = (par m c).g2 j n := by
  refine Eq.trans (?_ : _ = (V m c main_v20 : Vec Ideal S128x1024 .bf16) (ix2 j n)) (v20_at m c j n)
  have h := idx0 t
  blk_ext [iblk, h]
theorem b21 (j : Fin 1024) (n : Fin 32) : (iblk m c 21 t : Vec Ideal S1024x32 .bf16) (ix2 j n) = (par m c).v1 j n := by
  refine Eq.trans (?_ : _ = (V m c main_v24 : Vec Ideal S1024x32 .bf16) (ix2 j n)) (v24_at m c j n)
  have h := idx0 t
  blk_ext [iblk, h]
theorem b22 (j : Fin 32) (n : Fin 1024) : (iblk m c 22 t : Vec Ideal S32x1024 .bf16) (ix2 j n) = (par m c).v2 j n := by
  refine Eq.trans (?_ : _ = (V m c main_v25 : Vec Ideal S32x1024 .bf16) (ix2 j n)) (v25_at m c j n)
  have h := idx0 t
  blk_ext [iblk, h]
theorem b18 (j : Fin 1024) (x : Fin 128) : (iblk m c 18 t : Vec Ideal S1024x128 .bf16) (ix2 j x) = ind j x := by
  refine Eq.trans (?_ : _ = (V m c main_v5 : Vec Ideal S1024x128 .bf16) (ix2 j x)) (v5_at m c j x)
  have h := idx0 t
  blk_ext [iblk, h]
theorem b19 (x : Fin 128) (j : Fin 1024) : (iblk m c 19 t : Vec Ideal S128x1024 .bf16) (ix2 x j) = ind j x := by
  refine Eq.trans (?_ : _ = (V m c main_v6 : Vec Ideal S128x1024 .bf16) (ix2 x j)) (v6_at m c x j)
  have h := idx0 t
  blk_ext [iblk, h]

end Cert.Kernel2Ideal.Blocks

end
-- ==== Proof.PreFinal.lean ====
module

public import proofs.«01_k».proof.Proof.PreTile
public import proofs.«01_k».proof.Proof.PreBlocks

/-! The first kernel of the recurrence: the seven arrays it leaves. -/

@[expose] public section

set_option maxRecDepth 16384

noncomputable section

namespace Cert.Kernel2Ideal.Final

open Cert.Kernel2Ideal Cert.Kernel2Ideal.Gen Cert.Kernel2Ideal.Own Cert.Kernel2Ideal.Spec Cert.Kernel2Ideal.Blocks Cert.Kernel2Ideal.Tile Router Heads
open Idealize.ShloMosaic Idealize.ShloMosaic.TcCoe Idealize.SL.Sem

variable (m : (ℓ : Loc nD τ sig) → Buf (Elt Ideal) ℓ) (c : Dev nD)

/-- What a grid point's windows hold. -/
theorem holds (t : Fin cfg0.N) : Holds (par m c) t.val (lt64 t) (Out.firstW (grid0.coords t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) :=
  ⟨first_at t, b0 m c t, b1 m c t, b2 m c t, b3 m c t, b4 m c t, b5 m c t, b6 m c t, b7 m c t, b8 m c t, b9 m c t, b10 m c t, b11 m c t, b12 m c t, b13 m c t, b14 m c t, b15 m c t, b16 m c t, b17 m c t, b20 m c t, b21 m c t, b22 m c t, b18 m c t, b19 m c t, b23 m c t⟩

/-- The row of the arrays that row `p` of point `t` is. -/
abbrev row (t : Fin cfg0.N) (p : Fin 256) : Fin 16384 := ⟨t.val * 256 + p.val, by have := lt64 t; omega⟩

theorem final24 : (dats m 0 c).arrAt 24 cfg0.N = flat (rAt (par m c)) := by
  refine (dats m 0 c).arrAt_eq_of_covers 24 _ (by decide +kernel) fun t hf y => ?_
  blk_simp
  rw [after0_24]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_0).slice (win0_24.rect t)).emb (ix2 p n : S256x1024.Idx) = (ix2 (row t p) n : S16384x1024.Idx) := by
    have h := idxo t
    blk_ext [h]
  rw [he]
  exact (congrFun (Out.o24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (r_of (holds m c t) p n)

theorem final25 : (dats m 0 c).arrAt 25 cfg0.N = flat (kAt (par m c)) := by
  refine (dats m 0 c).arrAt_eq_of_covers 25 _ (by decide +kernel) fun t hf y => ?_
  blk_simp
  rw [after0_25]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_1).slice (win0_25.rect t)).emb (ix2 p n : S256x1024.Idx) = (ix2 (row t p) n : S16384x1024.Idx) := by
    have h := idxo t
    blk_ext [h]
  rw [he]
  exact (congrFun (Out.o25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (k_of (holds m c t) p n)

theorem final26 : (dats m 0 c).arrAt 26 cfg0.N = flat (vAt (par m c)) := by
  refine (dats m 0 c).arrAt_eq_of_covers 26 _ (by decide +kernel) fun t hf y => ?_
  blk_simp
  rw [after0_26]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_2).slice (win0_26.rect t)).emb (ix2 p n : S256x1024.Idx) = (ix2 (row t p) n : S16384x1024.Idx) := by
    have h := idxo t
    blk_ext [h]
  rw [he]
  exact (congrFun (Out.o26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (v_of (holds m c t) p n)

theorem final27 : (dats m 0 c).arrAt 27 cfg0.N = flat (lwAt (par m c)) := by
  refine (dats m 0 c).arrAt_eq_of_covers 27 _ (by decide +kernel) fun t hf y => ?_
  blk_simp
  rw [after0_27]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_3).slice (win0_27.rect t)).emb (ix2 p n : S256x1024.Idx) = (ix2 (row t p) n : S16384x1024.Idx) := by
    have h := idxo t
    blk_ext [h]
  rw [he]
  exact (congrFun (Out.o27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (lw_of (holds m c t) p n)

theorem final28 (hR : Reals (par m c)) : (dats m 0 c).arrAt 28 cfg0.N = flat (kkAt (par m c)) := by
  refine (dats m 0 c).arrAt_eq_of_covers 28 _ (by decide +kernel) fun t hf y => ?_
  blk_simp
  rw [after0_28]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_4).slice (win0_28.rect t)).emb (ix2 p n : S256x1024.Idx) = (ix2 (row t p) n : S16384x1024.Idx) := by
    have h := idxo t
    blk_ext [h]
  rw [he]
  exact (congrFun (Out.o28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (kk_of (holds m c t) p n hR)

theorem final29 : (dats m 0 c).arrAt 29 cfg0.N = flat (aAt (par m c)) := by
  refine (dats m 0 c).arrAt_eq_of_covers 29 _ (by decide +kernel) fun t hf y => ?_
  blk_simp
  rw [after0_29]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_5).slice (win0_29.rect t)).emb (ix2 p n : S256x1024.Idx) = (ix2 (row t p) n : S16384x1024.Idx) := by
    have h := idxo t
    blk_ext [h]
  rw [he]
  exact (congrFun (Out.o29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (a_of (holds m c t) p n)

theorem final30 : (dats m 0 c).arrAt 30 cfg0.N = flat (gAt (par m c)) := by
  refine (dats m 0 c).arrAt_eq_of_covers 30 _ (by decide +kernel) fun t hf y => ?_
  blk_simp
  rw [after0_30]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v27_6).slice (win0_30.rect t)).emb (ix2 p n : S256x1024.Idx) = (ix2 (row t p) n : S16384x1024.Idx) := by
    have h := idxo t
    blk_ext [h]
  rw [he]
  exact (congrFun (Out.o30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)) (ix2 p n)).trans (g_of (holds m c t) p n)

end Cert.Kernel2Ideal.Final

end
-- ==== Proof.PreRun.lean ====
module

public import proofs.«01_k».proof.Proof.PreFrameIdeal
public import Idealize.ShloMosaic.Lib.Pipeline.Value

/-! The first kernel of the recurrence: its run, the seven arrays named by what the grid points write back. -/

@[expose] public section

noncomputable section

namespace Cert.Kernel2Ideal.Run

open Cert.Kernel2Ideal Cert.Kernel2Ideal.Gen Cert.Kernel2Ideal.Own Idealize.ShloMosaic Idealize.ShloMosaic.TcCoe Idealize.SL.Sem

variable {F : FTy → Type} [FloatOps F]
variable (m : (ℓ : Loc nD τ sig) → Buf (Elt F) ℓ) (ρ : Dev nD → PrngReg)

theorem post24 (r : PUnit × MemSt nD τ sig (Elt F)) (h : Pipeline.FramePost cfgs (dats m) 0 (V m) r) (c : Dev nD) :
    r.2.mem ((c : Thread nD τ).loc main_v27_0) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v27_1) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v27_2) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v27_3) = (dats m 0 c).arrAt 27 cfg0.N :=
  (h c).1 27

theorem post28 (r : PUnit × MemSt nD τ sig (Elt F)) (h : Pipeline.FramePost cfgs (dats m) 0 (V m) r) (c : Dev nD) :
    r.2.mem ((c : Thread nD τ).loc main_v27_4) = (dats m 0 c).arrAt 28 cfg0.N :=
  (h c).1 28

theorem post29 (r : PUnit × MemSt nD τ sig (Elt F)) (h : Pipeline.FramePost cfgs (dats m) 0 (V m) r) (c : Dev nD) :
    r.2.mem ((c : Thread nD τ).loc main_v27_5) = (dats m 0 c).arrAt 29 cfg0.N :=
  (h c).1 29

theorem post30 (r : PUnit × MemSt nD τ sig (Elt F)) (h : Pipeline.FramePost cfgs (dats m) 0 (V m) r) (c : Dev nD) :
    r.2.mem ((c : Thread nD τ).loc main_v27_6) = (dats m 0 c).arrAt 30 cfg0.N :=
  (h c).1 30

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

theorem run_blocks : θ_run defs (onTc (τ := τ) (main (F := F))) ⟨m, fun _ => 0, ρ⟩ fun r => ∀ c : Dev nD,
      r.2.mem ((c : Thread nD τ).loc main_v27_0) = (dats m 0 c).arrAt 24 cfg0.N
      ∧ r.2.mem ((c : Thread nD τ).loc main_v27_1) = (dats m 0 c).arrAt 25 cfg0.N
      ∧ r.2.mem ((c : Thread nD τ).loc main_v27_2) = (dats m 0 c).arrAt 26 cfg0.N
      ∧ r.2.mem ((c : Thread nD τ).loc main_v27_3) = (dats m 0 c).arrAt 27 cfg0.N
      ∧ r.2.mem ((c : Thread nD τ).loc main_v27_4) = (dats m 0 c).arrAt 28 cfg0.N
      ∧ r.2.mem ((c : Thread nD τ).loc main_v27_5) = (dats m 0 c).arrAt 29 cfg0.N
      ∧ r.2.mem ((c : Thread nD τ).loc main_v27_6) = (dats m 0 c).arrAt 30 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post24 m r h c,
      post25 m r h c,
      post26 m r h c,
      post27 m r h c,
      post28 m r h c,
      post29 m r h c,
      post30 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.Kernel2Ideal.Run

end
-- ==== Proof.PreRef.lean ====
module

public import proofs.«01_k».proof.Proof.PreSpec
public import proofs.«01_k».proof.Proof.Gen.Reference2Ideal.Run

/-! The reference of the recurrence's first kernel, in stages and at an index. -/

@[expose] public section

set_option maxRecDepth 16384

noncomputable section

namespace Cert.Reference2Ideal.Rows

open Cert.Reference2Ideal Cert.Reference2Ideal.Gen Router Heads
open Cert.Kernel2Ideal.Spec (Par hAt pAt mix rAt k0At aAt kAt vAt lwAt kkAt gAt flat)
open Cert.Kernel2Ideal.Rows (mixRow dotRow decay lwRow aRow gRow vRow kRow nrm kkRow)
open Idealize.ShloMosaic Idealize.ShloMosaic.TcCoe Idealize.SL.Sem

/-- Arrays over the extended reals. -/
abbrev A (s : Shape) := FVec Ideal s .f32
abbrev A3 := A S4x4096x1024

def rows (z : A S1024) : A3 := broadcastInDim S4x4096x1024 ![0, 1, 2] bcast_S1x1x1024_S4x4096x1024_0_1_2 (broadcastInDim S1x1x1024 ![2] bcast_S1024_S1x1x1024_2 z)
def cst (w : BitVec 32) : A3 := broadcastInDim S4x4096x1024 ![] bcast_S_S4x4096x1024 (constant S_ .f32 w)
def refH (x : A3) (g : A S1024) : A3 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1
    (Host.reduceAdd (mulf x x) (constant S_ .f32 0x00000000#32) reducesTo_S4x4096x1024_S4x4096_d2 h_S_)) (broadcastInDim S4x4096x1 ![] bcast_S_S4x4096x1 (constant S_ .f32 0x44800000#32)))
    (broadcastInDim S4x4096x1 ![] bcast_S_S4x4096x1 (constant S_ .f32 0x358637BD#32)))))) (rows g)
def refPrev (h : A3) (sp : A S4x1024) : A3 :=
  concatenate S4x4096x1024 1 [⟨S4x1x1024, (broadcastInDim S4x1x1024 ![0, 2] bcast_S4x1024_S4x1x1024_0_2 sp)⟩,
    ⟨S4x4095x1024, (extractStridedSlice S4x4095x1024 ![0, 0, 0] h slices_S4x4096x1024_S4x4095x1024_0_0_0)⟩] concatenates_S4x1x1024_S4x4095x1024_S4x4096x1024_d1
def refMix (h : A3) (sp : A S4x1024) (mrow : A S1024) : A3 := addf h (mulf (subf (refPrev h sp) h) (rows mrow))
def mu0 (mu : A S6x1024) : A S1024 := shapeCast _ (extractStridedSlice S1x1024 ![0, 0] mu slices_S6x1024_S1x1024_0_0) shapeCasts_S1x1024_S1024
def mu1 (mu : A S6x1024) : A S1024 := shapeCast _ (extractStridedSlice S1x1024 ![1, 0] mu slices_S6x1024_S1x1024_1_0) shapeCasts_S1x1024_S1024
def mu2 (mu : A S6x1024) : A S1024 := shapeCast _ (extractStridedSlice S1x1024 ![2, 0] mu slices_S6x1024_S1x1024_2_0) shapeCasts_S1x1024_S1024
def mu3 (mu : A S6x1024) : A S1024 := shapeCast _ (extractStridedSlice S1x1024 ![3, 0] mu slices_S6x1024_S1x1024_3_0) shapeCasts_S1x1024_S1024
def mu4 (mu : A S6x1024) : A S1024 := shapeCast _ (extractStridedSlice S1x1024 ![4, 0] mu slices_S6x1024_S1x1024_4_0) shapeCasts_S1x1024_S1024
def mu5 (mu : A S6x1024) : A S1024 := shapeCast _ (extractStridedSlice S1x1024 ![5, 0] mu slices_S6x1024_S1x1024_5_0) shapeCasts_S1x1024_S1024
def dotW (x : A3) (w : A S1024x1024) : A3 := Host.dotGeneral dot_S4x4096x1024_S1024x1024_S4x4096x1024_2_0_01_1_n_n none x w
def dot64 (x : A3) (w : A S1024x64) : A S4x4096x64 := Host.dotGeneral dot_S4x4096x1024_S1024x64_S4x4096x64_2_0_01_1_n_n none x w
def up64 (x : A S4x4096x64) (w : A S64x1024) : A3 := Host.dotGeneral dot_S4x4096x64_S64x1024_S4x4096x1024_2_0_01_1_n_n none x w
def dot32 (x : A3) (w : A S1024x32) : A S4x4096x32 := Host.dotGeneral dot_S4x4096x1024_S1024x32_S4x4096x32_2_0_01_1_n_n none x w
def up32 (x : A S4x4096x32) (w : A S32x1024) : A3 := Host.dotGeneral dot_S4x4096x32_S32x1024_S4x4096x1024_2_0_01_1_n_n none x w
def dot128 (x : A3) (w : A S1024x128) : A S4x4096x128 := Host.dotGeneral dot_S4x4096x1024_S1024x128_S4x4096x128_2_0_01_1_n_n none x w
def up128 (x : A S4x4096x128) (w : A S128x1024) : A3 := Host.dotGeneral dot_S4x4096x128_S128x1024_S4x4096x1024_2_0_01_1_n_n none x w
def sig (z : A3) : A3 := Host.divf (cst 0x3F800000#32) (addf (cst 0x3F800000#32) (Host.exp (Host.negf z)))
def sig128 (z : A S4x4096x128) : A S4x4096x128 := Host.divf (broadcastInDim S4x4096x128 ![] bcast_S_S4x4096x128 (constant S_ .f32 0x3F800000#32))
  (addf (broadcastInDim S4x4096x128 ![] bcast_S_S4x4096x128 (constant S_ .f32 0x3F800000#32)) (Host.exp (Host.negf z)))
def refA (x : A3) (a0 : A S1024) (a1 : A S1024x64) (a2 : A S64x1024) : A3 := sig (addf (rows a0) (up64 (dot64 x a1) a2))
def refG (x : A3) (g1 : A S1024x128) (g2 : A S128x1024) : A3 := up128 (sig128 (dot128 x g1)) g2
def refV (x vf : A3) (v0 : A S1024) (wv : A S1024x1024) (v1 : A S1024x32) (v2 : A S32x1024) : A3 :=
  addf (dotW x wv) (mulf (subf vf (dotW x wv)) (sig (addf (rows v0) (up32 (dot32 x v1) v2))))
def refK (k a : A3) (ka : A S1024) : A3 := mulf k (addf (cst 0x3F800000#32) (mulf (subf a (cst 0x3F800000#32)) (rows ka)))
def refU (x : A3) (w0 : A S1024) (w1 : A S1024x64) (w2 : A S64x1024) : A3 := Host.negf (addf (rows w0) (up64 (Host.tanh (dot64 x w1)) w2))
def refSoft (u : A3) : A3 := select (cmpf .une (subf u (cst 0x00000000#32)) (subf u (cst 0x00000000#32))) (addf u (cst 0x00000000#32))
  (addf (maximumf u (cst 0x00000000#32)) (Host.log1p (Host.exp (Host.negf (Host.absf (subf u (cst 0x00000000#32)))))))
def refLw (u : A3) : A3 := Host.negf (Host.exp (subf (Host.negf (refSoft u)) (cst 0x3F000000#32)))
def refHeads (z : A3) : A S4x4096x16x64 := shapeCast _ z shapeCasts_S4x4096x1024_S4x4096x16x64
def refNrm (z : A S4x4096x16x64) : A S4x4096x16x1 := maximumf (Host.sqrt (broadcastInDim S4x4096x16x1 ![0, 1, 2] bcast_S4x4096x16_S4x4096x16x1_0_1_2
  (Host.reduceAdd (mulf z z) (constant S_ .f32 0x00000000#32) reducesTo_S4x4096x16x64_S4x4096x16_d3 h_S_)))
  (broadcastInDim S4x4096x16x1 ![] bcast_S_S4x4096x16x1 (constant S_ .f32 0x2B8CBCCC#32))
def refUnit (z : A S4x4096x16x64) : A S4x4096x16x64 :=
  Host.divf z (broadcastInDim S4x4096x16x64 ![0, 1, 2, 3] bcast_S4x4096x16x1_S4x4096x16x64_0_1_2_3 (refNrm z))
def refKk (k : A3) (w : A S1024) : A S4x4096x16x64 := refUnit (refHeads (mulf k (rows w)))

section
variable (b : Fin 4) (s : Fin 4096)

theorem rows_at (z : A S1024) (n : Fin 1024) : rows z (ix3 b s n) = z (ix1 n) := by
  pointwise [rows]
theorem h_at (x : A3) (g : A S1024) (n : Fin 1024) : refH x g (ix3 b s n) = normRow (fun k => x (ix3 b s k)) (fun k => g (ix1 k)) n := by
  pointwise [refH, rows]
  rfl
theorem prev_at (h : A3) (sp : A S4x1024) (n : Fin 1024) : refPrev h sp (ix3 b s n)
    = if s.val = 0 then sp (ix2 b n) else h (ix3 b ⟨s.val - 1, by omega⟩ n) := by
  pointwise [refPrev]
  by_cases h0 : s.val = 0
  · rw [if_pos h0, dif_pos (by omega)]
  · rw [if_neg h0, dif_neg (by omega)]
theorem mix_at (h : A3) (sp : A S4x1024) (w : A S1024) (n : Fin 1024) : refMix h sp w (ix3 b s n)
    = h (ix3 b s n) + (refPrev h sp (ix3 b s n) - h (ix3 b s n)) * w (ix1 n) := by
  rw [← rows_at b s w n]
  rfl
theorem mu0_at (mu : A S6x1024) (n : Fin 1024) : mu0 mu (ix1 n) = mu (ix2 0 n) := by pointwise [mu0]
theorem mu1_at (mu : A S6x1024) (n : Fin 1024) : mu1 mu (ix1 n) = mu (ix2 1 n) := by pointwise [mu1]
theorem mu2_at (mu : A S6x1024) (n : Fin 1024) : mu2 mu (ix1 n) = mu (ix2 2 n) := by pointwise [mu2]
theorem mu3_at (mu : A S6x1024) (n : Fin 1024) : mu3 mu (ix1 n) = mu (ix2 3 n) := by pointwise [mu3]
theorem mu4_at (mu : A S6x1024) (n : Fin 1024) : mu4 mu (ix1 n) = mu (ix2 4 n) := by pointwise [mu4]
theorem mu5_at (mu : A S6x1024) (n : Fin 1024) : mu5 mu (ix1 n) = mu (ix2 5 n) := by pointwise [mu5]

theorem dotW_at (x : A3) (w : A S1024x1024) (n : Fin 1024) : dotW x w (ix3 b s n) = dotRow (fun j => x (ix3 b s j)) (fun j n => w (ix2 j n)) n := by
  unfold dotRow
  pointwise [dotW]
theorem dot64_at (x : A3) (w : A S1024x64) (n : Fin 64) : dot64 x w (ix3 b s n) = dotRow (fun j => x (ix3 b s j)) (fun j n => w (ix2 j n)) n := by
  unfold dotRow
  pointwise [dot64]
theorem up64_at (x : A S4x4096x64) (w : A S64x1024) (n : Fin 1024) : up64 x w (ix3 b s n) = dotRow (fun j => x (ix3 b s j)) (fun j n => w (ix2 j n)) n := by
  unfold dotRow
  pointwise [up64]
theorem dot32_at (x : A3) (w : A S1024x32) (n : Fin 32) : dot32 x w (ix3 b s n) = dotRow (fun j => x (ix3 b s j)) (fun j n => w (ix2 j n)) n := by
  unfold dotRow
  pointwise [dot32]
theorem up32_at (x : A S4x4096x32) (w : A S32x1024) (n : Fin 1024) : up32 x w (ix3 b s n) = dotRow (fun j => x (ix3 b s j)) (fun j n => w (ix2 j n)) n := by
  unfold dotRow
  pointwise [up32]
theorem dot128_at (x : A3) (w : A S1024x128) (n : Fin 128) : dot128 x w (ix3 b s n) = dotRow (fun j => x (ix3 b s j)) (fun j n => w (ix2 j n)) n := by
  unfold dotRow
  pointwise [dot128]
theorem up128_at (x : A S4x4096x128) (w : A S128x1024) (n : Fin 1024) : up128 x w (ix3 b s n) = dotRow (fun j => x (ix3 b s j)) (fun j n => w (ix2 j n)) n := by
  unfold dotRow
  pointwise [up128]
theorem sig_at (z : A3) (n : Fin 1024) : sig z (ix3 b s n) = Ideal.logistic (z (ix3 b s n)) := by
  pointwise [sig, cst]
  rfl
theorem sig128_at (z : A S4x4096x128) (n : Fin 128) : sig128 z (ix3 b s n) = Ideal.logistic (z (ix3 b s n)) := by
  pointwise [sig128]
  rfl
theorem refA_at (x : A3) (a0 : A S1024) (a1 : A S1024x64) (a2 : A S64x1024) (n : Fin 1024) : refA x a0 a1 a2 (ix3 b s n)
    = aRow (fun j => x (ix3 b s j)) (fun j => a0 (ix1 j)) (fun j n => a1 (ix2 j n)) (fun j n => a2 (ix2 j n)) n := by
  have e : addf (rows a0) (up64 (dot64 x a1) a2) (ix3 b s n) = rows a0 (ix3 b s n) + up64 (dot64 x a1) a2 (ix3 b s n) := rfl
  unfold refA aRow
  rw [sig_at, e, rows_at, up64_at]
  simp only [dot64_at]
theorem refG_at (x : A3) (g1 : A S1024x128) (g2 : A S128x1024) (n : Fin 1024) : refG x g1 g2 (ix3 b s n)
    = gRow (fun j => x (ix3 b s j)) (fun j n => g1 (ix2 j n)) (fun j n => g2 (ix2 j n)) n := by
  unfold refG gRow
  rw [up128_at]
  simp only [sig128_at, dot128_at]
theorem refV_at (x vf : A3) (v0 : A S1024) (wv : A S1024x1024) (v1 : A S1024x32) (v2 : A S32x1024) (n : Fin 1024) : refV x vf v0 wv v1 v2 (ix3 b s n)
    = vRow (fun j => x (ix3 b s j)) (fun j => vf (ix3 b s j)) (fun j => v0 (ix1 j)) (fun j n => wv (ix2 j n)) (fun j n => v1 (ix2 j n)) (fun j n => v2 (ix2 j n)) n := by
  have e : refV x vf v0 wv v1 v2 (ix3 b s n) = dotW x wv (ix3 b s n) + (vf (ix3 b s n) - dotW x wv (ix3 b s n)) * sig (addf (rows v0) (up32 (dot32 x v1) v2)) (ix3 b s n) := rfl
  have e' : addf (rows v0) (up32 (dot32 x v1) v2) (ix3 b s n) = rows v0 (ix3 b s n) + up32 (dot32 x v1) v2 (ix3 b s n) := rfl
  unfold vRow
  rw [e, sig_at, e', rows_at, up32_at, dotW_at]
  simp only [dot32_at]
theorem refK_at (k a : A3) (ka : A S1024) (n : Fin 1024) : refK k a ka (ix3 b s n)
    = kRow (fun j => k (ix3 b s j)) (fun j => a (ix3 b s j)) (fun j => ka (ix1 j)) n := by
  unfold kRow
  pointwise [refK, cst, rows]
theorem refLw_at (u : A3) (n : Fin 1024) : refLw u (ix3 b s n) = decay (u (ix3 b s n)) := by
  unfold decay
  pointwise [refLw, refSoft, cst]
  simp only [ne_eq, not_true_eq_false, if_false, zero_sub]
  rfl
theorem refU_at (x : A3) (w0 : A S1024) (w1 : A S1024x64) (w2 : A S64x1024) (n : Fin 1024) : refU x w0 w1 w2 (ix3 b s n)
    = Ideal.ofBits .f32 0x00000000#32 - (w0 (ix1 n) + dotRow (fun y => Ideal.tanh (dotRow (fun j => x (ix3 b s j)) (fun j y => w1 (ix2 j y)) y)) (fun y n => w2 (ix2 y n)) n) := by
  have e : refU x w0 w1 w2 (ix3 b s n) = -(rows w0 (ix3 b s n) + up64 (Host.tanh (dot64 x w1)) w2 (ix3 b s n)) := rfl
  have e' : ∀ y, Host.tanh (dot64 x w1) (ix3 b s y) = Ideal.tanh (dot64 x w1 (ix3 b s y)) := fun y => rfl
  have z : Ideal.ofBits .f32 0x00000000#32 = (0 : EReal) := by simp [Ideal.ofBits, Ideal.ieee]
  rw [e, rows_at, up64_at, z, zero_sub]
  simp only [e', dot64_at]
theorem heads_at (z : A3) (h : Fin 16) (e : Fin 64) : refHeads z (ix4 b s h e) = z (ix3 b s (col h e)) := by
  pointwise [refHeads]
theorem nrm_at (z : A S4x4096x16x64) (h : Fin 16) : refNrm z (ix4 b s h 0) = nrm (∑ e : Fin 64, z (ix4 b s h e) * z (ix4 b s h e)) := by
  unfold nrm
  pointwise [refNrm]
theorem unit_at (z : A S4x4096x16x64) (h : Fin 16) (e : Fin 64) : refUnit z (ix4 b s h e) = Ideal.div (z (ix4 b s h e)) (refNrm z (ix4 b s h 0)) := by
  unfold refUnit
  generalize refNrm z = w
  pointwise []
end

/-- Rows of tokens, flat. -/
theorem flat_eq (f : A3) (F : Fin 4 → Fin 4096 → Fin 1024 → EReal) (h : ∀ b s n, f (ix3 b s n) = F b s n) :
    (shapeCast _ f shapeCasts_S4x4096x1024_S16384x1024 : A S16384x1024) = flat F := by
  refine funext fun i => ?_
  obtain ⟨t, n, rfl⟩ : ∃ (t : Fin 16384) (n : Fin 1024), i = ix2 t n := ⟨i 0, i 1, by funext a; match a with | ⟨0, _⟩ => rfl | ⟨1, _⟩ => rfl⟩
  refine Eq.trans ?_ (h ⟨t.val / 4096, by omega⟩ ⟨t.val % 4096, by omega⟩ n)
  pointwise []

theorem flat_heads (f : A S4x4096x16x64) (F : Fin 4 → Fin 4096 → Fin 1024 → EReal) (h : ∀ b s n, f (ix4 b s (headOf n) ⟨n.val % 64, by omega⟩) = F b s n) :
    (shapeCast _ f shapeCasts_S4x4096x16x64_S16384x1024 : A S16384x1024) = flat F := by
  refine funext fun i => ?_
  obtain ⟨t, n, rfl⟩ : ∃ (t : Fin 16384) (n : Fin 1024), i = ix2 t n := ⟨i 0, i 1, by funext a; match a with | ⟨0, _⟩ => rfl | ⟨1, _⟩ => rfl⟩
  refine Eq.trans ?_ (h ⟨t.val / 4096, by omega⟩ ⟨t.val % 4096, by omega⟩ n)
  unfold headOf
  pointwise []

/-- A quotient by a head's norm is a product with the norm's inverse. -/
theorem unit_eq {z : Fin 1024 → EReal} (hz : ∀ j, IsReal (z j)) (n : Fin 1024) :
    Ideal.div (z n) (nrm (headSum (fun j => z j * z j) (headOf n))) = kkRow z n := by
  have e := laneSum_head (fun j => z j * z j) n
  obtain ⟨s, hs, es⟩ := Cert.Kernel2Ideal.Rows.laneSum_sq hz ⟨n.val / 64, by omega⟩
  obtain ⟨r, hr, er⟩ := Cert.Kernel2Ideal.Rows.nrm_pos s hs
  unfold kkRow
  rw [← e, es, er, Cert.Kernel2Ideal.Rows.bits_one, div_pos_coe _ hr, div_pos_coe _ hr, EReal.coe_one, one_mul]

section
variable (x0 : A3) (x1 : A S1024) (x2 : A S4x1024) (x3 : A3) (x4 : A S1024) (x5 : A S1024x32) (x6 : A S32x1024) (x7 : A S6x1024)
  (x8 x9 x10 : A S1024x1024) (x11 : A S1024) (x12 : A S1024x64) (x13 : A S64x1024) (x14 : A S1024) (x15 : A S1024x64) (x16 : A S64x1024)
  (x17 : A S1024x128) (x18 : A S128x1024) (x19 x20 : A S1024)

/-- The arrays by coordinates. -/
def parOf : Par where
  x := fun i j k => x0 (ix3 i j k)
  g := fun i => x1 (ix1 i)
  sp := fun i j => x2 (ix2 i j)
  vf := fun i j k => x3 (ix3 i j k)
  v0 := fun i => x4 (ix1 i)
  v1 := fun i j => x5 (ix2 i j)
  v2 := fun i j => x6 (ix2 i j)
  mu := fun i j => x7 (ix2 i j)
  wr := fun i j => x8 (ix2 i j)
  wk := fun i j => x9 (ix2 i j)
  wv := fun i j => x10 (ix2 i j)
  w0 := fun i => x11 (ix1 i)
  w1 := fun i j => x12 (ix2 i j)
  w2 := fun i j => x13 (ix2 i j)
  a0 := fun i => x14 (ix1 i)
  a1 := fun i j => x15 (ix2 i j)
  a2 := fun i j => x16 (ix2 i j)
  g1 := fun i j => x17 (ix2 i j)
  g2 := fun i j => x18 (ix2 i j)
  kk := fun i => x19 (ix1 i)
  ka := fun i => x20 (ix1 i)

variable (b : Fin 4) (s : Fin 4096)

theorem hI (n : Fin 1024) : refH x0 x1 (ix3 b s n) = hAt (parOf x0 x1 x2 x3 x4 x5 x6 x7 x8 x9 x10 x11 x12 x13 x14 x15 x16 x17 x18 x19 x20) b s n := h_at b s x0 x1 n
theorem pI (n : Fin 1024) : refPrev (refH x0 x1) x2 (ix3 b s n) = pAt (parOf x0 x1 x2 x3 x4 x5 x6 x7 x8 x9 x10 x11 x12 x13 x14 x15 x16 x17 x18 x19 x20) b s n := by
  rw [prev_at]
  unfold pAt
  by_cases h0 : s.val = 0
  · rw [if_pos h0, if_pos h0]
    rfl
  · rw [if_neg h0, if_neg h0]
    exact h_at b _ x0 x1 n
theorem mI (w : A S1024) (i : Fin 6) (hw : ∀ n, w (ix1 n) = x7 (ix2 i n)) (n : Fin 1024) : refMix (refH x0 x1) x2 w (ix3 b s n) = mix (parOf x0 x1 x2 x3 x4 x5 x6 x7 x8 x9 x10 x11 x12 x13 x14 x15 x16 x17 x18 x19 x20) b s i n := by
  rw [mix_at, hw]
  exact congrArg₂ (fun h p : EReal => h + (p - h) * x7 (ix2 i n)) (hI x0 x1 x2 x3 x4 x5 x6 x7 x8 x9 x10 x11 x12 x13 x14 x15 x16 x17 x18 x19 x20 b s n) (pI x0 x1 x2 x3 x4 x5 x6 x7 x8 x9 x10 x11 x12 x13 x14 x15 x16 x17 x18 x19 x20 b s n)

def o0 : A3 := dotW (refMix (refH x0 x1) x2 (mu0 x7)) x8
def oA : A3 := refA (refMix (refH x0 x1) x2 (mu4 x7)) x14 x15 x16
def oK0 : A3 := dotW (refMix (refH x0 x1) x2 (mu2 x7)) x9
def oK : A3 := refK (oK0 x0 x1 x2 x7 x9) (oA x0 x1 x2 x7 x14 x15 x16) x20
def oV : A3 := refV (refMix (refH x0 x1) x2 (mu3 x7)) x3 x4 x10 x5 x6
def oLw : A3 := refLw (refU (refMix (refH x0 x1) x2 (mu1 x7)) x11 x12 x13)
def oKk : A S4x4096x16x64 := refKk (oK0 x0 x1 x2 x7 x9) x19
def oG : A3 := refG (refMix (refH x0 x1) x2 (mu5 x7)) x17 x18

theorem rI (n : Fin 1024) : o0 x0 x1 x2 x7 x8 (ix3 b s n) = rAt (parOf x0 x1 x2 x3 x4 x5 x6 x7 x8 x9 x10 x11 x12 x13 x14 x15 x16 x17 x18 x19 x20) b s n := by
  unfold o0
  rw [dotW_at, funext (mI x0 x1 x2 x3 x4 x5 x6 x7 x8 x9 x10 x11 x12 x13 x14 x15 x16 x17 x18 x19 x20 b s (mu0 x7) 0 (mu0_at x7))]
  rfl
theorem k0I (n : Fin 1024) : oK0 x0 x1 x2 x7 x9 (ix3 b s n) = k0At (parOf x0 x1 x2 x3 x4 x5 x6 x7 x8 x9 x10 x11 x12 x13 x14 x15 x16 x17 x18 x19 x20) b s n := by
  unfold oK0
  rw [dotW_at, funext (mI x0 x1 x2 x3 x4 x5 x6 x7 x8 x9 x10 x11 x12 x13 x14 x15 x16 x17 x18 x19 x20 b s (mu2 x7) 2 (mu2_at x7))]
  rfl
theorem aI (n : Fin 1024) : oA x0 x1 x2 x7 x14 x15 x16 (ix3 b s n) = aAt (parOf x0 x1 x2 x3 x4 x5 x6 x7 x8 x9 x10 x11 x12 x13 x14 x15 x16 x17 x18 x19 x20) b s n := by
  unfold oA
  rw [refA_at, funext (mI x0 x1 x2 x3 x4 x5 x6 x7 x8 x9 x10 x11 x12 x13 x14 x15 x16 x17 x18 x19 x20 b s (mu4 x7) 4 (mu4_at x7))]
  rfl
theorem kI (n : Fin 1024) : oK x0 x1 x2 x7 x9 x14 x15 x16 x20 (ix3 b s n) = kAt (parOf x0 x1 x2 x3 x4 x5 x6 x7 x8 x9 x10 x11 x12 x13 x14 x15 x16 x17 x18 x19 x20) b s n := by
  unfold oK
  rw [refK_at, funext (k0I x0 x1 x2 x3 x4 x5 x6 x7 x8 x9 x10 x11 x12 x13 x14 x15 x16 x17 x18 x19 x20 b s), funext (aI x0 x1 x2 x3 x4 x5 x6 x7 x8 x9 x10 x11 x12 x13 x14 x15 x16 x17 x18 x19 x20 b s)]
  rfl
theorem vI (n : Fin 1024) : oV x0 x1 x2 x3 x4 x5 x6 x7 x10 (ix3 b s n) = vAt (parOf x0 x1 x2 x3 x4 x5 x6 x7 x8 x9 x10 x11 x12 x13 x14 x15 x16 x17 x18 x19 x20) b s n := by
  unfold oV
  rw [refV_at, funext (mI x0 x1 x2 x3 x4 x5 x6 x7 x8 x9 x10 x11 x12 x13 x14 x15 x16 x17 x18 x19 x20 b s (mu3 x7) 3 (mu3_at x7))]
  rfl
theorem lwI (n : Fin 1024) : oLw x0 x1 x2 x7 x11 x12 x13 (ix3 b s n) = lwAt (parOf x0 x1 x2 x3 x4 x5 x6 x7 x8 x9 x10 x11 x12 x13 x14 x15 x16 x17 x18 x19 x20) b s n := by
  unfold oLw
  rw [refLw_at, refU_at, funext (mI x0 x1 x2 x3 x4 x5 x6 x7 x8 x9 x10 x11 x12 x13 x14 x15 x16 x17 x18 x19 x20 b s (mu1 x7) 1 (mu1_at x7))]
  rfl
theorem gI (n : Fin 1024) : oG x0 x1 x2 x7 x17 x18 (ix3 b s n) = gAt (parOf x0 x1 x2 x3 x4 x5 x6 x7 x8 x9 x10 x11 x12 x13 x14 x15 x16 x17 x18 x19 x20) b s n := by
  unfold oG
  rw [refG_at, funext (mI x0 x1 x2 x3 x4 x5 x6 x7 x8 x9 x10 x11 x12 x13 x14 x15 x16 x17 x18 x19 x20 b s (mu5 x7) 5 (mu5_at x7))]
  rfl
theorem zI (n : Fin 1024) : mulf (oK0 x0 x1 x2 x7 x9) (rows x19) (ix3 b s n) = k0At (parOf x0 x1 x2 x3 x4 x5 x6 x7 x8 x9 x10 x11 x12 x13 x14 x15 x16 x17 x18 x19 x20) b s n * x19 (ix1 n) := by
  have e : mulf (oK0 x0 x1 x2 x7 x9) (rows x19) (ix3 b s n) = oK0 x0 x1 x2 x7 x9 (ix3 b s n) * rows x19 (ix3 b s n) := rfl
  rw [e, k0I x0 x1 x2 x3 x4 x5 x6 x7 x8 x9 x10 x11 x12 x13 x14 x15 x16 x17 x18 x19 x20 b s, rows_at]
theorem kkI (hR : Cert.Kernel2Ideal.Spec.Reals (parOf x0 x1 x2 x3 x4 x5 x6 x7 x8 x9 x10 x11 x12 x13 x14 x15 x16 x17 x18 x19 x20)) (n : Fin 1024) : oKk x0 x1 x2 x7 x9 x19 (ix4 b s (headOf n) ⟨n.val % 64, by omega⟩) = kkAt (parOf x0 x1 x2 x3 x4 x5 x6 x7 x8 x9 x10 x11 x12 x13 x14 x15 x16 x17 x18 x19 x20) b s n := by
  have hc : col (headOf n) ⟨n.val % 64, by omega⟩ = n := Fin.ext (by show n.val / 64 * 64 + n.val % 64 = n.val; omega)
  unfold oKk refKk
  rw [unit_at, nrm_at]
  simp only [heads_at, zI x0 x1 x2 x3 x4 x5 x6 x7 x8 x9 x10 x11 x12 x13 x14 x15 x16 x17 x18 x19 x20 b s, hc]
  exact unit_eq (Cert.Kernel2Ideal.Spec.isReal_z b s hR) n
end

end Cert.Reference2Ideal.Rows

end
-- ==== Proof.PreFinite.lean ====
module

public import proofs.«01_k».proof.Proof.Finite

/-! The precondition of the recurrence's first kernel says what it says: the entries are real numbers. -/

@[expose] public section

set_option maxRecDepth 16384

noncomputable section

namespace Cert.Pre_keys_finite

open Idealize.ShloMosaic Idealize.ShloMosaic.TcCoe Router

/-- The side conditions the predicate takes. -/
theorem sides : Facts where
  bcast_S_S4x4096x1024 := by decide
  reducesTo_S4x4096x1024_S_d0_1_2 := by decide
  h_S_ := by decide
  bcast_S_S1024 := by decide
  reducesTo_S1024_S_d0 := by decide
  bcast_S_S4x1024 := by decide
  reducesTo_S4x1024_S_d0_1 := by decide
  bcast_S_S6x1024 := by decide
  reducesTo_S6x1024_S_d0_1 := by decide
  bcast_S_S1024x1024 := by decide
  reducesTo_S1024x1024_S_d0_1 := by decide

attribute [local instance] sides

/-- One array's part of the predicate. -/
theorem part {S : Shape} {axes : List (Fin S.rank)} (x : FVec Ideal S .f32) (hb : S_.BroadcastsInDim S (![] : Fin 0 → Fin S.rank))
    (hr : S.ReducesTo axes S_) (hu : 0 < S_.numel) (j : S_.Idx)
    (e : Host.reduce IntOp.andi (cmpf .olt (Host.absf x) (broadcastInDim S ![] hb (constant S_ .f32 0x7F800000#32))) (constantI S_ 1 1#1) hr hu j = 1#1)
    (i : S.Idx) : IsReal (x i) :=
  Cert.Pre_router_finite.isReal_of_lt _ (Host.reduce_andi_all _ _ hr hu j e i)

theorem reals (x0 : FVec Ideal S4x4096x1024 .f32) (x1 : FVec Ideal S1024 .f32) (x2 : FVec Ideal S4x1024 .f32) (x3 : FVec Ideal S4x4096x1024 .f32)
    (x4 : FVec Ideal S1024 .f32) (x5 : FVec Ideal S1024x32 .f32) (x6 : FVec Ideal S32x1024 .f32) (x7 : FVec Ideal S6x1024 .f32)
    (x8 x9 x10 : FVec Ideal S1024x1024 .f32) (x11 : FVec Ideal S1024 .f32) (x12 : FVec Ideal S1024x64 .f32) (x13 : FVec Ideal S64x1024 .f32)
    (x14 : FVec Ideal S1024 .f32) (x15 : FVec Ideal S1024x64 .f32) (x16 : FVec Ideal S64x1024 .f32)
    (x17 : FVec Ideal S1024x128 .f32) (x18 : FVec Ideal S128x1024 .f32) (x19 x20 : FVec Ideal S1024 .f32) (j : S_.Idx)
    (e : fn (F := Ideal) x0 x1 x2 x3 x4 x5 x6 x7 x8 x9 x10 x11 x12 x13 x14 x15 x16 x17 x18 x19 x20 j = 1#1) :
    (∀ i, IsReal (x0 i)) ∧ (∀ i, IsReal (x1 i)) ∧ (∀ i, IsReal (x2 i)) ∧ (∀ i, IsReal (x7 i)) ∧ (∀ i, IsReal (x9 i)) ∧ ∀ i, IsReal (x19 i) := by
  have e5 := Cert.Pre_router_finite.and_one _ _ e
  have e4 := Cert.Pre_router_finite.and_one _ _ e5.1
  have e3 := Cert.Pre_router_finite.and_one _ _ e4.1
  have e2 := Cert.Pre_router_finite.and_one _ _ e3.1
  have e1 := Cert.Pre_router_finite.and_one _ _ e2.1
  exact ⟨part x0 _ _ _ j e1.1, part x1 _ _ _ j e1.2, part x2 _ _ _ j e2.2, part x7 _ _ _ j e3.2, part x9 _ _ _ j e4.2, part x19 _ _ _ j e5.2⟩

end Cert.Pre_keys_finite

end
-- ==== Proof.PreFrame.lean ====
module

public import proofs.«01_k».proof.Proof.PreFrameIdeal
public import proofs.«01_k».proof.Proof.Gen.Kernel2

/-! The first kernel of the recurrence: its program and its ideal program are one text, so the frame of the one is that of the other. -/

@[expose] public section

set_option maxRecDepth 16384
set_option maxHeartbeats 4000000

noncomputable section

namespace Cert.Kernel2.Own

open Cert.Kernel2 Cert.Kernel2.Gen Idealize.ShloMosaic Idealize.ShloMosaic.TcCoe Idealize.SL.Sem

variable {F : FTy → Type} [FloatOps F]

theorem body_eq : @Cert.Kernel2.cc0_rwkv_pre F _ _ = @Cert.Kernel2Ideal.cc0_rwkv_pre F _ _ := rfl

/-- The two tables of bodies agree. -/
theorem defs0_eq : Cert.Kernel2.defs₀ (F := F) = Cert.Kernel2Ideal.defs₀ (F := F) :=
  congrArg Defs.onTc (funext fun l => funext fun x => by
    match l, x with
    | 0, (t, s) =>
      dsimp only
      rw [body_eq]
      rfl)

theorem defs_eq : Cert.Kernel2.defs (F := F) = Cert.Kernel2Ideal.defs (F := F) :=
  congrArg (Pipeline.defs Cert.Kernel2Ideal.pcfgs) defs0_eq

theorem main_eq : Cert.Kernel2.main (F := F) = Cert.Kernel2Ideal.main (F := F) := rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) := by
  rw [defs_eq, main_eq]
  exact Cert.Kernel2Ideal.Own.frame m ρ

end Cert.Kernel2.Own

end
-- ==== Proof.PreClaim.lean ====
module

public import proofs.«01_k».proof.Defs
public import proofs.«01_k».proof.Proof.PreFinal
public import proofs.«01_k».proof.Proof.PreRun
public import proofs.«01_k».proof.Proof.PreRef
public import proofs.«01_k».proof.Proof.PreFinite
public import proofs.«01_k».proof.Proof.PreFrame
public import proofs.«01_k».proof.Proof.PreFrameIdeal

/-! The recurrence's first kernel and its reference leave the same seven arrays. -/

@[expose] public section

set_option maxRecDepth 16384

noncomputable section

namespace Cert.PreClaim

open Idealize.ShloMosaic Idealize.ShloMosaic.TcCoe Idealize.SL.Sem Router

attribute [local instance] Cert.Kernel2.Gen.facts Cert.Kernel2Ideal.Gen.facts Cert.Reference2Ideal.Gen.facts Cert.Pre_keys_finite.sides

section
open Cert.Reference2Ideal Cert.Reference2Ideal.Gen Cert.Reference2Ideal.Rows
open Cert.Kernel2Ideal.Spec (Par rAt k0At aAt kAt vAt lwAt kkAt gAt flat)

variable (m' : (ℓ : Loc nD τ sig) → Buf (Elt Ideal) ℓ) (c : Dev nD)

/-- The reference's arrays. -/
abbrev ra0 : A3 := m' ((c.tc : Thread nD τ).loc main_arg0)
abbrev ra1 : A S1024 := m' ((c.tc : Thread nD τ).loc main_arg1)
abbrev ra2 : A S4x1024 := m' ((c.tc : Thread nD τ).loc main_arg2)
abbrev ra3 : A3 := m' ((c.tc : Thread nD τ).loc main_arg3)
abbrev ra4 : A S1024 := m' ((c.tc : Thread nD τ).loc main_arg4)
abbrev ra5 : A S1024x32 := m' ((c.tc : Thread nD τ).loc main_arg5)
abbrev ra6 : A S32x1024 := m' ((c.tc : Thread nD τ).loc main_arg6)
abbrev ra7 : A S6x1024 := m' ((c.tc : Thread nD τ).loc main_arg7)
abbrev ra8 : A S1024x1024 := m' ((c.tc : Thread nD τ).loc main_arg8)
abbrev ra9 : A S1024x1024 := m' ((c.tc : Thread nD τ).loc main_arg9)
abbrev ra10 : A S1024x1024 := m' ((c.tc : Thread nD τ).loc main_arg10)
abbrev ra11 : A S1024 := m' ((c.tc : Thread nD τ).loc main_arg11)
abbrev ra12 : A S1024x64 := m' ((c.tc : Thread nD τ).loc main_arg12)
abbrev ra13 : A S64x1024 := m' ((c.tc : Thread nD τ).loc main_arg13)
abbrev ra14 : A S1024 := m' ((c.tc : Thread nD τ).loc main_arg14)
abbrev ra15 : A S1024x64 := m' ((c.tc : Thread nD τ).loc main_arg15)
abbrev ra16 : A S64x1024 := m' ((c.tc : Thread nD τ).loc main_arg16)
abbrev ra17 : A S1024x128 := m' ((c.tc : Thread nD τ).loc main_arg17)
abbrev ra18 : A S128x1024 := m' ((c.tc : Thread nD τ).loc main_arg18)
abbrev ra19 : A S1024 := m' ((c.tc : Thread nD τ).loc main_arg19)
abbrev ra20 : A S1024 := m' ((c.tc : Thread nD τ).loc main_arg20)
abbrev rpar : Par := parOf (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c)

theorem k_eq : Value.res_main_v123 m' c = flat (kAt (rpar m' c)) :=
  Eq.trans (show Value.res_main_v123 m' c = (shapeCast _ (oK (ra0 m' c) (ra1 m' c) (ra2 m' c) (ra7 m' c) (ra9 m' c) (ra14 m' c) (ra15 m' c) (ra16 m' c) (ra20 m' c)) shapeCasts_S4x4096x1024_S16384x1024 : A S16384x1024) from rfl)
    (flat_eq _ _ fun b s n => kI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s n)
theorem v_eq : Value.res_main_v124 m' c = flat (vAt (rpar m' c)) :=
  Eq.trans (show Value.res_main_v124 m' c = (shapeCast _ (oV (ra0 m' c) (ra1 m' c) (ra2 m' c) (ra3 m' c) (ra4 m' c) (ra5 m' c) (ra6 m' c) (ra7 m' c) (ra10 m' c)) shapeCasts_S4x4096x1024_S16384x1024 : A S16384x1024) from rfl)
    (flat_eq _ _ fun b s n => vI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s n)
theorem lw_eq : Value.res_main_v125 m' c = flat (lwAt (rpar m' c)) :=
  Eq.trans (show Value.res_main_v125 m' c = (shapeCast _ (oLw (ra0 m' c) (ra1 m' c) (ra2 m' c) (ra7 m' c) (ra11 m' c) (ra12 m' c) (ra13 m' c)) shapeCasts_S4x4096x1024_S16384x1024 : A S16384x1024) from rfl)
    (flat_eq _ _ fun b s n => lwI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s n)
theorem kk_eq (hR : Cert.Kernel2Ideal.Spec.Reals (rpar m' c)) : Value.res_main_v126 m' c = flat (kkAt (rpar m' c)) :=
  Eq.trans (show Value.res_main_v126 m' c = (shapeCast _ (oKk (ra0 m' c) (ra1 m' c) (ra2 m' c) (ra7 m' c) (ra9 m' c) (ra19 m' c)) shapeCasts_S4x4096x16x64_S16384x1024 : A S16384x1024) from rfl)
    (flat_heads _ _ fun b s n => kkI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s hR n)
theorem r_eq : (shapeCast _ (o0 (ra0 m' c) (ra1 m' c) (ra2 m' c) (ra7 m' c) (ra8 m' c)) shapeCasts_S4x4096x1024_S16384x1024 : A S16384x1024) = flat (rAt (rpar m' c)) :=
  flat_eq _ _ fun b s n => rI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s n
theorem a_eq : (shapeCast _ (oA (ra0 m' c) (ra1 m' c) (ra2 m' c) (ra7 m' c) (ra14 m' c) (ra15 m' c) (ra16 m' c)) shapeCasts_S4x4096x1024_S16384x1024 : A S16384x1024) = flat (aAt (rpar m' c)) :=
  flat_eq _ _ fun b s n => aI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s n
theorem g_eq : (shapeCast _ (oG (ra0 m' c) (ra1 m' c) (ra2 m' c) (ra7 m' c) (ra17 m' c) (ra18 m' c)) shapeCasts_S4x4096x1024_S16384x1024 : A S16384x1024) = flat (gAt (rpar m' c)) :=
  flat_eq _ _ fun b s n => gI (ra0 m' c) (ra1 m' c) (ra2 m' c) (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) (ra17 m' c) (ra18 m' c) (ra19 m' c) (ra20 m' c) b s n
end

section
open Cert.Reference2Ideal.Rows
open Cert.Kernel2Ideal.Blocks (par)

theorem par_eq (m : (ℓ : Loc Cert.Kernel2Ideal.nD Cert.Kernel2Ideal.τ Cert.Kernel2Ideal.sig) → Buf (Elt Ideal) ℓ) (c : Dev Cert.Kernel2Ideal.nD)
    (x0 : A Cert.Reference2Ideal.S4x4096x1024)
    (x1 : A Cert.Reference2Ideal.S1024)
    (x2 : A Cert.Reference2Ideal.S4x1024)
    (x3 : A Cert.Reference2Ideal.S4x4096x1024)
    (x4 : A Cert.Reference2Ideal.S1024)
    (x5 : A Cert.Reference2Ideal.S1024x32)
    (x6 : A Cert.Reference2Ideal.S32x1024)
    (x7 : A Cert.Reference2Ideal.S6x1024)
    (x8 : A Cert.Reference2Ideal.S1024x1024)
    (x9 : A Cert.Reference2Ideal.S1024x1024)
    (x10 : A Cert.Reference2Ideal.S1024x1024)
    (x11 : A Cert.Reference2Ideal.S1024)
    (x12 : A Cert.Reference2Ideal.S1024x64)
    (x13 : A Cert.Reference2Ideal.S64x1024)
    (x14 : A Cert.Reference2Ideal.S1024)
    (x15 : A Cert.Reference2Ideal.S1024x64)
    (x16 : A Cert.Reference2Ideal.S64x1024)
    (x17 : A Cert.Reference2Ideal.S1024x128)
    (x18 : A Cert.Reference2Ideal.S128x1024)
    (x19 : A Cert.Reference2Ideal.S1024)
    (x20 : A Cert.Reference2Ideal.S1024)
    (h0 : x0 = Cert.Kernel2Ideal.Blocks.arg0 m c)
    (h1 : x1 = Cert.Kernel2Ideal.Blocks.arg1 m c)
    (h2 : x2 = Cert.Kernel2Ideal.Blocks.arg2 m c)
    (h3 : x3 = Cert.Kernel2Ideal.Blocks.arg3 m c)
    (h4 : x4 = Cert.Kernel2Ideal.Blocks.arg4 m c)
    (h5 : x5 = Cert.Kernel2Ideal.Blocks.arg5 m c)
    (h6 : x6 = Cert.Kernel2Ideal.Blocks.arg6 m c)
    (h7 : x7 = Cert.Kernel2Ideal.Blocks.arg7 m c)
    (h8 : x8 = Cert.Kernel2Ideal.Blocks.arg8 m c)
    (h9 : x9 = Cert.Kernel2Ideal.Blocks.arg9 m c)
    (h10 : x10 = Cert.Kernel2Ideal.Blocks.arg10 m c)
    (h11 : x11 = Cert.Kernel2Ideal.Blocks.arg11 m c)
    (h12 : x12 = Cert.Kernel2Ideal.Blocks.arg12 m c)
    (h13 : x13 = Cert.Kernel2Ideal.Blocks.arg13 m c)
    (h14 : x14 = Cert.Kernel2Ideal.Blocks.arg14 m c)
    (h15 : x15 = Cert.Kernel2Ideal.Blocks.arg15 m c)
    (h16 : x16 = Cert.Kernel2Ideal.Blocks.arg16 m c)
    (h17 : x17 = Cert.Kernel2Ideal.Blocks.arg17 m c)
    (h18 : x18 = Cert.Kernel2Ideal.Blocks.arg18 m c)
    (h19 : x19 = Cert.Kernel2Ideal.Blocks.arg19 m c)
    (h20 : x20 = Cert.Kernel2Ideal.Blocks.arg20 m c)
    : parOf x0 x1 x2 x3 x4 x5 x6 x7 x8 x9 x10 x11 x12 x13 x14 x15 x16 x17 x18 x19 x20 = par m c := by
  subst h0 h1 h2 h3 h4 h5 h6 h7 h8 h9 h10 h11 h12 h13 h14 h15 h16 h17 h18 h19 h20
  rfl

theorem reals_of (m : (ℓ : Loc Cert.Kernel2Ideal.nD Cert.Kernel2Ideal.τ Cert.Kernel2Ideal.sig) → Buf (Elt Ideal) ℓ)
    (h : Cert.Pre_Kernel2Ideal_keys_finite m) (c : Dev Cert.Kernel2Ideal.nD) : Cert.Kernel2Ideal.Spec.Reals (par m c) := by
  have e := Cert.Pre_keys_finite.reals (Cert.Kernel2Ideal.Blocks.arg0 m c) (Cert.Kernel2Ideal.Blocks.arg1 m c) (Cert.Kernel2Ideal.Blocks.arg2 m c) (Cert.Kernel2Ideal.Blocks.arg3 m c) (Cert.Kernel2Ideal.Blocks.arg4 m c) (Cert.Kernel2Ideal.Blocks.arg5 m c) (Cert.Kernel2Ideal.Blocks.arg6 m c) (Cert.Kernel2Ideal.Blocks.arg7 m c) (Cert.Kernel2Ideal.Blocks.arg8 m c) (Cert.Kernel2Ideal.Blocks.arg9 m c) (Cert.Kernel2Ideal.Blocks.arg10 m c) (Cert.Kernel2Ideal.Blocks.arg11 m c) (Cert.Kernel2Ideal.Blocks.arg12 m c) (Cert.Kernel2Ideal.Blocks.arg13 m c) (Cert.Kernel2Ideal.Blocks.arg14 m c) (Cert.Kernel2Ideal.Blocks.arg15 m c) (Cert.Kernel2Ideal.Blocks.arg16 m c) (Cert.Kernel2Ideal.Blocks.arg17 m c) (Cert.Kernel2Ideal.Blocks.arg18 m c) (Cert.Kernel2Ideal.Blocks.arg19 m c) (Cert.Kernel2Ideal.Blocks.arg20 m c) _
    (congrFun (h c) (Shape.Idx.first Cert.Pre_keys_finite.sides.h_S_))
  exact ⟨fun b s k => e.1 _, fun k => e.2.1 _, fun b k => e.2.2.1 _, fun i k => e.2.2.2.1 _, fun j n => e.2.2.2.2.1 _, fun k => e.2.2.2.2.2 _⟩
end

theorem frame_reference : Cert.quiescent_Reference2Ideal := fun m ρ _ =>
  (θ_run Cert.Reference2Ideal.defs _ _).mono (fun r h => ⟨fun c => (h c).2.2.2.2.2.2.2, Idealize.ShloMosaic.sem_eq_zero_of_no_sems (by decide) r.2⟩)
    (Cert.Reference2Ideal.Value.run (F := Ideal) m ρ)

theorem algebraic : Cert.algebraic_Kernel2Ideal_Reference2Ideal_pre_keys_finite := fun m ρ m' ρ' hpre hag => by
  have hp : ∀ c, rpar m' c = Cert.Kernel2Ideal.Blocks.par m c := fun c => par_eq m c _ _ _ _ _ _ _ _ _ _ _ _ _ _ _ _ _ _ _ _ _
    (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1 (hag c).2.2.2.2.2.2.2.2.2.2.2.1 (hag c).2.2.2.2.2.2.2.2.2.2.2.2.1 (hag c).2.2.2.2.2.2.2.2.2.2.2.2.2.1 (hag c).2.2.2.2.2.2.2.2.2.2.2.2.2.2.1 (hag c).2.2.2.2.2.2.2.2.2.2.2.2.2.2.2.1 (hag c).2.2.2.2.2.2.2.2.2.2.2.2.2.2.2.2.1 (hag c).2.2.2.2.2.2.2.2.2.2.2.2.2.2.2.2.2.1 (hag c).2.2.2.2.2.2.2.2.2.2.2.2.2.2.2.2.2.2.1 (hag c).2.2.2.2.2.2.2.2.2.2.2.2.2.2.2.2.2.2.2.1 (hag c).2.2.2.2.2.2.2.2.2.2.2.2.2.2.2.2.2.2.2.2
  have hR : ∀ c, Cert.Kernel2Ideal.Spec.Reals (rpar m' c) := fun c => (hp c).symm ▸ reals_of m hpre c
  refine ⟨fun c => Cert.Kernel2Ideal.Spec.flat (Cert.Kernel2Ideal.Spec.rAt (Cert.Kernel2Ideal.Blocks.par m c)), fun c => Cert.Kernel2Ideal.Spec.flat (Cert.Kernel2Ideal.Spec.kAt (Cert.Kernel2Ideal.Blocks.par m c)), fun c => Cert.Kernel2Ideal.Spec.flat (Cert.Kernel2Ideal.Spec.vAt (Cert.Kernel2Ideal.Blocks.par m c)), fun c => Cert.Kernel2Ideal.Spec.flat (Cert.Kernel2Ideal.Spec.lwAt (Cert.Kernel2Ideal.Blocks.par m c)), fun c => Cert.Kernel2Ideal.Spec.flat (Cert.Kernel2Ideal.Spec.kkAt (Cert.Kernel2Ideal.Blocks.par m c)), fun c => Cert.Kernel2Ideal.Spec.flat (Cert.Kernel2Ideal.Spec.aAt (Cert.Kernel2Ideal.Blocks.par m c)), fun c => Cert.Kernel2Ideal.Spec.flat (Cert.Kernel2Ideal.Spec.gAt (Cert.Kernel2Ideal.Blocks.par m c)),
    (θ_run Cert.Kernel2Ideal.defs _ _).mono (fun r h c => ⟨(h c).1.trans (Cert.Kernel2Ideal.Final.final24 m c),
      (h c).2.1.trans (Cert.Kernel2Ideal.Final.final25 m c),
      (h c).2.2.1.trans (Cert.Kernel2Ideal.Final.final26 m c),
      (h c).2.2.2.1.trans (Cert.Kernel2Ideal.Final.final27 m c),
      (h c).2.2.2.2.1.trans (Cert.Kernel2Ideal.Final.final28 m c (reals_of m hpre c)),
      (h c).2.2.2.2.2.1.trans (Cert.Kernel2Ideal.Final.final29 m c),
      (h c).2.2.2.2.2.2.1.trans (Cert.Kernel2Ideal.Final.final30 m c), (h c).2.2.2.2.2.2.2⟩)
      (Cert.Kernel2Ideal.Run.run_blocks m ρ),
    (θ_run Cert.Reference2Ideal.defs _ _).mono (fun r h c => ⟨(h c).1.trans ((r_eq m' c).trans (congrArg (fun q => Cert.Kernel2Ideal.Spec.flat (Cert.Kernel2Ideal.Spec.rAt q)) (hp c))),
      (h c).2.1.trans ((k_eq m' c).trans (congrArg (fun q => Cert.Kernel2Ideal.Spec.flat (Cert.Kernel2Ideal.Spec.kAt q)) (hp c))),
      (h c).2.2.1.trans ((v_eq m' c).trans (congrArg (fun q => Cert.Kernel2Ideal.Spec.flat (Cert.Kernel2Ideal.Spec.vAt q)) (hp c))),
      (h c).2.2.2.1.trans ((lw_eq m' c).trans (congrArg (fun q => Cert.Kernel2Ideal.Spec.flat (Cert.Kernel2Ideal.Spec.lwAt q)) (hp c))),
      (h c).2.2.2.2.1.trans ((kk_eq m' c (hR c)).trans (congrArg (fun q => Cert.Kernel2Ideal.Spec.flat (Cert.Kernel2Ideal.Spec.kkAt q)) (hp c))),
      (h c).2.2.2.2.2.1.trans ((a_eq m' c).trans (congrArg (fun q => Cert.Kernel2Ideal.Spec.flat (Cert.Kernel2Ideal.Spec.aAt q)) (hp c))),
      (h c).2.2.2.2.2.2.1.trans ((g_eq m' c).trans (congrArg (fun q => Cert.Kernel2Ideal.Spec.flat (Cert.Kernel2Ideal.Spec.gAt q)) (hp c))), (h c).2.2.2.2.2.2.2⟩)
      (Cert.Reference2Ideal.Value.run (F := Ideal) m' ρ')⟩

end Cert.PreClaim

end
-- ==== Proof.PoolSpec.lean ====
module

public import proofs.«01_k».proof.Proof.Heads
public import Idealize.ShloMosaic.Lib.Pointwise

/-! The pooling mixer by coordinates: trailing windows of a stream's rows, their means less the row, each group's product, the scale and the
    projection of the pooled row next to the attention's row. -/

@[expose] public section

set_option maxRecDepth 16384

noncomputable section

namespace Pool

open Router Heads
open Idealize.ShloMosaic Idealize.ShloMosaic.TcCoe

/-- The width of each group's window. -/
def wOf (g : Fin 4) : Nat := ![2, 4, 8, 16] g
theorem wOf_le : ∀ g : Fin 4, wOf g ≤ 16 := by decide
theorem wOf_pos : ∀ g : Fin 4, 1 ≤ wOf g := by decide

/-- Column `k` of group `g`. -/
def col (g : Fin 4) (k : Fin 128) : Fin 512 := ⟨g.val * 128 + k.val, by omega⟩
/-- The group of a column. -/
def grp (j : Fin 512) : Fin 4 := ⟨j.val / 128, by omega⟩
/-- A column's place in its group. -/
def lane (j : Fin 512) : Fin 128 := ⟨j.val % 128, by omega⟩

/-- The number of rows that a window of width `w` holds, from the position's word. -/
def cntW (q : BitVec 32) (w : Nat) : EReal := FloatOps.sitofp (F := Ideal) FTy.f32 (IntOp.minsi q (BitVec.ofNat 32 w))

/-- One group's product: the window's mean less the row, through the group's weights. -/
def grpRow (S : Fin 128 → EReal) (q : BitVec 32) (w : Nat) (u : Fin 128 → EReal) (W : Fin 128 → Fin 128 → EReal) (n : Fin 128) : EReal :=
  ∑ k : Fin 128, (Ideal.div (S k) (cntW q w) - u k) * W k n

/-- The sum of the `w` rows that end at row `s` of the stream, where row `k` of `F` is row `k - 16` of the stream. -/
def win (F : ℕ → EReal) (s w : ℕ) : EReal := ∑ i ∈ Finset.range w, F (s + 17 - w + i)

/-- The pooled row before the scale. -/
def mixRow (F : ℕ → Fin 512 → EReal) (s : ℕ) (q : BitVec 32) (u : Fin 512 → EReal) (W : Fin 4 → Fin 128 → Fin 128 → EReal) (j : Fin 512) : EReal :=
  grpRow (fun k => win (fun r => F r (col (grp j) k)) s (wOf (grp j))) q (wOf (grp j)) (fun k => u (col (grp j) k)) (W (grp j)) (lane j)

/-- The row of the output. -/
def outRow (F : ℕ → Fin 512 → EReal) (s : ℕ) (q : BitVec 32) (u na : Fin 512 → EReal) (x : EReal) (W : Fin 4 → Fin 128 → Fin 128 → EReal)
    (sc : Fin 512 → EReal) (w : Fin 1024 → EReal) : EReal :=
  x + ((∑ j : Fin 512, mixRow F s q u W j * sc j * w ⟨j.val, by omega⟩) + ∑ j : Fin 512, na j * w ⟨512 + j.val, by omega⟩)

/-- A stream's rows after sixteen rows of zeros. -/
def ext (u : Fin 4096 → Fin 512 → EReal) (k : ℕ) (n : Fin 512) : EReal :=
  if h : 16 ≤ k ∧ k < 4112 then u ⟨k - 16, by omega⟩ n else 0

theorem isReal_ext {u : Fin 4096 → Fin 512 → EReal} (h : ∀ s n, IsReal (u s n)) (k : ℕ) (n : Fin 512) : IsReal (ext u k n) := by
  unfold ext
  split
  · exact h _ _
  · exact ⟨0, rfl⟩

/-- Four groups side by side. -/
def cat4 (a b c d : Fin 128 → EReal) (j : Fin 512) : EReal :=
  if h : j.val < 128 then a ⟨j.val, h⟩ else if h : j.val - 128 < 128 then b ⟨j.val - 128, h⟩
  else if h : j.val - 128 - 128 < 128 then c ⟨j.val - 128 - 128, h⟩ else d ⟨j.val - 128 - 128 - 128, by omega⟩

theorem cat4_eq (f : Fin 4 → Fin 128 → EReal) (j : Fin 512) : cat4 (f 0) (f 1) (f 2) (f 3) j = f (grp j) (lane j) := by
  have e : ∀ (g : Fin 4) (k : Fin 128), g.val * 128 + k.val = j.val → f g k = f (grp j) (lane j) := fun g k h => by
    have h1 : g = grp j := Fin.ext (by show g.val = j.val / 128; omega)
    have h2 : k = lane j := Fin.ext (by show k.val = j.val % 128; omega)
    rw [h1, h2]
  unfold cat4
  split
  · exact e 0 _ (by show 0 * 128 + j.val = j.val; omega)
  · split
    · exact e 1 _ (by show 1 * 128 + (j.val - 128) = j.val; omega)
    · split
      · exact e 2 _ (by show 2 * 128 + (j.val - 128 - 128) = j.val; omega)
      · exact e 3 _ (by show 3 * 128 + (j.val - 128 - 128 - 128) = j.val; omega)

/-- A row of the band of ones times the rows sums a window. -/
theorem band_sum (F : ℕ → EReal) (p : Fin 512) {w : ℕ} (hw : w ≤ 16) :
    (∑ r : Fin 528, (if r.val ≤ p.val + 16 ∧ p.val + 16 < r.val + w then (1 : EReal) else 0) * F r.val) = win F p.val w := by
  have hp := p.isLt
  simp only [ite_mul, one_mul, zero_mul]
  rw [← Finset.sum_range (fun r => if r ≤ p.val + 16 ∧ p.val + 16 < r + w then F r else 0), ← Finset.sum_filter]
  rw [show (Finset.range 528).filter (fun r => r ≤ p.val + 16 ∧ p.val + 16 < r + w) = Finset.Ico (p.val + 17 - w) (p.val + 17) from ?_]
  · rw [Finset.sum_Ico_eq_sum_range]
    rw [show p.val + 17 - (p.val + 17 - w) = w by omega]
    rfl
  · ext r
    simp only [Finset.mem_filter, Finset.mem_range, Finset.mem_Ico]
    omega

/-- A window of a part of the rows. -/
theorem win_shift {F G : ℕ → EReal} {a : ℕ} {p w : ℕ} (hw : w ≤ 16) (h : ∀ r < p + 17, F r = G (a + r)) : win F p w = win G (a + p) w := by
  unfold win
  refine Finset.sum_congr rfl fun i hi => ?_
  have hi := Finset.mem_range.mp hi
  rw [h _ (by omega)]
  exact congrArg G (by omega)

/-- A difference of two prefix sums is the sum of the rows between. -/
theorem prefix_sub {f : ℕ → EReal} (hf : ∀ k, IsReal (f k)) (a w : ℕ) :
    (∑ k ∈ Finset.range (a + w), f k) - (∑ k ∈ Finset.range a, f k) = ∑ i ∈ Finset.range w, f (a + i) := by
  obtain ⟨g, hg⟩ : ∃ g : ℕ → ℝ, ∀ k, f k = (g k : EReal) := ⟨fun k => (hf k).choose, fun k => (hf k).choose_spec⟩
  have hc : ∀ (s : Finset ℕ) (r : ℕ → ℝ), (∑ k ∈ s, (r k : EReal)) = ((∑ k ∈ s, r k : ℝ) : EReal) := fun s r =>
    (map_sum (⟨⟨Real.toEReal, rfl⟩, fun _ _ => EReal.coe_add _ _⟩ : ℝ →+ EReal) r s).symm
  simp only [hg, hc]
  rw [← EReal.coe_sub, Finset.sum_range_add]
  norm_num

end Pool

end
-- ==== Proof.PoolRows.lean ====
module

public import proofs.«01_k».proof.Proof.PoolSpec
public import proofs.«01_k».proof.Proof.Gen.Kernel4Ideal.Skeleton
public import Idealize.ShloMosaic.Lib.Pointwise

/-! The pooling mixer with the output projection: the payloads at an index. -/

@[expose] public section

set_option maxRecDepth 16384

noncomputable section

namespace Cert.Kernel4Ideal.Rows

open Cert.Kernel4Ideal Cert.Kernel4Ideal.Gen Router Heads Pool
open Idealize.ShloMosaic Idealize.ShloMosaic.TcCoe Idealize.SL.Sem

theorem pay2_at (v : Vec Ideal S512x512 .f32) (p k : Fin 512) : k0_pay2 v (ix2 p k) = v (ix2 p k) := by
  pointwise [k0_pay2]

theorem pay5_at (i : grid0.Coords) (u : Vec Ideal S512x512 .f32) (h : Vec Ideal S16x512 .f32) (B : Vec Ideal S1x512x528 .bf16)
    (E : Fin 528 → Fin 512 → EReal) (hE : ∀ r k, k0_pay3 i u h (ix2 r k) = E r k) (hR : ∀ r k, IsReal (E r k)) (p : Fin 512) (k : Fin 128) :
    k0_pay5 i u h B (ix2 p k) = ∑ r : Fin 528, B (ix3 0 p r) * E r ⟨k.val, by omega⟩ := by
  have h0 : ∀ r k, E r k - E r k = (0 : EReal) := fun r k => (hR r k).sub_self
  unfold k0_pay5
  generalize k0_pay3 i u h = Z at *
  pointwise []
  simp only [hE, h0, sub_zero, mul_zero, Finset.sum_const_zero, add_zero]

theorem pay6_at (u : FVec Ideal S512x512 .f32) (q : IVec S512x1 32) (S : FVec Ideal S512x128 .f32) (W : Vec Ideal S1x128x128 .bf16) (p : Fin 512) (n : Fin 128) :
    k0_pay6 u q S W (ix2 p n)
      = grpRow (fun k => S (ix2 p k)) (q (ix2 p 0)) 2 (fun k => u (ix2 p ⟨k.val, by omega⟩)) (fun k n => W (ix3 0 k n)) n := by
  pointwise [k0_pay6]
  rfl

theorem pay7_at (u : FVec Ideal S512x512 .f32) (q : IVec S512x1 32) (Z : FVec Ideal S528x512 .f32) (B : Vec Ideal S1x512x528 .bf16) (W : Vec Ideal S1x128x128 .bf16)
    (E : Fin 528 → Fin 512 → EReal) (hE : ∀ r k, Z (ix2 r k) = E r k) (hR : ∀ r k, IsReal (E r k)) (p : Fin 512) (n : Fin 128) :
    k0_pay7 u Z q B W (ix2 p n)
      = grpRow (fun k => ∑ r : Fin 528, B (ix3 0 p r) * E r ⟨128 + k.val, by omega⟩) (q (ix2 p 0)) 4 (fun k => u (ix2 p ⟨128 + k.val, by omega⟩)) (fun k n => W (ix3 0 k n)) n := by
  have h0 : ∀ r k, E r k - E r k = (0 : EReal) := fun r k => (hR r k).sub_self
  pointwise [k0_pay7]
  simp only [hE, h0, sub_zero, mul_zero, Finset.sum_const_zero, add_zero]
  rfl

theorem pay11_at (u : FVec Ideal S512x512 .f32) (q : IVec S512x1 32) (Z : FVec Ideal S528x512 .f32) (B : Vec Ideal S1x512x528 .bf16) (W : Vec Ideal S1x128x128 .bf16)
    (E : Fin 528 → Fin 512 → EReal) (hE : ∀ r k, Z (ix2 r k) = E r k) (hR : ∀ r k, IsReal (E r k)) (p : Fin 512) (n : Fin 128) :
    k0_pay11 u q (k0_pay8 B) (k0_pay9 Z) (k0_pay10 Z) W (ix2 p n)
      = grpRow (fun k => ∑ r : Fin 528, B (ix3 0 p r) * E r ⟨256 + k.val, by omega⟩) (q (ix2 p 0)) 8 (fun k => u (ix2 p ⟨256 + k.val, by omega⟩)) (fun k n => W (ix3 0 k n)) n := by
  have h0 : ∀ r k, E r k - E r k = (0 : EReal) := fun r k => (hR r k).sub_self
  pointwise [k0_pay11, k0_pay8, k0_pay9, k0_pay10]
  simp only [hE, h0, sub_zero, mul_zero, Finset.sum_const_zero, add_zero]
  rfl

theorem pay12_at (u : FVec Ideal S512x512 .f32) (q : IVec S512x1 32) (Z : FVec Ideal S528x512 .f32) (B : Vec Ideal S1x512x528 .bf16)
    (E : Fin 528 → Fin 512 → EReal) (hE : ∀ r k, Z (ix2 r k) = E r k) (hR : ∀ r k, IsReal (E r k)) (p : Fin 512) (k : Fin 128) :
    k0_pay12 u Z q B (ix2 p k)
      = Ideal.div (∑ r : Fin 528, B (ix3 0 p r) * E r ⟨384 + k.val, by omega⟩) (cntW (q (ix2 p 0)) 16) - u (ix2 p ⟨384 + k.val, by omega⟩) := by
  have h0 : ∀ r k, E r k - E r k = (0 : EReal) := fun r k => (hR r k).sub_self
  pointwise [k0_pay12]
  simp only [hE, h0, sub_zero, mul_zero, Finset.sum_const_zero, add_zero]
  rfl

theorem pay1_at (a b c : FVec Ideal S512x128 .f32) (d : FVec Ideal S512x128 .bf16) (W : Vec Ideal S1x128x128 .bf16) (sc : Vec Ideal S1x512 .f32)
    (x : Vec Ideal S512x1024 .f32) (wa : Vec Ideal S512x1024 .bf16) (na : Vec Ideal S512x512 .f32) (wb : Vec Ideal S512x1024 .bf16) (p : Fin 512) (n : Fin 1024) :
    k0_pay1 a b c d W sc x wa na wb (ix2 p n)
      = x (ix2 p n) + ((∑ j : Fin 512, cat4 (fun k => a (ix2 p k)) (fun k => b (ix2 p k)) (fun k => c (ix2 p k))
          (fun k => ∑ l : Fin 128, d (ix2 p l) * W (ix3 0 l k)) j * sc (ix2 0 j) * wa (ix2 j n)) + ∑ j : Fin 512, na (ix2 p j) * wb (ix2 j n)) := by
  pointwise [k0_pay1]
  refine congrArg (fun z : EReal => x (ix2 p n) + (z + ∑ j : Fin 512, na (ix2 p j) * wb (ix2 j n))) (Finset.sum_congr rfl fun j _ => ?_)
  rfl

/-- The tile's place in its stream, as the body computes it. -/
def tileW (i : grid0.Coords) : BitVec 32 :=
  let k := Scalar.select (Scalar.cmpi .eq 8#32 0#32) 1#32 8#32
  let r := Scalar.remsi (BitVec.ofNat 32 (i 0).val) k
  Scalar.select (Scalar.andi (Scalar.xori (Scalar.cmpi .slt r 0#32) (Scalar.cmpi .slt k 0#32)) (Scalar.cmpi .ne r 0#32)) (Scalar.addi r k) r

theorem pay3_at (i : grid0.Coords) (u : Vec Ideal S512x512 .f32) (h : Vec Ideal S16x512 .f32) (r : Fin 528) (k : Fin 512) :
    k0_pay3 i u h (ix2 r k) = if h1 : r.val < 16 then Scalar.select (Scalar.cmpi .eq (tileW i) 0#32) (0 : EReal) (h (ix2 ⟨r.val, h1⟩ k))
      else u (ix2 ⟨r.val - 16, by omega⟩ k) := by
  pointwise [k0_pay3, k0_pay2]
  rfl

theorem pay4_at (i : grid0.Coords) (p : Fin 512) :
    k0_pay4 i (ix2 p 0) = IntOp.addi (IntOp.addi (Scalar.muli (tileW i) 512#32) (BitVec.ofNat 32 p.val)) 1#32 := by
  pointwise [k0_pay4]
  rfl

/-- What the body writes, row by row. -/
theorem body_at (i : grid0.Coords) (u : Vec Ideal S512x512 .f32) (h : Vec Ideal S16x512 .f32) (B0 B1 B2 B3 : Vec Ideal S1x512x528 .bf16)
    (W0 W1 W2 W3 : Vec Ideal S1x128x128 .bf16) (sc : Vec Ideal S1x512 .f32) (x : Vec Ideal S512x1024 .f32) (wa : Vec Ideal S512x1024 .bf16)
    (na : Vec Ideal S512x512 .f32) (wb : Vec Ideal S512x1024 .bf16) (p : Fin 512)
    (E : ℕ → Fin 512 → EReal) (hE : ∀ (r : Fin 528) k, k0_pay3 i u h (ix2 r k) = E r.val k) (hR : ∀ r k, IsReal (E r k))
    (q : BitVec 32) (hq : k0_pay4 i (ix2 p 0) = q) (ue : Fin 512 → EReal) (hu : ∀ k, u (ix2 p k) = ue k)
    (W : Fin 4 → Fin 128 → Fin 128 → EReal)
    (h0 : ∀ k n, W0 (ix3 0 k n) = W 0 k n) (h1 : ∀ k n, W1 (ix3 0 k n) = W 1 k n) (h2 : ∀ k n, W2 (ix3 0 k n) = W 2 k n) (h3 : ∀ k n, W3 (ix3 0 k n) = W 3 k n)
    (hB : ∀ (B : Vec Ideal S1x512x528 .bf16) (w : ℕ), (B = B0 ∧ w = 2) ∨ (B = B1 ∧ w = 4) ∨ (B = B2 ∧ w = 8) ∨ (B = B3 ∧ w = 16) →
      ∀ r : Fin 528, B (ix3 0 p r) = if r.val ≤ p.val + 16 ∧ p.val + 16 < r.val + w then (1 : EReal) else 0)
    (s : Fin 512 → EReal) (hs : ∀ j, sc (ix2 0 j) = s j) (v : Fin 1024 → EReal) (n : Fin 1024)
    (hv0 : ∀ j : Fin 512, wa (ix2 j n) = v ⟨j.val, by omega⟩) (hv1 : ∀ j : Fin 512, wb (ix2 j n) = v ⟨512 + j.val, by omega⟩) :
    k0_pay1 (k0_pay6 (k0_pay2 u) (k0_pay4 i) (k0_pay5 i u h B0) W0) (k0_pay7 (k0_pay2 u) (k0_pay3 i u h) (k0_pay4 i) B1 W1)
      (k0_pay11 (k0_pay2 u) (k0_pay4 i) (k0_pay8 B2) (k0_pay9 (k0_pay3 i u h)) (k0_pay10 (k0_pay3 i u h)) W2)
      (k0_pay12 (k0_pay2 u) (k0_pay3 i u h) (k0_pay4 i) B3) W3 sc x wa na wb (ix2 p n)
      = outRow E p.val q ue (fun j => na (ix2 p j)) (x (ix2 p n)) W s v := by
  have b0 := hB B0 2 (.inl ⟨rfl, rfl⟩)
  have b1 := hB B1 4 (.inr (.inl ⟨rfl, rfl⟩))
  have b2 := hB B2 8 (.inr (.inr (.inl ⟨rfl, rfl⟩)))
  have b3 := hB B3 16 (.inr (.inr (.inr ⟨rfl, rfl⟩)))
  have hu2 : ∀ k, k0_pay2 u (ix2 p k) = ue k := fun k => (pay2_at u p k).trans (hu k)
  have g0 : ∀ n, k0_pay6 (k0_pay2 u) (k0_pay4 i) (k0_pay5 i u h B0) W0 (ix2 p n)
      = grpRow (fun k => win (fun r => E r (col 0 k)) p.val (wOf 0)) q (wOf 0) (fun k => ue (col 0 k)) (W 0) n := fun n => by
    rw [pay6_at]
    simp only [hq, hu2, h0, pay5_at i u h B0 (fun r k => E r.val k) hE (fun r k => hR r.val k), b0]
    simp only [fun k : Fin 512 => band_sum (fun r => E r k) p (show 2 ≤ 16 by decide)]
    have hc : ∀ k : Fin 128, (⟨k.val, by omega⟩ : Fin 512) = col 0 k := fun k => Fin.ext (by show k.val = 0 * 128 + k.val; omega)
    simp only [hc]
    rfl
  have g1 : ∀ n, k0_pay7 (k0_pay2 u) (k0_pay3 i u h) (k0_pay4 i) B1 W1 (ix2 p n)
      = grpRow (fun k => win (fun r => E r (col 1 k)) p.val (wOf 1)) q (wOf 1) (fun k => ue (col 1 k)) (W 1) n := fun n => by
    rw [pay7_at _ _ _ B1 W1 (fun r k => E r.val k) hE (fun r k => hR r.val k)]
    simp only [hq, hu2, h1, b1]
    simp only [fun k : Fin 512 => band_sum (fun r => E r k) p (show 4 ≤ 16 by decide)]
    rfl
  have g2 : ∀ n, k0_pay11 (k0_pay2 u) (k0_pay4 i) (k0_pay8 B2) (k0_pay9 (k0_pay3 i u h)) (k0_pay10 (k0_pay3 i u h)) W2 (ix2 p n)
      = grpRow (fun k => win (fun r => E r (col 2 k)) p.val (wOf 2)) q (wOf 2) (fun k => ue (col 2 k)) (W 2) n := fun n => by
    rw [pay11_at _ _ _ B2 W2 (fun r k => E r.val k) hE (fun r k => hR r.val k)]
    simp only [hq, hu2, h2, b2]
    simp only [fun k : Fin 512 => band_sum (fun r => E r k) p (show 8 ≤ 16 by decide)]
    rfl
  have g3 : ∀ n, (∑ l : Fin 128, k0_pay12 (k0_pay2 u) (k0_pay3 i u h) (k0_pay4 i) B3 (ix2 p l) * W3 (ix3 0 l n))
      = grpRow (fun k => win (fun r => E r (col 3 k)) p.val (wOf 3)) q (wOf 3) (fun k => ue (col 3 k)) (W 3) n := fun n => by
    simp only [fun l => pay12_at (k0_pay2 u) (k0_pay4 i) _ B3 (fun r k => E r.val k) hE (fun r k => hR r.val k) p l]
    simp only [hq, hu2, h3, b3]
    simp only [fun k : Fin 512 => band_sum (fun r => E r k) p (show 16 ≤ 16 by decide)]
    rfl
  rw [pay1_at]
  simp only [g0, g1, g2, g3, hs, hv0, hv1]
  unfold outRow
  refine congrArg (fun z : EReal => x (ix2 p n) + (z + ∑ j : Fin 512, na (ix2 p j) * v ⟨512 + j.val, by omega⟩)) (Finset.sum_congr rfl fun j _ => ?_)
  refine congrArg (fun z : EReal => z * s j * v ⟨j.val, by omega⟩) ?_
  exact cat4_eq (fun g => grpRow (fun k => win (fun r => E r (col g k)) p.val (wOf g)) q (wOf g) (fun k => ue (col g k)) (W g)) j

end Cert.Kernel4Ideal.Rows

end
-- ==== Proof.PoolBlocks.lean ====
module

public import proofs.«01_k».proof.Proof.PoolRows
public import proofs.«01_k».proof.Proof.Gen.Kernel4Ideal.Value
public import Idealize.ShloMosaic.Lib.StableHlo.ReadAt
public import Idealize.ShloMosaic.Lib.Pipeline.ValueKit

/-! The pooling mixer with the output projection: what its windows hold at a grid point, and the array it leaves. -/

@[expose] public section

set_option maxRecDepth 16384

noncomputable section

namespace Cert.Kernel4Ideal.Blocks

open Cert.Kernel4Ideal Cert.Kernel4Ideal.Gen Cert.Kernel4Ideal.Rows Router Heads Pool
open Idealize.ShloMosaic Idealize.ShloMosaic.TcCoe Idealize.SL.Sem

variable (m : (ℓ : Loc nD τ sig) → Buf (Elt Ideal) ℓ) (c : Dev nD)

/-- The arguments as arrays. -/
abbrev arg0 : Vec Ideal S4x4096x512 .f32 := m ((c.tc : Thread nD τ).loc main_arg0)
abbrev arg1 : Vec Ideal S4x4096x512 .f32 := m ((c.tc : Thread nD τ).loc main_arg1)
abbrev arg2 : Vec Ideal S4x4096x1024 .f32 := m ((c.tc : Thread nD τ).loc main_arg2)
abbrev arg3 : Vec Ideal S4x128x128 .f32 := m ((c.tc : Thread nD τ).loc main_arg3)
abbrev arg4 : Vec Ideal S512 .f32 := m ((c.tc : Thread nD τ).loc main_arg4)
abbrev arg5 : Vec Ideal S1024x1024 .f32 := m ((c.tc : Thread nD τ).loc main_arg5)

theorem v34_at (r : Fin 16384) (k : Fin 512) : (V m c main_v34 : Vec Ideal S16384x512 .f32) (ix2 r k) = arg0 m c (ix3 ⟨r.val / 4096, by omega⟩ ⟨r.val % 4096, by omega⟩ k) := by
  unfold V
  after_reads_at
theorem v35_at (r : Fin 16384) (k : Fin 512) : (V m c main_v35 : Vec Ideal S16384x512 .f32) (ix2 r k) = arg1 m c (ix3 ⟨r.val / 4096, by omega⟩ ⟨r.val % 4096, by omega⟩ k) := by
  unfold V
  after_reads_at
theorem v36_at (r : Fin 16384) (k : Fin 1024) : (V m c main_v36 : Vec Ideal S16384x1024 .f32) (ix2 r k) = arg2 m c (ix3 ⟨r.val / 4096, by omega⟩ ⟨r.val % 4096, by omega⟩ k) := by
  unfold V
  after_reads_at
theorem v37_at (g : Fin 4) (k n : Fin 128) : (V m c main_v37 : Vec Ideal S4x128x128 .bf16) (ix3 g k n) = arg3 m c (ix3 g k n) := by
  unfold V
  after_reads_at
theorem v38_at (j : Fin 512) : (V m c main_v38 : Vec Ideal S1x512 .f32) (ix2 0 j) = arg4 m c (ix1 j) := by
  unfold V
  after_reads_at
theorem v39_at (j : Fin 512) (n : Fin 1024) : (V m c main_v39 : Vec Ideal S512x1024 .bf16) (ix2 j n) = arg5 m c (ix2 ⟨j.val, by omega⟩ n) := by
  unfold V
  after_reads_at
theorem v40_at (j : Fin 512) (n : Fin 1024) : (V m c main_v40 : Vec Ideal S512x1024 .bf16) (ix2 j n) = arg5 m c (ix2 ⟨512 + j.val, by omega⟩ n) := by
  unfold V
  after_reads_at
/-- The band's entries, from the words of its row and column. -/
theorem band_word (p : Fin 512) (r : Fin 528) {w : ℕ} (hw : w ≤ 16) :
    FloatOps.uitofp (F := Ideal) FTy.bf16 (IntOp.andi (IntOp.cmpi CmpIPredicate.sle (BitVec.ofNat 32 r.val) (IntOp.addi (BitVec.ofNat 32 p.val) 16#32))
      (IntOp.cmpi CmpIPredicate.sgt (BitVec.ofNat 32 r.val) (IntOp.subi (IntOp.addi (BitVec.ofNat 32 p.val) 16#32) (BitVec.ofNat 32 w))))
      = if r.val ≤ p.val + 16 ∧ p.val + 16 < r.val + w then (1 : EReal) else 0 := by
  have hp := p.isLt
  have hr := r.isLt
  have e1 : IntOp.addi (BitVec.ofNat 32 p.val) 16#32 = BitVec.ofNat 32 (p.val + 16) := by
    show BitVec.ofNat 32 p.val + 16#32 = _
    apply BitVec.eq_of_toNat_eq
    simp
  have e2 : IntOp.subi (BitVec.ofNat 32 (p.val + 16)) (BitVec.ofNat 32 w) = BitVec.ofNat 32 (p.val + 16 - w) := by
    show BitVec.ofNat 32 (p.val + 16) - BitVec.ofNat 32 w = _
    apply BitVec.eq_of_toNat_eq
    simp only [BitVec.toNat_sub, BitVec.toNat_ofNat]
    omega
  rw [e1, e2, WordCmp.cmpi_sle_ofNat (by omega) (by omega), WordCmp.cmpi_sgt_ofNat (by omega) (by omega)]
  by_cases h1 : r.val ≤ p.val + 16 <;> by_cases h2 : p.val + 16 < r.val + w
  · rw [if_pos ⟨h1, h2⟩, decide_eq_true h1, decide_eq_true (show p.val + 16 - w < r.val by omega)]
    show (((1#1 : BitVec 1).toNat : ℝ) : EReal) = 1
    norm_num
  · rw [if_neg (fun h => h2 h.2), decide_eq_true h1, decide_eq_false (show ¬ p.val + 16 - w < r.val by omega)]
    show (((0#1 : BitVec 1).toNat : ℝ) : EReal) = 0
    norm_num
  · rw [if_neg (fun h => h1 h.1), decide_eq_false h1, decide_eq_true (show p.val + 16 - w < r.val by omega)]
    show (((0#1 : BitVec 1).toNat : ℝ) : EReal) = 0
    norm_num
  · rw [if_neg (fun h => h1 h.1), decide_eq_false h1, decide_eq_false (show ¬ p.val + 16 - w < r.val by omega)]
    show (((0#1 : BitVec 1).toNat : ℝ) : EReal) = 0
    norm_num

theorem v32_at (g : Fin 4) (p : Fin 512) (r : Fin 528) : (V m c main_v32 : Vec Ideal S4x512x528 .bf16) (ix3 g p r)
    = if r.val ≤ p.val + 16 ∧ p.val + 16 < r.val + wOf g then (1 : EReal) else 0 := by
  unfold V
  after_reads_at
  match g with
  | ⟨0, _⟩ =>
    rw [dif_pos (by show 0 < 1; omega)]
    after_reads_at
    exact band_word p r (w := 2) (by omega)
  | ⟨1, _⟩ =>
    rw [dif_neg (by show ¬ 1 < 1; omega), dif_pos (by show 1 - 1 < 1; omega)]
    after_reads_at
    exact band_word p r (w := 4) (by omega)
  | ⟨2, _⟩ =>
    rw [dif_neg (by show ¬ 2 < 1; omega), dif_neg (by show ¬ 2 - 1 < 1; omega), dif_pos (by show 2 - 1 - 1 < 1; omega)]
    after_reads_at
    exact band_word p r (w := 8) (by omega)
  | ⟨3, _⟩ =>
    rw [dif_neg (by show ¬ 3 < 1; omega), dif_neg (by show ¬ 3 - 1 < 1; omega), dif_neg (by show ¬ 3 - 1 - 1 < 1; omega)]
    after_reads_at
    exact band_word p r (w := 16) (by omega)

/-- Where each window's block lies at a grid point. -/
theorem idx : ∀ t : Fin cfg0.N, win0_0.index t = ![t.val, 0] ∧ win0_1.index t = ![t.val * 32 - 1, 0] ∧ win0_2.index t = ![t.val, 0]
    ∧ win0_3.index t = ![t.val, 0] ∧ win0_4.index t = ![0, 0, 0] ∧ win0_5.index t = ![0, 0, 0] ∧ win0_6.index t = ![0, 0]
    ∧ win0_7.index t = ![0, 0] ∧ win0_8.index t = ![0, 0] ∧ win0_9.index t = ![t.val, 0] := by decide +kernel

/-- The tile's place in its stream. -/
theorem tile_at : ∀ t : Fin cfg0.N, tileW (grid0.coords t) = BitVec.ofNat 32 (t.val % 8) := by decide +kernel

variable (t : Fin cfg0.N)

theorem lt32 : t.val < 32 := t.isLt
/-- The stream and the position of a tile's row. -/
abbrev sq (p : Fin 512) : Fin 4 := ⟨(t.val * 512 + p.val) / 4096, by have := lt32 t; omega⟩
abbrev ps (p : Fin 512) : Fin 4096 := ⟨(t.val * 512 + p.val) % 4096, by omega⟩
/-- The row of the flat arrays that row `p` of tile `t` is. -/
abbrev row (p : Fin 512) : Fin 16384 := ⟨t.val * 512 + p.val, by have := lt32 t; omega⟩

theorem b0 (p k : Fin 512) : (iblk m c 0 t : Vec Ideal S512x512 .f32) (ix2 p k) = arg0 m c (ix3 (sq t p) (ps t p) k) := by
  refine Eq.trans (?_ : _ = (V m c main_v34 : Vec Ideal S16384x512 .f32) (ix2 (row t p) k)) (v34_at m c (row t p) k)
  have h := idx t
  blk_ext [iblk, h]
theorem b1 (ht : 0 < t.val) (p : Fin 16) (k : Fin 512) : (iblk m c 1 t : Vec Ideal S16x512 .f32) (ix2 p k)
    = arg0 m c (ix3 ⟨(t.val * 512 + p.val - 16) / 4096, by have := lt32 t; omega⟩ ⟨(t.val * 512 + p.val - 16) % 4096, by omega⟩ k) := by
  refine Eq.trans (?_ : _ = (V m c main_v34 : Vec Ideal S16384x512 .f32) (ix2 ⟨t.val * 512 + p.val - 16, by have := lt32 t; omega⟩ k))
    (v34_at m c ⟨t.val * 512 + p.val - 16, by have := lt32 t; omega⟩ k)
  have h := idx t
  blk_ext [iblk, h]
theorem b2 (p k : Fin 512) : (iblk m c 2 t : Vec Ideal S512x512 .f32) (ix2 p k) = arg1 m c (ix3 (sq t p) (ps t p) k) := by
  refine Eq.trans (?_ : _ = (V m c main_v35 : Vec Ideal S16384x512 .f32) (ix2 (row t p) k)) (v35_at m c (row t p) k)
  have h := idx t
  blk_ext [iblk, h]
theorem b3 (p : Fin 512) (k : Fin 1024) : (iblk m c 3 t : Vec Ideal S512x1024 .f32) (ix2 p k) = arg2 m c (ix3 (sq t p) (ps t p) k) := by
  refine Eq.trans (?_ : _ = (V m c main_v36 : Vec Ideal S16384x1024 .f32) (ix2 (row t p) k)) (v36_at m c (row t p) k)
  have h := idx t
  blk_ext [iblk, h]
theorem b4 (g : Fin 4) (p : Fin 512) (r : Fin 528) : (iblk m c 4 t : Vec Ideal S4x512x528 .bf16) (ix3 g p r)
    = if r.val ≤ p.val + 16 ∧ p.val + 16 < r.val + wOf g then (1 : EReal) else 0 := by
  refine Eq.trans (?_ : _ = (V m c main_v32 : Vec Ideal S4x512x528 .bf16) (ix3 g p r)) (v32_at m c g p r)
  have h := idx t
  blk_ext [iblk, h]
theorem b5 (g : Fin 4) (k n : Fin 128) : (iblk m c 5 t : Vec Ideal S4x128x128 .bf16) (ix3 g k n) = arg3 m c (ix3 g k n) := by
  refine Eq.trans (?_ : _ = (V m c main_v37 : Vec Ideal S4x128x128 .bf16) (ix3 g k n)) (v37_at m c g k n)
  have h := idx t
  blk_ext [iblk, h]
theorem b6 (j : Fin 512) : (iblk m c 6 t : Vec Ideal S1x512 .f32) (ix2 0 j) = arg4 m c (ix1 j) := by
  refine Eq.trans (?_ : _ = (V m c main_v38 : Vec Ideal S1x512 .f32) (ix2 0 j)) (v38_at m c j)
  have h := idx t
  blk_ext [iblk, h]
theorem b7 (j : Fin 512) (n : Fin 1024) : (iblk m c 7 t : Vec Ideal S512x1024 .bf16) (ix2 j n) = arg5 m c (ix2 ⟨j.val, by omega⟩ n) := by
  refine Eq.trans (?_ : _ = (V m c main_v39 : Vec Ideal S512x1024 .bf16) (ix2 j n)) (v39_at m c j n)
  have h := idx t
  blk_ext [iblk, h]
theorem b8 (j : Fin 512) (n : Fin 1024) : (iblk m c 8 t : Vec Ideal S512x1024 .bf16) (ix2 j n) = arg5 m c (ix2 ⟨512 + j.val, by omega⟩ n) := by
  refine Eq.trans (?_ : _ = (V m c main_v40 : Vec Ideal S512x1024 .bf16) (ix2 j n)) (v40_at m c j n)
  have h := idx t
  blk_ext [iblk, h]

/-- The parts of the band and of the groups' weights that the body reads. -/
theorem ld_band (x : Vec Ideal S4x512x528 .bf16) (p : Fin 512) (r : Fin 528) :
    (View.ld x r0_2 : Vec Ideal S1x512x528 .bf16) (ix3 0 p r) = x (ix3 0 p r) ∧ (View.ld x r0_4 : Vec Ideal S1x512x528 .bf16) (ix3 0 p r) = x (ix3 1 p r)
    ∧ (View.ld x r0_6 : Vec Ideal S1x512x528 .bf16) (ix3 0 p r) = x (ix3 2 p r) ∧ (View.ld x r0_8 : Vec Ideal S1x512x528 .bf16) (ix3 0 p r) = x (ix3 3 p r) := by
  refine ⟨?_, ?_, ?_, ?_⟩ <;> refine congrArg x (funext fun a => Fin.ext ?_) <;> match a with
    | ⟨0, _⟩ => rfl
    | ⟨1, _⟩ => show 0 + 1 * p.val = p.val; omega
    | ⟨2, _⟩ => show 0 + 1 * r.val = r.val; omega
theorem ld_wg (x : Vec Ideal S4x128x128 .bf16) (k n : Fin 128) :
    (View.ld x r0_3 : Vec Ideal S1x128x128 .bf16) (ix3 0 k n) = x (ix3 0 k n) ∧ (View.ld x r0_5 : Vec Ideal S1x128x128 .bf16) (ix3 0 k n) = x (ix3 1 k n)
    ∧ (View.ld x r0_7 : Vec Ideal S1x128x128 .bf16) (ix3 0 k n) = x (ix3 2 k n) ∧ (View.ld x r0_9 : Vec Ideal S1x128x128 .bf16) (ix3 0 k n) = x (ix3 3 k n) := by
  refine ⟨?_, ?_, ?_, ?_⟩ <;> refine congrArg x (funext fun a => Fin.ext ?_) <;> match a with
    | ⟨0, _⟩ => rfl
    | ⟨1, _⟩ => show 0 + 1 * k.val = k.val; omega
    | ⟨2, _⟩ => show 0 + 1 * n.val = n.val; omega

/-- The stored value, its loads of whole windows read. -/
theorem out_eq (i : grid0.Coords) (x0 : Vec Ideal S512x512 .f32) (x1 : Vec Ideal S16x512 .f32) (x2 : Vec Ideal S512x512 .f32) (x3 : Vec Ideal S512x1024 .f32)
    (x4 : Vec Ideal S4x512x528 .bf16) (x5 : Vec Ideal S4x128x128 .bf16) (x6 : Vec Ideal S1x512 .f32) (x7 x8 : Vec Ideal S512x1024 .bf16) :
    out0_9 i x0 x1 x2 x3 x4 x5 x6 x7 x8
      = k0_pay1 (k0_pay6 (k0_pay2 x0) (k0_pay4 i) (k0_pay5 i x0 x1 (View.ld x4 r0_2)) (View.ld x5 r0_3))
        (k0_pay7 (k0_pay2 x0) (k0_pay3 i x0 x1) (k0_pay4 i) (View.ld x4 r0_4) (View.ld x5 r0_5))
        (k0_pay11 (k0_pay2 x0) (k0_pay4 i) (k0_pay8 (View.ld x4 r0_6)) (k0_pay9 (k0_pay3 i x0 x1)) (k0_pay10 (k0_pay3 i x0 x1)) (View.ld x5 r0_7))
        (k0_pay12 (k0_pay2 x0) (k0_pay3 i x0 x1) (k0_pay4 i) (View.ld x4 r0_8)) (View.ld x5 r0_9) x6 x3 x7 x2 x8 := by
  unfold out0_9 k0_pay13 k0_pay14 k0_pay15
  frame_out

/-- The rows of tile `t` after the sixteen before them, at the tile's place in its stream. -/
theorem ext_at (r : Fin 528) (k : Fin 512) :
    k0_pay3 (grid0.coords t) (iblk m c 0 t) (iblk m c 1 t) (ix2 r k)
      = ext (fun s n => arg0 m c (ix3 ⟨t.val / 8, by have := lt32 t; omega⟩ s n)) (t.val % 8 * 512 + r.val) k := by
  have hT := lt32 t
  have hr := r.isLt
  rw [pay3_at, tile_at]
  by_cases h : r.val < 16
  · rw [dif_pos h]
    by_cases h8 : t.val % 8 = 0
    · have e : Scalar.cmpi .eq (BitVec.ofNat 32 (t.val % 8)) 0#32 = 1#1 := by rw [h8]; rfl
      rw [e]
      unfold ext
      rw [dif_neg (by omega)]
      rfl
    · have e : Scalar.cmpi .eq (BitVec.ofNat 32 (t.val % 8)) 0#32 = 0#1 := (by decide : ∀ z : Fin 8, z.val ≠ 0 → Scalar.cmpi .eq (BitVec.ofNat 32 z.val) 0#32 = 0#1) ⟨t.val % 8, by omega⟩ h8
      rw [e]
      refine Eq.trans (b1 m c t (by omega) ⟨r.val, h⟩ k) ?_
      unfold ext
      rw [dif_pos (by omega)]
      refine congrArg (arg0 m c) ?_
      congr 1 <;> refine Fin.ext ?_
      · show (t.val * 512 + r.val - 16) / 4096 = t.val / 8; omega
      · show (t.val * 512 + r.val - 16) % 4096 = t.val % 8 * 512 + r.val - 16; omega
  · rw [dif_neg h, b0]
    unfold ext
    rw [dif_pos (by omega)]
    refine congrArg (arg0 m c) ?_
    congr 1 <;> refine Fin.ext ?_
    · show (t.val * 512 + (r.val - 16)) / 4096 = t.val / 8; omega
    · show (t.val * 512 + (r.val - 16)) % 4096 = t.val % 8 * 512 + r.val - 16; omega

/-- The position's word. -/
theorem pos_at (p : Fin 512) : k0_pay4 (grid0.coords t) (ix2 p 0) = BitVec.ofNat 32 ((ps t p).val + 1) := by
  rw [pay4_at, tile_at]
  have hp := p.isLt
  show BitVec.ofNat 32 (t.val % 8) * 512#32 + BitVec.ofNat 32 p.val + 1#32 = BitVec.ofNat 32 ((t.val * 512 + p.val) % 4096 + 1)
  apply BitVec.eq_of_toNat_eq
  simp only [BitVec.toNat_add, BitVec.toNat_mul, BitVec.toNat_ofNat]
  omega

/-- The array the kernel leaves, at a stream's position. -/
def GF (b : Fin 4) (s : Fin 4096) (n : Fin 1024) : EReal :=
  outRow (ext (fun s n => arg0 m c (ix3 b s n))) s.val (BitVec.ofNat 32 (s.val + 1)) (fun j => arg0 m c (ix3 b s j)) (fun j => arg1 m c (ix3 b s j))
    (arg2 m c (ix3 b s n)) (fun g k n => arg3 m c (ix3 g k n)) (fun j => arg4 m c (ix1 j)) (fun j => arg5 m c (ix2 j n))
/-- The array the kernel leaves. -/
def G : Vec Ideal S16384x1024 .f32 := fun i =>
  GF m c ⟨(i 0).val / 4096, by have : (i 0).val < 16384 := (i 0).isLt; omega⟩ ⟨(i 0).val % 4096, by omega⟩ (i 1)

theorem point_at (hR : ∀ i, IsReal (arg0 m c i)) (p : Fin 512) (n : Fin 1024) :
    out0_9 (grid0.coords t) (iblk m c 0 t) (iblk m c 1 t) (iblk m c 2 t) (iblk m c 3 t) (iblk m c 4 t) (iblk m c 5 t) (iblk m c 6 t) (iblk m c 7 t) (iblk m c 8 t)
      (ix2 p n) = G m c (ix2 (row t p) n) := by
  have hT := lt32 t
  have hp := p.isLt
  have hb : (⟨t.val / 8, by omega⟩ : Fin 4) = sq t p := Fin.ext (by show t.val / 8 = (t.val * 512 + p.val) / 4096; omega)
  rw [out_eq]
  refine (body_at (grid0.coords t) (iblk m c 0 t) (iblk m c 1 t) (View.ld (iblk m c 4 t) r0_2) (View.ld (iblk m c 4 t) r0_4) (View.ld (iblk m c 4 t) r0_6) (View.ld (iblk m c 4 t) r0_8)
    (View.ld (iblk m c 5 t) r0_3) (View.ld (iblk m c 5 t) r0_5) (View.ld (iblk m c 5 t) r0_7) (View.ld (iblk m c 5 t) r0_9) (iblk m c 6 t) (iblk m c 3 t) (iblk m c 7 t)
    (iblk m c 2 t) (iblk m c 8 t) p (fun r k => ext (fun s n => arg0 m c (ix3 ⟨t.val / 8, by omega⟩ s n)) (t.val % 8 * 512 + r) k) (ext_at m c t)
    (fun r k => isReal_ext (fun _ _ => hR _) _ _) _ (pos_at t p) _ (b0 m c t p) (fun g k n => arg3 m c (ix3 g k n))
    (fun k n => (ld_wg _ k n).1.trans (b5 m c t 0 k n)) (fun k n => (ld_wg _ k n).2.1.trans (b5 m c t 1 k n))
    (fun k n => (ld_wg _ k n).2.2.1.trans (b5 m c t 2 k n)) (fun k n => (ld_wg _ k n).2.2.2.trans (b5 m c t 3 k n)) ?_
    (fun j => arg4 m c (ix1 j)) (b6 m c t) (fun j => arg5 m c (ix2 j n)) n (fun j => b7 m c t j n) (fun j => b8 m c t j n)).trans ?_
  · rintro B w (⟨rfl, rfl⟩ | ⟨rfl, rfl⟩ | ⟨rfl, rfl⟩ | ⟨rfl, rfl⟩) r
    · exact (ld_band _ p r).1.trans (b4 m c t 0 p r)
    · exact (ld_band _ p r).2.1.trans (b4 m c t 1 p r)
    · exact (ld_band _ p r).2.2.1.trans (b4 m c t 2 p r)
    · exact (ld_band _ p r).2.2.2.trans (b4 m c t 3 p r)
  · rw [hb, b3]
    simp only [b2]
    show _ = GF m c (sq t p) (ps t p) n
    unfold GF outRow mixRow
    have hs : t.val % 8 * 512 + p.val = (ps t p).val := by show _ = (t.val * 512 + p.val) % 4096; omega
    have hwin : ∀ (k : Fin 512) (w : ℕ), w ≤ 16 → win (fun r => ext (fun s n => arg0 m c (ix3 (sq t p) s n)) (t.val % 8 * 512 + r) k) p.val w
        = win (fun r => ext (fun s n => arg0 m c (ix3 (sq t p) s n)) r k) (ps t p).val w := fun k w hw => by
      rw [← hs]
      exact win_shift hw (fun r _ => rfl)
    simp only [fun (k : Fin 512) (g : Fin 4) => hwin k (wOf g) (wOf_le g)]

theorem final (hR : ∀ i, IsReal (arg0 m c i)) : (dats m 0 c).arrAt 9 cfg0.N = G m c := by
  refine (dats m 0 c).arrAt_eq_of_covers 9 _ (by decide +kernel) fun t hf y => ?_
  blk_simp
  rw [after0_9]
  obtain ⟨p, n, rfl⟩ : ∃ (p : Fin 512) (n : Fin 1024), y = (ix2 p n : S512x1024.Idx) := ⟨y 0, y 1, by funext a; match a with | ⟨0, _⟩ => rfl | ⟨1, _⟩ => rfl⟩
  have he : ((View.whole main_v41).slice (win0_9.rect t)).emb (ix2 p n : S512x1024.Idx) = (ix2 (row t p) n : S16384x1024.Idx) := by
    have h := idx t
    blk_ext [h]
  rw [he]
  exact point_at m c t hR p n

end Cert.Kernel4Ideal.Blocks

end
-- ==== Proof.PoolPrefix.lean ====
module

public import proofs.«01_k».proof.Proof.PoolSpec

/-! A running sum along the middle axis of a three-axis array, at an index. -/

@[expose] public section

set_option maxRecDepth 16384

noncomputable section

namespace Pool

open Idealize.ShloMosaic Idealize.ShloMosaic.TcCoe

theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

theorem numel_mid (N : ℕ) : (⟨3, ![1, N, 1]⟩ : Shape).numel = N := by
  show ∏ a : Fin 3, (![1, N, 1] : Fin 3 → ℕ) a = N
  rw [Fin.prod_univ_three]
  show 1 * N * 1 = N
  omega

theorem symm_mid {N : ℕ} (n : Fin (⟨3, ![1, N, 1]⟩ : Shape).numel) :
    (⟨3, ![1, N, 1]⟩ : Shape).rowMajor.symm n = ix3 (0 : Fin 1) (n.cast (numel_mid N)) (0 : Fin 1) :=
  ((⟨3, ![1, N, 1]⟩ : Shape).rowMajor.symm_apply_eq).2 (Fin.ext (by
    rw [Shape.rowMajor_val_three]
    show n.val = (0 * N + n.val) * 1 + 0
    omega))

/-- The terms of a running sum that lie inside the array are those up to its place. -/
theorem sum_upto (F : ℕ → EReal) {M k : ℕ} (hk : k ≤ M) :
    (∑ n ∈ Finset.range (M + 1), if M ≤ k + n then F (k + n - M) else 0) = ∑ i ∈ Finset.range (k + 1), F i := by
  rw [← Finset.sum_filter, show (Finset.range (M + 1)).filter (fun n => M ≤ k + n) = Finset.Ico (M - k) (M + 1) from ?_]
  · rw [Finset.sum_Ico_eq_sum_range, show M + 1 - (M - k) = k + 1 by omega]
    exact Finset.sum_congr rfl fun i _ => congrArg F (by omega)
  · ext n
    simp only [Finset.mem_filter, Finset.mem_range, Finset.mem_Ico]
    omega

theorem prefix_at {A N C M : ℕ} (hN : M + 1 = N) (x : FVec Ideal (⟨3, ![A, N, C]⟩ : Shape) .f32) (F : ℕ → EReal) (b : Fin A) (c : Fin C)
    (hx : ∀ q : Fin N, x (ix3 b q c) = F q.val) (init : FVec Ideal (⟨0, ![]⟩ : Shape) .f32) (hu : 0 < (⟨0, ![]⟩ : Shape).numel)
    (hi : init (Shape.Idx.first hu) = (0 : EReal))
    (h : (⟨3, ![A, N, C]⟩ : Shape).ReduceWindows (![1, N, 1] : Fin 3 → ℕ) ![1, 1, 1] ![0, M, 0] ![0, 0, 0] (⟨3, ![A, N, C]⟩ : Shape)) (k : Fin N) :
    Host.reduceWindowAdd ![1, N, 1] ![1, 1, 1] ![0, M, 0] ![0, 0, 0] x init h hu (ix3 b k c) = ∑ i ∈ Finset.range (k.val + 1), F i := by
  subst hN
  have hk := k.isLt
  rw [← sum_upto F (show k.val ≤ M by omega)]
  unfold Host.reduceWindowAdd
  rw [Ideal.hostReduceWindowAdd_def, hi]
  unfold Ideal.hostReduceWindowAdd Host.reduceWindow
  refine (foldl_sum _ _ _).trans ?_
  rw [zero_add]
  refine (Fin.sum_univ_def _).symm.trans ?_
  rw [show Finset.range (M + 1) = Finset.range (⟨3, ![1, M + 1, 1]⟩ : Shape).numel by rw [numel_mid], Finset.sum_range]
  refine Finset.sum_congr rfl fun n _ => ?_
  have hn : n.val < M + 1 := (n.cast (numel_mid _)).isLt
  have hw0 : ((⟨3, ![1, M + 1, 1]⟩ : Shape).rowMajor.symm n 0).val = 0 := by rw [symm_mid]; rfl
  have hw1 : ((⟨3, ![1, M + 1, 1]⟩ : Shape).rowMajor.symm n 1).val = n.val := by rw [symm_mid]; rfl
  have hw2 : ((⟨3, ![1, M + 1, 1]⟩ : Shape).rowMajor.symm n 2).val = 0 := by rw [symm_mid]; rfl
  dsimp only
  split
  · next hin =>
    have h1 := hin 1
    change M ≤ k.val * 1 + ((⟨3, ![1, M + 1, 1]⟩ : Shape).rowMajor.symm n 1).val
      ∧ k.val * 1 + ((⟨3, ![1, M + 1, 1]⟩ : Shape).rowMajor.symm n 1).val - M < M + 1 at h1
    rw [hw1] at h1
    rw [if_pos (by omega)]
    refine (congrArg x (funext fun a => Fin.ext ?_)).trans (hx ⟨k.val + n.val - M, by omega⟩)
    match a with
    | ⟨0, _⟩ =>
      show b.val * 1 + ((⟨3, ![1, M + 1, 1]⟩ : Shape).rowMajor.symm n 0).val - 0 = b.val
      rw [hw0]
      omega
    | ⟨1, _⟩ =>
      show k.val * 1 + ((⟨3, ![1, M + 1, 1]⟩ : Shape).rowMajor.symm n 1).val - M = k.val + n.val - M
      rw [hw1]
      omega
    | ⟨2, _⟩ =>
      show c.val * 1 + ((⟨3, ![1, M + 1, 1]⟩ : Shape).rowMajor.symm n 2).val - 0 = c.val
      rw [hw2]
      omega
  · next hin =>
    rw [if_neg]
    intro hle
    refine hin fun a => ?_
    match a with
    | ⟨0, _⟩ =>
      show 0 ≤ b.val * 1 + ((⟨3, ![1, M + 1, 1]⟩ : Shape).rowMajor.symm n 0).val ∧ b.val * 1 + ((⟨3, ![1, M + 1, 1]⟩ : Shape).rowMajor.symm n 0).val - 0 < A
      rw [hw0]
      have := b.isLt
      omega
    | ⟨1, _⟩ =>
      show M ≤ k.val * 1 + ((⟨3, ![1, M + 1, 1]⟩ : Shape).rowMajor.symm n 1).val ∧ k.val * 1 + ((⟨3, ![1, M + 1, 1]⟩ : Shape).rowMajor.symm n 1).val - M < M + 1
      rw [hw1]
      omega
    | ⟨2, _⟩ =>
      show 0 ≤ c.val * 1 + ((⟨3, ![1, M + 1, 1]⟩ : Shape).rowMajor.symm n 2).val ∧ c.val * 1 + ((⟨3, ![1, M + 1, 1]⟩ : Shape).rowMajor.symm n 2).val - 0 < C
      rw [hw2]
      have := c.isLt
      omega

end Pool

end
-- ==== Proof.PoolRef.lean ====
module

public import proofs.«01_k».proof.Proof.PoolPrefix
public import proofs.«01_k».proof.Proof.Gen.Reference4Ideal.Run

/-! The reference of the pooling mixer with the output projection, in stages and at an index. -/

@[expose] public section

set_option maxRecDepth 16384

noncomputable section

namespace Cert.Reference4Ideal.Rows

open Cert.Reference4Ideal Cert.Reference4Ideal.Gen Router Heads Pool
open Idealize.ShloMosaic Idealize.ShloMosaic.TcCoe Idealize.SL.Sem

/-- Arrays over the extended reals. -/
abbrev A (s : Shape) := FVec Ideal s .f32

/-- The rows after fifteen rows of zeros; their running sums after a zero. -/
def refExt (x0 : A S4x4096x512) : A S4x4111x512 :=
  concatenate S4x4111x512 1 [⟨S4x15x512, (broadcastInDim S4x15x512 ![] bcast_S_S4x15x512 (constant S_ .f32 0x00000000#32))⟩, ⟨S4x4096x512, x0⟩]
    concatenates_S4x15x512_S4x4096x512_S4x4111x512_d1
def refRun (e : A S4x4111x512) : A S4x4111x512 :=
  Host.reduceWindowAdd ![1, 4111, 1] ![1, 1, 1] ![0, 4110, 0] ![0, 0, 0] e (broadcastInDim S_ ![] bcast_S_S_ (constant S_ .f32 0x00000000#32))
    reduceWindows_S4x4111x512_S4x4111x512_w1s1p0_0_w4111s1p4110_0_w1s1p0_0 h_S_
def refCS (r : A S4x4111x512) : A S4x4112x512 :=
  pad S4x4112x512 ![0, 1, 0] ![0, 0, 0] ![0, 0, 0] r (sitofp .f32 (constantI S_ 32 0#32)) pads_S4x4111x512_S4x4112x512_000_100_000 h_S_
/-- The number of rows a window holds, at each position. -/
def refCnt (w : BitVec 32) : A S4x4096x128 :=
  broadcastInDim S4x4096x128 ![0, 1, 2] bcast_S1x4096x1_S4x4096x128_0_1_2 (broadcastInDim S1x4096x1 ![1] bcast_S4096_S1x4096x1_1
    (sitofp .f32 (minsi (addi (iotaInDim S4096 32 0) (broadcastInDim S4096 ![] bcast_S_S4096 (constantI S_ 32 1#32)))
      (broadcastInDim S4096 ![] bcast_S_S4096 (constantI S_ 32 w)))))
/-- A group's means, from the two running sums at its window's ends. -/
def refMean (hi lo : A S4x4096x128) (w : BitVec 32) : A S4x4096x1x128 :=
  broadcastInDim S4x4096x1x128 ![0, 1, 3] bcast_S4x4096x128_S4x4096x1x128_0_1_3 (Host.divf (subf hi lo) (refCnt w))
def refM0 (cs : A S4x4112x512) : A S4x4096x1x128 := refMean
  (extractStridedSlice S4x4096x128 ![0, 16, 0] (extractStridedSlice S4x4112x128 ![0, 0, 0] cs slices_S4x4112x512_S4x4112x128_0_0_0) slices_S4x4112x128_S4x4096x128_0_16_0)
  (extractStridedSlice S4x4096x128 ![0, 14, 0] (extractStridedSlice S4x4112x128 ![0, 0, 0] cs slices_S4x4112x512_S4x4112x128_0_0_0) slices_S4x4112x128_S4x4096x128_0_14_0) 2#32
def refM1 (cs : A S4x4112x512) : A S4x4096x1x128 := refMean
  (extractStridedSlice S4x4096x128 ![0, 16, 0] (extractStridedSlice S4x4112x128 ![0, 0, 128] cs slices_S4x4112x512_S4x4112x128_0_0_128) slices_S4x4112x128_S4x4096x128_0_16_0)
  (extractStridedSlice S4x4096x128 ![0, 12, 0] (extractStridedSlice S4x4112x128 ![0, 0, 128] cs slices_S4x4112x512_S4x4112x128_0_0_128) slices_S4x4112x128_S4x4096x128_0_12_0) 4#32
def refM2 (cs : A S4x4112x512) : A S4x4096x1x128 := refMean
  (extractStridedSlice S4x4096x128 ![0, 16, 0] (extractStridedSlice S4x4112x128 ![0, 0, 256] cs slices_S4x4112x512_S4x4112x128_0_0_256) slices_S4x4112x128_S4x4096x128_0_16_0)
  (extractStridedSlice S4x4096x128 ![0, 8, 0] (extractStridedSlice S4x4112x128 ![0, 0, 256] cs slices_S4x4112x512_S4x4112x128_0_0_256) slices_S4x4112x128_S4x4096x128_0_8_0) 8#32
def refM3 (cs : A S4x4112x512) : A S4x4096x1x128 := refMean
  (extractStridedSlice S4x4096x128 ![0, 16, 0] (extractStridedSlice S4x4112x128 ![0, 0, 384] cs slices_S4x4112x512_S4x4112x128_0_0_384) slices_S4x4112x128_S4x4096x128_0_16_0)
  (extractStridedSlice S4x4096x128 ![0, 0, 0] (extractStridedSlice S4x4112x128 ![0, 0, 384] cs slices_S4x4112x512_S4x4112x128_0_0_384) slices_S4x4112x128_S4x4096x128_0_0_0) 16#32
/-- The means less the rows, by group. -/
def refD (m0 m1 m2 m3 : A S4x4096x1x128) (x0 : A S4x4096x512) : A S4x4096x4x128 :=
  subf (concatenate S4x4096x4x128 2 [⟨S4x4096x1x128, m0⟩, ⟨S4x4096x1x128, m1⟩, ⟨S4x4096x1x128, m2⟩, ⟨S4x4096x1x128, m3⟩]
    concatenates_S4x4096x1x128_S4x4096x1x128_S4x4096x1x128_S4x4096x1x128_S4x4096x4x128_d2) (shapeCast _ x0 shapeCasts_S4x4096x512_S4x4096x4x128)
/-- The groups' products, scaled. -/
def refPool (d : A S4x4096x4x128) (x3 : A S4x128x128) (x4 : A S512) : A S4x4096x512 :=
  mulf (shapeCast _ (transpose S4x4096x4x128 [2, 3, 0, 1] (Host.dotGeneral dot_S4x128x128_S4x4096x4x128_S4x128x4x4096_1_3_2_01_0_2 none x3 d)
    transposes_S4x128x4x4096_S4x4096x4x128_2_3_0_1) shapeCasts_S4x4096x4x128_S4x4096x512)
    (broadcastInDim S4x4096x512 ![0, 1, 2] bcast_S1x1x512_S4x4096x512_0_1_2 (broadcastInDim S1x1x512 ![2] bcast_S512_S1x1x512_2 x4))
/-- The residual and the projection of the pooled rows next to the attention's. -/
def refOut (po x1 : A S4x4096x512) (x2 : A S4x4096x1024) (x5 : A S1024x1024) : A S4x4096x1024 :=
  addf x2 (Host.dotGeneral dot_S4x4096x1024_S1024x1024_S4x4096x1024_2_0_01_1_n_n none
    (concatenate S4x4096x1024 2 [⟨S4x4096x512, po⟩, ⟨S4x4096x512, x1⟩] concatenates_S4x4096x512_S4x4096x512_S4x4096x1024_d2) x5)
/-- The whole. -/
def refAll (x0 x1 : A S4x4096x512) (x2 : A S4x4096x1024) (x3 : A S4x128x128) (x4 : A S512) (x5 : A S1024x1024) : A S16384x1024 :=
  shapeCast _ (refOut (refPool (refD (refM0 (refCS (refRun (refExt x0)))) (refM1 (refCS (refRun (refExt x0)))) (refM2 (refCS (refRun (refExt x0))))
    (refM3 (refCS (refRun (refExt x0)))) x0) x3 x4) x1 x2 x5) shapeCasts_S4x4096x1024_S16384x1024

variable (b : Fin 4) (s : Fin 4096)

theorem ext_at (x0 : A S4x4096x512) (q : Fin 4111) (n : Fin 512) :
    refExt x0 (ix3 b q n) = ext (fun s n => x0 (ix3 b s n)) (q.val + 1) n := by
  have hq := q.isLt
  have e : refExt x0 (ix3 b q n) = if h : q.val < 15 then (0 : EReal) else x0 (ix3 b ⟨q.val - 15, by omega⟩ n) := by
    pointwise [refExt]
  rw [e]
  unfold ext
  by_cases h : q.val < 15
  · rw [dif_pos h, dif_neg (by omega)]
  · rw [dif_neg h, dif_pos (by omega)]
    rfl

theorem run_at (e : A S4x4111x512) (F : ℕ → EReal) (n : Fin 512) (h : ∀ q : Fin 4111, e (ix3 b q n) = F q.val) (k : Fin 4111) :
    refRun e (ix3 b k n) = ∑ i ∈ Finset.range (k.val + 1), F i := by
  unfold refRun
  exact prefix_at (A := 4) (N := 4111) (C := 512) (M := 4110) rfl e F b n h _ _ (by pointwise []) _ k

theorem cs_at (r : A S4x4111x512) (F : ℕ → EReal) (n : Fin 512) (h : ∀ k : Fin 4111, r (ix3 b k n) = ∑ i ∈ Finset.range (k.val + 1), F i) (k : Fin 4112) :
    refCS r (ix3 b k n) = ∑ i ∈ Finset.range k.val, F i := by
  have hk := k.isLt
  have z : FloatOps.sitofp (F := Ideal) FTy.f32 (0#32 : BitVec 32) = (0 : EReal) := by
    show (((0#32 : BitVec 32).toInt : ℝ) : EReal) = 0
    norm_num
  unfold refCS
  pointwise []
  by_cases h0 : k.val = 0
  · rw [dif_neg (by omega), h0, z]
    rfl
  · rw [dif_pos (by omega), h]
    show ∑ i ∈ Finset.range (k.val - 1 + 1), F i = _
    rw [show k.val - 1 + 1 = k.val by omega]

theorem cnt_at (w : BitVec 32) (k : Fin 128) : refCnt w (ix3 b s k) = FloatOps.sitofp (F := Ideal) FTy.f32 (IntOp.minsi (BitVec.ofNat 32 (s.val + 1)) w) := by
  have e : refCnt w (ix3 b s k) = FloatOps.sitofp (F := Ideal) FTy.f32 (IntOp.minsi (IntOp.addi (BitVec.ofNat 32 s.val) 1#32) w) := by
    pointwise [refCnt]
  have e1 : IntOp.addi (BitVec.ofNat 32 s.val) 1#32 = BitVec.ofNat 32 (s.val + 1) := by
    show BitVec.ofNat 32 s.val + 1#32 = _
    apply BitVec.eq_of_toNat_eq
    simp
  rw [e, e1]

theorem mean_at (hi lo : A S4x4096x128) (w : BitVec 32) (k : Fin 128) :
    refMean hi lo w (ix4 b s 0 k) = Ideal.div (hi (ix3 b s k) - lo (ix3 b s k)) (FloatOps.sitofp (F := Ideal) FTy.f32 (IntOp.minsi (BitVec.ofNat 32 (s.val + 1)) w)) := by
  rw [← cnt_at b s w k]
  unfold refMean
  generalize refCnt w = z
  pointwise []

section
variable (x0 : A S4x4096x512) (hR : ∀ i, IsReal (x0 i)) (cs : A S4x4112x512)
  (hcs : ∀ (k : Fin 4112) n, cs (ix3 b k n) = ∑ i ∈ Finset.range k.val, ext (fun s n => x0 (ix3 b s n)) (i + 1) n)
include hR hcs

theorem win_at (w : ℕ) (hw : w ≤ 16) (n : Fin 512) (k0 k1 : Fin 4112) (h0 : k0.val = s.val + 16) (h1 : k1.val = s.val + (16 - w)) :
    cs (ix3 b k0 n) - cs (ix3 b k1 n) = win (fun r => ext (fun s n => x0 (ix3 b s n)) r n) s.val w := by
  rw [hcs, hcs, h0, h1, show s.val + 16 = s.val + (16 - w) + w by omega]
  rw [prefix_sub (fun k => isReal_ext (fun _ _ => hR _) _ _)]
  unfold win
  refine Finset.sum_congr rfl fun i _ => ?_
  exact congrArg (fun r => ext (fun s n => x0 (ix3 b s n)) r n) (by omega)

theorem m0_at (k : Fin 128) : refM0 cs (ix4 b s 0 k)
    = Ideal.div (win (fun r => ext (fun s n => x0 (ix3 b s n)) r (col 0 k)) s.val (wOf 0)) (cntW (BitVec.ofNat 32 (s.val + 1)) (wOf 0)) := by
  refine (mean_at b s _ _ _ k).trans ?_
  refine congrArg (fun z : EReal => Ideal.div z (cntW (BitVec.ofNat 32 (s.val + 1)) (wOf 0))) ?_
  refine Eq.trans ?_ (win_at b s x0 hR cs hcs (wOf 0) (wOf_le 0) (col 0 k) ⟨16 + s.val, by omega⟩ ⟨14 + s.val, by omega⟩ (Nat.add_comm _ _)
    (by show 14 + s.val = s.val + (16 - 2); omega))
  have hc : (⟨k.val, by omega⟩ : Fin 512) = col 0 k := Fin.ext (by show k.val = 0 * 128 + k.val; omega)
  rw [← hc]
  pointwise []

theorem m1_at (k : Fin 128) : refM1 cs (ix4 b s 0 k)
    = Ideal.div (win (fun r => ext (fun s n => x0 (ix3 b s n)) r (col 1 k)) s.val (wOf 1)) (cntW (BitVec.ofNat 32 (s.val + 1)) (wOf 1)) := by
  refine (mean_at b s _ _ _ k).trans ?_
  refine congrArg (fun z : EReal => Ideal.div z (cntW (BitVec.ofNat 32 (s.val + 1)) (wOf 1))) ?_
  refine Eq.trans ?_ (win_at b s x0 hR cs hcs (wOf 1) (wOf_le 1) (col 1 k) ⟨16 + s.val, by omega⟩ ⟨12 + s.val, by omega⟩ (Nat.add_comm _ _)
    (by show 12 + s.val = s.val + (16 - 4); omega))
  pointwise []
  rfl

theorem m2_at (k : Fin 128) : refM2 cs (ix4 b s 0 k)
    = Ideal.div (win (fun r => ext (fun s n => x0 (ix3 b s n)) r (col 2 k)) s.val (wOf 2)) (cntW (BitVec.ofNat 32 (s.val + 1)) (wOf 2)) := by
  refine (mean_at b s _ _ _ k).trans ?_
  refine congrArg (fun z : EReal => Ideal.div z (cntW (BitVec.ofNat 32 (s.val + 1)) (wOf 2))) ?_
  refine Eq.trans ?_ (win_at b s x0 hR cs hcs (wOf 2) (wOf_le 2) (col 2 k) ⟨16 + s.val, by omega⟩ ⟨8 + s.val, by omega⟩ (Nat.add_comm _ _)
    (by show 8 + s.val = s.val + (16 - 8); omega))
  pointwise []
  rfl

theorem m3_at (k : Fin 128) : refM3 cs (ix4 b s 0 k)
    = Ideal.div (win (fun r => ext (fun s n => x0 (ix3 b s n)) r (col 3 k)) s.val (wOf 3)) (cntW (BitVec.ofNat 32 (s.val + 1)) (wOf 3)) := by
  refine (mean_at b s _ _ _ k).trans ?_
  refine congrArg (fun z : EReal => Ideal.div z (cntW (BitVec.ofNat 32 (s.val + 1)) (wOf 3))) ?_
  refine Eq.trans ?_ (win_at b s x0 hR cs hcs (wOf 3) (wOf_le 3) (col 3 k) ⟨16 + s.val, by omega⟩ ⟨s.val, by omega⟩ (Nat.add_comm _ _)
    (by show s.val = s.val + (16 - 16); omega))
  pointwise []
  rfl

end

theorem d_at (m0 m1 m2 m3 : A S4x4096x1x128) (x0 : A S4x4096x512) (M : Fin 4 → Fin 128 → EReal)
    (h0 : ∀ k, m0 (ix4 b s 0 k) = M 0 k) (h1 : ∀ k, m1 (ix4 b s 0 k) = M 1 k) (h2 : ∀ k, m2 (ix4 b s 0 k) = M 2 k) (h3 : ∀ k, m3 (ix4 b s 0 k) = M 3 k)
    (g : Fin 4) (k : Fin 128) : refD m0 m1 m2 m3 x0 (ix4 b s g k) = M g k - x0 (ix3 b s (col g k)) := by
  have e : ∀ (i : Fin 4) (m : A S4x4096x1x128) (h : i = g) (hm : ∀ k, m (ix4 b s 0 k) = M i k), m (ix4 b s 0 k) - x0 (ix3 b s (col g k)) = M g k - x0 (ix3 b s (col g k)) :=
    fun i m h hm => by rw [hm, h]
  unfold refD
  pointwise []
  match g with
  | ⟨0, _⟩ =>
    rw [dif_pos (by show 0 < 1; omega)]
    exact e 0 m0 rfl h0
  | ⟨1, _⟩ =>
    rw [dif_neg (by show ¬ 1 < 1; omega), dif_pos (by show 1 - 1 < 1; omega)]
    exact e 1 m1 rfl h1
  | ⟨2, _⟩ =>
    rw [dif_neg (by show ¬ 2 < 1; omega), dif_neg (by show ¬ 2 - 1 < 1; omega), dif_pos (by show 2 - 1 - 1 < 1; omega)]
    exact e 2 m2 rfl h2
  | ⟨3, _⟩ =>
    rw [dif_neg (by show ¬ 3 < 1; omega), dif_neg (by show ¬ 3 - 1 < 1; omega), dif_neg (by show ¬ 3 - 1 - 1 < 1; omega)]
    exact e 3 m3 rfl h3

theorem pool_at (d : A S4x4096x4x128) (x3 : A S4x128x128) (x4 : A S512) (j : Fin 512) :
    refPool d x3 x4 (ix3 b s j) = (∑ k : Fin 128, d (ix4 b s (grp j) k) * x3 (ix3 (grp j) k (lane j))) * x4 (ix1 j) := by
  unfold refPool
  pointwise []
  refine congrArg (fun z : EReal => z * x4 (ix1 j)) (Finset.sum_congr rfl fun k _ => ?_)
  exact mul_comm _ _

theorem out_at (po x1 : A S4x4096x512) (x2 : A S4x4096x1024) (x5 : A S1024x1024) (n : Fin 1024) :
    refOut po x1 x2 x5 (ix3 b s n) = x2 (ix3 b s n) + ((∑ j : Fin 512, po (ix3 b s j) * x5 (ix2 ⟨j.val, by omega⟩ n))
      + ∑ j : Fin 512, x1 (ix3 b s j) * x5 (ix2 ⟨512 + j.val, by omega⟩ n)) := by
  unfold refOut
  pointwise []

/-- The reference, at an index. -/
theorem all_at (x0 x1 : A S4x4096x512) (x2 : A S4x4096x1024) (x3 : A S4x128x128) (x4 : A S512) (x5 : A S1024x1024) (hR : ∀ i, IsReal (x0 i))
    (t : Fin 16384) (n : Fin 1024) (b : Fin 4) (s : Fin 4096) (hb : b.val = t.val / 4096) (hs : s.val = t.val % 4096) :
    refAll x0 x1 x2 x3 x4 x5 (ix2 t n) = outRow (ext (fun s n => x0 (ix3 b s n))) s.val (BitVec.ofNat 32 (s.val + 1)) (fun j => x0 (ix3 b s j))
      (fun j => x1 (ix3 b s j)) (x2 (ix3 b s n)) (fun g k n => x3 (ix3 g k n)) (fun j => x4 (ix1 j)) (fun j => x5 (ix2 j n)) := by
  have hcs : ∀ (k : Fin 4112) n, refCS (refRun (refExt x0)) (ix3 b k n) = ∑ i ∈ Finset.range k.val, ext (fun s n => x0 (ix3 b s n)) (i + 1) n := fun k n =>
    cs_at b _ _ n (run_at b _ (fun i => ext (fun s n => x0 (ix3 b s n)) (i + 1) n) n (fun q => ext_at b x0 q n)) k
  have hd := d_at b s _ _ _ _ x0 (fun g k => Ideal.div (win (fun r => ext (fun s n => x0 (ix3 b s n)) r (col g k)) s.val (wOf g)) (cntW (BitVec.ofNat 32 (s.val + 1)) (wOf g)))
    (m0_at b s x0 hR _ hcs) (m1_at b s x0 hR _ hcs) (m2_at b s x0 hR _ hcs) (m3_at b s x0 hR _ hcs)
  unfold refAll
  generalize refD (refM0 (refCS (refRun (refExt x0)))) (refM1 (refCS (refRun (refExt x0)))) (refM2 (refCS (refRun (refExt x0))))
    (refM3 (refCS (refRun (refExt x0)))) x0 = d at *
  have hp : ∀ j, refPool d x3 x4 (ix3 b s j) = mixRow (ext (fun s n => x0 (ix3 b s n))) s.val (BitVec.ofNat 32 (s.val + 1)) (fun j => x0 (ix3 b s j))
      (fun g k n => x3 (ix3 g k n)) j * x4 (ix1 j) := fun j => by
    rw [pool_at]
    simp only [hd]
    rfl
  generalize refPool d x3 x4 = po at *
  have ho := out_at b s po x1 x2 x5 n
  simp only [hp] at ho
  refine Eq.trans ?_ ho
  generalize refOut po x1 x2 x5 = o at *
  have eb : b = ⟨t.val / 4096, by omega⟩ := Fin.ext hb
  have es : s = ⟨t.val % 4096, by omega⟩ := Fin.ext hs
  rw [eb, es]
  pointwise []

end Cert.Reference4Ideal.Rows

end
-- ==== Proof.PoolFinite.lean ====
module

public import proofs.«01_k».proof.Proof.Finite
public import proofs.«01_k».proof.Pre_pool_finite

/-! The pooling mixer's precondition: what it says of the pooled rows. -/

@[expose] public section

set_option maxRecDepth 16384

noncomputable section

namespace Cert.Pre_pool_finite

open Idealize.ShloMosaic Router

/-- The side conditions the predicate takes. -/
theorem sides : Facts where
  bcast_S_S4x4096x512 := by decide
  reducesTo_S4x4096x512_S_d0_1_2 := by decide
  h_S_ := by decide

attribute [local instance] sides

theorem reals (x0 x1 : FVec Ideal S4x4096x512 .f32) (x2 : FVec Ideal S4x4096x1024 .f32) (x3 : FVec Ideal S4x128x128 .f32) (x4 : FVec Ideal S512 .f32)
    (x5 : FVec Ideal S1024x1024 .f32) (j : S_.Idx) (e : fn (F := Ideal) x0 x1 x2 x3 x4 x5 j = 1#1) (i : S4x4096x512.Idx) : IsReal (x0 i) :=
  Cert.Pre_router_finite.isReal_of_lt _ (Host.reduce_andi_all _ _ _ _ j e i)

end Cert.Pre_pool_finite

end
-- ==== Proof.PoolClaim.lean ====
module

public import proofs.«01_k».proof.Proof.PoolBlocks
public import proofs.«01_k».proof.Proof.PoolRef
public import proofs.«01_k».proof.Proof.PoolFinite
public import proofs.«01_k».proof.Proof.Gen.Kernel4
public import proofs.«01_k».proof.Proof.Gen.Kernel4.Frame
public import Idealize.ShloMosaic.Adequacy
public import Idealize.ShloMosaic.Init

/-! The claims of the pooling mixer with the output projection. -/

@[expose] public section

set_option maxRecDepth 16384

noncomputable section

namespace Cert.PoolClaim

open Idealize.ShloMosaic Idealize.ShloMosaic.TcCoe Idealize.SL.Sem Router

attribute [local instance] Cert.Kernel4.Gen.facts Cert.Kernel4Ideal.Gen.facts Cert.Reference4Ideal.Gen.facts Cert.Pre_pool_finite.sides

open Cert.Kernel4Ideal.Blocks in
theorem reals_of (m : (ℓ : Loc Cert.Kernel4Ideal.nD Cert.Kernel4Ideal.τ Cert.Kernel4Ideal.sig) → Buf (Elt Ideal) ℓ)
    (h : Cert.Pre_Kernel4Ideal_pool_finite m) (c : Dev Cert.Kernel4Ideal.nD) : ∀ i, IsReal (arg0 m c i) :=
  Cert.Pre_pool_finite.reals (arg0 m c) (arg1 m c) (arg2 m c) (arg3 m c) (arg4 m c) (arg5 m c) _
    (congrFun (h c) (Shape.Idx.first Cert.Pre_pool_finite.sides.h_S_))

open Cert.Reference4Ideal.Rows in
/-- The kernel's array and the reference's are one. -/
theorem value_eq (m : (ℓ : Loc Cert.Kernel4Ideal.nD Cert.Kernel4Ideal.τ Cert.Kernel4Ideal.sig) → Buf (Elt Ideal) ℓ) (c : Dev Cert.Kernel4Ideal.nD)
    (hR : ∀ i, IsReal (Cert.Kernel4Ideal.Blocks.arg0 m c i))
    (x0 x1 : A Cert.Reference4Ideal.S4x4096x512) (x2 : A Cert.Reference4Ideal.S4x4096x1024) (x3 : A Cert.Reference4Ideal.S4x128x128)
    (x4 : A Cert.Reference4Ideal.S512) (x5 : A Cert.Reference4Ideal.S1024x1024) (h0 : x0 = Cert.Kernel4Ideal.Blocks.arg0 m c)
    (h1 : x1 = Cert.Kernel4Ideal.Blocks.arg1 m c) (h2 : x2 = Cert.Kernel4Ideal.Blocks.arg2 m c) (h3 : x3 = Cert.Kernel4Ideal.Blocks.arg3 m c)
    (h4 : x4 = Cert.Kernel4Ideal.Blocks.arg4 m c) (h5 : x5 = Cert.Kernel4Ideal.Blocks.arg5 m c) :
    refAll x0 x1 x2 x3 x4 x5 = Cert.Kernel4Ideal.Blocks.G m c := by
  subst h0 h1 h2 h3 h4 h5
  refine funext fun i => ?_
  obtain ⟨t, n, rfl⟩ : ∃ (t : Fin 16384) (n : Fin 1024), i = ix2 t n := ⟨i 0, i 1, by funext a; match a with | ⟨0, _⟩ => rfl | ⟨1, _⟩ => rfl⟩
  exact all_at _ _ _ _ _ _ hR t n ⟨t.val / 4096, by omega⟩ ⟨t.val % 4096, by omega⟩ rfl rfl

theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal_pre_pool_finite := fun m ρ m' ρ' hpre hag =>
  ⟨fun c => Cert.Kernel4Ideal.Blocks.G m c,
    (θ_run Cert.Kernel4Ideal.defs _ _).mono (fun r h c => ⟨(h c).1.trans (Cert.Kernel4Ideal.Blocks.final m c (reals_of m hpre c)), (h c).2⟩)
      (Cert.Kernel4Ideal.Value.run_blocks m ρ),
    (θ_run Cert.Reference4Ideal.defs _ _).mono (fun r h c => ⟨(h c).1.trans (value_eq m c (reals_of m hpre c) _ _ _ _ _ _
        (hag c).1 (hag c).2.1 (hag c).2.2.1 (hag c).2.2.2.1 (hag c).2.2.2.2.1 (hag c).2.2.2.2.2), (h c).2⟩)
      (Cert.Reference4Ideal.Value.run (F := Ideal) m' ρ')⟩

end Cert.PoolClaim

end
-- ==== Proof.FirstFrameIdeal.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The first kernel of the recurrence in the first layer: its launch, its body's triple and its frame, with room for its twenty-seven windows. -/

@[expose] public section

set_option maxRecDepth 16384

noncomputable section

namespace Cert.Kernel5Ideal.Own

open Cert.Kernel5Ideal Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1620000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S8x1024 := Rect.unit (s := S8x1024) ![0, 0] S8x1024.size inb_S8x1024_S8x1024_0_0
abbrev r0_3 : Rect S1x1x1024 := Rect.unit (s := S1x1x1024) ![0, 0, 0] S1x1x1024.size inb_S1x1x1024_S1x1x1024_0_0_0
abbrev r0_4 : Rect S8x1024 := Rect.unit (s := S8x1024) ![0, 0] S1x1024.size inb_S8x1024_S1x1024_0_0
abbrev r0_5 : Rect S8x1024 := Rect.unit (s := S8x1024) ![1, 0] S1x1024.size inb_S8x1024_S1x1024_1_0
abbrev r0_6 : Rect S8x1024 := Rect.unit (s := S8x1024) ![2, 0] S1x1024.size inb_S8x1024_S1x1024_2_0
abbrev r0_7 : Rect S8x1024 := Rect.unit (s := S8x1024) ![3, 0] S1x1024.size inb_S8x1024_S1x1024_3_0
abbrev r0_8 : Rect S8x1024 := Rect.unit (s := S8x1024) ![4, 0] S1x1024.size inb_S8x1024_S1x1024_4_0
abbrev r0_9 : Rect S8x1024 := Rect.unit (s := S8x1024) ![5, 0] S1x1024.size inb_S8x1024_S1x1024_5_0
abbrev r0_10 : Rect S1024x1024 := Rect.unit (s := S1024x1024) ![0, 0] S1024x1024.size inb_S1024x1024_S1024x1024_0_0
abbrev r0_11 : Rect S1024x64 := Rect.unit (s := S1024x64) ![0, 0] S1024x64.size inb_S1024x64_S1024x64_0_0
abbrev r0_12 : Rect S64x1024 := Rect.unit (s := S64x1024) ![0, 0] S64x1024.size inb_S64x1024_S64x1024_0_0
abbrev r0_13 : Rect S1024x128 := Rect.unit (s := S1024x128) ![0, 0] S1024x128.size inb_S1024x128_S1024x128_0_0
abbrev r0_14 : Rect S128x1024 := Rect.unit (s := S128x1024) ![0, 0] S128x1024.size inb_S128x1024_S128x1024_0_0

def k0_pay34 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : IVec S256x1 32 :=
  iota .tc S256x1 32 [0] iota_S256x1_d0_w32
def k0_pay35 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S256x1024 .f32 :=
  k0_pay3 (View.ld x0 r0_0) (View.ld x3 r0_1)
def k0_pay36 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S256x1024 .f32 :=
  k0_pay4 (View.ld x0 r0_0) (View.ld x3 r0_1)
def k0_pay37 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S8x1024 .f32 :=
  k0_pay5 (View.ld x1 r0_2)
def k0_pay38 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S8x1 .f32 :=
  k0_pay6 (View.ld x1 r0_2)
def k0_pay39 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S256x1024 .f32 :=
  k0_pay7 (k0_pay35 i x0 x1 x2 x3 x4 x5 x6 x7 x8 x9 x10 x11 x12 x13 x14 x15 x16 x17 x18 x19) (k0_pay34 i x0 x1 x2 x3 x4 x5 x6 x7 x8 x9 x10 x11 x12 x13 x14 x15 x16 x17 x18 x19) (k0_pay36 i x0 x1 x2 x3 x4 x5 x6 x7 x8 x9 x10 x11 x12 x13 x14 x15 x16 x17 x18 x19) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay37 i x0 x1 x2 x3 x4 x5 x6 x7 x8 x9 x10 x11 x12 x13 x14 x15 x16 x17 x18 x19) (k0_pay38 i x0 x1 x2 x3 x4 x5 x6 x7 x8 x9 x10 x11 x12 x13 x14 x15 x16 x17 x18 x19) (View.ld x3 r0_1) (View.ld x2 r0_3)
def k0_pay40 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S256x1024 .bf16 :=
  k0_pay9 (k0_pay35 i x0 x1 x2 x3 x4 x5 x6 x7 x8 x9 x10 x11 x12 x13 x14 x15 x16 x17 x18 x19) (k0_pay34 i x0 x1 x2 x3 x4 x5 x6 x7 x8 x9 x10 x11 x12 x13 x14 x15 x16 x17 x18 x19) (k0_pay36 i x0 x1 x2 x3 x4 x5 x6 x7 x8 x9 x10 x11 x12 x13 x14 x15 x16 x17 x18 x19) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay37 i x0 x1 x2 x3 x4 x5 x6 x7 x8 x9 x10 x11 x12 x13 x14 x15 x16 x17 x18 x19) (k0_pay38 i x0 x1 x2 x3 x4 x5 x6 x7 x8 x9 x10 x11 x12 x13 x14 x15 x16 x17 x18 x19) (View.ld x3 r0_1) (View.ld x2 r0_3) (View.ld x4 r0_5)
def k0_pay41 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S256x1024 .bf16 :=
  k0_pay13 (k0_pay35 i x0 x1 x2 x3 x4 x5 x6 x7 x8 x9 x10 x11 x12 x13 x14 x15 x16 x17 x18 x19) (k0_pay39 i x0 x1 x2 x3 x4 x5 x6 x7 x8 x9 x10 x11 x12 x13 x14 x15 x16 x17 x18 x19) (k0_pay12 (View.ld x4 r0_8))
def k0_pay42 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : FVec F S256x1024 .f32 :=
  k0_pay15 (k0_pay10 (k0_pay35 i x0 x1 x2 x3 x4 x5 x6 x7 x8 x9 x10 x11 x12 x13 x14 x15 x16 x17 x18 x19) (k0_pay34 i x0 x1 x2 x3 x4 x5 x6 x7 x8 x9 x10 x11 x12 x13 x14 x15 x16 x17 x18 x19) (k0_pay36 i x0 x1 x2 x3 x4 x5 x6 x7 x8 x9 x10 x11 x12 x13 x14 x15 x16 x17 x18 x19) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay37 i x0 x1 x2 x3 x4 x5 x6 x7 x8 x9 x10 x11 x12 x13 x14 x15 x16 x17 x18 x19) (k0_pay38 i x0 x1 x2 x3 x4 x5 x6 x7 x8 x9 x10 x11 x12 x13 x14 x15 x16 x17 x18 x19) (View.ld x3 r0_1) (View.ld x2 r0_3) (View.ld x4 r0_6)) (View.ld x6 r0_10)

def out0_20 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay17 (k0_pay8 (k0_pay35 i x0 x1 x2 x3 x4 x5 x6 x7 x8 x9 x10 x11 x12 x13 x14 x15 x16 x17 x18 x19) (k0_pay34 i x0 x1 x2 x3 x4 x5 x6 x7 x8 x9 x10 x11 x12 x13 x14 x15 x16 x17 x18 x19) (k0_pay36 i x0 x1 x2 x3 x4 x5 x6 x7 x8 x9 x10 x11 x12 x13 x14 x15 x16 x17 x18 x19) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay37 i x0 x1 x2 x3 x4 x5 x6 x7 x8 x9 x10 x11 x12 x13 x14 x15 x16 x17 x18 x19) (k0_pay38 i x0 x1 x2 x3 x4 x5 x6 x7 x8 x9 x10 x11 x12 x13 x14 x15 x16 x17 x18 x19) (View.ld x3 r0_1) (View.ld x2 r0_3) (View.ld x4 r0_4)) (View.ld x5 r0_10)⟩]

theorem cover0_20 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_21 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay2 (k0_pay42 i x0 x1 x2 x3 x4 x5 x6 x7 x8 x9 x10 x11 x12 x13 x14 x15 x16 x17 x18 x19) (k0_pay21 (k0_pay41 i x0 x1 x2 x3 x4 x5 x6 x7 x8 x9 x10 x11 x12 x13 x14 x15 x16 x17 x18 x19) (View.ld x11 r0_1) (View.ld x12 r0_11) (View.ld x13 r0_12)) (View.ld x17 r0_1)⟩]

theorem cover0_21 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_22 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay16 (k0_pay11 (k0_pay35 i x0 x1 x2 x3 x4 x5 x6 x7 x8 x9 x10 x11 x12 x13 x14 x15 x16 x17 x18 x19) (k0_pay34 i x0 x1 x2 x3 x4 x5 x6 x7 x8 x9 x10 x11 x12 x13 x14 x15 x16 x17 x18 x19) (k0_pay36 i x0 x1 x2 x3 x4 x5 x6 x7 x8 x9 x10 x11 x12 x13 x14 x15 x16 x17 x18 x19) (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32) (k0_pay37 i x0 x1 x2 x3 x4 x5 x6 x7 x8 x9 x10 x11 x12 x13 x14 x15 x16 x17 x18 x19) (k0_pay38 i x0 x1 x2 x3 x4 x5 x6 x7 x8 x9 x10 x11 x12 x13 x14 x15 x16 x17 x18 x19) (View.ld x3 r0_1) (View.ld x2 r0_3) (View.ld x4 r0_7)) (View.ld x7 r0_10)⟩]

theorem cover0_22 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_23 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay20 (k0_pay18 (k0_pay40 i x0 x1 x2 x3 x4 x5 x6 x7 x8 x9 x10 x11 x12 x13 x14 x15 x16 x17 x18 x19) (View.ld x8 r0_1) (View.ld x9 r0_11) (View.ld x10 r0_12)) (k0_pay19 (k0_pay40 i x0 x1 x2 x3 x4 x5 x6 x7 x8 x9 x10 x11 x12 x13 x14 x15 x16 x17 x18 x19) (View.ld x8 r0_1) (View.ld x9 r0_11) (View.ld x10 r0_12))⟩]

theorem cover0_23 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_24 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay1 (k0_pay25 (k0_pay42 i x0 x1 x2 x3 x4 x5 x6 x7 x8 x9 x10 x11 x12 x13 x14 x15 x16 x17 x18 x19) (View.ld x16 r0_1)) (k0_pay31 (k0_pay42 i x0 x1 x2 x3 x4 x5 x6 x7 x8 x9 x10 x11 x12 x13 x14 x15 x16 x17 x18 x19) (View.ld x16 r0_1) (View.ld x18 r0_13) (View.ld x19 r0_14)) (k0_pay32 (k0_pay42 i x0 x1 x2 x3 x4 x5 x6 x7 x8 x9 x10 x11 x12 x13 x14 x15 x16 x17 x18 x19) (View.ld x16 r0_1) (View.ld x18 r0_13) (View.ld x19 r0_14)) (k0_pay33 (k0_pay42 i x0 x1 x2 x3 x4 x5 x6 x7 x8 x9 x10 x11 x12 x13 x14 x15 x16 x17 x18 x19) (View.ld x16 r0_1) (View.ld x18 r0_13) (View.ld x19 r0_14))⟩]

theorem cover0_24 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_25 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay21 (k0_pay41 i x0 x1 x2 x3 x4 x5 x6 x7 x8 x9 x10 x11 x12 x13 x14 x15 x16 x17 x18 x19) (View.ld x11 r0_1) (View.ld x12 r0_11) (View.ld x13 r0_12)⟩]

theorem cover0_25 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

def out0_26 (i : grid0.Coords) (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) : Vec F S256x1024 .f32 :=
  View.canon [⟨r0_0, k0_pay24 (k0_pay22 (k0_pay14 (k0_pay35 i x0 x1 x2 x3 x4 x5 x6 x7 x8 x9 x10 x11 x12 x13 x14 x15 x16 x17 x18 x19) (k0_pay39 i x0 x1 x2 x3 x4 x5 x6 x7 x8 x9 x10 x11 x12 x13 x14 x15 x16 x17 x18 x19) (View.ld x4 r0_9)) (View.ld x14 r0_13)) (k0_pay23 (View.ld x15 r0_14))⟩]

theorem cover0_26 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

set_option maxHeartbeats 1000000 in
theorem sound_kernel (c : Dev nD) (E : Set ℕ) (i : grid0.Coords) (arg1 : Memref sig .tc .vmem S256x1024 .f32) (harg1 : arg1.IsWhole) (arg2 : Memref sig .tc .vmem S8x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x64 .bf16) (harg10 : arg10.IsWhole) (arg11 : Memref sig .tc .vmem S64x1024 .bf16) (harg11 : arg11.IsWhole) (arg12 : Memref sig .tc .vmem S1x1024 .f32) (harg12 : arg12.IsWhole) (arg13 : Memref sig .tc .vmem S1024x64 .bf16) (harg13 : arg13.IsWhole) (arg14 : Memref sig .tc .vmem S64x1024 .bf16) (harg14 : arg14.IsWhole) (arg15 : Memref sig .tc .vmem S1024x128 .bf16) (harg15 : arg15.IsWhole) (arg16 : Memref sig .tc .vmem S128x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1024x128 .bf16) (harg19 : arg19.IsWhole) (arg20 : Memref sig .tc .vmem S128x1024 .bf16) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x1024 .f32) (harg23 : arg23.IsWhole) (arg24 : Memref sig .tc .vmem S256x1024 .f32) (harg24 : arg24.IsWhole) (arg25 : Memref sig .tc .vmem S256x1024 .f32) (harg25 : arg25.IsWhole) (arg26 : Memref sig .tc .vmem S256x1024 .f32) (harg26 : arg26.IsWhole) (arg27 : Memref sig .tc .vmem S256x1024 .f32) (harg27 : arg27.IsWhole)
    (x0 : Vec F S256x1024 .f32) (x1 : Vec F S8x1024 .f32) (x2 : Vec F S1x1x1024 .f32) (x3 : Vec F S1x1024 .f32) (x4 : Vec F S8x1024 .f32) (x5 : Vec F S1024x1024 .bf16) (x6 : Vec F S1024x1024 .bf16) (x7 : Vec F S1024x1024 .bf16) (x8 : Vec F S1x1024 .f32) (x9 : Vec F S1024x64 .bf16) (x10 : Vec F S64x1024 .bf16) (x11 : Vec F S1x1024 .f32) (x12 : Vec F S1024x64 .bf16) (x13 : Vec F S64x1024 .bf16) (x14 : Vec F S1024x128 .bf16) (x15 : Vec F S128x1024 .bf16) (x16 : Vec F S1x1024 .f32) (x17 : Vec F S1x1024 .f32) (x18 : Vec F S1024x128 .bf16) (x19 : Vec F S128x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 i x0 x1 x2 x3 x4 x5 x6 x7 x8 x9 x10 x11 x12 x13 x14 x15 x16 x17 x18 x19) ∗ owns (c : Thread nD τ) arg22 fullShare (out0_21 i x0 x1 x2 x3 x4 x5 x6 x7 x8 x9 x10 x11 x12 x13 x14 x15 x16 x17 x18 x19) ∗ owns (c : Thread nD τ) arg23 fullShare (out0_22 i x0 x1 x2 x3 x4 x5 x6 x7 x8 x9 x10 x11 x12 x13 x14 x15 x16 x17 x18 x19) ∗ owns (c : Thread nD τ) arg24 fullShare (out0_23 i x0 x1 x2 x3 x4 x5 x6 x7 x8 x9 x10 x11 x12 x13 x14 x15 x16 x17 x18 x19) ∗ owns (c : Thread nD τ) arg25 fullShare (out0_24 i x0 x1 x2 x3 x4 x5 x6 x7 x8 x9 x10 x11 x12 x13 x14 x15 x16 x17 x18 x19) ∗ owns (c : Thread nD τ) arg26 fullShare (out0_25 i x0 x1 x2 x3 x4 x5 x6 x7 x8 x9 x10 x11 x12 x13 x14 x15 x16 x17 x18 x19) ∗ owns (c : Thread nD τ) arg27 fullShare (out0_26 i x0 x1 x2 x3 x4 x5 x6 x7 x8 x9 x10 x11 x12 x13 x14 x15 x16 x17 x18 x19)) -∗ K ⟨⟩))
      ⊢ wp frame (wpE (defs₀ (F := F)) Variants.none c none) E (cc0_rwkv_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_rwkv_pre_eq_skeleton]; unfold cc0_rwkv_pre_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel5Ideal.Own

end
-- ==== Proof.FirstFrame.lean ====
module

public import proofs.«01_k».proof.Proof.FirstFrameIdeal
public import proofs.«01_k».proof.Proof.Gen.Kernel5

/-! The first layer's kernel and its ideal program are one text, so the frame of the one is that of the other. -/

@[expose] public section

set_option maxRecDepth 16384
set_option maxHeartbeats 4000000

noncomputable section

namespace Cert.Kernel5.Own

open Cert.Kernel5 Cert.Kernel5.Gen Idealize.ShloMosaic Idealize.ShloMosaic.TcCoe Idealize.SL.Sem

variable {F : FTy → Type} [FloatOps F]

theorem body_eq : @Cert.Kernel5.cc0_rwkv_pre F _ _ = @Cert.Kernel5Ideal.cc0_rwkv_pre F _ _ := rfl

/-- The two tables of bodies agree. -/
theorem defs0_eq : Cert.Kernel5.defs₀ (F := F) = Cert.Kernel5Ideal.defs₀ (F := F) :=
  congrArg Defs.onTc (funext fun l => funext fun x => by
    match l, x with
    | 0, (t, s) =>
      dsimp only
      rw [body_eq]
      rfl)

theorem defs_eq : Cert.Kernel5.defs (F := F) = Cert.Kernel5Ideal.defs (F := F) :=
  congrArg (Pipeline.defs Cert.Kernel5Ideal.pcfgs) defs0_eq

theorem main_eq : Cert.Kernel5.main (F := F) = Cert.Kernel5Ideal.main (F := F) := rfl

variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) := by
  rw [defs_eq, main_eq]
  exact Cert.Kernel5Ideal.Own.frame m ρ

end Cert.Kernel5.Own

end
-- ==== Proof.FirstOut.lean ====
module

public import proofs.«01_k».proof.Proof.PreOut
public import proofs.«01_k».proof.Proof.FirstFrameIdeal
public import Idealize.ShloMosaic.Lib.Pipeline.ValueKit

/-! The first layer's kernel: what its body leaves in each output window, in the later layer's payloads. -/

@[expose] public section

set_option maxRecDepth 16384

noncomputable section

namespace Cert.First.Out

open Cert.Kernel2Ideal Cert.Kernel2Ideal.Gen Cert.Kernel2Ideal.Own Cert.Kernel2Ideal.Spec Router Heads
open Idealize.ShloMosaic Idealize.ShloMosaic.TcCoe Idealize.SL.Sem

variable (i : Cert.Kernel5Ideal.grid0.Coords) (x0 : Vec Ideal S256x1024 .f32) (x1 : Vec Ideal S8x1024 .f32) (x2 : Vec Ideal S1x1x1024 .f32) (x3 : Vec Ideal S1x1024 .f32) (x4 : Vec Ideal S8x1024 .f32) (x5 : Vec Ideal S1024x1024 .bf16) (x6 : Vec Ideal S1024x1024 .bf16) (x7 : Vec Ideal S1024x1024 .bf16) (x8 : Vec Ideal S1x1024 .f32) (x9 : Vec Ideal S1024x64 .bf16) (x10 : Vec Ideal S64x1024 .bf16) (x11 : Vec Ideal S1x1024 .f32) (x12 : Vec Ideal S1024x64 .bf16) (x13 : Vec Ideal S64x1024 .bf16) (x14 : Vec Ideal S1024x128 .bf16) (x15 : Vec Ideal S128x1024 .bf16) (x16 : Vec Ideal S1x1024 .f32) (x17 : Vec Ideal S1x1024 .f32) (x18 : Vec Ideal S1024x128 .bf16) (x19 : Vec Ideal S128x1024 .bf16)

theorem o20 : Cert.Kernel5Ideal.Own.out0_20 (F := Ideal) i x0 x1 x2 x3 x4 x5 x6 x7 x8 x9 x10 x11 x12 x13 x14 x15 x16 x17 x18 x19
    = k0_pay17 (k0_pay8 (k0_pay3 x0 x3) itW (k0_pay4 x0 x3) (Cert.Kernel2Ideal.Out.firstW i) (k0_pay5 x1) (k0_pay6 x1) x3 x2 (View.ld x4 r0_4)) x5 := by
  unfold Cert.Kernel5Ideal.Own.out0_20 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

theorem o21 : Cert.Kernel5Ideal.Own.out0_21 (F := Ideal) i x0 x1 x2 x3 x4 x5 x6 x7 x8 x9 x10 x11 x12 x13 x14 x15 x16 x17 x18 x19
    = k0_pay2 (k0_pay15 (k0_pay10 (k0_pay3 x0 x3) itW (k0_pay4 x0 x3) (Cert.Kernel2Ideal.Out.firstW i) (k0_pay5 x1) (k0_pay6 x1) x3 x2 (View.ld x4 r0_6)) x6) (k0_pay21 (k0_pay13 (k0_pay3 x0 x3) (k0_pay7 (k0_pay3 x0 x3) itW (k0_pay4 x0 x3) (Cert.Kernel2Ideal.Out.firstW i) (k0_pay5 x1) (k0_pay6 x1) x3 x2) (k0_pay12 (View.ld x4 r0_8))) x11 x12 x13) x17 := by
  unfold Cert.Kernel5Ideal.Own.out0_21 Cert.Kernel5Ideal.Own.k0_pay42 Cert.Kernel5Ideal.Own.k0_pay41 Cert.Kernel5Ideal.Own.k0_pay39 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

theorem o22 : Cert.Kernel5Ideal.Own.out0_22 (F := Ideal) i x0 x1 x2 x3 x4 x5 x6 x7 x8 x9 x10 x11 x12 x13 x14 x15 x16 x17 x18 x19
    = (k0_pay16 (k0_pay11 (k0_pay3 x0 x3) itW (k0_pay4 x0 x3) (Cert.Kernel2Ideal.Out.firstW i) (k0_pay5 x1) (k0_pay6 x1) x3 x2 (View.ld x4 r0_7)) x7) := by
  unfold Cert.Kernel5Ideal.Own.out0_22 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

theorem o23 : Cert.Kernel5Ideal.Own.out0_23 (F := Ideal) i x0 x1 x2 x3 x4 x5 x6 x7 x8 x9 x10 x11 x12 x13 x14 x15 x16 x17 x18 x19
    = k0_pay20 (k0_pay18 (k0_pay9 (k0_pay3 x0 x3) itW (k0_pay4 x0 x3) (Cert.Kernel2Ideal.Out.firstW i) (k0_pay5 x1) (k0_pay6 x1) x3 x2 (View.ld x4 r0_5)) x8 x9 x10) (k0_pay19 (k0_pay9 (k0_pay3 x0 x3) itW (k0_pay4 x0 x3) (Cert.Kernel2Ideal.Out.firstW i) (k0_pay5 x1) (k0_pay6 x1) x3 x2 (View.ld x4 r0_5)) x8 x9 x10) := by
  unfold Cert.Kernel5Ideal.Own.out0_23 Cert.Kernel5Ideal.Own.k0_pay40 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

theorem o24 : Cert.Kernel5Ideal.Own.out0_24 (F := Ideal) i x0 x1 x2 x3 x4 x5 x6 x7 x8 x9 x10 x11 x12 x13 x14 x15 x16 x17 x18 x19
    = k0_pay1 (k0_pay26 (k0_pay15 (k0_pay10 (k0_pay3 x0 x3) itW (k0_pay4 x0 x3) (Cert.Kernel2Ideal.Out.firstW i) (k0_pay5 x1) (k0_pay6 x1) x3 x2 (View.ld x4 r0_6)) x6) x16) (k0_pay28 x18) (k0_pay32 (k0_pay15 (k0_pay10 (k0_pay3 x0 x3) itW (k0_pay4 x0 x3) (Cert.Kernel2Ideal.Out.firstW i) (k0_pay5 x1) (k0_pay6 x1) x3 x2 (View.ld x4 r0_6)) x6) x16) (k0_pay33 (k0_pay15 (k0_pay10 (k0_pay3 x0 x3) itW (k0_pay4 x0 x3) (Cert.Kernel2Ideal.Out.firstW i) (k0_pay5 x1) (k0_pay6 x1) x3 x2 (View.ld x4 r0_6)) x6) x16 x18) (k0_pay34 (k0_pay15 (k0_pay10 (k0_pay3 x0 x3) itW (k0_pay4 x0 x3) (Cert.Kernel2Ideal.Out.firstW i) (k0_pay5 x1) (k0_pay6 x1) x3 x2 (View.ld x4 r0_6)) x6) x16 x18) (constant (F := Ideal) S256x128 .f32 0x00000000#32) x19 := by
  unfold Cert.Kernel5Ideal.Own.out0_24 Cert.Kernel5Ideal.Own.k0_pay42 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

theorem o25 : Cert.Kernel5Ideal.Own.out0_25 (F := Ideal) i x0 x1 x2 x3 x4 x5 x6 x7 x8 x9 x10 x11 x12 x13 x14 x15 x16 x17 x18 x19
    = k0_pay21 (k0_pay13 (k0_pay3 x0 x3) (k0_pay7 (k0_pay3 x0 x3) itW (k0_pay4 x0 x3) (Cert.Kernel2Ideal.Out.firstW i) (k0_pay5 x1) (k0_pay6 x1) x3 x2) (k0_pay12 (View.ld x4 r0_8))) x11 x12 x13 := by
  unfold Cert.Kernel5Ideal.Own.out0_25 Cert.Kernel5Ideal.Own.k0_pay41 Cert.Kernel5Ideal.Own.k0_pay39 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

theorem o26 : Cert.Kernel5Ideal.Own.out0_26 (F := Ideal) i x0 x1 x2 x3 x4 x5 x6 x7 x8 x9 x10 x11 x12 x13 x14 x15 x16 x17 x18 x19
    = k0_pay24 (k0_pay22 (k0_pay14 (k0_pay3 x0 x3) (k0_pay7 (k0_pay3 x0 x3) itW (k0_pay4 x0 x3) (Cert.Kernel2Ideal.Out.firstW i) (k0_pay5 x1) (k0_pay6 x1) x3 x2) (View.ld x4 r0_9)) x14) (k0_pay23 x15) := by
  unfold Cert.Kernel5Ideal.Own.out0_26 Cert.Kernel5Ideal.Own.k0_pay39 Cert.Kernel5Ideal.Own.k0_pay38 Cert.Kernel5Ideal.Own.k0_pay37 Cert.Kernel5Ideal.Own.k0_pay36 Cert.Kernel5Ideal.Own.k0_pay35 Cert.Kernel5Ideal.Own.k0_pay34
  frame_out
  rfl

end Cert.First.Out

end
-- ==== Proof.FirstBlocks.lean ====
module

public import proofs.«01_k».proof.Proof.FirstOut
public import Idealize.ShloMosaic.Lib.StableHlo.ReadAt
public import Idealize.ShloMosaic.Lib.Pipeline.ValueKit

/-! The first layer's kernel: what its windows hold at a grid point. -/

@[expose] public section

set_option maxRecDepth 16384

noncomputable section

namespace Cert.First.Blocks

open Cert.Kernel5Ideal Cert.Kernel5Ideal.Gen Cert.Kernel5Ideal.Own Cert.Kernel2Ideal.Spec Router Heads
open Idealize.ShloMosaic Idealize.ShloMosaic.TcCoe Idealize.SL.Sem

variable (m : (ℓ : Loc nD τ sig) → Buf (Elt Ideal) ℓ) (c : Dev nD)

/-- The arguments as arrays. -/
abbrev arg0 : Vec Ideal S4x4096x1024 .f32 := m ((c.tc : Thread nD τ).loc main_arg0)
abbrev arg1 : Vec Ideal S1024 .f32 := m ((c.tc : Thread nD τ).loc main_arg1)
abbrev arg2 : Vec Ideal S4x1024 .f32 := m ((c.tc : Thread nD τ).loc main_arg2)
abbrev arg3 : Vec Ideal S6x1024 .f32 := m ((c.tc : Thread nD τ).loc main_arg3)
abbrev arg4 : Vec Ideal S1024x1024 .f32 := m ((c.tc : Thread nD τ).loc main_arg4)
abbrev arg5 : Vec Ideal S1024x1024 .f32 := m ((c.tc : Thread nD τ).loc main_arg5)
abbrev arg6 : Vec Ideal S1024x1024 .f32 := m ((c.tc : Thread nD τ).loc main_arg6)
abbrev arg7 : Vec Ideal S1024 .f32 := m ((c.tc : Thread nD τ).loc main_arg7)
abbrev arg8 : Vec Ideal S1024x64 .f32 := m ((c.tc : Thread nD τ).loc main_arg8)
abbrev arg9 : Vec Ideal S64x1024 .f32 := m ((c.tc : Thread nD τ).loc main_arg9)
abbrev arg10 : Vec Ideal S1024 .f32 := m ((c.tc : Thread nD τ).loc main_arg10)
abbrev arg11 : Vec Ideal S1024x64 .f32 := m ((c.tc : Thread nD τ).loc main_arg11)
abbrev arg12 : Vec Ideal S64x1024 .f32 := m ((c.tc : Thread nD τ).loc main_arg12)
abbrev arg13 : Vec Ideal S1024x128 .f32 := m ((c.tc : Thread nD τ).loc main_arg13)
abbrev arg14 : Vec Ideal S128x1024 .f32 := m ((c.tc : Thread nD τ).loc main_arg14)
abbrev arg15 : Vec Ideal S1024 .f32 := m ((c.tc : Thread nD τ).loc main_arg15)
abbrev arg16 : Vec Ideal S1024 .f32 := m ((c.tc : Thread nD τ).loc main_arg16)

/-- The arguments by coordinates; there is no value residual here, so what only it reads is nought. -/
def par : Par where
  x := fun i j k => arg0 m c (ix3 i j k)
  g := fun i => arg1 m c (ix1 i)
  sp := fun i j => arg2 m c (ix2 i j)
  vf := fun _ _ _ => 0
  v0 := fun _ => 0
  v1 := fun _ _ => 0
  v2 := fun _ _ => 0
  mu := fun i j => arg3 m c (ix2 i j)
  wr := fun i j => arg4 m c (ix2 i j)
  wk := fun i j => arg5 m c (ix2 i j)
  wv := fun i j => arg6 m c (ix2 i j)
  w0 := fun i => arg7 m c (ix1 i)
  w1 := fun i j => arg8 m c (ix2 i j)
  w2 := fun i j => arg9 m c (ix2 i j)
  a0 := fun i => arg10 m c (ix1 i)
  a1 := fun i j => arg11 m c (ix2 i j)
  a2 := fun i j => arg12 m c (ix2 i j)
  g1 := fun i j => arg13 m c (ix2 i j)
  g2 := fun i j => arg14 m c (ix2 i j)
  kk := fun i => arg15 m c (ix1 i)
  ka := fun i => arg16 m c (ix1 i)

theorem v0_at (r : Fin 16384) (k : Fin 1024) : (V m c main_v0 : Vec Ideal S16384x1024 .f32) (ix2 r k) = arg0 m c (ix3 ⟨r.val / 4096, by omega⟩ ⟨r.val % 4096, by omega⟩ k) := by
  unfold V
  after_reads_at
theorem v7_at (b : Fin 4) (k : Fin 1024) : (V m c main_v7 : Vec Ideal S4x1x1024 .f32) (ix3 b 0 k) = arg2 m c (ix2 b k) := by
  unfold V
  after_reads_at
theorem v8_at (i : Fin 6) (k : Fin 1024) : (V m c main_v8 : Vec Ideal S8x1024 .f32) (ix2 ⟨i.val, by omega⟩ k) = arg3 m c (ix2 i k) := by
  unfold V
  after_reads_at
theorem v9_at (j : Fin 1024) : (V m c main_v9 : Vec Ideal S1x1024 .f32) (ix2 0 j) = arg1 m c (ix1 j) := by
  unfold V
  after_reads_at
theorem v13_at (j : Fin 1024) : (V m c main_v13 : Vec Ideal S1x1024 .f32) (ix2 0 j) = arg7 m c (ix1 j) := by
  unfold V
  after_reads_at
theorem v16_at (j : Fin 1024) : (V m c main_v16 : Vec Ideal S1x1024 .f32) (ix2 0 j) = arg10 m c (ix1 j) := by
  unfold V
  after_reads_at
theorem v21_at (j : Fin 1024) : (V m c main_v21 : Vec Ideal S1x1024 .f32) (ix2 0 j) = arg15 m c (ix1 j) := by
  unfold V
  after_reads_at
theorem v22_at (j : Fin 1024) : (V m c main_v22 : Vec Ideal S1x1024 .f32) (ix2 0 j) = arg16 m c (ix1 j) := by
  unfold V
  after_reads_at
theorem v10_at (j : Fin 1024) (n : Fin 1024) : (V m c main_v10 : Vec Ideal S1024x1024 .bf16) (ix2 j n) = arg4 m c (ix2 j n) := by
  unfold V
  after_reads_at
theorem v11_at (j : Fin 1024) (n : Fin 1024) : (V m c main_v11 : Vec Ideal S1024x1024 .bf16) (ix2 j n) = arg5 m c (ix2 j n) := by
  unfold V
  after_reads_at
theorem v12_at (j : Fin 1024) (n : Fin 1024) : (V m c main_v12 : Vec Ideal S1024x1024 .bf16) (ix2 j n) = arg6 m c (ix2 j n) := by
  unfold V
  after_reads_at
theorem v14_at (j : Fin 1024) (n : Fin 64) : (V m c main_v14 : Vec Ideal S1024x64 .bf16) (ix2 j n) = arg8 m c (ix2 j n) := by
  unfold V
  after_reads_at
theorem v15_at (j : Fin 64) (n : Fin 1024) : (V m c main_v15 : Vec Ideal S64x1024 .bf16) (ix2 j n) = arg9 m c (ix2 j n) := by
  unfold V
  after_reads_at
theorem v17_at (j : Fin 1024) (n : Fin 64) : (V m c main_v17 : Vec Ideal S1024x64 .bf16) (ix2 j n) = arg11 m c (ix2 j n) := by
  unfold V
  after_reads_at
theorem v18_at (j : Fin 64) (n : Fin 1024) : (V m c main_v18 : Vec Ideal S64x1024 .bf16) (ix2 j n) = arg12 m c (ix2 j n) := by
  unfold V
  after_reads_at
theorem v19_at (j : Fin 1024) (n : Fin 128) : (V m c main_v19 : Vec Ideal S1024x128 .bf16) (ix2 j n) = arg13 m c (ix2 j n) := by
  unfold V
  after_reads_at
theorem v20_at (j : Fin 128) (n : Fin 1024) : (V m c main_v20 : Vec Ideal S128x1024 .bf16) (ix2 j n) = arg14 m c (ix2 j n) := by
  unfold V
  after_reads_at
theorem v5_at (j : Fin 1024) (x : Fin 128) : (V m c main_v5 : Vec Ideal S1024x128 .bf16) (ix2 j x) = ind j x := by
  unfold V
  after_reads_at
  exact (congrArg (fun w => FloatOps.uitofp (F := Ideal) FTy.bf16 (IntOp.cmpi CmpIPredicate.eq w (BitVec.ofNat 32 x.val))) (floor_word j)).trans (ind_word j x)
theorem v6_at (x : Fin 128) (j : Fin 1024) : (V m c main_v6 : Vec Ideal S128x1024 .bf16) (ix2 x j) = ind j x := by
  refine Eq.trans ?_ (v5_at m c j x)
  unfold V
  after_reads_at

/-- Where each window's block lies at a grid point. -/
theorem idx : ∀ t : Fin cfg0.N, win0_0.index t = ![t.val, 0] ∧ win0_1.index t = ![t.val * 32 - 1, 0] ∧ win0_2.index t = ![t.val / 16, 0, 0] := by decide +kernel
theorem idx0 : ∀ t : Fin cfg0.N, win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] := by decide +kernel
theorem idxo : ∀ t : Fin cfg0.N, win0_20.index t = ![t.val, 0] ∧ win0_21.index t = ![t.val, 0] ∧ win0_22.index t = ![t.val, 0] ∧ win0_23.index t = ![t.val, 0] ∧ win0_24.index t = ![t.val, 0] ∧ win0_25.index t = ![t.val, 0] ∧ win0_26.index t = ![t.val, 0] := by decide +kernel
/-- The first tile of a sequence. -/
theorem first_at : ∀ t : Fin cfg0.N, Cert.Kernel2Ideal.Out.firstW (grid0.coords t) = if t.val % 16 = 0 then 1#1 else 0#1 := by decide +kernel

variable (t : Fin cfg0.N)

theorem lt64 : t.val < 64 := t.isLt

theorem b0 (p : Fin 256) (k : Fin 1024) : (iblk m c 0 t : Vec Ideal S256x1024 .f32) (ix2 p k) = (par m c).x (sq t.val (lt64 t) p) (ps t.val p) k := by
  refine Eq.trans (?_ : _ = (V m c main_v0 : Vec Ideal S16384x1024 .f32) (ix2 ⟨t.val * 256 + p.val, by have := lt64 t; omega⟩ k)) (v0_at m c ⟨t.val * 256 + p.val, by have := lt64 t; omega⟩ k)
  have h := idx t
  blk_ext [iblk, h]
theorem b1 (ht : 0 < t.val) (k : Fin 1024) : (iblk m c 1 t : Vec Ideal S8x1024 .f32) (ix2 7 k) = (par m c).x ⟨(t.val * 256 - 1) / 4096, by have := lt64 t; omega⟩ ⟨(t.val * 256 - 1) % 4096, by omega⟩ k := by
  refine Eq.trans (?_ : _ = (V m c main_v0 : Vec Ideal S16384x1024 .f32) (ix2 ⟨t.val * 256 - 1, by have := lt64 t; omega⟩ k)) (v0_at m c ⟨t.val * 256 - 1, by have := lt64 t; omega⟩ k)
  have h := idx t
  blk_ext [iblk, h]
theorem b2 (k : Fin 1024) : (iblk m c 2 t : Vec Ideal S1x1x1024 .f32) (ix3 0 0 k) = (par m c).sp ⟨t.val / 16, by have := lt64 t; omega⟩ k := by
  refine Eq.trans (?_ : _ = (V m c main_v7 : Vec Ideal S4x1x1024 .f32) (ix3 ⟨t.val / 16, by have := lt64 t; omega⟩ 0 k)) (v7_at m c ⟨t.val / 16, by have := lt64 t; omega⟩ k)
  have h := idx t
  blk_ext [iblk, h]
theorem b4 (i : Fin 6) (k : Fin 1024) : (iblk m c 4 t : Vec Ideal S8x1024 .f32) (ix2 ⟨i.val, by omega⟩ k) = (par m c).mu i k := by
  refine Eq.trans (?_ : _ = (V m c main_v8 : Vec Ideal S8x1024 .f32) (ix2 ⟨i.val, by omega⟩ k)) (v8_at m c i k)
  have h := idx0 t
  blk_ext [iblk, h]
theorem b3 (j : Fin 1024) : (iblk m c 3 t : Vec Ideal S1x1024 .f32) (ix2 0 j) = (par m c).g j := by
  refine Eq.trans (?_ : _ = (V m c main_v9 : Vec Ideal S1x1024 .f32) (ix2 0 j)) (v9_at m c j)
  have h := idx0 t
  blk_ext [iblk, h]
theorem b8 (j : Fin 1024) : (iblk m c 8 t : Vec Ideal S1x1024 .f32) (ix2 0 j) = (par m c).w0 j := by
  refine Eq.trans (?_ : _ = (V m c main_v13 : Vec Ideal S1x1024 .f32) (ix2 0 j)) (v13_at m c j)
  have h := idx0 t
  blk_ext [iblk, h]
theorem b11 (j : Fin 1024) : (iblk m c 11 t : Vec Ideal S1x1024 .f32) (ix2 0 j) = (par m c).a0 j := by
  refine Eq.trans (?_ : _ = (V m c main_v16 : Vec Ideal S1x1024 .f32) (ix2 0 j)) (v16_at m c j)
  have h := idx0 t
  blk_ext [iblk, h]
theorem b16 (j : Fin 1024) : (iblk m c 16 t : Vec Ideal S1x1024 .f32) (ix2 0 j) = (par m c).kk j := by
  refine Eq.trans (?_ : _ = (V m c main_v21 : Vec Ideal S1x1024 .f32) (ix2 0 j)) (v21_at m c j)
  have h := idx0 t
  blk_ext [iblk, h]
theorem b17 (j : Fin 1024) : (iblk m c 17 t : Vec Ideal S1x1024 .f32) (ix2 0 j) = (par m c).ka j := by
  refine Eq.trans (?_ : _ = (V m c main_v22 : Vec Ideal S1x1024 .f32) (ix2 0 j)) (v22_at m c j)
  have h := idx0 t
  blk_ext [iblk, h]
theorem b5 (j : Fin 1024) (n : Fin 1024) : (iblk m c 5 t : Vec Ideal S1024x1024 .bf16) (ix2 j n) = (par m c).wr j n := by
  refine Eq.trans (?_ : _ = (V m c main_v10 : Vec Ideal S1024x1024 .bf16) (ix2 j n)) (v10_at m c j n)
  have h := idx0 t
  blk_ext [iblk, h]
theorem b6 (j : Fin 1024) (n : Fin 1024) : (iblk m c 6 t : Vec Ideal S1024x1024 .bf16) (ix2 j n) = (par m c).wk j n := by
  refine Eq.trans (?_ : _ = (V m c main_v11 : Vec Ideal S1024x1024 .bf16) (ix2 j n)) (v11_at m c j n)
  have h := idx0 t
  blk_ext [iblk, h]
theorem b7 (j : Fin 1024) (n : Fin 1024) : (iblk m c 7 t : Vec Ideal S1024x1024 .bf16) (ix2 j n) = (par m c).wv j n := by
  refine Eq.trans (?_ : _ = (V m c main_v12 : Vec Ideal S1024x1024 .bf16) (ix2 j n)) (v12_at m c j n)
  have h := idx0 t
  blk_ext [iblk, h]
theorem b9 (j : Fin 1024) (n : Fin 64) : (iblk m c 9 t : Vec Ideal S1024x64 .bf16) (ix2 j n) = (par m c).w1 j n := by
  refine Eq.trans (?_ : _ = (V m c main_v14 : Vec Ideal S1024x64 .bf16) (ix2 j n)) (v14_at m c j n)
  have h := idx0 t
  blk_ext [iblk, h]
theorem b10 (j : Fin 64) (n : Fin 1024) : (iblk m c 10 t : Vec Ideal S64x1024 .bf16) (ix2 j n) = (par m c).w2 j n := by
  refine Eq.trans (?_ : _ = (V m c main_v15 : Vec Ideal S64x1024 .bf16) (ix2 j n)) (v15_at m c j n)
  have h := idx0 t
  blk_ext [iblk, h]
theorem b12 (j : Fin 1024) (n : Fin 64) : (iblk m c 12 t : Vec Ideal S1024x64 .bf16) (ix2 j n) = (par m c).a1 j n := by
  refine Eq.trans (?_ : _ = (V m c main_v17 : Vec Ideal S1024x64 .bf16) (ix2 j n)) (v17_at m c j n)
  have h := idx0 t
  blk_ext [iblk, h]
theorem b13 (j : Fin 64) (n : Fin 1024) : (iblk m c 13 t : Vec Ideal S64x1024 .bf16) (ix2 j n) = (par m c).a2 j n := by
  refine Eq.trans (?_ : _ = (V m c main_v18 : Vec Ideal S64x1024 .bf16) (ix2 j n)) (v18_at m c j n)
  have h := idx0 t
  blk_ext [iblk, h]
theorem b14 (j : Fin 1024) (n : Fin 128) : (iblk m c 14 t : Vec Ideal S1024x128 .bf16) (ix2 j n) = (par m c).g1 j n := by
  refine Eq.trans (?_ : _ = (V m c main_v19 : Vec Ideal S1024x128 .bf16) (ix2 j n)) (v19_at m c j n)
  have h := idx0 t
  blk_ext [iblk, h]
theorem b15 (j : Fin 128) (n : Fin 1024) : (iblk m c 15 t : Vec Ideal S128x1024 .bf16) (ix2 j n) = (par m c).g2 j n := by
  refine Eq.trans (?_ : _ = (V m c main_v20 : Vec Ideal S128x1024 .bf16) (ix2 j n)) (v20_at m c j n)
  have h := idx0 t
  blk_ext [iblk, h]
theorem b18 (j : Fin 1024) (x : Fin 128) : (iblk m c 18 t : Vec Ideal S1024x128 .bf16) (ix2 j x) = ind j x := by
  refine Eq.trans (?_ : _ = (V m c main_v5 : Vec Ideal S1024x128 .bf16) (ix2 j x)) (v5_at m c j x)
  have h := idx0 t
  blk_ext [iblk, h]
theorem b19 (x : Fin 128) (j : Fin 1024) : (iblk m c 19 t : Vec Ideal S128x1024 .bf16) (ix2 x j) = ind j x := by
  refine Eq.trans (?_ : _ = (V m c main_v6 : Vec Ideal S128x1024 .bf16) (ix2 x j)) (v6_at m c x j)
  have h := idx0 t
  blk_ext [iblk, h]

end Cert.First.Blocks

end
-- ==== Proof.FirstFinal.lean ====
module

public import proofs.«01_k».proof.Proof.PreTile
public import proofs.«01_k».proof.Proof.FirstBlocks

/-! The first layer's kernel: the seven arrays it leaves. -/

@[expose] public section

set_option maxRecDepth 16384

noncomputable section

namespace Cert.First.Final

section
open Cert.Kernel2Ideal Cert.Kernel2Ideal.Gen Cert.Kernel2Ideal.Own Cert.Kernel2Ideal.Rows Cert.Kernel2Ideal.Spec Cert.Kernel2Ideal.Tile Router Heads
open Idealize.ShloMosaic Idealize.ShloMosaic.TcCoe Idealize.SL.Sem

/-- A token's values with no residual. -/
def v1At (q : Par) (b : Fin 4) (s : Fin 4096) : Fin 1024 → EReal := Cert.Kernel2Ideal.Rows.dotRow (mix q b s 3) q.wv

variable {q : Par} {T : Nat} {hT : T < 64} {first : BitVec 1} {x0 : Vec Ideal S256x1024 .f32} {x1 : Vec Ideal S8x1024 .f32} {x2 : Vec Ideal S1x1x1024 .f32} {x3 : Vec Ideal S1x1024 .f32} {x4 : Vec Ideal S8x1024 .f32} {x5 : Vec Ideal S1024x1024 .bf16} {x6 : Vec Ideal S1024x1024 .bf16} {x7 : Vec Ideal S1024x1024 .bf16} {x8 : Vec Ideal S1x1024 .f32} {x9 : Vec Ideal S1024x64 .bf16} {x10 : Vec Ideal S64x1024 .bf16} {x11 : Vec Ideal S1x1024 .f32} {x12 : Vec Ideal S1024x64 .bf16} {x13 : Vec Ideal S64x1024 .bf16} {x14 : Vec Ideal S1024x128 .bf16} {x15 : Vec Ideal S128x1024 .bf16} {x16 : Vec Ideal S1x1024 .f32} {x17 : Vec Ideal S1x1024 .f32} {x18 : Vec Ideal S1024x128 .bf16} {x19 : Vec Ideal S128x1024 .bf16} {x20 : Vec Ideal S1x1024 .f32} {x21 : Vec Ideal S1024x32 .bf16} {x22 : Vec Ideal S32x1024 .bf16} {x23 : Vec Ideal S256x1024 .f32}
  (w : Holds q T hT first x0 x1 x2 x3 x4 x5 x6 x7 x8 x9 x10 x11 x12 x13 x14 x15 x16 x17 x18 x19 x20 x21 x22 x23) (p : Fin 256) (n : Fin 1024)
include w
theorem v1_of : k0_pay16 (k0_pay11 (k0_pay3 x0 x3) itW (k0_pay4 x0 x3) first (k0_pay5 x1) (k0_pay6 x1) x3 x2 (View.ld x4 r0_7)) x7 (ix2 p n) = v1At q (sq T hT p) (ps T p) n := by
  have e7 : (fun (j : Fin 1024) (n : Fin 1024) => x7 (ix2 j n)) = q.wv := funext fun j => funext (w.h7 j)
  rw [pay16_at _ _ p n _ (xv w p), e7]
  rfl
end

open Cert.Kernel5Ideal Cert.Kernel5Ideal.Gen Cert.Kernel5Ideal.Own Cert.Kernel2Ideal.Spec Cert.First.Blocks Cert.Kernel2Ideal.Tile Router Heads
open Idealize.ShloMosaic Idealize.ShloMosaic.TcCoe Idealize.SL.Sem

variable (m : (ℓ : Loc nD τ sig) → Buf (Elt Ideal) ℓ) (c : Dev nD)

/-- What a grid point's windows hold. -/
theorem holds (t : Fin cfg0.N) : Holds (par m c) t.val (lt64 t) (Cert.Kernel2Ideal.Out.firstW (grid0.coords t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (fun _ => (0 : EReal)) (fun _ => (0 : EReal)) (fun _ => (0 : EReal)) (fun _ => (0 : EReal)) :=
  ⟨first_at t, b0 m c t, b1 m c t, b2 m c t, b3 m c t, b4 m c t, b5 m c t, b6 m c t, b7 m c t, b8 m c t, b9 m c t, b10 m c t, b11 m c t, b12 m c t, b13 m c t, b14 m c t, b15 m c t, b16 m c t, b17 m c t, fun _ => rfl, fun _ _ => rfl, fun _ _ => rfl, b18 m c t, b19 m c t, fun _ _ => rfl⟩

/-- The row of the arrays that row `p` of point `t` is. -/
abbrev row (t : Fin cfg0.N) (p : Fin 256) : Fin 16384 := ⟨t.val * 256 + p.val, by have := lt64 t; omega⟩

theorem final20 : (dats m 0 c).arrAt 20 cfg0.N = flat (rAt (par m c)) := by
  refine (dats m 0 c).arrAt_eq_of_covers 20 _ (by decide +kernel) fun t hf y => ?_
  blk_simp
  rw [after0_20]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_0).slice (win0_20.rect t)).emb (ix2 p n : S256x1024.Idx) = (ix2 (row t p) n : S16384x1024.Idx) := by
    have h := idxo t
    blk_ext [h]
  rw [he]
  exact (congrFun (Out.o20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (r_of (holds m c t) p n)

theorem final21 : (dats m 0 c).arrAt 21 cfg0.N = flat (kAt (par m c)) := by
  refine (dats m 0 c).arrAt_eq_of_covers 21 _ (by decide +kernel) fun t hf y => ?_
  blk_simp
  rw [after0_21]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_1).slice (win0_21.rect t)).emb (ix2 p n : S256x1024.Idx) = (ix2 (row t p) n : S16384x1024.Idx) := by
    have h := idxo t
    blk_ext [h]
  rw [he]
  exact (congrFun (Out.o21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (k_of (holds m c t) p n)

theorem final22 : (dats m 0 c).arrAt 22 cfg0.N = flat (v1At (par m c)) := by
  refine (dats m 0 c).arrAt_eq_of_covers 22 _ (by decide +kernel) fun t hf y => ?_
  blk_simp
  rw [after0_22]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_2).slice (win0_22.rect t)).emb (ix2 p n : S256x1024.Idx) = (ix2 (row t p) n : S16384x1024.Idx) := by
    have h := idxo t
    blk_ext [h]
  rw [he]
  exact (congrFun (Out.o22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (v1_of (holds m c t) p n)

theorem final23 : (dats m 0 c).arrAt 23 cfg0.N = flat (lwAt (par m c)) := by
  refine (dats m 0 c).arrAt_eq_of_covers 23 _ (by decide +kernel) fun t hf y => ?_
  blk_simp
  rw [after0_23]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_3).slice (win0_23.rect t)).emb (ix2 p n : S256x1024.Idx) = (ix2 (row t p) n : S16384x1024.Idx) := by
    have h := idxo t
    blk_ext [h]
  rw [he]
  exact (congrFun (Out.o23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (lw_of (holds m c t) p n)

theorem final24 (hR : Reals (par m c)) : (dats m 0 c).arrAt 24 cfg0.N = flat (kkAt (par m c)) := by
  refine (dats m 0 c).arrAt_eq_of_covers 24 _ (by decide +kernel) fun t hf y => ?_
  blk_simp
  rw [after0_24]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_4).slice (win0_24.rect t)).emb (ix2 p n : S256x1024.Idx) = (ix2 (row t p) n : S16384x1024.Idx) := by
    have h := idxo t
    blk_ext [h]
  rw [he]
  exact (congrFun (Out.o24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (kk_of (holds m c t) p n hR)

theorem final25 : (dats m 0 c).arrAt 25 cfg0.N = flat (aAt (par m c)) := by
  refine (dats m 0 c).arrAt_eq_of_covers 25 _ (by decide +kernel) fun t hf y => ?_
  blk_simp
  rw [after0_25]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_5).slice (win0_25.rect t)).emb (ix2 p n : S256x1024.Idx) = (ix2 (row t p) n : S16384x1024.Idx) := by
    have h := idxo t
    blk_ext [h]
  rw [he]
  exact (congrFun (Out.o25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (a_of (holds m c t) p n)

theorem final26 : (dats m 0 c).arrAt 26 cfg0.N = flat (gAt (par m c)) := by
  refine (dats m 0 c).arrAt_eq_of_covers 26 _ (by decide +kernel) fun t hf y => ?_
  blk_simp
  rw [after0_26]
  obtain ⟨p, n, rfl⟩ : ∃ (p : Fin 256) (n : Fin 1024), y = (ix2 p n : S256x1024.Idx) := ⟨y 0, y 1, by funext a; match a with | ⟨0, _⟩ => rfl | ⟨1, _⟩ => rfl⟩
  have he : ((View.whole main_v23_6).slice (win0_26.rect t)).emb (ix2 p n : S256x1024.Idx) = (ix2 (row t p) n : S16384x1024.Idx) := by
    have h := idxo t
    blk_ext [h]
  rw [he]
  exact (congrFun (Out.o26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) (ix2 p n)).trans (g_of (holds m c t) p n)

end Cert.First.Final

end
-- ==== Proof.FirstRun.lean ====
module

public import proofs.«01_k».proof.Proof.FirstFrameIdeal
public import Idealize.ShloMosaic.Lib.Pipeline.Value

/-! The first kernel of the recurrence in the first layer: its run, the seven arrays named by what the grid points write back. -/

@[expose] public section

noncomputable section

namespace Cert.Kernel5Ideal.Run

open Cert.Kernel5Ideal Cert.Kernel5Ideal.Gen Cert.Kernel5Ideal.Own Idealize.ShloMosaic Idealize.ShloMosaic.TcCoe Idealize.SL.Sem

variable {F : FTy → Type} [FloatOps F]
variable (m : (ℓ : Loc nD τ sig) → Buf (Elt F) ℓ) (ρ : Dev nD → PrngReg)

theorem post20 (r : PUnit × MemSt nD τ sig (Elt F)) (h : Pipeline.FramePost cfgs (dats m) 0 (V m) r) (c : Dev nD) :
    r.2.mem ((c : Thread nD τ).loc main_v23_0) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v23_1) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v23_2) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v23_3) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v23_4) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v23_5) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v23_6) = (dats m 0 c).arrAt 26 cfg0.N :=
  (h c).1 26

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem run_blocks : θ_run defs (onTc (τ := τ) (main (F := F))) ⟨m, fun _ => 0, ρ⟩ fun r => ∀ c : Dev nD,
      r.2.mem ((c : Thread nD τ).loc main_v23_0) = (dats m 0 c).arrAt 20 cfg0.N
      ∧ r.2.mem ((c : Thread nD τ).loc main_v23_1) = (dats m 0 c).arrAt 21 cfg0.N
      ∧ r.2.mem ((c : Thread nD τ).loc main_v23_2) = (dats m 0 c).arrAt 22 cfg0.N
      ∧ r.2.mem ((c : Thread nD τ).loc main_v23_3) = (dats m 0 c).arrAt 23 cfg0.N
      ∧ r.2.mem ((c : Thread nD τ).loc main_v23_4) = (dats m 0 c).arrAt 24 cfg0.N
      ∧ r.2.mem ((c : Thread nD τ).loc main_v23_5) = (dats m 0 c).arrAt 25 cfg0.N
      ∧ r.2.mem ((c : Thread nD τ).loc main_v23_6) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.Kernel5Ideal.Run

end
-- ==== Proof.FirstClaim.lean ====
module

public import proofs.«01_k».proof.Defs
public import proofs.«01_k».proof.Proof.FirstFinal
public import proofs.«01_k».proof.Proof.FirstRun
public import proofs.«01_k».proof.Proof.PreRef
public import proofs.«01_k».proof.Proof.PreFinite
public import proofs.«01_k».proof.Proof.Gen.Kernel5
public import proofs.«01_k».proof.Proof.FirstFrameIdeal
public import proofs.«01_k».proof.Proof.Gen.Reference5Ideal.Run

/-! The first layer's first kernel and its reference leave the same seven arrays. -/

@[expose] public section

set_option maxRecDepth 16384

noncomputable section

namespace Cert.FirstClaim

open Idealize.ShloMosaic Idealize.ShloMosaic.TcCoe Idealize.SL.Sem Router

/-- The side conditions the predicate takes. -/
theorem sides : Cert.Pre_first_keys_finite.Facts where
  bcast_S_S4x4096x1024 := by decide
  reducesTo_S4x4096x1024_S_d0_1_2 := by decide
  h_S_ := by decide
  bcast_S_S1024 := by decide
  reducesTo_S1024_S_d0 := by decide
  bcast_S_S4x1024 := by decide
  reducesTo_S4x1024_S_d0_1 := by decide
  bcast_S_S6x1024 := by decide
  reducesTo_S6x1024_S_d0_1 := by decide
  bcast_S_S1024x1024 := by decide
  reducesTo_S1024x1024_S_d0_1 := by decide

attribute [local instance] Cert.Kernel2Ideal.Gen.facts Cert.Reference2Ideal.Gen.facts Cert.Pre_keys_finite.sides
attribute [local instance] Cert.Kernel5.Gen.facts Cert.Kernel5Ideal.Gen.facts Cert.Reference5Ideal.Gen.facts sides

section
open Cert.Reference2Ideal Cert.Reference2Ideal.Gen Cert.Reference2Ideal.Rows
open Cert.Kernel2Ideal.Spec (Par rAt k0At aAt kAt lwAt kkAt gAt flat)
open Cert.First.Final (v1At)

/-- The arrays only a value residual reads: nought. -/
abbrev z3 : A3 := fun _ => (0 : EReal)
abbrev z1 : A S1024 := fun _ => (0 : EReal)
abbrev zd : A S1024x32 := fun _ => (0 : EReal)
abbrev zu : A S32x1024 := fun _ => (0 : EReal)

variable (m' : (ℓ : Loc Cert.Reference5Ideal.nD Cert.Reference5Ideal.τ Cert.Reference5Ideal.sig) → Buf (Elt Ideal) ℓ) (c : Dev Cert.Reference5Ideal.nD)

/-- The reference's arrays. -/
abbrev ra0 : A3 := m' ((c.tc : Thread Cert.Reference5Ideal.nD Cert.Reference5Ideal.τ).loc Cert.Reference5Ideal.main_arg0)
abbrev ra1 : A S1024 := m' ((c.tc : Thread Cert.Reference5Ideal.nD Cert.Reference5Ideal.τ).loc Cert.Reference5Ideal.main_arg1)
abbrev ra2 : A S4x1024 := m' ((c.tc : Thread Cert.Reference5Ideal.nD Cert.Reference5Ideal.τ).loc Cert.Reference5Ideal.main_arg2)
abbrev ra3 : A S6x1024 := m' ((c.tc : Thread Cert.Reference5Ideal.nD Cert.Reference5Ideal.τ).loc Cert.Reference5Ideal.main_arg3)
abbrev ra4 : A S1024x1024 := m' ((c.tc : Thread Cert.Reference5Ideal.nD Cert.Reference5Ideal.τ).loc Cert.Reference5Ideal.main_arg4)
abbrev ra5 : A S1024x1024 := m' ((c.tc : Thread Cert.Reference5Ideal.nD Cert.Reference5Ideal.τ).loc Cert.Reference5Ideal.main_arg5)
abbrev ra6 : A S1024x1024 := m' ((c.tc : Thread Cert.Reference5Ideal.nD Cert.Reference5Ideal.τ).loc Cert.Reference5Ideal.main_arg6)
abbrev ra7 : A S1024 := m' ((c.tc : Thread Cert.Reference5Ideal.nD Cert.Reference5Ideal.τ).loc Cert.Reference5Ideal.main_arg7)
abbrev ra8 : A S1024x64 := m' ((c.tc : Thread Cert.Reference5Ideal.nD Cert.Reference5Ideal.τ).loc Cert.Reference5Ideal.main_arg8)
abbrev ra9 : A S64x1024 := m' ((c.tc : Thread Cert.Reference5Ideal.nD Cert.Reference5Ideal.τ).loc Cert.Reference5Ideal.main_arg9)
abbrev ra10 : A S1024 := m' ((c.tc : Thread Cert.Reference5Ideal.nD Cert.Reference5Ideal.τ).loc Cert.Reference5Ideal.main_arg10)
abbrev ra11 : A S1024x64 := m' ((c.tc : Thread Cert.Reference5Ideal.nD Cert.Reference5Ideal.τ).loc Cert.Reference5Ideal.main_arg11)
abbrev ra12 : A S64x1024 := m' ((c.tc : Thread Cert.Reference5Ideal.nD Cert.Reference5Ideal.τ).loc Cert.Reference5Ideal.main_arg12)
abbrev ra13 : A S1024x128 := m' ((c.tc : Thread Cert.Reference5Ideal.nD Cert.Reference5Ideal.τ).loc Cert.Reference5Ideal.main_arg13)
abbrev ra14 : A S128x1024 := m' ((c.tc : Thread Cert.Reference5Ideal.nD Cert.Reference5Ideal.τ).loc Cert.Reference5Ideal.main_arg14)
abbrev ra15 : A S1024 := m' ((c.tc : Thread Cert.Reference5Ideal.nD Cert.Reference5Ideal.τ).loc Cert.Reference5Ideal.main_arg15)
abbrev ra16 : A S1024 := m' ((c.tc : Thread Cert.Reference5Ideal.nD Cert.Reference5Ideal.τ).loc Cert.Reference5Ideal.main_arg16)
abbrev rpar : Par := parOf (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c)

theorem k_eq : Cert.Reference5Ideal.Value.res_main_v109 m' c = flat (kAt (rpar m' c)) :=
  Eq.trans (show Cert.Reference5Ideal.Value.res_main_v109 m' c = (shapeCast _ (oK (ra0 m' c) (ra1 m' c) (ra2 m' c) (ra3 m' c) (ra5 m' c) (ra10 m' c) (ra11 m' c) (ra12 m' c) (ra16 m' c)) shapeCasts_S4x4096x1024_S16384x1024 : A S16384x1024) from rfl)
    (flat_eq _ _ fun b s n => kI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s n)
theorem v_eq : (shapeCast _ (dotW (refMix (refH (ra0 m' c) (ra1 m' c)) (ra2 m' c) (mu3 (ra3 m' c))) (ra6 m' c)) shapeCasts_S4x4096x1024_S16384x1024 : A S16384x1024) = flat (Cert.First.Final.v1At (rpar m' c)) :=
  flat_eq _ _ fun b s n => by
    rw [dotW_at, funext (mI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s (mu3 (ra3 m' c)) 3 (mu3_at (ra3 m' c)))]
    rfl
theorem lw_eq : Cert.Reference5Ideal.Value.res_main_v111 m' c = flat (lwAt (rpar m' c)) :=
  Eq.trans (show Cert.Reference5Ideal.Value.res_main_v111 m' c = (shapeCast _ (oLw (ra0 m' c) (ra1 m' c) (ra2 m' c) (ra3 m' c) (ra7 m' c) (ra8 m' c) (ra9 m' c)) shapeCasts_S4x4096x1024_S16384x1024 : A S16384x1024) from rfl)
    (flat_eq _ _ fun b s n => lwI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s n)
theorem kk_eq (hR : Cert.Kernel2Ideal.Spec.Reals (rpar m' c)) : Cert.Reference5Ideal.Value.res_main_v112 m' c = flat (kkAt (rpar m' c)) :=
  Eq.trans (show Cert.Reference5Ideal.Value.res_main_v112 m' c = (shapeCast _ (oKk (ra0 m' c) (ra1 m' c) (ra2 m' c) (ra3 m' c) (ra5 m' c) (ra15 m' c)) shapeCasts_S4x4096x16x64_S16384x1024 : A S16384x1024) from rfl)
    (flat_heads _ _ fun b s n => kkI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s hR n)
theorem r_eq : (shapeCast _ (o0 (ra0 m' c) (ra1 m' c) (ra2 m' c) (ra3 m' c) (ra4 m' c)) shapeCasts_S4x4096x1024_S16384x1024 : A S16384x1024) = flat (rAt (rpar m' c)) :=
  flat_eq _ _ fun b s n => rI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s n
theorem a_eq : (shapeCast _ (oA (ra0 m' c) (ra1 m' c) (ra2 m' c) (ra3 m' c) (ra10 m' c) (ra11 m' c) (ra12 m' c)) shapeCasts_S4x4096x1024_S16384x1024 : A S16384x1024) = flat (aAt (rpar m' c)) :=
  flat_eq _ _ fun b s n => aI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s n
theorem g_eq : (shapeCast _ (oG (ra0 m' c) (ra1 m' c) (ra2 m' c) (ra3 m' c) (ra13 m' c) (ra14 m' c)) shapeCasts_S4x4096x1024_S16384x1024 : A S16384x1024) = flat (gAt (rpar m' c)) :=
  flat_eq _ _ fun b s n => gI (ra0 m' c) (ra1 m' c) (ra2 m' c) z3 z1 zd zu (ra3 m' c) (ra4 m' c) (ra5 m' c) (ra6 m' c) (ra7 m' c) (ra8 m' c) (ra9 m' c) (ra10 m' c) (ra11 m' c) (ra12 m' c) (ra13 m' c) (ra14 m' c) (ra15 m' c) (ra16 m' c) b s n
end

section
open Cert.Reference2Ideal.Rows
open Cert.First.Blocks (par)

theorem par_eq (m : (ℓ : Loc Cert.Kernel5Ideal.nD Cert.Kernel5Ideal.τ Cert.Kernel5Ideal.sig) → Buf (Elt Ideal) ℓ) (c : Dev Cert.Kernel5Ideal.nD)
    (x0 : A Cert.Reference2Ideal.S4x4096x1024)
    (x1 : A Cert.Reference2Ideal.S1024)
    (x2 : A Cert.Reference2Ideal.S4x1024)
    (x3 : A Cert.Reference2Ideal.S6x1024)
    (x4 : A Cert.Reference2Ideal.S1024x1024)
    (x5 : A Cert.Reference2Ideal.S1024x1024)
    (x6 : A Cert.Reference2Ideal.S1024x1024)
    (x7 : A Cert.Reference2Ideal.S1024)
    (x8 : A Cert.Reference2Ideal.S1024x64)
    (x9 : A Cert.Reference2Ideal.S64x1024)
    (x10 : A Cert.Reference2Ideal.S1024)
    (x11 : A Cert.Reference2Ideal.S1024x64)
    (x12 : A Cert.Reference2Ideal.S64x1024)
    (x13 : A Cert.Reference2Ideal.S1024x128)
    (x14 : A Cert.Reference2Ideal.S128x1024)
    (x15 : A Cert.Reference2Ideal.S1024)
    (x16 : A Cert.Reference2Ideal.S1024)
    (h0 : x0 = Cert.First.Blocks.arg0 m c)
    (h1 : x1 = Cert.First.Blocks.arg1 m c)
    (h2 : x2 = Cert.First.Blocks.arg2 m c)
    (h3 : x3 = Cert.First.Blocks.arg3 m c)
    (h4 : x4 = Cert.First.Blocks.arg4 m c)
    (h5 : x5 = Cert.First.Blocks.arg5 m c)
    (h6 : x6 = Cert.First.Blocks.arg6 m c)
    (h7 : x7 = Cert.First.Blocks.arg7 m c)
    (h8 : x8 = Cert.First.Blocks.arg8 m c)
    (h9 : x9 = Cert.First.Blocks.arg9 m c)
    (h10 : x10 = Cert.First.Blocks.arg10 m c)
    (h11 : x11 = Cert.First.Blocks.arg11 m c)
    (h12 : x12 = Cert.First.Blocks.arg12 m c)
    (h13 : x13 = Cert.First.Blocks.arg13 m c)
    (h14 : x14 = Cert.First.Blocks.arg14 m c)
    (h15 : x15 = Cert.First.Blocks.arg15 m c)
    (h16 : x16 = Cert.First.Blocks.arg16 m c)
    : parOf x0 x1 x2 z3 z1 zd zu x3 x4 x5 x6 x7 x8 x9 x10 x11 x12 x13 x14 x15 x16 = par m c := by
  subst h0 h1 h2 h3 h4 h5 h6 h7 h8 h9 h10 h11 h12 h13 h14 h15 h16
  rfl

theorem reals_of (m : (ℓ : Loc Cert.Kernel5Ideal.nD Cert.Kernel5Ideal.τ Cert.Kernel5Ideal.sig) → Buf (Elt Ideal) ℓ)
    (h : Cert.Pre_Kernel5Ideal_first_keys_finite m) (c : Dev Cert.Kernel5Ideal.nD) : Cert.Kernel2Ideal.Spec.Reals (par m c) := by
  have e := Cert.Pre_keys_finite.reals (Cert.First.Blocks.arg0 m c) (Cert.First.Blocks.arg1 m c) (Cert.First.Blocks.arg2 m c) z3 z1 zd zu (Cert.First.Blocks.arg3 m c) (Cert.First.Blocks.arg4 m c) (Cert.First.Blocks.arg5 m c) (Cert.First.Blocks.arg6 m c) (Cert.First.Blocks.arg7 m c) (Cert.First.Blocks.arg8 m c) (Cert.First.Blocks.arg9 m c) (Cert.First.Blocks.arg10 m c) (Cert.First.Blocks.arg11 m c) (Cert.First.Blocks.arg12 m c) (Cert.First.Blocks.arg13 m c) (Cert.First.Blocks.arg14 m c) (Cert.First.Blocks.arg15 m c) (Cert.First.Blocks.arg16 m c) _
    (congrFun (h c) (Shape.Idx.first sides.h_S_))
  exact ⟨fun b s k => e.1 _, fun k => e.2.1 _, fun b k => e.2.2.1 _, fun i k => e.2.2.2.1 _, fun j n => e.2.2.2.2.1 _, fun k => e.2.2.2.2.2 _⟩
end

theorem frame_reference : Cert.quiescent_Reference5Ideal := fun m ρ _ =>
  (θ_run Cert.Reference5Ideal.defs _ _).mono (fun r h => ⟨fun c => (h c).2.2.2.2.2.2.2, Idealize.ShloMosaic.sem_eq_zero_of_no_sems (by decide) r.2⟩)
    (Cert.Reference5Ideal.Value.run (F := Ideal) m ρ)

theorem algebraic : Cert.algebraic_Kernel5Ideal_Reference5Ideal_pre_first_keys_finite := fun m ρ m' ρ' hpre hag => by
  have hp : ∀ c, rpar m' c = Cert.First.Blocks.par m c := fun c => par_eq m c _ _ _ _ _ _ _ _ _ _ _ _ _ _ _ _ _
    (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1 (hag c).2.2.2.2.2.2.2.2.2.2.2.1 (hag c).2.2.2.2.2.2.2.2.2.2.2.2.1 (hag c).2.2.2.2.2.2.2.2.2.2.2.2.2.1 (hag c).2.2.2.2.2.2.2.2.2.2.2.2.2.2.1 (hag c).2.2.2.2.2.2.2.2.2.2.2.2.2.2.2.1 (hag c).2.2.2.2.2.2.2.2.2.2.2.2.2.2.2.2
  have hR : ∀ c, Cert.Kernel2Ideal.Spec.Reals (rpar m' c) := fun c => (hp c).symm ▸ reals_of m hpre c
  refine ⟨fun c => Cert.Kernel2Ideal.Spec.flat (Cert.Kernel2Ideal.Spec.rAt (Cert.First.Blocks.par m c)), fun c => Cert.Kernel2Ideal.Spec.flat (Cert.Kernel2Ideal.Spec.kAt (Cert.First.Blocks.par m c)), fun c => Cert.Kernel2Ideal.Spec.flat (Cert.First.Final.v1At (Cert.First.Blocks.par m c)), fun c => Cert.Kernel2Ideal.Spec.flat (Cert.Kernel2Ideal.Spec.lwAt (Cert.First.Blocks.par m c)), fun c => Cert.Kernel2Ideal.Spec.flat (Cert.Kernel2Ideal.Spec.kkAt (Cert.First.Blocks.par m c)), fun c => Cert.Kernel2Ideal.Spec.flat (Cert.Kernel2Ideal.Spec.aAt (Cert.First.Blocks.par m c)), fun c => Cert.Kernel2Ideal.Spec.flat (Cert.Kernel2Ideal.Spec.gAt (Cert.First.Blocks.par m c)),
    (θ_run Cert.Kernel5Ideal.defs _ _).mono (fun r h c => ⟨(h c).1.trans (Cert.First.Final.final20 m c),
      (h c).2.1.trans (Cert.First.Final.final21 m c),
      (h c).2.2.1.trans (Cert.First.Final.final22 m c),
      (h c).2.2.2.1.trans (Cert.First.Final.final23 m c),
      (h c).2.2.2.2.1.trans (Cert.First.Final.final24 m c (reals_of m hpre c)),
      (h c).2.2.2.2.2.1.trans (Cert.First.Final.final25 m c),
      (h c).2.2.2.2.2.2.1.trans (Cert.First.Final.final26 m c), (h c).2.2.2.2.2.2.2⟩)
      (Cert.Kernel5Ideal.Run.run_blocks m ρ),
    (θ_run Cert.Reference5Ideal.defs _ _).mono (fun r h c => ⟨(h c).1.trans ((r_eq m' c).trans (congrArg (fun q => Cert.Kernel2Ideal.Spec.flat (Cert.Kernel2Ideal.Spec.rAt q)) (hp c))),
      (h c).2.1.trans ((k_eq m' c).trans (congrArg (fun q => Cert.Kernel2Ideal.Spec.flat (Cert.Kernel2Ideal.Spec.kAt q)) (hp c))),
      (h c).2.2.1.trans ((v_eq m' c).trans (congrArg (fun q => Cert.Kernel2Ideal.Spec.flat (Cert.First.Final.v1At q)) (hp c))),
      (h c).2.2.2.1.trans ((lw_eq m' c).trans (congrArg (fun q => Cert.Kernel2Ideal.Spec.flat (Cert.Kernel2Ideal.Spec.lwAt q)) (hp c))),
      (h c).2.2.2.2.1.trans ((kk_eq m' c (hR c)).trans (congrArg (fun q => Cert.Kernel2Ideal.Spec.flat (Cert.Kernel2Ideal.Spec.kkAt q)) (hp c))),
      (h c).2.2.2.2.2.1.trans ((a_eq m' c).trans (congrArg (fun q => Cert.Kernel2Ideal.Spec.flat (Cert.Kernel2Ideal.Spec.aAt q)) (hp c))),
      (h c).2.2.2.2.2.2.1.trans ((g_eq m' c).trans (congrArg (fun q => Cert.Kernel2Ideal.Spec.flat (Cert.Kernel2Ideal.Spec.gAt q)) (hp c))), (h c).2.2.2.2.2.2.2⟩)
      (Cert.Reference5Ideal.Value.run (F := Ideal) m' ρ')⟩

end Cert.FirstClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.KernelValue
public import proofs.«01_k».proof.Proof.Finite
public import proofs.«01_k».proof.Proof.PostClaim
public import proofs.«01_k».proof.Proof.PreClaim
public import proofs.«01_k».proof.Proof.PoolClaim
public import proofs.«01_k».proof.Proof.FirstFrame
public import proofs.«01_k».proof.Proof.FirstClaim
public import Idealize.ShloMosaic.Adequacy
public import Idealize.ShloMosaic.Init

/-! The claims, put together. -/

@[expose] public section

set_option maxRecDepth 16384

noncomputable section

namespace Cert.Proof

open Idealize.ShloMosaic Idealize.ShloMosaic.TcCoe Idealize.SL.Sem Router

attribute [local instance] Cert.Kernel.Gen.facts Cert.KernelIdeal.Gen.facts Cert.ReferenceIdeal.Gen.facts Cert.Pre_router_finite.sides

open Cert.KernelIdeal.Blocks Cert.KernelIdeal.Result in
/-- What the precondition gives of the kernel's arguments. -/
theorem reals_of (m : (ℓ : Loc Cert.KernelIdeal.nD Cert.KernelIdeal.τ Cert.KernelIdeal.sig) → Buf (Elt Ideal) ℓ)
    (h : Cert.Pre_KernelIdeal_router_finite m) (c : Dev Cert.KernelIdeal.nD) : Reals m c := by
  have e := Cert.Pre_router_finite.reals (arg0 m c) (arg1 m c) (arg2 m c) (arg3 m c) (arg4 m c) (arg5 m c) (arg6 m c) (arg7 m c) (arg8 m c) _
    (congrFun (h c) (Shape.Idx.first Cert.Pre_router_finite.sides.h_S_))
  exact ⟨e.1, e.2.1, e.2.2.1, e.2.2.2.1, e.2.2.2.2.1, e.2.2.2.2.2⟩

open Cert.ReferenceIdeal.Value Cert.ReferenceIdeal.Rows in
/-- The kernel's array and the reference's staged term are one array, the router's arrays being real. -/
theorem value_eq (m : (ℓ : Loc Cert.KernelIdeal.nD Cert.KernelIdeal.τ Cert.KernelIdeal.sig) → Buf (Elt Ideal) ℓ) (c : Dev Cert.KernelIdeal.nD)
    (h : Cert.KernelIdeal.Result.Reals m c) (x : A Cert.ReferenceIdeal.S4x4096x1024 .f32) (g : A Cert.ReferenceIdeal.S1024 .f32)
    (wc : A Cert.ReferenceIdeal.S1024x4 .f32) (bc : A Cert.ReferenceIdeal.S4 .f32) (wf : A Cert.ReferenceIdeal.S1024x16 .f32)
    (bf : A Cert.ReferenceIdeal.S16 .f32) (wg wu : A Cert.ReferenceIdeal.S16x1024x256 .f32) (wd : A Cert.ReferenceIdeal.S16x256x1024 .f32)
    (h0 : x = Cert.KernelIdeal.Blocks.arg0 m c) (h1 : g = Cert.KernelIdeal.Blocks.arg1 m c) (h2 : wc = Cert.KernelIdeal.Blocks.arg2 m c)
    (h3 : bc = Cert.KernelIdeal.Blocks.arg3 m c) (h4 : wf = Cert.KernelIdeal.Blocks.arg4 m c) (h5 : bf = Cert.KernelIdeal.Blocks.arg5 m c)
    (h6 : wg = Cert.KernelIdeal.Blocks.arg6 m c) (h7 : wu = Cert.KernelIdeal.Blocks.arg7 m c) (h8 : wd = Cert.KernelIdeal.Blocks.arg8 m c) :
    refOut x (refAct (refH x g) wg wu (refGate (refIdx (refLc (refH x g) wc bc)) (refTopI (refLf (refH x g) wf bf (refIdx (refLc (refH x g) wc bc))))
        (refW (refTopV (refLf (refH x g) wf bf (refIdx (refLc (refH x g) wc bc)))) (refGw (refLc (refH x g) wc bc))))) wd
      = Cert.KernelIdeal.Value.G8 m c := by
  subst h0 h1 h2 h3 h4 h5 h6 h7 h8
  refine funext fun i => ?_
  obtain ⟨r, n, rfl⟩ : ∃ (r : Fin 16384) (n : Fin 1024), i = ix2 r n := ⟨i 0, i 1, by funext a; match a with | ⟨0, _⟩ => rfl | ⟨1, _⟩ => rfl⟩
  have hrow : (fun k => refH (Cert.KernelIdeal.Blocks.arg0 m c) (Cert.KernelIdeal.Blocks.arg1 m c) (ix3 ⟨r.val / 4096, by omega⟩ ⟨r.val % 4096, by omega⟩ k))
      = Cert.KernelIdeal.Result.hRow m c ⟨r.val / 4096, by omega⟩ ⟨r.val % 4096, by omega⟩ := funext fun k => h_at _ _ _ _ k
  obtain ⟨G, I, K, hG, hI, hK, hE⟩ := gates_at (refH (Cert.KernelIdeal.Blocks.arg0 m c) (Cert.KernelIdeal.Blocks.arg1 m c))
    (Cert.KernelIdeal.Blocks.arg2 m c) (Cert.KernelIdeal.Blocks.arg3 m c) (Cert.KernelIdeal.Blocks.arg4 m c) (Cert.KernelIdeal.Blocks.arg5 m c)
    ⟨r.val / 4096, by omega⟩ ⟨r.val % 4096, by omega⟩
    (fun k => by rw [congrFun hrow k]; exact Cert.KernelIdeal.Result.isReal_h h _ _ k) h.wc h.bc h.wf h.bf
  rw [ref_row _ _ _ _ _ _ _ r n hE]
  rw [hrow] at hG hI hK ⊢
  exact (Cert.KernelIdeal.Result.kernel_row m c ⟨r.val / 512, by omega⟩ ⟨r.val % 512, by omega⟩ ⟨r.val / 4096, by omega⟩ ⟨r.val % 4096, by omega⟩
    (by dsimp only; omega) G I K h hG hI hK n r (by dsimp only; omega)).symm

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem algebraic : Cert.algebraic_KernelIdeal_ReferenceIdeal_pre_router_finite := fun m ρ m' ρ' hpre hag =>
  ⟨fun c => Cert.KernelIdeal.Value.G8 m c, Cert.KernelIdeal.Value.run m ρ,
    (θ_run Cert.ReferenceIdeal.defs _ _).mono (fun r h c => ⟨(h c).1.trans (value_eq m c (reals_of m hpre c) _ _ _ _ _ _ _ _ _
        (hag c).1 (hag c).2.1 (hag c).2.2.1 (hag c).2.2.2.1 (hag c).2.2.2.2.1 (hag c).2.2.2.2.2.1 (hag c).2.2.2.2.2.2.1
        (hag c).2.2.2.2.2.2.2.1 (hag c).2.2.2.2.2.2.2.2), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_router_finite.sides, Cert.Pre_keys_finite.sides, Cert.Pre_heads_finite.sides, Cert.Pre_pool_finite.sides, Cert.FirstClaim.sides,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Own.frame m ρ, fun m ρ _ => Cert.Kernel2Ideal.Own.frame m ρ, fun m ρ _ => Cert.Kernel2Ideal.Own.frame m ρ,
    Cert.PreClaim.frame_reference, fun m ρ _ => Cert.PreClaim.frame_reference m ρ trivial,
    fun m ρ _ => Cert.Kernel3.Gen.frame m ρ, fun m ρ _ => Cert.Kernel3Ideal.Gen.frame m ρ, fun m ρ _ => Cert.Kernel3Ideal.Gen.frame m ρ,
    Cert.PostClaim.frame_reference, fun m ρ _ => Cert.PostClaim.frame_reference m ρ trivial,
    fun m ρ _ => Cert.Kernel4.Gen.frame m ρ, fun m ρ _ => Cert.Kernel4Ideal.Gen.frame m ρ, fun m ρ _ => Cert.Kernel4Ideal.Gen.frame m ρ,
    Cert.PoolClaim.frame_reference, fun m ρ _ => Cert.PoolClaim.frame_reference m ρ trivial,
    fun m ρ _ => Cert.Kernel5.Own.frame m ρ, fun m ρ _ => Cert.Kernel5Ideal.Own.frame m ρ, fun m ρ _ => Cert.Kernel5Ideal.Own.frame m ρ,
    Cert.FirstClaim.frame_reference, fun m ρ _ => Cert.FirstClaim.frame_reference m ρ trivial,
    preserves, algebraic,
    trivial, Cert.PreClaim.algebraic,
    trivial, Cert.PostClaim.algebraic,
    trivial, Cert.PoolClaim.algebraic,
    trivial, Cert.FirstClaim.algebraic⟩

end Cert.Proof

end
